-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInRefIdeal (m : (ℓ : Loc Cert.OddInRefIdeal.nD Cert.OddInRefIdeal.τ Cert.OddInRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutRefIdeal (m : (ℓ : Loc Cert.AttnOutRefIdeal.nD Cert.AttnOutRefIdeal.τ Cert.AttnOutRefIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutRefIdeal (m : (ℓ : Loc Cert.OddOutRefIdeal.nD Cert.OddOutRefIdeal.τ Cert.OddOutRefIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_LruIn (m : (ℓ : Loc Cert.LruIn.nD Cert.LruIn.τ Cert.LruIn.sig) → Buf (Elt Bits) ℓ) : Prop :=
  True

def Pre_LruInIdeal (m : (ℓ : Loc Cert.LruInIdeal.nD Cert.LruInIdeal.τ Cert.LruInIdeal.sig) → Buf (Elt Ideal) ℓ) : Prop :=
  True

def Pre_LruInRefIdeal (m : (ℓ : Loc Cert.LruInRefIdeal.nD Cert.LruInRefIdeal.τ Cert.LruInRefIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutRefIdeal (m : (ℓ : Loc Cert.EvenOutRefIdeal.nD Cert.EvenOutRefIdeal.τ Cert.EvenOutRefIdeal.sig) → Buf (Elt Ideal) ℓ) : Prop :=
  True

def Pre_MemFirst (m : (ℓ : Loc Cert.MemFirst.nD Cert.MemFirst.τ Cert.MemFirst.sig) → Buf (Elt Bits) ℓ) : Prop :=
  True

def Pre_MemFirstIdeal (m : (ℓ : Loc Cert.MemFirstIdeal.nD Cert.MemFirstIdeal.τ Cert.MemFirstIdeal.sig) → Buf (Elt Ideal) ℓ) : Prop :=
  True

def Pre_MemFirstRefIdeal (m : (ℓ : Loc Cert.MemFirstRefIdeal.nD Cert.MemFirstRefIdeal.τ Cert.MemFirstRefIdeal.sig) → Buf (Elt Ideal) ℓ) : Prop :=
  True

def Pre_MemSecond (m : (ℓ : Loc Cert.MemSecond.nD Cert.MemSecond.τ Cert.MemSecond.sig) → Buf (Elt Bits) ℓ) : Prop :=
  True

def Pre_MemSecondIdeal (m : (ℓ : Loc Cert.MemSecondIdeal.nD Cert.MemSecondIdeal.τ Cert.MemSecondIdeal.sig) → Buf (Elt Ideal) ℓ) : Prop :=
  True

def Pre_MemSecondRefIdeal (m : (ℓ : Loc Cert.MemSecondRefIdeal.nD Cert.MemSecondRefIdeal.τ Cert.MemSecondRefIdeal.sig) → Buf (Elt Ideal) ℓ) : Prop :=
  True

def Pre_FinalPrompt (m : (ℓ : Loc Cert.FinalPrompt.nD Cert.FinalPrompt.τ Cert.FinalPrompt.sig) → Buf (Elt Bits) ℓ) : Prop :=
  True

def Pre_FinalPromptIdeal (m : (ℓ : Loc Cert.FinalPromptIdeal.nD Cert.FinalPromptIdeal.τ Cert.FinalPromptIdeal.sig) → Buf (Elt Ideal) ℓ) : Prop :=
  True

def Pre_FinalPromptRefIdeal (m : (ℓ : Loc Cert.FinalPromptRefIdeal.nD Cert.FinalPromptRefIdeal.τ Cert.FinalPromptRefIdeal.sig) → Buf (Elt Ideal) ℓ) : Prop :=
  True

def Pre_FinalSample (m : (ℓ : Loc Cert.FinalSample.nD Cert.FinalSample.τ Cert.FinalSample.sig) → Buf (Elt Bits) ℓ) : Prop :=
  True

def Pre_FinalSampleIdeal (m : (ℓ : Loc Cert.FinalSampleIdeal.nD Cert.FinalSampleIdeal.τ Cert.FinalSampleIdeal.sig) → Buf (Elt Ideal) ℓ) : Prop :=
  True

def Pre_FinalSampleRefIdeal (m : (ℓ : Loc Cert.FinalSampleRefIdeal.nD Cert.FinalSampleRefIdeal.τ Cert.FinalSampleRefIdeal.sig) → Buf (Elt Ideal) ℓ) : Prop :=
  True

def Pre_SconvSample (m : (ℓ : Loc Cert.SconvSample.nD Cert.SconvSample.τ Cert.SconvSample.sig) → Buf (Elt Bits) ℓ) : Prop :=
  True

def Pre_SconvSampleIdeal (m : (ℓ : Loc Cert.SconvSampleIdeal.nD Cert.SconvSampleIdeal.τ Cert.SconvSampleIdeal.sig) → Buf (Elt Ideal) ℓ) : Prop :=
  True

def Pre_SconvSampleRefIdeal (m : (ℓ : Loc Cert.SconvSampleRefIdeal.nD Cert.SconvSampleRefIdeal.τ Cert.SconvSampleRefIdeal.sig) → Buf (Elt Ideal) ℓ) : Prop :=
  True

def Pre_LruSample (m : (ℓ : Loc Cert.LruSample.nD Cert.LruSample.τ Cert.LruSample.sig) → Buf (Elt Bits) ℓ) : Prop :=
  True

def Pre_LruSampleIdeal (m : (ℓ : Loc Cert.LruSampleIdeal.nD Cert.LruSampleIdeal.τ Cert.LruSampleIdeal.sig) → Buf (Elt Ideal) ℓ) : Prop :=
  True

def Pre_LruSampleRefIdeal (m : (ℓ : Loc Cert.LruSampleRefIdeal.nD Cert.LruSampleRefIdeal.τ Cert.LruSampleRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ r.2.sem = fun _ => 0)

def quiescent_OddInRefIdeal [hOddInRefIdeal : Cert.OddInRefIdeal.Facts] : Prop :=
  ∀ (m : (ℓ : Loc Cert.OddInRefIdeal.nD Cert.OddInRefIdeal.τ Cert.OddInRefIdeal.sig) → Buf (Elt Ideal) ℓ) (g : Dev Cert.OddInRefIdeal.nD → PrngReg), Pre_OddInRefIdeal m →
    θ_run (Cert.OddInRefIdeal.defs (F := Ideal)) (onTc (τ := Cert.OddInRefIdeal.τ) (Cert.OddInRefIdeal.main (F := Ideal))) ⟨m, fun _ => 0, g⟩ (fun r => (∀ c : Dev Cert.OddInRefIdeal.nD,
      r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2))
      ∧ r.2.sem = fun _ => 0)

def quiescent_AttnOutRefIdeal [hAttnOutRefIdeal : Cert.AttnOutRefIdeal.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1)
      ∧ r.2.mem ((c.tc : Thread Cert.AttnOutRefIdeal.nD Cert.AttnOutRefIdeal.τ).loc Cert.AttnOutRefIdeal.main_arg2) = m ((c.tc : Thread Cert.AttnOutRefIdeal.nD Cert.AttnOutRefIdeal.τ).loc Cert.AttnOutRefIdeal.main_arg2))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2))
      ∧ r.2.sem = fun _ => 0)

def quiescent_OddOutRefIdeal [hOddOutRefIdeal : Cert.OddOutRefIdeal.Facts] : Prop :=
  ∀ (m : (ℓ : Loc Cert.OddOutRefIdeal.nD Cert.OddOutRefIdeal.τ Cert.OddOutRefIdeal.sig) → Buf (Elt Ideal) ℓ) (g : Dev Cert.OddOutRefIdeal.nD → PrngReg), Pre_OddOutRefIdeal m →
    θ_run (Cert.OddOutRefIdeal.defs (F := Ideal)) (onTc (τ := Cert.OddOutRefIdeal.τ) (Cert.OddOutRefIdeal.main (F := Ideal))) ⟨m, fun _ => 0, g⟩ (fun r => (∀ c : Dev Cert.OddOutRefIdeal.nD,
      r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
      ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1)
      ∧ r.2.mem ((c.tc : Thread Cert.OddOutRefIdeal.nD Cert.OddOutRefIdeal.τ).loc Cert.OddOutRefIdeal.main_arg2) = m ((c.tc : Thread Cert.OddOutRefIdeal.nD Cert.OddOutRefIdeal.τ).loc Cert.OddOutRefIdeal.main_arg2))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1))
      ∧ r.2.sem = fun _ => 0)

def quiescent_LruIn [hLruIn : Cert.LruIn.Facts] : Prop :=
  ∀ (m : (ℓ : Loc Cert.LruIn.nD Cert.LruIn.τ Cert.LruIn.sig) → Buf (Elt Bits) ℓ) (g : Dev Cert.LruIn.nD → PrngReg), Pre_LruIn m →
    θ_run (Cert.LruIn.defs (F := Bits)) (onTc (τ := Cert.LruIn.τ) (Cert.LruIn.main (F := Bits))) ⟨m, fun _ => 0, g⟩ (fun r => (∀ c : Dev Cert.LruIn.nD,
      r.2.mem ((c.tc : Thread Cert.LruIn.nD Cert.LruIn.τ).loc Cert.LruIn.main_arg0) = m ((c.tc : Thread Cert.LruIn.nD Cert.LruIn.τ).loc Cert.LruIn.main_arg0)
      ∧ r.2.mem ((c.tc : Thread Cert.LruIn.nD Cert.LruIn.τ).loc Cert.LruIn.main_arg1) = m ((c.tc : Thread Cert.LruIn.nD Cert.LruIn.τ).loc Cert.LruIn.main_arg1))
      ∧ r.2.sem = fun _ => 0)

def quiescent_LruInIdeal [hLruInIdeal : Cert.LruInIdeal.Facts] : Prop :=
  ∀ (m : (ℓ : Loc Cert.LruInIdeal.nD Cert.LruInIdeal.τ Cert.LruInIdeal.sig) → Buf (Elt Ideal) ℓ) (g : Dev Cert.LruInIdeal.nD → PrngReg), Pre_LruInIdeal m →
    θ_run (Cert.LruInIdeal.defs (F := Ideal)) (onTc (τ := Cert.LruInIdeal.τ) (Cert.LruInIdeal.main (F := Ideal))) ⟨m, fun _ => 0, g⟩ (fun r => (∀ c : Dev Cert.LruInIdeal.nD,
      r.2.mem ((c.tc : Thread Cert.LruInIdeal.nD Cert.LruInIdeal.τ).loc Cert.LruInIdeal.main_arg0) = m ((c.tc : Thread Cert.LruInIdeal.nD Cert.LruInIdeal.τ).loc Cert.LruInIdeal.main_arg0)
      ∧ r.2.mem ((c.tc : Thread Cert.LruInIdeal.nD Cert.LruInIdeal.τ).loc Cert.LruInIdeal.main_arg1) = m ((c.tc : Thread Cert.LruInIdeal.nD Cert.LruInIdeal.τ).loc Cert.LruInIdeal.main_arg1))
      ∧ r.2.sem = fun _ => 0)

def quiescent_LruInRefIdeal [hLruInRefIdeal : Cert.LruInRefIdeal.Facts] : Prop :=
  ∀ (m : (ℓ : Loc Cert.LruInRefIdeal.nD Cert.LruInRefIdeal.τ Cert.LruInRefIdeal.sig) → Buf (Elt Ideal) ℓ) (g : Dev Cert.LruInRefIdeal.nD → PrngReg), Pre_LruInRefIdeal m →
    θ_run (Cert.LruInRefIdeal.defs (F := Ideal)) (onTc (τ := Cert.LruInRefIdeal.τ) (Cert.LruInRefIdeal.main (F := Ideal))) ⟨m, fun _ => 0, g⟩ (fun r => (∀ c : Dev Cert.LruInRefIdeal.nD,
      r.2.mem ((c.tc : Thread Cert.LruInRefIdeal.nD Cert.LruInRefIdeal.τ).loc Cert.LruInRefIdeal.main_arg0) = m ((c.tc : Thread Cert.LruInRefIdeal.nD Cert.LruInRefIdeal.τ).loc Cert.LruInRefIdeal.main_arg0)
      ∧ r.2.mem ((c.tc : Thread Cert.LruInRefIdeal.nD Cert.LruInRefIdeal.τ).loc Cert.LruInRefIdeal.main_arg1) = m ((c.tc : Thread Cert.LruInRefIdeal.nD Cert.LruInRefIdeal.τ).loc Cert.LruInRefIdeal.main_arg1))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3))
      ∧ r.2.sem = fun _ => 0)

def quiescent_EvenOutRefIdeal [hEvenOutRefIdeal : Cert.EvenOutRefIdeal.Facts] : Prop :=
  ∀ (m : (ℓ : Loc Cert.EvenOutRefIdeal.nD Cert.EvenOutRefIdeal.τ Cert.EvenOutRefIdeal.sig) → Buf (Elt Ideal) ℓ) (g : Dev Cert.EvenOutRefIdeal.nD → PrngReg), Pre_EvenOutRefIdeal m →
    θ_run (Cert.EvenOutRefIdeal.defs (F := Ideal)) (onTc (τ := Cert.EvenOutRefIdeal.τ) (Cert.EvenOutRefIdeal.main (F := Ideal))) ⟨m, fun _ => 0, g⟩ (fun r => (∀ c : Dev Cert.EvenOutRefIdeal.nD,
      r.2.mem ((c.tc : Thread Cert.EvenOutRefIdeal.nD Cert.EvenOutRefIdeal.τ).loc Cert.EvenOutRefIdeal.main_arg0) = m ((c.tc : Thread Cert.EvenOutRefIdeal.nD Cert.EvenOutRefIdeal.τ).loc Cert.EvenOutRefIdeal.main_arg0)
      ∧ r.2.mem ((c.tc : Thread Cert.EvenOutRefIdeal.nD Cert.EvenOutRefIdeal.τ).loc Cert.EvenOutRefIdeal.main_arg1) = m ((c.tc : Thread Cert.EvenOutRefIdeal.nD Cert.EvenOutRefIdeal.τ).loc Cert.EvenOutRefIdeal.main_arg1)
      ∧ r.2.mem ((c.tc : Thread Cert.EvenOutRefIdeal.nD Cert.EvenOutRefIdeal.τ).loc Cert.EvenOutRefIdeal.main_arg2) = m ((c.tc : Thread Cert.EvenOutRefIdeal.nD Cert.EvenOutRefIdeal.τ).loc Cert.EvenOutRefIdeal.main_arg2)
      ∧ r.2.mem ((c.tc : Thread Cert.EvenOutRefIdeal.nD Cert.EvenOutRefIdeal.τ).loc Cert.EvenOutRefIdeal.main_arg3) = m ((c.tc : Thread Cert.EvenOutRefIdeal.nD Cert.EvenOutRefIdeal.τ).loc Cert.EvenOutRefIdeal.main_arg3))
      ∧ r.2.sem = fun _ => 0)

def quiescent_MemFirst [hMemFirst : Cert.MemFirst.Facts] : Prop :=
  ∀ (m : (ℓ : Loc Cert.MemFirst.nD Cert.MemFirst.τ Cert.MemFirst.sig) → Buf (Elt Bits) ℓ) (g : Dev Cert.MemFirst.nD → PrngReg), Pre_MemFirst m →
    θ_run (Cert.MemFirst.defs (F := Bits)) (onTc (τ := Cert.MemFirst.τ) (Cert.MemFirst.main (F := Bits))) ⟨m, fun _ => 0, g⟩ (fun r => (∀ c : Dev Cert.MemFirst.nD,
      r.2.mem ((c.tc : Thread Cert.MemFirst.nD Cert.MemFirst.τ).loc Cert.MemFirst.main_arg0) = m ((c.tc : Thread Cert.MemFirst.nD Cert.MemFirst.τ).loc Cert.MemFirst.main_arg0)
      ∧ r.2.mem ((c.tc : Thread Cert.MemFirst.nD Cert.MemFirst.τ).loc Cert.MemFirst.main_arg1) = m ((c.tc : Thread Cert.MemFirst.nD Cert.MemFirst.τ).loc Cert.MemFirst.main_arg1))
      ∧ r.2.sem = fun _ => 0)

def quiescent_MemFirstIdeal [hMemFirstIdeal : Cert.MemFirstIdeal.Facts] : Prop :=
  ∀ (m : (ℓ : Loc Cert.MemFirstIdeal.nD Cert.MemFirstIdeal.τ Cert.MemFirstIdeal.sig) → Buf (Elt Ideal) ℓ) (g : Dev Cert.MemFirstIdeal.nD → PrngReg), Pre_MemFirstIdeal m →
    θ_run (Cert.MemFirstIdeal.defs (F := Ideal)) (onTc (τ := Cert.MemFirstIdeal.τ) (Cert.MemFirstIdeal.main (F := Ideal))) ⟨m, fun _ => 0, g⟩ (fun r => (∀ c : Dev Cert.MemFirstIdeal.nD,
      r.2.mem ((c.tc : Thread Cert.MemFirstIdeal.nD Cert.MemFirstIdeal.τ).loc Cert.MemFirstIdeal.main_arg0) = m ((c.tc : Thread Cert.MemFirstIdeal.nD Cert.MemFirstIdeal.τ).loc Cert.MemFirstIdeal.main_arg0)
      ∧ r.2.mem ((c.tc : Thread Cert.MemFirstIdeal.nD Cert.MemFirstIdeal.τ).loc Cert.MemFirstIdeal.main_arg1) = m ((c.tc : Thread Cert.MemFirstIdeal.nD Cert.MemFirstIdeal.τ).loc Cert.MemFirstIdeal.main_arg1))
      ∧ r.2.sem = fun _ => 0)

def quiescent_MemFirstRefIdeal [hMemFirstRefIdeal : Cert.MemFirstRefIdeal.Facts] : Prop :=
  ∀ (m : (ℓ : Loc Cert.MemFirstRefIdeal.nD Cert.MemFirstRefIdeal.τ Cert.MemFirstRefIdeal.sig) → Buf (Elt Ideal) ℓ) (g : Dev Cert.MemFirstRefIdeal.nD → PrngReg), Pre_MemFirstRefIdeal m →
    θ_run (Cert.MemFirstRefIdeal.defs (F := Ideal)) (onTc (τ := Cert.MemFirstRefIdeal.τ) (Cert.MemFirstRefIdeal.main (F := Ideal))) ⟨m, fun _ => 0, g⟩ (fun r => (∀ c : Dev Cert.MemFirstRefIdeal.nD,
      r.2.mem ((c.tc : Thread Cert.MemFirstRefIdeal.nD Cert.MemFirstRefIdeal.τ).loc Cert.MemFirstRefIdeal.main_arg0) = m ((c.tc : Thread Cert.MemFirstRefIdeal.nD Cert.MemFirstRefIdeal.τ).loc Cert.MemFirstRefIdeal.main_arg0)
      ∧ r.2.mem ((c.tc : Thread Cert.MemFirstRefIdeal.nD Cert.MemFirstRefIdeal.τ).loc Cert.MemFirstRefIdeal.main_arg1) = m ((c.tc : Thread Cert.MemFirstRefIdeal.nD Cert.MemFirstRefIdeal.τ).loc Cert.MemFirstRefIdeal.main_arg1))
      ∧ r.2.sem = fun _ => 0)

def quiescent_MemSecond [hMemSecond : Cert.MemSecond.Facts] : Prop :=
  ∀ (m : (ℓ : Loc Cert.MemSecond.nD Cert.MemSecond.τ Cert.MemSecond.sig) → Buf (Elt Bits) ℓ) (g : Dev Cert.MemSecond.nD → PrngReg), Pre_MemSecond m →
    θ_run (Cert.MemSecond.defs (F := Bits)) (onTc (τ := Cert.MemSecond.τ) (Cert.MemSecond.main (F := Bits))) ⟨m, fun _ => 0, g⟩ (fun r => (∀ c : Dev Cert.MemSecond.nD,
      r.2.mem ((c.tc : Thread Cert.MemSecond.nD Cert.MemSecond.τ).loc Cert.MemSecond.main_arg0) = m ((c.tc : Thread Cert.MemSecond.nD Cert.MemSecond.τ).loc Cert.MemSecond.main_arg0)
      ∧ r.2.mem ((c.tc : Thread Cert.MemSecond.nD Cert.MemSecond.τ).loc Cert.MemSecond.main_arg1) = m ((c.tc : Thread Cert.MemSecond.nD Cert.MemSecond.τ).loc Cert.MemSecond.main_arg1))
      ∧ r.2.sem = fun _ => 0)

def quiescent_MemSecondIdeal [hMemSecondIdeal : Cert.MemSecondIdeal.Facts] : Prop :=
  ∀ (m : (ℓ : Loc Cert.MemSecondIdeal.nD Cert.MemSecondIdeal.τ Cert.MemSecondIdeal.sig) → Buf (Elt Ideal) ℓ) (g : Dev Cert.MemSecondIdeal.nD → PrngReg), Pre_MemSecondIdeal m →
    θ_run (Cert.MemSecondIdeal.defs (F := Ideal)) (onTc (τ := Cert.MemSecondIdeal.τ) (Cert.MemSecondIdeal.main (F := Ideal))) ⟨m, fun _ => 0, g⟩ (fun r => (∀ c : Dev Cert.MemSecondIdeal.nD,
      r.2.mem ((c.tc : Thread Cert.MemSecondIdeal.nD Cert.MemSecondIdeal.τ).loc Cert.MemSecondIdeal.main_arg0) = m ((c.tc : Thread Cert.MemSecondIdeal.nD Cert.MemSecondIdeal.τ).loc Cert.MemSecondIdeal.main_arg0)
      ∧ r.2.mem ((c.tc : Thread Cert.MemSecondIdeal.nD Cert.MemSecondIdeal.τ).loc Cert.MemSecondIdeal.main_arg1) = m ((c.tc : Thread Cert.MemSecondIdeal.nD Cert.MemSecondIdeal.τ).loc Cert.MemSecondIdeal.main_arg1))
      ∧ r.2.sem = fun _ => 0)

def quiescent_MemSecondRefIdeal [hMemSecondRefIdeal : Cert.MemSecondRefIdeal.Facts] : Prop :=
  ∀ (m : (ℓ : Loc Cert.MemSecondRefIdeal.nD Cert.MemSecondRefIdeal.τ Cert.MemSecondRefIdeal.sig) → Buf (Elt Ideal) ℓ) (g : Dev Cert.MemSecondRefIdeal.nD → PrngReg), Pre_MemSecondRefIdeal m →
    θ_run (Cert.MemSecondRefIdeal.defs (F := Ideal)) (onTc (τ := Cert.MemSecondRefIdeal.τ) (Cert.MemSecondRefIdeal.main (F := Ideal))) ⟨m, fun _ => 0, g⟩ (fun r => (∀ c : Dev Cert.MemSecondRefIdeal.nD,
      r.2.mem ((c.tc : Thread Cert.MemSecondRefIdeal.nD Cert.MemSecondRefIdeal.τ).loc Cert.MemSecondRefIdeal.main_arg0) = m ((c.tc : Thread Cert.MemSecondRefIdeal.nD Cert.MemSecondRefIdeal.τ).loc Cert.MemSecondRefIdeal.main_arg0)
      ∧ r.2.mem ((c.tc : Thread Cert.MemSecondRefIdeal.nD Cert.MemSecondRefIdeal.τ).loc Cert.MemSecondRefIdeal.main_arg1) = m ((c.tc : Thread Cert.MemSecondRefIdeal.nD Cert.MemSecondRefIdeal.τ).loc Cert.MemSecondRefIdeal.main_arg1))
      ∧ r.2.sem = fun _ => 0)

def quiescent_FinalPrompt [hFinalPrompt : Cert.FinalPrompt.Facts] : Prop :=
  ∀ (m : (ℓ : Loc Cert.FinalPrompt.nD Cert.FinalPrompt.τ Cert.FinalPrompt.sig) → Buf (Elt Bits) ℓ) (g : Dev Cert.FinalPrompt.nD → PrngReg), Pre_FinalPrompt m →
    θ_run (Cert.FinalPrompt.defs (F := Bits)) (onTc (τ := Cert.FinalPrompt.τ) (Cert.FinalPrompt.main (F := Bits))) ⟨m, fun _ => 0, g⟩ (fun r => (∀ c : Dev Cert.FinalPrompt.nD,
      r.2.mem ((c.tc : Thread Cert.FinalPrompt.nD Cert.FinalPrompt.τ).loc Cert.FinalPrompt.main_arg0) = m ((c.tc : Thread Cert.FinalPrompt.nD Cert.FinalPrompt.τ).loc Cert.FinalPrompt.main_arg0)
      ∧ r.2.mem ((c.tc : Thread Cert.FinalPrompt.nD Cert.FinalPrompt.τ).loc Cert.FinalPrompt.main_arg1) = m ((c.tc : Thread Cert.FinalPrompt.nD Cert.FinalPrompt.τ).loc Cert.FinalPrompt.main_arg1))
      ∧ r.2.sem = fun _ => 0)

def quiescent_FinalPromptIdeal [hFinalPromptIdeal : Cert.FinalPromptIdeal.Facts] : Prop :=
  ∀ (m : (ℓ : Loc Cert.FinalPromptIdeal.nD Cert.FinalPromptIdeal.τ Cert.FinalPromptIdeal.sig) → Buf (Elt Ideal) ℓ) (g : Dev Cert.FinalPromptIdeal.nD → PrngReg), Pre_FinalPromptIdeal m →
    θ_run (Cert.FinalPromptIdeal.defs (F := Ideal)) (onTc (τ := Cert.FinalPromptIdeal.τ) (Cert.FinalPromptIdeal.main (F := Ideal))) ⟨m, fun _ => 0, g⟩ (fun r => (∀ c : Dev Cert.FinalPromptIdeal.nD,
      r.2.mem ((c.tc : Thread Cert.FinalPromptIdeal.nD Cert.FinalPromptIdeal.τ).loc Cert.FinalPromptIdeal.main_arg0) = m ((c.tc : Thread Cert.FinalPromptIdeal.nD Cert.FinalPromptIdeal.τ).loc Cert.FinalPromptIdeal.main_arg0)
      ∧ r.2.mem ((c.tc : Thread Cert.FinalPromptIdeal.nD Cert.FinalPromptIdeal.τ).loc Cert.FinalPromptIdeal.main_arg1) = m ((c.tc : Thread Cert.FinalPromptIdeal.nD Cert.FinalPromptIdeal.τ).loc Cert.FinalPromptIdeal.main_arg1))
      ∧ r.2.sem = fun _ => 0)

def quiescent_FinalPromptRefIdeal [hFinalPromptRefIdeal : Cert.FinalPromptRefIdeal.Facts] : Prop :=
  ∀ (m : (ℓ : Loc Cert.FinalPromptRefIdeal.nD Cert.FinalPromptRefIdeal.τ Cert.FinalPromptRefIdeal.sig) → Buf (Elt Ideal) ℓ) (g : Dev Cert.FinalPromptRefIdeal.nD → PrngReg), Pre_FinalPromptRefIdeal m →
    θ_run (Cert.FinalPromptRefIdeal.defs (F := Ideal)) (onTc (τ := Cert.FinalPromptRefIdeal.τ) (Cert.FinalPromptRefIdeal.main (F := Ideal))) ⟨m, fun _ => 0, g⟩ (fun r => (∀ c : Dev Cert.FinalPromptRefIdeal.nD,
      r.2.mem ((c.tc : Thread Cert.FinalPromptRefIdeal.nD Cert.FinalPromptRefIdeal.τ).loc Cert.FinalPromptRefIdeal.main_arg0) = m ((c.tc : Thread Cert.FinalPromptRefIdeal.nD Cert.FinalPromptRefIdeal.τ).loc Cert.FinalPromptRefIdeal.main_arg0)
      ∧ r.2.mem ((c.tc : Thread Cert.FinalPromptRefIdeal.nD Cert.FinalPromptRefIdeal.τ).loc Cert.FinalPromptRefIdeal.main_arg1) = m ((c.tc : Thread Cert.FinalPromptRefIdeal.nD Cert.FinalPromptRefIdeal.τ).loc Cert.FinalPromptRefIdeal.main_arg1))
      ∧ r.2.sem = fun _ => 0)

def quiescent_FinalSample [hFinalSample : Cert.FinalSample.Facts] : Prop :=
  ∀ (m : (ℓ : Loc Cert.FinalSample.nD Cert.FinalSample.τ Cert.FinalSample.sig) → Buf (Elt Bits) ℓ) (g : Dev Cert.FinalSample.nD → PrngReg), Pre_FinalSample m →
    θ_run (Cert.FinalSample.defs (F := Bits)) (onTc (τ := Cert.FinalSample.τ) (Cert.FinalSample.main (F := Bits))) ⟨m, fun _ => 0, g⟩ (fun r => (∀ c : Dev Cert.FinalSample.nD,
      r.2.mem ((c.tc : Thread Cert.FinalSample.nD Cert.FinalSample.τ).loc Cert.FinalSample.main_arg0) = m ((c.tc : Thread Cert.FinalSample.nD Cert.FinalSample.τ).loc Cert.FinalSample.main_arg0)
      ∧ r.2.mem ((c.tc : Thread Cert.FinalSample.nD Cert.FinalSample.τ).loc Cert.FinalSample.main_arg1) = m ((c.tc : Thread Cert.FinalSample.nD Cert.FinalSample.τ).loc Cert.FinalSample.main_arg1))
      ∧ r.2.sem = fun _ => 0)

def quiescent_FinalSampleIdeal [hFinalSampleIdeal : Cert.FinalSampleIdeal.Facts] : Prop :=
  ∀ (m : (ℓ : Loc Cert.FinalSampleIdeal.nD Cert.FinalSampleIdeal.τ Cert.FinalSampleIdeal.sig) → Buf (Elt Ideal) ℓ) (g : Dev Cert.FinalSampleIdeal.nD → PrngReg), Pre_FinalSampleIdeal m →
    θ_run (Cert.FinalSampleIdeal.defs (F := Ideal)) (onTc (τ := Cert.FinalSampleIdeal.τ) (Cert.FinalSampleIdeal.main (F := Ideal))) ⟨m, fun _ => 0, g⟩ (fun r => (∀ c : Dev Cert.FinalSampleIdeal.nD,
      r.2.mem ((c.tc : Thread Cert.FinalSampleIdeal.nD Cert.FinalSampleIdeal.τ).loc Cert.FinalSampleIdeal.main_arg0) = m ((c.tc : Thread Cert.FinalSampleIdeal.nD Cert.FinalSampleIdeal.τ).loc Cert.FinalSampleIdeal.main_arg0)
      ∧ r.2.mem ((c.tc : Thread Cert.FinalSampleIdeal.nD Cert.FinalSampleIdeal.τ).loc Cert.FinalSampleIdeal.main_arg1) = m ((c.tc : Thread Cert.FinalSampleIdeal.nD Cert.FinalSampleIdeal.τ).loc Cert.FinalSampleIdeal.main_arg1))
      ∧ r.2.sem = fun _ => 0)

def quiescent_FinalSampleRefIdeal [hFinalSampleRefIdeal : Cert.FinalSampleRefIdeal.Facts] : Prop :=
  ∀ (m : (ℓ : Loc Cert.FinalSampleRefIdeal.nD Cert.FinalSampleRefIdeal.τ Cert.FinalSampleRefIdeal.sig) → Buf (Elt Ideal) ℓ) (g : Dev Cert.FinalSampleRefIdeal.nD → PrngReg), Pre_FinalSampleRefIdeal m →
    θ_run (Cert.FinalSampleRefIdeal.defs (F := Ideal)) (onTc (τ := Cert.FinalSampleRefIdeal.τ) (Cert.FinalSampleRefIdeal.main (F := Ideal))) ⟨m, fun _ => 0, g⟩ (fun r => (∀ c : Dev Cert.FinalSampleRefIdeal.nD,
      r.2.mem ((c.tc : Thread Cert.FinalSampleRefIdeal.nD Cert.FinalSampleRefIdeal.τ).loc Cert.FinalSampleRefIdeal.main_arg0) = m ((c.tc : Thread Cert.FinalSampleRefIdeal.nD Cert.FinalSampleRefIdeal.τ).loc Cert.FinalSampleRefIdeal.main_arg0)
      ∧ r.2.mem ((c.tc : Thread Cert.FinalSampleRefIdeal.nD Cert.FinalSampleRefIdeal.τ).loc Cert.FinalSampleRefIdeal.main_arg1) = m ((c.tc : Thread Cert.FinalSampleRefIdeal.nD Cert.FinalSampleRefIdeal.τ).loc Cert.FinalSampleRefIdeal.main_arg1))
      ∧ r.2.sem = fun _ => 0)

def quiescent_SconvSample [hSconvSample : Cert.SconvSample.Facts] : Prop :=
  ∀ (m : (ℓ : Loc Cert.SconvSample.nD Cert.SconvSample.τ Cert.SconvSample.sig) → Buf (Elt Bits) ℓ) (g : Dev Cert.SconvSample.nD → PrngReg), Pre_SconvSample m →
    θ_run (Cert.SconvSample.defs (F := Bits)) (onTc (τ := Cert.SconvSample.τ) (Cert.SconvSample.main (F := Bits))) ⟨m, fun _ => 0, g⟩ (fun r => (∀ c : Dev Cert.SconvSample.nD,
      r.2.mem ((c.tc : Thread Cert.SconvSample.nD Cert.SconvSample.τ).loc Cert.SconvSample.main_arg0) = m ((c.tc : Thread Cert.SconvSample.nD Cert.SconvSample.τ).loc Cert.SconvSample.main_arg0)
      ∧ r.2.mem ((c.tc : Thread Cert.SconvSample.nD Cert.SconvSample.τ).loc Cert.SconvSample.main_arg1) = m ((c.tc : Thread Cert.SconvSample.nD Cert.SconvSample.τ).loc Cert.SconvSample.main_arg1)
      ∧ r.2.mem ((c.tc : Thread Cert.SconvSample.nD Cert.SconvSample.τ).loc Cert.SconvSample.main_arg2) = m ((c.tc : Thread Cert.SconvSample.nD Cert.SconvSample.τ).loc Cert.SconvSample.main_arg2))
      ∧ r.2.sem = fun _ => 0)

def quiescent_SconvSampleIdeal [hSconvSampleIdeal : Cert.SconvSampleIdeal.Facts] : Prop :=
  ∀ (m : (ℓ : Loc Cert.SconvSampleIdeal.nD Cert.SconvSampleIdeal.τ Cert.SconvSampleIdeal.sig) → Buf (Elt Ideal) ℓ) (g : Dev Cert.SconvSampleIdeal.nD → PrngReg), Pre_SconvSampleIdeal m →
    θ_run (Cert.SconvSampleIdeal.defs (F := Ideal)) (onTc (τ := Cert.SconvSampleIdeal.τ) (Cert.SconvSampleIdeal.main (F := Ideal))) ⟨m, fun _ => 0, g⟩ (fun r => (∀ c : Dev Cert.SconvSampleIdeal.nD,
      r.2.mem ((c.tc : Thread Cert.SconvSampleIdeal.nD Cert.SconvSampleIdeal.τ).loc Cert.SconvSampleIdeal.main_arg0) = m ((c.tc : Thread Cert.SconvSampleIdeal.nD Cert.SconvSampleIdeal.τ).loc Cert.SconvSampleIdeal.main_arg0)
      ∧ r.2.mem ((c.tc : Thread Cert.SconvSampleIdeal.nD Cert.SconvSampleIdeal.τ).loc Cert.SconvSampleIdeal.main_arg1) = m ((c.tc : Thread Cert.SconvSampleIdeal.nD Cert.SconvSampleIdeal.τ).loc Cert.SconvSampleIdeal.main_arg1)
      ∧ r.2.mem ((c.tc : Thread Cert.SconvSampleIdeal.nD Cert.SconvSampleIdeal.τ).loc Cert.SconvSampleIdeal.main_arg2) = m ((c.tc : Thread Cert.SconvSampleIdeal.nD Cert.SconvSampleIdeal.τ).loc Cert.SconvSampleIdeal.main_arg2))
      ∧ r.2.sem = fun _ => 0)

def quiescent_SconvSampleRefIdeal [hSconvSampleRefIdeal : Cert.SconvSampleRefIdeal.Facts] : Prop :=
  ∀ (m : (ℓ : Loc Cert.SconvSampleRefIdeal.nD Cert.SconvSampleRefIdeal.τ Cert.SconvSampleRefIdeal.sig) → Buf (Elt Ideal) ℓ) (g : Dev Cert.SconvSampleRefIdeal.nD → PrngReg), Pre_SconvSampleRefIdeal m →
    θ_run (Cert.SconvSampleRefIdeal.defs (F := Ideal)) (onTc (τ := Cert.SconvSampleRefIdeal.τ) (Cert.SconvSampleRefIdeal.main (F := Ideal))) ⟨m, fun _ => 0, g⟩ (fun r => (∀ c : Dev Cert.SconvSampleRefIdeal.nD,
      r.2.mem ((c.tc : Thread Cert.SconvSampleRefIdeal.nD Cert.SconvSampleRefIdeal.τ).loc Cert.SconvSampleRefIdeal.main_arg0) = m ((c.tc : Thread Cert.SconvSampleRefIdeal.nD Cert.SconvSampleRefIdeal.τ).loc Cert.SconvSampleRefIdeal.main_arg0)
      ∧ r.2.mem ((c.tc : Thread Cert.SconvSampleRefIdeal.nD Cert.SconvSampleRefIdeal.τ).loc Cert.SconvSampleRefIdeal.main_arg1) = m ((c.tc : Thread Cert.SconvSampleRefIdeal.nD Cert.SconvSampleRefIdeal.τ).loc Cert.SconvSampleRefIdeal.main_arg1)
      ∧ r.2.mem ((c.tc : Thread Cert.SconvSampleRefIdeal.nD Cert.SconvSampleRefIdeal.τ).loc Cert.SconvSampleRefIdeal.main_arg2) = m ((c.tc : Thread Cert.SconvSampleRefIdeal.nD Cert.SconvSampleRefIdeal.τ).loc Cert.SconvSampleRefIdeal.main_arg2))
      ∧ r.2.sem = fun _ => 0)

def quiescent_LruSample [hLruSample : Cert.LruSample.Facts] : Prop :=
  ∀ (m : (ℓ : Loc Cert.LruSample.nD Cert.LruSample.τ Cert.LruSample.sig) → Buf (Elt Bits) ℓ) (g : Dev Cert.LruSample.nD → PrngReg), Pre_LruSample m →
    θ_run (Cert.LruSample.defs (F := Bits)) (onTc (τ := Cert.LruSample.τ) (Cert.LruSample.main (F := Bits))) ⟨m, fun _ => 0, g⟩ (fun r => (∀ c : Dev Cert.LruSample.nD,
      r.2.mem ((c.tc : Thread Cert.LruSample.nD Cert.LruSample.τ).loc Cert.LruSample.main_arg0) = m ((c.tc : Thread Cert.LruSample.nD Cert.LruSample.τ).loc Cert.LruSample.main_arg0)
      ∧ r.2.mem ((c.tc : Thread Cert.LruSample.nD Cert.LruSample.τ).loc Cert.LruSample.main_arg1) = m ((c.tc : Thread Cert.LruSample.nD Cert.LruSample.τ).loc Cert.LruSample.main_arg1)
      ∧ r.2.mem ((c.tc : Thread Cert.LruSample.nD Cert.LruSample.τ).loc Cert.LruSample.main_arg2) = m ((c.tc : Thread Cert.LruSample.nD Cert.LruSample.τ).loc Cert.LruSample.main_arg2)
      ∧ r.2.mem ((c.tc : Thread Cert.LruSample.nD Cert.LruSample.τ).loc Cert.LruSample.main_arg3) = m ((c.tc : Thread Cert.LruSample.nD Cert.LruSample.τ).loc Cert.LruSample.main_arg3)
      ∧ r.2.mem ((c.tc : Thread Cert.LruSample.nD Cert.LruSample.τ).loc Cert.LruSample.main_arg4) = m ((c.tc : Thread Cert.LruSample.nD Cert.LruSample.τ).loc Cert.LruSample.main_arg4)
      ∧ r.2.mem ((c.tc : Thread Cert.LruSample.nD Cert.LruSample.τ).loc Cert.LruSample.main_arg5) = m ((c.tc : Thread Cert.LruSample.nD Cert.LruSample.τ).loc Cert.LruSample.main_arg5)
      ∧ r.2.mem ((c.tc : Thread Cert.LruSample.nD Cert.LruSample.τ).loc Cert.LruSample.main_arg6) = m ((c.tc : Thread Cert.LruSample.nD Cert.LruSample.τ).loc Cert.LruSample.main_arg6)
      ∧ r.2.mem ((c.tc : Thread Cert.LruSample.nD Cert.LruSample.τ).loc Cert.LruSample.main_arg7) = m ((c.tc : Thread Cert.LruSample.nD Cert.LruSample.τ).loc Cert.LruSample.main_arg7)
      ∧ r.2.mem ((c.tc : Thread Cert.LruSample.nD Cert.LruSample.τ).loc Cert.LruSample.main_arg8) = m ((c.tc : Thread Cert.LruSample.nD Cert.LruSample.τ).loc Cert.LruSample.main_arg8)
      ∧ r.2.mem ((c.tc : Thread Cert.LruSample.nD Cert.LruSample.τ).loc Cert.LruSample.main_arg9) = m ((c.tc : Thread Cert.LruSample.nD Cert.LruSample.τ).loc Cert.LruSample.main_arg9))
      ∧ r.2.sem = fun _ => 0)

def quiescent_LruSampleIdeal [hLruSampleIdeal : Cert.LruSampleIdeal.Facts] : Prop :=
  ∀ (m : (ℓ : Loc Cert.LruSampleIdeal.nD Cert.LruSampleIdeal.τ Cert.LruSampleIdeal.sig) → Buf (Elt Ideal) ℓ) (g : Dev Cert.LruSampleIdeal.nD → PrngReg), Pre_LruSampleIdeal m →
    θ_run (Cert.LruSampleIdeal.defs (F := Ideal)) (onTc (τ := Cert.LruSampleIdeal.τ) (Cert.LruSampleIdeal.main (F := Ideal))) ⟨m, fun _ => 0, g⟩ (fun r => (∀ c : Dev Cert.LruSampleIdeal.nD,
      r.2.mem ((c.tc : Thread Cert.LruSampleIdeal.nD Cert.LruSampleIdeal.τ).loc Cert.LruSampleIdeal.main_arg0) = m ((c.tc : Thread Cert.LruSampleIdeal.nD Cert.LruSampleIdeal.τ).loc Cert.LruSampleIdeal.main_arg0)
      ∧ r.2.mem ((c.tc : Thread Cert.LruSampleIdeal.nD Cert.LruSampleIdeal.τ).loc Cert.LruSampleIdeal.main_arg1) = m ((c.tc : Thread Cert.LruSampleIdeal.nD Cert.LruSampleIdeal.τ).loc Cert.LruSampleIdeal.main_arg1)
      ∧ r.2.mem ((c.tc : Thread Cert.LruSampleIdeal.nD Cert.LruSampleIdeal.τ).loc Cert.LruSampleIdeal.main_arg2) = m ((c.tc : Thread Cert.LruSampleIdeal.nD Cert.LruSampleIdeal.τ).loc Cert.LruSampleIdeal.main_arg2)
      ∧ r.2.mem ((c.tc : Thread Cert.LruSampleIdeal.nD Cert.LruSampleIdeal.τ).loc Cert.LruSampleIdeal.main_arg3) = m ((c.tc : Thread Cert.LruSampleIdeal.nD Cert.LruSampleIdeal.τ).loc Cert.LruSampleIdeal.main_arg3)
      ∧ r.2.mem ((c.tc : Thread Cert.LruSampleIdeal.nD Cert.LruSampleIdeal.τ).loc Cert.LruSampleIdeal.main_arg4) = m ((c.tc : Thread Cert.LruSampleIdeal.nD Cert.LruSampleIdeal.τ).loc Cert.LruSampleIdeal.main_arg4)
      ∧ r.2.mem ((c.tc : Thread Cert.LruSampleIdeal.nD Cert.LruSampleIdeal.τ).loc Cert.LruSampleIdeal.main_arg5) = m ((c.tc : Thread Cert.LruSampleIdeal.nD Cert.LruSampleIdeal.τ).loc Cert.LruSampleIdeal.main_arg5)
      ∧ r.2.mem ((c.tc : Thread Cert.LruSampleIdeal.nD Cert.LruSampleIdeal.τ).loc Cert.LruSampleIdeal.main_arg6) = m ((c.tc : Thread Cert.LruSampleIdeal.nD Cert.LruSampleIdeal.τ).loc Cert.LruSampleIdeal.main_arg6)
      ∧ r.2.mem ((c.tc : Thread Cert.LruSampleIdeal.nD Cert.LruSampleIdeal.τ).loc Cert.LruSampleIdeal.main_arg7) = m ((c.tc : Thread Cert.LruSampleIdeal.nD Cert.LruSampleIdeal.τ).loc Cert.LruSampleIdeal.main_arg7)
      ∧ r.2.mem ((c.tc : Thread Cert.LruSampleIdeal.nD Cert.LruSampleIdeal.τ).loc Cert.LruSampleIdeal.main_arg8) = m ((c.tc : Thread Cert.LruSampleIdeal.nD Cert.LruSampleIdeal.τ).loc Cert.LruSampleIdeal.main_arg8)
      ∧ r.2.mem ((c.tc : Thread Cert.LruSampleIdeal.nD Cert.LruSampleIdeal.τ).loc Cert.LruSampleIdeal.main_arg9) = m ((c.tc : Thread Cert.LruSampleIdeal.nD Cert.LruSampleIdeal.τ).loc Cert.LruSampleIdeal.main_arg9))
      ∧ r.2.sem = fun _ => 0)

def quiescent_LruSampleRefIdeal [hLruSampleRefIdeal : Cert.LruSampleRefIdeal.Facts] : Prop :=
  ∀ (m : (ℓ : Loc Cert.LruSampleRefIdeal.nD Cert.LruSampleRefIdeal.τ Cert.LruSampleRefIdeal.sig) → Buf (Elt Ideal) ℓ) (g : Dev Cert.LruSampleRefIdeal.nD → PrngReg), Pre_LruSampleRefIdeal m →
    θ_run (Cert.LruSampleRefIdeal.defs (F := Ideal)) (onTc (τ := Cert.LruSampleRefIdeal.τ) (Cert.LruSampleRefIdeal.main (F := Ideal))) ⟨m, fun _ => 0, g⟩ (fun r => (∀ c : Dev Cert.LruSampleRefIdeal.nD,
      r.2.mem ((c.tc : Thread Cert.LruSampleRefIdeal.nD Cert.LruSampleRefIdeal.τ).loc Cert.LruSampleRefIdeal.main_arg0) = m ((c.tc : Thread Cert.LruSampleRefIdeal.nD Cert.LruSampleRefIdeal.τ).loc Cert.LruSampleRefIdeal.main_arg0)
      ∧ r.2.mem ((c.tc : Thread Cert.LruSampleRefIdeal.nD Cert.LruSampleRefIdeal.τ).loc Cert.LruSampleRefIdeal.main_arg1) = m ((c.tc : Thread Cert.LruSampleRefIdeal.nD Cert.LruSampleRefIdeal.τ).loc Cert.LruSampleRefIdeal.main_arg1)
      ∧ r.2.mem ((c.tc : Thread Cert.LruSampleRefIdeal.nD Cert.LruSampleRefIdeal.τ).loc Cert.LruSampleRefIdeal.main_arg2) = m ((c.tc : Thread Cert.LruSampleRefIdeal.nD Cert.LruSampleRefIdeal.τ).loc Cert.LruSampleRefIdeal.main_arg2)
      ∧ r.2.mem ((c.tc : Thread Cert.LruSampleRefIdeal.nD Cert.LruSampleRefIdeal.τ).loc Cert.LruSampleRefIdeal.main_arg3) = m ((c.tc : Thread Cert.LruSampleRefIdeal.nD Cert.LruSampleRefIdeal.τ).loc Cert.LruSampleRefIdeal.main_arg3)
      ∧ r.2.mem ((c.tc : Thread Cert.LruSampleRefIdeal.nD Cert.LruSampleRefIdeal.τ).loc Cert.LruSampleRefIdeal.main_arg4) = m ((c.tc : Thread Cert.LruSampleRefIdeal.nD Cert.LruSampleRefIdeal.τ).loc Cert.LruSampleRefIdeal.main_arg4)
      ∧ r.2.mem ((c.tc : Thread Cert.LruSampleRefIdeal.nD Cert.LruSampleRefIdeal.τ).loc Cert.LruSampleRefIdeal.main_arg5) = m ((c.tc : Thread Cert.LruSampleRefIdeal.nD Cert.LruSampleRefIdeal.τ).loc Cert.LruSampleRefIdeal.main_arg5)
      ∧ r.2.mem ((c.tc : Thread Cert.LruSampleRefIdeal.nD Cert.LruSampleRefIdeal.τ).loc Cert.LruSampleRefIdeal.main_arg6) = m ((c.tc : Thread Cert.LruSampleRefIdeal.nD Cert.LruSampleRefIdeal.τ).loc Cert.LruSampleRefIdeal.main_arg6)
      ∧ r.2.mem ((c.tc : Thread Cert.LruSampleRefIdeal.nD Cert.LruSampleRefIdeal.τ).loc Cert.LruSampleRefIdeal.main_arg7) = m ((c.tc : Thread Cert.LruSampleRefIdeal.nD Cert.LruSampleRefIdeal.τ).loc Cert.LruSampleRefIdeal.main_arg7)
      ∧ r.2.mem ((c.tc : Thread Cert.LruSampleRefIdeal.nD Cert.LruSampleRefIdeal.τ).loc Cert.LruSampleRefIdeal.main_arg8) = m ((c.tc : Thread Cert.LruSampleRefIdeal.nD Cert.LruSampleRefIdeal.τ).loc Cert.LruSampleRefIdeal.main_arg8)
      ∧ r.2.mem ((c.tc : Thread Cert.LruSampleRefIdeal.nD Cert.LruSampleRefIdeal.τ).loc Cert.LruSampleRefIdeal.main_arg9) = m ((c.tc : Thread Cert.LruSampleRefIdeal.nD Cert.LruSampleRefIdeal.τ).loc Cert.LruSampleRefIdeal.main_arg9))
      ∧ r.2.sem = fun _ => 0)

def preserves_Kernel_KernelIdeal : Prop :=
  True

def algebraic_KernelIdeal_ReferenceIdeal_on_prompt_rows [hKernelIdeal : Cert.KernelIdeal.Facts] [hReferenceIdeal : Cert.ReferenceIdeal.Facts] [hOn_prompt_rows : Cert.On_prompt_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8704, 4096]⟩ : Shape).Idx, (Cert.On_prompt_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8704, 4096]⟩ : Shape).Idx, (Cert.On_prompt_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.ReferenceIdeal.nD Cert.ReferenceIdeal.τ).loc Cert.ReferenceIdeal.main_v23) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v7) = v0 c
          ∧ r.2.mem ((c.tc : Thread Cert.UpRefIdeal.nD Cert.UpRefIdeal.τ).loc Cert.UpRefIdeal.main_v10) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_OddIn_OddInIdeal : Prop :=
  True

def algebraic_OddInIdeal_OddInRefIdeal [hOddInIdeal : Cert.OddInIdeal.Facts] [hOddInRefIdeal : Cert.OddInRefIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInRefIdeal.nD Cert.OddInRefIdeal.τ Cert.OddInRefIdeal.sig) → Buf (Elt Ideal) ℓ) (g' : Dev Cert.OddInRefIdeal.nD → PrngReg), Pre_OddInIdeal m →
    (∀ c : Dev Cert.OddInIdeal.nD,
      m' ((c.tc : Thread Cert.OddInRefIdeal.nD Cert.OddInRefIdeal.τ).loc Cert.OddInRefIdeal.main_arg0) = m ((c.tc : Thread Cert.OddInIdeal.nD Cert.OddInIdeal.τ).loc Cert.OddInIdeal.main_arg0)
      ∧ m' ((c.tc : Thread Cert.OddInRefIdeal.nD Cert.OddInRefIdeal.τ).loc Cert.OddInRefIdeal.main_arg1) = m ((c.tc : Thread Cert.OddInIdeal.nD Cert.OddInIdeal.τ).loc Cert.OddInIdeal.main_arg1)) →
    ∃ (v0 : (c : Dev Cert.OddInIdeal.nD) → Buf (Elt Ideal) ((c.tc : Thread Cert.OddInIdeal.nD Cert.OddInIdeal.τ).loc Cert.OddInIdeal.main_v0)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v0) = v0 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ θ_run (Cert.OddInRefIdeal.defs (F := Ideal)) (onTc (τ := Cert.OddInRefIdeal.τ) (Cert.OddInRefIdeal.main (F := Ideal))) ⟨m', fun _ => 0, g'⟩ (fun r => ∀ c : Dev Cert.OddInRefIdeal.nD,
          r.2.mem ((c.tc : Thread Cert.OddInRefIdeal.nD Cert.OddInRefIdeal.τ).loc Cert.OddInRefIdeal.main_v2) = v0 c
          ∧ r.2.mem ((c.tc : Thread Cert.OddInRefIdeal.nD Cert.OddInRefIdeal.τ).loc Cert.OddInRefIdeal.main_arg0) = m' ((c.tc : Thread Cert.OddInRefIdeal.nD Cert.OddInRefIdeal.τ).loc Cert.OddInRefIdeal.main_arg0)
          ∧ r.2.mem ((c.tc : Thread Cert.OddInRefIdeal.nD Cert.OddInRefIdeal.τ).loc Cert.OddInRefIdeal.main_arg1) = m' ((c.tc : Thread Cert.OddInRefIdeal.nD Cert.OddInRefIdeal.τ).loc Cert.OddInRefIdeal.main_arg1))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v0)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v0) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v4) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1))

def preserves_AttnOut_AttnOutIdeal : Prop :=
  True

def algebraic_AttnOutIdeal_AttnOutRefIdeal [hAttnOutIdeal : Cert.AttnOutIdeal.Facts] [hAttnOutRefIdeal : Cert.AttnOutRefIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutRefIdeal.nD Cert.AttnOutRefIdeal.τ Cert.AttnOutRefIdeal.sig) → Buf (Elt Ideal) ℓ) (g' : Dev Cert.AttnOutRefIdeal.nD → PrngReg), Pre_AttnOutIdeal m →
    (∀ c : Dev Cert.AttnOutIdeal.nD,
      m' ((c.tc : Thread Cert.AttnOutRefIdeal.nD Cert.AttnOutRefIdeal.τ).loc Cert.AttnOutRefIdeal.main_arg0) = m ((c.tc : Thread Cert.AttnOutIdeal.nD Cert.AttnOutIdeal.τ).loc Cert.AttnOutIdeal.main_arg0)
      ∧ m' ((c.tc : Thread Cert.AttnOutRefIdeal.nD Cert.AttnOutRefIdeal.τ).loc Cert.AttnOutRefIdeal.main_arg1) = m ((c.tc : Thread Cert.AttnOutIdeal.nD Cert.AttnOutIdeal.τ).loc Cert.AttnOutIdeal.main_arg1)
      ∧ m' ((c.tc : Thread Cert.AttnOutRefIdeal.nD Cert.AttnOutRefIdeal.τ).loc Cert.AttnOutRefIdeal.main_arg2) = m ((c.tc : Thread Cert.AttnOutIdeal.nD Cert.AttnOutIdeal.τ).loc Cert.AttnOutIdeal.main_arg2)) →
    ∃ (v0 : (c : Dev Cert.AttnOutIdeal.nD) → Buf (Elt Ideal) ((c.tc : Thread Cert.AttnOutIdeal.nD Cert.AttnOutIdeal.τ).loc Cert.AttnOutIdeal.main_v0)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v0) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2))
      ∧ θ_run (Cert.AttnOutRefIdeal.defs (F := Ideal)) (onTc (τ := Cert.AttnOutRefIdeal.τ) (Cert.AttnOutRefIdeal.main (F := Ideal))) ⟨m', fun _ => 0, g'⟩ (fun r => ∀ c : Dev Cert.AttnOutRefIdeal.nD,
          r.2.mem ((c.tc : Thread Cert.AttnOutRefIdeal.nD Cert.AttnOutRefIdeal.τ).loc Cert.AttnOutRefIdeal.main_v4) = v0 c
          ∧ r.2.mem ((c.tc : Thread Cert.AttnOutRefIdeal.nD Cert.AttnOutRefIdeal.τ).loc Cert.AttnOutRefIdeal.main_arg0) = m' ((c.tc : Thread Cert.AttnOutRefIdeal.nD Cert.AttnOutRefIdeal.τ).loc Cert.AttnOutRefIdeal.main_arg0)
          ∧ r.2.mem ((c.tc : Thread Cert.AttnOutRefIdeal.nD Cert.AttnOutRefIdeal.τ).loc Cert.AttnOutRefIdeal.main_arg1) = m' ((c.tc : Thread Cert.AttnOutRefIdeal.nD Cert.AttnOutRefIdeal.τ).loc Cert.AttnOutRefIdeal.main_arg1)
          ∧ r.2.mem ((c.tc : Thread Cert.AttnOutRefIdeal.nD Cert.AttnOutRefIdeal.τ).loc Cert.AttnOutRefIdeal.main_arg2) = m' ((c.tc : Thread Cert.AttnOutRefIdeal.nD Cert.AttnOutRefIdeal.τ).loc Cert.AttnOutRefIdeal.main_arg2))

def preserves_OddOut_OddOutIdeal : Prop :=
  True

def algebraic_OddOutIdeal_OddOutRefIdeal [hOddOutIdeal : Cert.OddOutIdeal.Facts] [hOddOutRefIdeal : Cert.OddOutRefIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutRefIdeal.nD Cert.OddOutRefIdeal.τ Cert.OddOutRefIdeal.sig) → Buf (Elt Ideal) ℓ) (g' : Dev Cert.OddOutRefIdeal.nD → PrngReg), Pre_OddOutIdeal m →
    (∀ c : Dev Cert.OddOutIdeal.nD,
      m' ((c.tc : Thread Cert.OddOutRefIdeal.nD Cert.OddOutRefIdeal.τ).loc Cert.OddOutRefIdeal.main_arg0) = m ((c.tc : Thread Cert.OddOutIdeal.nD Cert.OddOutIdeal.τ).loc Cert.OddOutIdeal.main_arg0)
      ∧ m' ((c.tc : Thread Cert.OddOutRefIdeal.nD Cert.OddOutRefIdeal.τ).loc Cert.OddOutRefIdeal.main_arg1) = m ((c.tc : Thread Cert.OddOutIdeal.nD Cert.OddOutIdeal.τ).loc Cert.OddOutIdeal.main_arg1)
      ∧ m' ((c.tc : Thread Cert.OddOutRefIdeal.nD Cert.OddOutRefIdeal.τ).loc Cert.OddOutRefIdeal.main_arg2) = m ((c.tc : Thread Cert.OddOutIdeal.nD Cert.OddOutIdeal.τ).loc Cert.OddOutIdeal.main_arg2)) →
    ∃ (v0 : (c : Dev Cert.OddOutIdeal.nD) → Buf (Elt Ideal) ((c.tc : Thread Cert.OddOutIdeal.nD Cert.OddOutIdeal.τ).loc Cert.OddOutIdeal.main_v0)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v0) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2))
      ∧ θ_run (Cert.OddOutRefIdeal.defs (F := Ideal)) (onTc (τ := Cert.OddOutRefIdeal.τ) (Cert.OddOutRefIdeal.main (F := Ideal))) ⟨m', fun _ => 0, g'⟩ (fun r => ∀ c : Dev Cert.OddOutRefIdeal.nD,
          r.2.mem ((c.tc : Thread Cert.OddOutRefIdeal.nD Cert.OddOutRefIdeal.τ).loc Cert.OddOutRefIdeal.main_v3) = v0 c
          ∧ r.2.mem ((c.tc : Thread Cert.OddOutRefIdeal.nD Cert.OddOutRefIdeal.τ).loc Cert.OddOutRefIdeal.main_arg0) = m' ((c.tc : Thread Cert.OddOutRefIdeal.nD Cert.OddOutRefIdeal.τ).loc Cert.OddOutRefIdeal.main_arg0)
          ∧ r.2.mem ((c.tc : Thread Cert.OddOutRefIdeal.nD Cert.OddOutRefIdeal.τ).loc Cert.OddOutRefIdeal.main_arg1) = m' ((c.tc : Thread Cert.OddOutRefIdeal.nD Cert.OddOutRefIdeal.τ).loc Cert.OddOutRefIdeal.main_arg1)
          ∧ r.2.mem ((c.tc : Thread Cert.OddOutRefIdeal.nD Cert.OddOutRefIdeal.τ).loc Cert.OddOutRefIdeal.main_arg2) = m' ((c.tc : Thread Cert.OddOutRefIdeal.nD Cert.OddOutRefIdeal.τ).loc Cert.OddOutRefIdeal.main_arg2))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)) →
    ∃ (v0 : (c : Dev Cert.EvenInIdeal.nD) → Buf (Elt Ideal) ((c.tc : Thread Cert.EvenInIdeal.nD Cert.EvenInIdeal.τ).loc Cert.EvenInIdeal.main_v2)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v2) = v0 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v3) = v0 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1))

def preserves_LruIn_LruInIdeal : Prop :=
  True

def algebraic_LruInIdeal_LruInRefIdeal [hLruInIdeal : Cert.LruInIdeal.Facts] [hLruInRefIdeal : Cert.LruInRefIdeal.Facts] : Prop :=
  ∀ (m : (ℓ : Loc Cert.LruInIdeal.nD Cert.LruInIdeal.τ Cert.LruInIdeal.sig) → Buf (Elt Ideal) ℓ) (g : Dev Cert.LruInIdeal.nD → PrngReg)
    (m' : (ℓ : Loc Cert.LruInRefIdeal.nD Cert.LruInRefIdeal.τ Cert.LruInRefIdeal.sig) → Buf (Elt Ideal) ℓ) (g' : Dev Cert.LruInRefIdeal.nD → PrngReg), Pre_LruInIdeal m →
    (∀ c : Dev Cert.LruInIdeal.nD,
      m' ((c.tc : Thread Cert.LruInRefIdeal.nD Cert.LruInRefIdeal.τ).loc Cert.LruInRefIdeal.main_arg0) = m ((c.tc : Thread Cert.LruInIdeal.nD Cert.LruInIdeal.τ).loc Cert.LruInIdeal.main_arg0)
      ∧ m' ((c.tc : Thread Cert.LruInRefIdeal.nD Cert.LruInRefIdeal.τ).loc Cert.LruInRefIdeal.main_arg1) = m ((c.tc : Thread Cert.LruInIdeal.nD Cert.LruInIdeal.τ).loc Cert.LruInIdeal.main_arg1)) →
    ∃ (v0 : (c : Dev Cert.LruInIdeal.nD) → Buf (Elt Ideal) ((c.tc : Thread Cert.LruInIdeal.nD Cert.LruInIdeal.τ).loc Cert.LruInIdeal.main_v3)),
      θ_run (Cert.LruInIdeal.defs (F := Ideal)) (onTc (τ := Cert.LruInIdeal.τ) (Cert.LruInIdeal.main (F := Ideal))) ⟨m, fun _ => 0, g⟩ (fun r => ∀ c : Dev Cert.LruInIdeal.nD,
          r.2.mem ((c.tc : Thread Cert.LruInIdeal.nD Cert.LruInIdeal.τ).loc Cert.LruInIdeal.main_v3) = v0 c
          ∧ r.2.mem ((c.tc : Thread Cert.LruInIdeal.nD Cert.LruInIdeal.τ).loc Cert.LruInIdeal.main_arg0) = m ((c.tc : Thread Cert.LruInIdeal.nD Cert.LruInIdeal.τ).loc Cert.LruInIdeal.main_arg0)
          ∧ r.2.mem ((c.tc : Thread Cert.LruInIdeal.nD Cert.LruInIdeal.τ).loc Cert.LruInIdeal.main_arg1) = m ((c.tc : Thread Cert.LruInIdeal.nD Cert.LruInIdeal.τ).loc Cert.LruInIdeal.main_arg1))
      ∧ θ_run (Cert.LruInRefIdeal.defs (F := Ideal)) (onTc (τ := Cert.LruInRefIdeal.τ) (Cert.LruInRefIdeal.main (F := Ideal))) ⟨m', fun _ => 0, g'⟩ (fun r => ∀ c : Dev Cert.LruInRefIdeal.nD,
          r.2.mem ((c.tc : Thread Cert.LruInRefIdeal.nD Cert.LruInRefIdeal.τ).loc Cert.LruInRefIdeal.main_v3) = v0 c
          ∧ r.2.mem ((c.tc : Thread Cert.LruInRefIdeal.nD Cert.LruInRefIdeal.τ).loc Cert.LruInRefIdeal.main_arg0) = m' ((c.tc : Thread Cert.LruInRefIdeal.nD Cert.LruInRefIdeal.τ).loc Cert.LruInRefIdeal.main_arg0)
          ∧ r.2.mem ((c.tc : Thread Cert.LruInRefIdeal.nD Cert.LruInRefIdeal.τ).loc Cert.LruInRefIdeal.main_arg1) = m' ((c.tc : Thread Cert.LruInRefIdeal.nD Cert.LruInRefIdeal.τ).loc Cert.LruInRefIdeal.main_arg1))

def preserves_EvenOut_EvenOutIdeal : Prop :=
  True

def algebraic_EvenOutIdeal_EvenOutRefIdeal [hEvenOutIdeal : Cert.EvenOutIdeal.Facts] [hEvenOutRefIdeal : Cert.EvenOutRefIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutRefIdeal.nD Cert.EvenOutRefIdeal.τ Cert.EvenOutRefIdeal.sig) → Buf (Elt Ideal) ℓ) (g' : Dev Cert.EvenOutRefIdeal.nD → PrngReg), Pre_EvenOutIdeal m →
    (∀ c : Dev Cert.EvenOutIdeal.nD,
      m' ((c.tc : Thread Cert.EvenOutRefIdeal.nD Cert.EvenOutRefIdeal.τ).loc Cert.EvenOutRefIdeal.main_arg0) = m ((c.tc : Thread Cert.EvenOutIdeal.nD Cert.EvenOutIdeal.τ).loc Cert.EvenOutIdeal.main_arg0)
      ∧ m' ((c.tc : Thread Cert.EvenOutRefIdeal.nD Cert.EvenOutRefIdeal.τ).loc Cert.EvenOutRefIdeal.main_arg1) = m ((c.tc : Thread Cert.EvenOutIdeal.nD Cert.EvenOutIdeal.τ).loc Cert.EvenOutIdeal.main_arg1)
      ∧ m' ((c.tc : Thread Cert.EvenOutRefIdeal.nD Cert.EvenOutRefIdeal.τ).loc Cert.EvenOutRefIdeal.main_arg2) = m ((c.tc : Thread Cert.EvenOutIdeal.nD Cert.EvenOutIdeal.τ).loc Cert.EvenOutIdeal.main_arg2)
      ∧ m' ((c.tc : Thread Cert.EvenOutRefIdeal.nD Cert.EvenOutRefIdeal.τ).loc Cert.EvenOutRefIdeal.main_arg3) = m ((c.tc : Thread Cert.EvenOutIdeal.nD Cert.EvenOutIdeal.τ).loc Cert.EvenOutIdeal.main_arg3)) →
    ∃ (v0 : (c : Dev Cert.EvenOutIdeal.nD) → Buf (Elt Ideal) ((c.tc : Thread Cert.EvenOutIdeal.nD Cert.EvenOutIdeal.τ).loc Cert.EvenOutIdeal.main_v0)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v0) = v0 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3))
      ∧ θ_run (Cert.EvenOutRefIdeal.defs (F := Ideal)) (onTc (τ := Cert.EvenOutRefIdeal.τ) (Cert.EvenOutRefIdeal.main (F := Ideal))) ⟨m', fun _ => 0, g'⟩ (fun r => ∀ c : Dev Cert.EvenOutRefIdeal.nD,
          r.2.mem ((c.tc : Thread Cert.EvenOutRefIdeal.nD Cert.EvenOutRefIdeal.τ).loc Cert.EvenOutRefIdeal.main_v4) = v0 c
          ∧ r.2.mem ((c.tc : Thread Cert.EvenOutRefIdeal.nD Cert.EvenOutRefIdeal.τ).loc Cert.EvenOutRefIdeal.main_arg0) = m' ((c.tc : Thread Cert.EvenOutRefIdeal.nD Cert.EvenOutRefIdeal.τ).loc Cert.EvenOutRefIdeal.main_arg0)
          ∧ r.2.mem ((c.tc : Thread Cert.EvenOutRefIdeal.nD Cert.EvenOutRefIdeal.τ).loc Cert.EvenOutRefIdeal.main_arg1) = m' ((c.tc : Thread Cert.EvenOutRefIdeal.nD Cert.EvenOutRefIdeal.τ).loc Cert.EvenOutRefIdeal.main_arg1)
          ∧ r.2.mem ((c.tc : Thread Cert.EvenOutRefIdeal.nD Cert.EvenOutRefIdeal.τ).loc Cert.EvenOutRefIdeal.main_arg2) = m' ((c.tc : Thread Cert.EvenOutRefIdeal.nD Cert.EvenOutRefIdeal.τ).loc Cert.EvenOutRefIdeal.main_arg2)
          ∧ r.2.mem ((c.tc : Thread Cert.EvenOutRefIdeal.nD Cert.EvenOutRefIdeal.τ).loc Cert.EvenOutRefIdeal.main_arg3) = m' ((c.tc : Thread Cert.EvenOutRefIdeal.nD Cert.EvenOutRefIdeal.τ).loc Cert.EvenOutRefIdeal.main_arg3))

def preserves_MemFirst_MemFirstIdeal : Prop :=
  True

def algebraic_MemFirstIdeal_MemFirstRefIdeal [hMemFirstIdeal : Cert.MemFirstIdeal.Facts] [hMemFirstRefIdeal : Cert.MemFirstRefIdeal.Facts] : Prop :=
  ∀ (m : (ℓ : Loc Cert.MemFirstIdeal.nD Cert.MemFirstIdeal.τ Cert.MemFirstIdeal.sig) → Buf (Elt Ideal) ℓ) (g : Dev Cert.MemFirstIdeal.nD → PrngReg)
    (m' : (ℓ : Loc Cert.MemFirstRefIdeal.nD Cert.MemFirstRefIdeal.τ Cert.MemFirstRefIdeal.sig) → Buf (Elt Ideal) ℓ) (g' : Dev Cert.MemFirstRefIdeal.nD → PrngReg), Pre_MemFirstIdeal m →
    (∀ c : Dev Cert.MemFirstIdeal.nD,
      m' ((c.tc : Thread Cert.MemFirstRefIdeal.nD Cert.MemFirstRefIdeal.τ).loc Cert.MemFirstRefIdeal.main_arg0) = m ((c.tc : Thread Cert.MemFirstIdeal.nD Cert.MemFirstIdeal.τ).loc Cert.MemFirstIdeal.main_arg0)
      ∧ m' ((c.tc : Thread Cert.MemFirstRefIdeal.nD Cert.MemFirstRefIdeal.τ).loc Cert.MemFirstRefIdeal.main_arg1) = m ((c.tc : Thread Cert.MemFirstIdeal.nD Cert.MemFirstIdeal.τ).loc Cert.MemFirstIdeal.main_arg1)) →
    ∃ (v0 : (c : Dev Cert.MemFirstIdeal.nD) → Buf (Elt Ideal) ((c.tc : Thread Cert.MemFirstIdeal.nD Cert.MemFirstIdeal.τ).loc Cert.MemFirstIdeal.main_v3)),
      θ_run (Cert.MemFirstIdeal.defs (F := Ideal)) (onTc (τ := Cert.MemFirstIdeal.τ) (Cert.MemFirstIdeal.main (F := Ideal))) ⟨m, fun _ => 0, g⟩ (fun r => ∀ c : Dev Cert.MemFirstIdeal.nD,
          r.2.mem ((c.tc : Thread Cert.MemFirstIdeal.nD Cert.MemFirstIdeal.τ).loc Cert.MemFirstIdeal.main_v3) = v0 c
          ∧ r.2.mem ((c.tc : Thread Cert.MemFirstIdeal.nD Cert.MemFirstIdeal.τ).loc Cert.MemFirstIdeal.main_arg0) = m ((c.tc : Thread Cert.MemFirstIdeal.nD Cert.MemFirstIdeal.τ).loc Cert.MemFirstIdeal.main_arg0)
          ∧ r.2.mem ((c.tc : Thread Cert.MemFirstIdeal.nD Cert.MemFirstIdeal.τ).loc Cert.MemFirstIdeal.main_arg1) = m ((c.tc : Thread Cert.MemFirstIdeal.nD Cert.MemFirstIdeal.τ).loc Cert.MemFirstIdeal.main_arg1))
      ∧ θ_run (Cert.MemFirstRefIdeal.defs (F := Ideal)) (onTc (τ := Cert.MemFirstRefIdeal.τ) (Cert.MemFirstRefIdeal.main (F := Ideal))) ⟨m', fun _ => 0, g'⟩ (fun r => ∀ c : Dev Cert.MemFirstRefIdeal.nD,
          r.2.mem ((c.tc : Thread Cert.MemFirstRefIdeal.nD Cert.MemFirstRefIdeal.τ).loc Cert.MemFirstRefIdeal.main_v3) = v0 c
          ∧ r.2.mem ((c.tc : Thread Cert.MemFirstRefIdeal.nD Cert.MemFirstRefIdeal.τ).loc Cert.MemFirstRefIdeal.main_arg0) = m' ((c.tc : Thread Cert.MemFirstRefIdeal.nD Cert.MemFirstRefIdeal.τ).loc Cert.MemFirstRefIdeal.main_arg0)
          ∧ r.2.mem ((c.tc : Thread Cert.MemFirstRefIdeal.nD Cert.MemFirstRefIdeal.τ).loc Cert.MemFirstRefIdeal.main_arg1) = m' ((c.tc : Thread Cert.MemFirstRefIdeal.nD Cert.MemFirstRefIdeal.τ).loc Cert.MemFirstRefIdeal.main_arg1))

def preserves_MemSecond_MemSecondIdeal : Prop :=
  True

def algebraic_MemSecondIdeal_MemSecondRefIdeal [hMemSecondIdeal : Cert.MemSecondIdeal.Facts] [hMemSecondRefIdeal : Cert.MemSecondRefIdeal.Facts] : Prop :=
  ∀ (m : (ℓ : Loc Cert.MemSecondIdeal.nD Cert.MemSecondIdeal.τ Cert.MemSecondIdeal.sig) → Buf (Elt Ideal) ℓ) (g : Dev Cert.MemSecondIdeal.nD → PrngReg)
    (m' : (ℓ : Loc Cert.MemSecondRefIdeal.nD Cert.MemSecondRefIdeal.τ Cert.MemSecondRefIdeal.sig) → Buf (Elt Ideal) ℓ) (g' : Dev Cert.MemSecondRefIdeal.nD → PrngReg), Pre_MemSecondIdeal m →
    (∀ c : Dev Cert.MemSecondIdeal.nD,
      m' ((c.tc : Thread Cert.MemSecondRefIdeal.nD Cert.MemSecondRefIdeal.τ).loc Cert.MemSecondRefIdeal.main_arg0) = m ((c.tc : Thread Cert.MemSecondIdeal.nD Cert.MemSecondIdeal.τ).loc Cert.MemSecondIdeal.main_arg0)
      ∧ m' ((c.tc : Thread Cert.MemSecondRefIdeal.nD Cert.MemSecondRefIdeal.τ).loc Cert.MemSecondRefIdeal.main_arg1) = m ((c.tc : Thread Cert.MemSecondIdeal.nD Cert.MemSecondIdeal.τ).loc Cert.MemSecondIdeal.main_arg1)) →
    ∃ (v0 : (c : Dev Cert.MemSecondIdeal.nD) → Buf (Elt Ideal) ((c.tc : Thread Cert.MemSecondIdeal.nD Cert.MemSecondIdeal.τ).loc Cert.MemSecondIdeal.main_v3)),
      θ_run (Cert.MemSecondIdeal.defs (F := Ideal)) (onTc (τ := Cert.MemSecondIdeal.τ) (Cert.MemSecondIdeal.main (F := Ideal))) ⟨m, fun _ => 0, g⟩ (fun r => ∀ c : Dev Cert.MemSecondIdeal.nD,
          r.2.mem ((c.tc : Thread Cert.MemSecondIdeal.nD Cert.MemSecondIdeal.τ).loc Cert.MemSecondIdeal.main_v3) = v0 c
          ∧ r.2.mem ((c.tc : Thread Cert.MemSecondIdeal.nD Cert.MemSecondIdeal.τ).loc Cert.MemSecondIdeal.main_arg0) = m ((c.tc : Thread Cert.MemSecondIdeal.nD Cert.MemSecondIdeal.τ).loc Cert.MemSecondIdeal.main_arg0)
          ∧ r.2.mem ((c.tc : Thread Cert.MemSecondIdeal.nD Cert.MemSecondIdeal.τ).loc Cert.MemSecondIdeal.main_arg1) = m ((c.tc : Thread Cert.MemSecondIdeal.nD Cert.MemSecondIdeal.τ).loc Cert.MemSecondIdeal.main_arg1))
      ∧ θ_run (Cert.MemSecondRefIdeal.defs (F := Ideal)) (onTc (τ := Cert.MemSecondRefIdeal.τ) (Cert.MemSecondRefIdeal.main (F := Ideal))) ⟨m', fun _ => 0, g'⟩ (fun r => ∀ c : Dev Cert.MemSecondRefIdeal.nD,
          r.2.mem ((c.tc : Thread Cert.MemSecondRefIdeal.nD Cert.MemSecondRefIdeal.τ).loc Cert.MemSecondRefIdeal.main_v3) = v0 c
          ∧ r.2.mem ((c.tc : Thread Cert.MemSecondRefIdeal.nD Cert.MemSecondRefIdeal.τ).loc Cert.MemSecondRefIdeal.main_arg0) = m' ((c.tc : Thread Cert.MemSecondRefIdeal.nD Cert.MemSecondRefIdeal.τ).loc Cert.MemSecondRefIdeal.main_arg0)
          ∧ r.2.mem ((c.tc : Thread Cert.MemSecondRefIdeal.nD Cert.MemSecondRefIdeal.τ).loc Cert.MemSecondRefIdeal.main_arg1) = m' ((c.tc : Thread Cert.MemSecondRefIdeal.nD Cert.MemSecondRefIdeal.τ).loc Cert.MemSecondRefIdeal.main_arg1))

def preserves_FinalPrompt_FinalPromptIdeal : Prop :=
  True

def algebraic_FinalPromptIdeal_FinalPromptRefIdeal [hFinalPromptIdeal : Cert.FinalPromptIdeal.Facts] [hFinalPromptRefIdeal : Cert.FinalPromptRefIdeal.Facts] : Prop :=
  ∀ (m : (ℓ : Loc Cert.FinalPromptIdeal.nD Cert.FinalPromptIdeal.τ Cert.FinalPromptIdeal.sig) → Buf (Elt Ideal) ℓ) (g : Dev Cert.FinalPromptIdeal.nD → PrngReg)
    (m' : (ℓ : Loc Cert.FinalPromptRefIdeal.nD Cert.FinalPromptRefIdeal.τ Cert.FinalPromptRefIdeal.sig) → Buf (Elt Ideal) ℓ) (g' : Dev Cert.FinalPromptRefIdeal.nD → PrngReg), Pre_FinalPromptIdeal m →
    (∀ c : Dev Cert.FinalPromptIdeal.nD,
      m' ((c.tc : Thread Cert.FinalPromptRefIdeal.nD Cert.FinalPromptRefIdeal.τ).loc Cert.FinalPromptRefIdeal.main_arg0) = m ((c.tc : Thread Cert.FinalPromptIdeal.nD Cert.FinalPromptIdeal.τ).loc Cert.FinalPromptIdeal.main_arg0)
      ∧ m' ((c.tc : Thread Cert.FinalPromptRefIdeal.nD Cert.FinalPromptRefIdeal.τ).loc Cert.FinalPromptRefIdeal.main_arg1) = m ((c.tc : Thread Cert.FinalPromptIdeal.nD Cert.FinalPromptIdeal.τ).loc Cert.FinalPromptIdeal.main_arg1)) →
    ∃ (v0 : (c : Dev Cert.FinalPromptIdeal.nD) → Buf (Elt Ideal) ((c.tc : Thread Cert.FinalPromptIdeal.nD Cert.FinalPromptIdeal.τ).loc Cert.FinalPromptIdeal.main_v1)),
      θ_run (Cert.FinalPromptIdeal.defs (F := Ideal)) (onTc (τ := Cert.FinalPromptIdeal.τ) (Cert.FinalPromptIdeal.main (F := Ideal))) ⟨m, fun _ => 0, g⟩ (fun r => ∀ c : Dev Cert.FinalPromptIdeal.nD,
          r.2.mem ((c.tc : Thread Cert.FinalPromptIdeal.nD Cert.FinalPromptIdeal.τ).loc Cert.FinalPromptIdeal.main_v1) = v0 c
          ∧ r.2.mem ((c.tc : Thread Cert.FinalPromptIdeal.nD Cert.FinalPromptIdeal.τ).loc Cert.FinalPromptIdeal.main_arg0) = m ((c.tc : Thread Cert.FinalPromptIdeal.nD Cert.FinalPromptIdeal.τ).loc Cert.FinalPromptIdeal.main_arg0)
          ∧ r.2.mem ((c.tc : Thread Cert.FinalPromptIdeal.nD Cert.FinalPromptIdeal.τ).loc Cert.FinalPromptIdeal.main_arg1) = m ((c.tc : Thread Cert.FinalPromptIdeal.nD Cert.FinalPromptIdeal.τ).loc Cert.FinalPromptIdeal.main_arg1))
      ∧ θ_run (Cert.FinalPromptRefIdeal.defs (F := Ideal)) (onTc (τ := Cert.FinalPromptRefIdeal.τ) (Cert.FinalPromptRefIdeal.main (F := Ideal))) ⟨m', fun _ => 0, g'⟩ (fun r => ∀ c : Dev Cert.FinalPromptRefIdeal.nD,
          r.2.mem ((c.tc : Thread Cert.FinalPromptRefIdeal.nD Cert.FinalPromptRefIdeal.τ).loc Cert.FinalPromptRefIdeal.main_v13) = v0 c
          ∧ r.2.mem ((c.tc : Thread Cert.FinalPromptRefIdeal.nD Cert.FinalPromptRefIdeal.τ).loc Cert.FinalPromptRefIdeal.main_arg0) = m' ((c.tc : Thread Cert.FinalPromptRefIdeal.nD Cert.FinalPromptRefIdeal.τ).loc Cert.FinalPromptRefIdeal.main_arg0)
          ∧ r.2.mem ((c.tc : Thread Cert.FinalPromptRefIdeal.nD Cert.FinalPromptRefIdeal.τ).loc Cert.FinalPromptRefIdeal.main_arg1) = m' ((c.tc : Thread Cert.FinalPromptRefIdeal.nD Cert.FinalPromptRefIdeal.τ).loc Cert.FinalPromptRefIdeal.main_arg1))

def preserves_FinalSample_FinalSampleIdeal : Prop :=
  True

def algebraic_FinalSampleIdeal_FinalSampleRefIdeal [hFinalSampleIdeal : Cert.FinalSampleIdeal.Facts] [hFinalSampleRefIdeal : Cert.FinalSampleRefIdeal.Facts] : Prop :=
  ∀ (m : (ℓ : Loc Cert.FinalSampleIdeal.nD Cert.FinalSampleIdeal.τ Cert.FinalSampleIdeal.sig) → Buf (Elt Ideal) ℓ) (g : Dev Cert.FinalSampleIdeal.nD → PrngReg)
    (m' : (ℓ : Loc Cert.FinalSampleRefIdeal.nD Cert.FinalSampleRefIdeal.τ Cert.FinalSampleRefIdeal.sig) → Buf (Elt Ideal) ℓ) (g' : Dev Cert.FinalSampleRefIdeal.nD → PrngReg), Pre_FinalSampleIdeal m →
    (∀ c : Dev Cert.FinalSampleIdeal.nD,
      m' ((c.tc : Thread Cert.FinalSampleRefIdeal.nD Cert.FinalSampleRefIdeal.τ).loc Cert.FinalSampleRefIdeal.main_arg0) = m ((c.tc : Thread Cert.FinalSampleIdeal.nD Cert.FinalSampleIdeal.τ).loc Cert.FinalSampleIdeal.main_arg0)
      ∧ m' ((c.tc : Thread Cert.FinalSampleRefIdeal.nD Cert.FinalSampleRefIdeal.τ).loc Cert.FinalSampleRefIdeal.main_arg1) = m ((c.tc : Thread Cert.FinalSampleIdeal.nD Cert.FinalSampleIdeal.τ).loc Cert.FinalSampleIdeal.main_arg1)) →
    ∃ (v0 : (c : Dev Cert.FinalSampleIdeal.nD) → Buf (Elt Ideal) ((c.tc : Thread Cert.FinalSampleIdeal.nD Cert.FinalSampleIdeal.τ).loc Cert.FinalSampleIdeal.main_v1)),
      θ_run (Cert.FinalSampleIdeal.defs (F := Ideal)) (onTc (τ := Cert.FinalSampleIdeal.τ) (Cert.FinalSampleIdeal.main (F := Ideal))) ⟨m, fun _ => 0, g⟩ (fun r => ∀ c : Dev Cert.FinalSampleIdeal.nD,
          r.2.mem ((c.tc : Thread Cert.FinalSampleIdeal.nD Cert.FinalSampleIdeal.τ).loc Cert.FinalSampleIdeal.main_v1) = v0 c
          ∧ r.2.mem ((c.tc : Thread Cert.FinalSampleIdeal.nD Cert.FinalSampleIdeal.τ).loc Cert.FinalSampleIdeal.main_arg0) = m ((c.tc : Thread Cert.FinalSampleIdeal.nD Cert.FinalSampleIdeal.τ).loc Cert.FinalSampleIdeal.main_arg0)
          ∧ r.2.mem ((c.tc : Thread Cert.FinalSampleIdeal.nD Cert.FinalSampleIdeal.τ).loc Cert.FinalSampleIdeal.main_arg1) = m ((c.tc : Thread Cert.FinalSampleIdeal.nD Cert.FinalSampleIdeal.τ).loc Cert.FinalSampleIdeal.main_arg1))
      ∧ θ_run (Cert.FinalSampleRefIdeal.defs (F := Ideal)) (onTc (τ := Cert.FinalSampleRefIdeal.τ) (Cert.FinalSampleRefIdeal.main (F := Ideal))) ⟨m', fun _ => 0, g'⟩ (fun r => ∀ c : Dev Cert.FinalSampleRefIdeal.nD,
          r.2.mem ((c.tc : Thread Cert.FinalSampleRefIdeal.nD Cert.FinalSampleRefIdeal.τ).loc Cert.FinalSampleRefIdeal.main_v13) = v0 c
          ∧ r.2.mem ((c.tc : Thread Cert.FinalSampleRefIdeal.nD Cert.FinalSampleRefIdeal.τ).loc Cert.FinalSampleRefIdeal.main_arg0) = m' ((c.tc : Thread Cert.FinalSampleRefIdeal.nD Cert.FinalSampleRefIdeal.τ).loc Cert.FinalSampleRefIdeal.main_arg0)
          ∧ r.2.mem ((c.tc : Thread Cert.FinalSampleRefIdeal.nD Cert.FinalSampleRefIdeal.τ).loc Cert.FinalSampleRefIdeal.main_arg1) = m' ((c.tc : Thread Cert.FinalSampleRefIdeal.nD Cert.FinalSampleRefIdeal.τ).loc Cert.FinalSampleRefIdeal.main_arg1))

def preserves_SconvSample_SconvSampleIdeal : Prop :=
  True

def algebraic_SconvSampleIdeal_SconvSampleRefIdeal [hSconvSampleIdeal : Cert.SconvSampleIdeal.Facts] [hSconvSampleRefIdeal : Cert.SconvSampleRefIdeal.Facts] : Prop :=
  ∀ (m : (ℓ : Loc Cert.SconvSampleIdeal.nD Cert.SconvSampleIdeal.τ Cert.SconvSampleIdeal.sig) → Buf (Elt Ideal) ℓ) (g : Dev Cert.SconvSampleIdeal.nD → PrngReg)
    (m' : (ℓ : Loc Cert.SconvSampleRefIdeal.nD Cert.SconvSampleRefIdeal.τ Cert.SconvSampleRefIdeal.sig) → Buf (Elt Ideal) ℓ) (g' : Dev Cert.SconvSampleRefIdeal.nD → PrngReg), Pre_SconvSampleIdeal m →
    (∀ c : Dev Cert.SconvSampleIdeal.nD,
      m' ((c.tc : Thread Cert.SconvSampleRefIdeal.nD Cert.SconvSampleRefIdeal.τ).loc Cert.SconvSampleRefIdeal.main_arg0) = m ((c.tc : Thread Cert.SconvSampleIdeal.nD Cert.SconvSampleIdeal.τ).loc Cert.SconvSampleIdeal.main_arg0)
      ∧ m' ((c.tc : Thread Cert.SconvSampleRefIdeal.nD Cert.SconvSampleRefIdeal.τ).loc Cert.SconvSampleRefIdeal.main_arg1) = m ((c.tc : Thread Cert.SconvSampleIdeal.nD Cert.SconvSampleIdeal.τ).loc Cert.SconvSampleIdeal.main_arg1)
      ∧ m' ((c.tc : Thread Cert.SconvSampleRefIdeal.nD Cert.SconvSampleRefIdeal.τ).loc Cert.SconvSampleRefIdeal.main_arg2) = m ((c.tc : Thread Cert.SconvSampleIdeal.nD Cert.SconvSampleIdeal.τ).loc Cert.SconvSampleIdeal.main_arg2)) →
    ∃ (v0 : (c : Dev Cert.SconvSampleIdeal.nD) → Buf (Elt Ideal) ((c.tc : Thread Cert.SconvSampleIdeal.nD Cert.SconvSampleIdeal.τ).loc Cert.SconvSampleIdeal.main_v8)) (v1 : (c : Dev Cert.SconvSampleIdeal.nD) → Buf (Elt Ideal) ((c.tc : Thread Cert.SconvSampleIdeal.nD Cert.SconvSampleIdeal.τ).loc Cert.SconvSampleIdeal.main_v13)),
      θ_run (Cert.SconvSampleIdeal.defs (F := Ideal)) (onTc (τ := Cert.SconvSampleIdeal.τ) (Cert.SconvSampleIdeal.main (F := Ideal))) ⟨m, fun _ => 0, g⟩ (fun r => ∀ c : Dev Cert.SconvSampleIdeal.nD,
          r.2.mem ((c.tc : Thread Cert.SconvSampleIdeal.nD Cert.SconvSampleIdeal.τ).loc Cert.SconvSampleIdeal.main_v8) = v0 c
          ∧ r.2.mem ((c.tc : Thread Cert.SconvSampleIdeal.nD Cert.SconvSampleIdeal.τ).loc Cert.SconvSampleIdeal.main_v13) = v1 c
          ∧ r.2.mem ((c.tc : Thread Cert.SconvSampleIdeal.nD Cert.SconvSampleIdeal.τ).loc Cert.SconvSampleIdeal.main_arg0) = m ((c.tc : Thread Cert.SconvSampleIdeal.nD Cert.SconvSampleIdeal.τ).loc Cert.SconvSampleIdeal.main_arg0)
          ∧ r.2.mem ((c.tc : Thread Cert.SconvSampleIdeal.nD Cert.SconvSampleIdeal.τ).loc Cert.SconvSampleIdeal.main_arg1) = m ((c.tc : Thread Cert.SconvSampleIdeal.nD Cert.SconvSampleIdeal.τ).loc Cert.SconvSampleIdeal.main_arg1)
          ∧ r.2.mem ((c.tc : Thread Cert.SconvSampleIdeal.nD Cert.SconvSampleIdeal.τ).loc Cert.SconvSampleIdeal.main_arg2) = m ((c.tc : Thread Cert.SconvSampleIdeal.nD Cert.SconvSampleIdeal.τ).loc Cert.SconvSampleIdeal.main_arg2))
      ∧ θ_run (Cert.SconvSampleRefIdeal.defs (F := Ideal)) (onTc (τ := Cert.SconvSampleRefIdeal.τ) (Cert.SconvSampleRefIdeal.main (F := Ideal))) ⟨m', fun _ => 0, g'⟩ (fun r => ∀ c : Dev Cert.SconvSampleRefIdeal.nD,
          r.2.mem ((c.tc : Thread Cert.SconvSampleRefIdeal.nD Cert.SconvSampleRefIdeal.τ).loc Cert.SconvSampleRefIdeal.main_v31) = v0 c
          ∧ r.2.mem ((c.tc : Thread Cert.SconvSampleRefIdeal.nD Cert.SconvSampleRefIdeal.τ).loc Cert.SconvSampleRefIdeal.main_v33) = v1 c
          ∧ r.2.mem ((c.tc : Thread Cert.SconvSampleRefIdeal.nD Cert.SconvSampleRefIdeal.τ).loc Cert.SconvSampleRefIdeal.main_arg0) = m' ((c.tc : Thread Cert.SconvSampleRefIdeal.nD Cert.SconvSampleRefIdeal.τ).loc Cert.SconvSampleRefIdeal.main_arg0)
          ∧ r.2.mem ((c.tc : Thread Cert.SconvSampleRefIdeal.nD Cert.SconvSampleRefIdeal.τ).loc Cert.SconvSampleRefIdeal.main_arg1) = m' ((c.tc : Thread Cert.SconvSampleRefIdeal.nD Cert.SconvSampleRefIdeal.τ).loc Cert.SconvSampleRefIdeal.main_arg1)
          ∧ r.2.mem ((c.tc : Thread Cert.SconvSampleRefIdeal.nD Cert.SconvSampleRefIdeal.τ).loc Cert.SconvSampleRefIdeal.main_arg2) = m' ((c.tc : Thread Cert.SconvSampleRefIdeal.nD Cert.SconvSampleRefIdeal.τ).loc Cert.SconvSampleRefIdeal.main_arg2))

def preserves_LruSample_LruSampleIdeal : Prop :=
  True

def algebraic_LruSampleIdeal_LruSampleRefIdeal [hLruSampleIdeal : Cert.LruSampleIdeal.Facts] [hLruSampleRefIdeal : Cert.LruSampleRefIdeal.Facts] : Prop :=
  ∀ (m : (ℓ : Loc Cert.LruSampleIdeal.nD Cert.LruSampleIdeal.τ Cert.LruSampleIdeal.sig) → Buf (Elt Ideal) ℓ) (g : Dev Cert.LruSampleIdeal.nD → PrngReg)
    (m' : (ℓ : Loc Cert.LruSampleRefIdeal.nD Cert.LruSampleRefIdeal.τ Cert.LruSampleRefIdeal.sig) → Buf (Elt Ideal) ℓ) (g' : Dev Cert.LruSampleRefIdeal.nD → PrngReg), Pre_LruSampleIdeal m →
    (∀ c : Dev Cert.LruSampleIdeal.nD,
      m' ((c.tc : Thread Cert.LruSampleRefIdeal.nD Cert.LruSampleRefIdeal.τ).loc Cert.LruSampleRefIdeal.main_arg0) = m ((c.tc : Thread Cert.LruSampleIdeal.nD Cert.LruSampleIdeal.τ).loc Cert.LruSampleIdeal.main_arg0)
      ∧ m' ((c.tc : Thread Cert.LruSampleRefIdeal.nD Cert.LruSampleRefIdeal.τ).loc Cert.LruSampleRefIdeal.main_arg1) = m ((c.tc : Thread Cert.LruSampleIdeal.nD Cert.LruSampleIdeal.τ).loc Cert.LruSampleIdeal.main_arg1)
      ∧ m' ((c.tc : Thread Cert.LruSampleRefIdeal.nD Cert.LruSampleRefIdeal.τ).loc Cert.LruSampleRefIdeal.main_arg2) = m ((c.tc : Thread Cert.LruSampleIdeal.nD Cert.LruSampleIdeal.τ).loc Cert.LruSampleIdeal.main_arg2)
      ∧ m' ((c.tc : Thread Cert.LruSampleRefIdeal.nD Cert.LruSampleRefIdeal.τ).loc Cert.LruSampleRefIdeal.main_arg3) = m ((c.tc : Thread Cert.LruSampleIdeal.nD Cert.LruSampleIdeal.τ).loc Cert.LruSampleIdeal.main_arg3)
      ∧ m' ((c.tc : Thread Cert.LruSampleRefIdeal.nD Cert.LruSampleRefIdeal.τ).loc Cert.LruSampleRefIdeal.main_arg4) = m ((c.tc : Thread Cert.LruSampleIdeal.nD Cert.LruSampleIdeal.τ).loc Cert.LruSampleIdeal.main_arg4)
      ∧ m' ((c.tc : Thread Cert.LruSampleRefIdeal.nD Cert.LruSampleRefIdeal.τ).loc Cert.LruSampleRefIdeal.main_arg5) = m ((c.tc : Thread Cert.LruSampleIdeal.nD Cert.LruSampleIdeal.τ).loc Cert.LruSampleIdeal.main_arg5)
      ∧ m' ((c.tc : Thread Cert.LruSampleRefIdeal.nD Cert.LruSampleRefIdeal.τ).loc Cert.LruSampleRefIdeal.main_arg6) = m ((c.tc : Thread Cert.LruSampleIdeal.nD Cert.LruSampleIdeal.τ).loc Cert.LruSampleIdeal.main_arg6)
      ∧ m' ((c.tc : Thread Cert.LruSampleRefIdeal.nD Cert.LruSampleRefIdeal.τ).loc Cert.LruSampleRefIdeal.main_arg7) = m ((c.tc : Thread Cert.LruSampleIdeal.nD Cert.LruSampleIdeal.τ).loc Cert.LruSampleIdeal.main_arg7)
      ∧ m' ((c.tc : Thread Cert.LruSampleRefIdeal.nD Cert.LruSampleRefIdeal.τ).loc Cert.LruSampleRefIdeal.main_arg8) = m ((c.tc : Thread Cert.LruSampleIdeal.nD Cert.LruSampleIdeal.τ).loc Cert.LruSampleIdeal.main_arg8)
      ∧ m' ((c.tc : Thread Cert.LruSampleRefIdeal.nD Cert.LruSampleRefIdeal.τ).loc Cert.LruSampleRefIdeal.main_arg9) = m ((c.tc : Thread Cert.LruSampleIdeal.nD Cert.LruSampleIdeal.τ).loc Cert.LruSampleIdeal.main_arg9)) →
    ∃ (v0 : (c : Dev Cert.LruSampleIdeal.nD) → Buf (Elt Ideal) ((c.tc : Thread Cert.LruSampleIdeal.nD Cert.LruSampleIdeal.τ).loc Cert.LruSampleIdeal.main_v24)) (v1 : (c : Dev Cert.LruSampleIdeal.nD) → Buf (Elt Ideal) ((c.tc : Thread Cert.LruSampleIdeal.nD Cert.LruSampleIdeal.τ).loc Cert.LruSampleIdeal.main_v28)) (v2 : (c : Dev Cert.LruSampleIdeal.nD) → Buf (Elt Ideal) ((c.tc : Thread Cert.LruSampleIdeal.nD Cert.LruSampleIdeal.τ).loc Cert.LruSampleIdeal.main_v29)),
      θ_run (Cert.LruSampleIdeal.defs (F := Ideal)) (onTc (τ := Cert.LruSampleIdeal.τ) (Cert.LruSampleIdeal.main (F := Ideal))) ⟨m, fun _ => 0, g⟩ (fun r => ∀ c : Dev Cert.LruSampleIdeal.nD,
          r.2.mem ((c.tc : Thread Cert.LruSampleIdeal.nD Cert.LruSampleIdeal.τ).loc Cert.LruSampleIdeal.main_v24) = v0 c
          ∧ r.2.mem ((c.tc : Thread Cert.LruSampleIdeal.nD Cert.LruSampleIdeal.τ).loc Cert.LruSampleIdeal.main_v28) = v1 c
          ∧ r.2.mem ((c.tc : Thread Cert.LruSampleIdeal.nD Cert.LruSampleIdeal.τ).loc Cert.LruSampleIdeal.main_v29) = v2 c
          ∧ r.2.mem ((c.tc : Thread Cert.LruSampleIdeal.nD Cert.LruSampleIdeal.τ).loc Cert.LruSampleIdeal.main_arg0) = m ((c.tc : Thread Cert.LruSampleIdeal.nD Cert.LruSampleIdeal.τ).loc Cert.LruSampleIdeal.main_arg0)
          ∧ r.2.mem ((c.tc : Thread Cert.LruSampleIdeal.nD Cert.LruSampleIdeal.τ).loc Cert.LruSampleIdeal.main_arg1) = m ((c.tc : Thread Cert.LruSampleIdeal.nD Cert.LruSampleIdeal.τ).loc Cert.LruSampleIdeal.main_arg1)
          ∧ r.2.mem ((c.tc : Thread Cert.LruSampleIdeal.nD Cert.LruSampleIdeal.τ).loc Cert.LruSampleIdeal.main_arg2) = m ((c.tc : Thread Cert.LruSampleIdeal.nD Cert.LruSampleIdeal.τ).loc Cert.LruSampleIdeal.main_arg2)
          ∧ r.2.mem ((c.tc : Thread Cert.LruSampleIdeal.nD Cert.LruSampleIdeal.τ).loc Cert.LruSampleIdeal.main_arg3) = m ((c.tc : Thread Cert.LruSampleIdeal.nD Cert.LruSampleIdeal.τ).loc Cert.LruSampleIdeal.main_arg3)
          ∧ r.2.mem ((c.tc : Thread Cert.LruSampleIdeal.nD Cert.LruSampleIdeal.τ).loc Cert.LruSampleIdeal.main_arg4) = m ((c.tc : Thread Cert.LruSampleIdeal.nD Cert.LruSampleIdeal.τ).loc Cert.LruSampleIdeal.main_arg4)
          ∧ r.2.mem ((c.tc : Thread Cert.LruSampleIdeal.nD Cert.LruSampleIdeal.τ).loc Cert.LruSampleIdeal.main_arg5) = m ((c.tc : Thread Cert.LruSampleIdeal.nD Cert.LruSampleIdeal.τ).loc Cert.LruSampleIdeal.main_arg5)
          ∧ r.2.mem ((c.tc : Thread Cert.LruSampleIdeal.nD Cert.LruSampleIdeal.τ).loc Cert.LruSampleIdeal.main_arg6) = m ((c.tc : Thread Cert.LruSampleIdeal.nD Cert.LruSampleIdeal.τ).loc Cert.LruSampleIdeal.main_arg6)
          ∧ r.2.mem ((c.tc : Thread Cert.LruSampleIdeal.nD Cert.LruSampleIdeal.τ).loc Cert.LruSampleIdeal.main_arg7) = m ((c.tc : Thread Cert.LruSampleIdeal.nD Cert.LruSampleIdeal.τ).loc Cert.LruSampleIdeal.main_arg7)
          ∧ r.2.mem ((c.tc : Thread Cert.LruSampleIdeal.nD Cert.LruSampleIdeal.τ).loc Cert.LruSampleIdeal.main_arg8) = m ((c.tc : Thread Cert.LruSampleIdeal.nD Cert.LruSampleIdeal.τ).loc Cert.LruSampleIdeal.main_arg8)
          ∧ r.2.mem ((c.tc : Thread Cert.LruSampleIdeal.nD Cert.LruSampleIdeal.τ).loc Cert.LruSampleIdeal.main_arg9) = m ((c.tc : Thread Cert.LruSampleIdeal.nD Cert.LruSampleIdeal.τ).loc Cert.LruSampleIdeal.main_arg9))
      ∧ θ_run (Cert.LruSampleRefIdeal.defs (F := Ideal)) (onTc (τ := Cert.LruSampleRefIdeal.τ) (Cert.LruSampleRefIdeal.main (F := Ideal))) ⟨m', fun _ => 0, g'⟩ (fun r => ∀ c : Dev Cert.LruSampleRefIdeal.nD,
          r.2.mem ((c.tc : Thread Cert.LruSampleRefIdeal.nD Cert.LruSampleRefIdeal.τ).loc Cert.LruSampleRefIdeal.main_v127) = v0 c
          ∧ r.2.mem ((c.tc : Thread Cert.LruSampleRefIdeal.nD Cert.LruSampleRefIdeal.τ).loc Cert.LruSampleRefIdeal.main_v128) = v1 c
          ∧ r.2.mem ((c.tc : Thread Cert.LruSampleRefIdeal.nD Cert.LruSampleRefIdeal.τ).loc Cert.LruSampleRefIdeal.main_v130) = v2 c
          ∧ r.2.mem ((c.tc : Thread Cert.LruSampleRefIdeal.nD Cert.LruSampleRefIdeal.τ).loc Cert.LruSampleRefIdeal.main_arg0) = m' ((c.tc : Thread Cert.LruSampleRefIdeal.nD Cert.LruSampleRefIdeal.τ).loc Cert.LruSampleRefIdeal.main_arg0)
          ∧ r.2.mem ((c.tc : Thread Cert.LruSampleRefIdeal.nD Cert.LruSampleRefIdeal.τ).loc Cert.LruSampleRefIdeal.main_arg1) = m' ((c.tc : Thread Cert.LruSampleRefIdeal.nD Cert.LruSampleRefIdeal.τ).loc Cert.LruSampleRefIdeal.main_arg1)
          ∧ r.2.mem ((c.tc : Thread Cert.LruSampleRefIdeal.nD Cert.LruSampleRefIdeal.τ).loc Cert.LruSampleRefIdeal.main_arg2) = m' ((c.tc : Thread Cert.LruSampleRefIdeal.nD Cert.LruSampleRefIdeal.τ).loc Cert.LruSampleRefIdeal.main_arg2)
          ∧ r.2.mem ((c.tc : Thread Cert.LruSampleRefIdeal.nD Cert.LruSampleRefIdeal.τ).loc Cert.LruSampleRefIdeal.main_arg3) = m' ((c.tc : Thread Cert.LruSampleRefIdeal.nD Cert.LruSampleRefIdeal.τ).loc Cert.LruSampleRefIdeal.main_arg3)
          ∧ r.2.mem ((c.tc : Thread Cert.LruSampleRefIdeal.nD Cert.LruSampleRefIdeal.τ).loc Cert.LruSampleRefIdeal.main_arg4) = m' ((c.tc : Thread Cert.LruSampleRefIdeal.nD Cert.LruSampleRefIdeal.τ).loc Cert.LruSampleRefIdeal.main_arg4)
          ∧ r.2.mem ((c.tc : Thread Cert.LruSampleRefIdeal.nD Cert.LruSampleRefIdeal.τ).loc Cert.LruSampleRefIdeal.main_arg5) = m' ((c.tc : Thread Cert.LruSampleRefIdeal.nD Cert.LruSampleRefIdeal.τ).loc Cert.LruSampleRefIdeal.main_arg5)
          ∧ r.2.mem ((c.tc : Thread Cert.LruSampleRefIdeal.nD Cert.LruSampleRefIdeal.τ).loc Cert.LruSampleRefIdeal.main_arg6) = m' ((c.tc : Thread Cert.LruSampleRefIdeal.nD Cert.LruSampleRefIdeal.τ).loc Cert.LruSampleRefIdeal.main_arg6)
          ∧ r.2.mem ((c.tc : Thread Cert.LruSampleRefIdeal.nD Cert.LruSampleRefIdeal.τ).loc Cert.LruSampleRefIdeal.main_arg7) = m' ((c.tc : Thread Cert.LruSampleRefIdeal.nD Cert.LruSampleRefIdeal.τ).loc Cert.LruSampleRefIdeal.main_arg7)
          ∧ r.2.mem ((c.tc : Thread Cert.LruSampleRefIdeal.nD Cert.LruSampleRefIdeal.τ).loc Cert.LruSampleRefIdeal.main_arg8) = m' ((c.tc : Thread Cert.LruSampleRefIdeal.nD Cert.LruSampleRefIdeal.τ).loc Cert.LruSampleRefIdeal.main_arg8)
          ∧ r.2.mem ((c.tc : Thread Cert.LruSampleRefIdeal.nD Cert.LruSampleRefIdeal.τ).loc Cert.LruSampleRefIdeal.main_arg9) = m' ((c.tc : Thread Cert.LruSampleRefIdeal.nD Cert.LruSampleRefIdeal.τ).loc Cert.LruSampleRefIdeal.main_arg9))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownRefIdeal : Cert.DownRefIdeal.Facts) (hUp : Cert.Up.Facts) (hUpIdeal : Cert.UpIdeal.Facts) (hUpRefIdeal : Cert.UpRefIdeal.Facts) (hOddIn : Cert.OddIn.Facts) (hOddInIdeal : Cert.OddInIdeal.Facts) (hOddInRefIdeal : Cert.OddInRefIdeal.Facts) (hQuery : Cert.Query.Facts) (hQueryIdeal : Cert.QueryIdeal.Facts) (hQueryRefIdeal : Cert.QueryRefIdeal.Facts) (hAttnOut : Cert.AttnOut.Facts) (hAttnOutIdeal : Cert.AttnOutIdeal.Facts) (hAttnOutRefIdeal : Cert.AttnOutRefIdeal.Facts) (hOddOut : Cert.OddOut.Facts) (hOddOutIdeal : Cert.OddOutIdeal.Facts) (hOddOutRefIdeal : Cert.OddOutRefIdeal.Facts) (hEvenIn : Cert.EvenIn.Facts) (hEvenInIdeal : Cert.EvenInIdeal.Facts) (hEvenInRefIdeal : Cert.EvenInRefIdeal.Facts) (hLruIn : Cert.LruIn.Facts) (hLruInIdeal : Cert.LruInIdeal.Facts) (hLruInRefIdeal : Cert.LruInRefIdeal.Facts) (hEvenOut : Cert.EvenOut.Facts) (hEvenOutIdeal : Cert.EvenOutIdeal.Facts) (hEvenOutRefIdeal : Cert.EvenOutRefIdeal.Facts) (hMemFirst : Cert.MemFirst.Facts) (hMemFirstIdeal : Cert.MemFirstIdeal.Facts) (hMemFirstRefIdeal : Cert.MemFirstRefIdeal.Facts) (hMemSecond : Cert.MemSecond.Facts) (hMemSecondIdeal : Cert.MemSecondIdeal.Facts) (hMemSecondRefIdeal : Cert.MemSecondRefIdeal.Facts) (hFinalPrompt : Cert.FinalPrompt.Facts) (hFinalPromptIdeal : Cert.FinalPromptIdeal.Facts) (hFinalPromptRefIdeal : Cert.FinalPromptRefIdeal.Facts) (hFinalSample : Cert.FinalSample.Facts) (hFinalSampleIdeal : Cert.FinalSampleIdeal.Facts) (hFinalSampleRefIdeal : Cert.FinalSampleRefIdeal.Facts) (hSconvSample : Cert.SconvSample.Facts) (hSconvSampleIdeal : Cert.SconvSampleIdeal.Facts) (hSconvSampleRefIdeal : Cert.SconvSampleRefIdeal.Facts) (hLruSample : Cert.LruSample.Facts) (hLruSampleIdeal : Cert.LruSampleIdeal.Facts) (hLruSampleRefIdeal : Cert.LruSampleRefIdeal.Facts) (hOn_prompt_rows : Cert.On_prompt_rows.Facts),
    quiescent_Kernel (hKernel := hKernel)
    ∧ quiescent_KernelIdeal (hKernelIdeal := hKernelIdeal)
    ∧ quiescent_ReferenceIdeal (hReferenceIdeal := hReferenceIdeal)
    ∧ quiescent_Down (hDown := hDown)
    ∧ quiescent_DownIdeal (hDownIdeal := hDownIdeal)
    ∧ quiescent_DownRefIdeal (hDownRefIdeal := hDownRefIdeal)
    ∧ quiescent_Up (hUp := hUp)
    ∧ quiescent_UpIdeal (hUpIdeal := hUpIdeal)
    ∧ quiescent_UpRefIdeal (hUpRefIdeal := hUpRefIdeal)
    ∧ quiescent_OddIn (hOddIn := hOddIn)
    ∧ quiescent_OddInIdeal (hOddInIdeal := hOddInIdeal)
    ∧ quiescent_OddInRefIdeal (hOddInRefIdeal := hOddInRefIdeal)
    ∧ quiescent_Query (hQuery := hQuery)
    ∧ quiescent_QueryIdeal (hQueryIdeal := hQueryIdeal)
    ∧ quiescent_QueryRefIdeal (hQueryRefIdeal := hQueryRefIdeal)
    ∧ quiescent_AttnOut (hAttnOut := hAttnOut)
    ∧ quiescent_AttnOutIdeal (hAttnOutIdeal := hAttnOutIdeal)
    ∧ quiescent_AttnOutRefIdeal (hAttnOutRefIdeal := hAttnOutRefIdeal)
    ∧ quiescent_OddOut (hOddOut := hOddOut)
    ∧ quiescent_OddOutIdeal (hOddOutIdeal := hOddOutIdeal)
    ∧ quiescent_OddOutRefIdeal (hOddOutRefIdeal := hOddOutRefIdeal)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_LruIn (hLruIn := hLruIn)
    ∧ quiescent_LruInIdeal (hLruInIdeal := hLruInIdeal)
    ∧ quiescent_LruInRefIdeal (hLruInRefIdeal := hLruInRefIdeal)
    ∧ quiescent_EvenOut (hEvenOut := hEvenOut)
    ∧ quiescent_EvenOutIdeal (hEvenOutIdeal := hEvenOutIdeal)
    ∧ quiescent_EvenOutRefIdeal (hEvenOutRefIdeal := hEvenOutRefIdeal)
    ∧ quiescent_MemFirst (hMemFirst := hMemFirst)
    ∧ quiescent_MemFirstIdeal (hMemFirstIdeal := hMemFirstIdeal)
    ∧ quiescent_MemFirstRefIdeal (hMemFirstRefIdeal := hMemFirstRefIdeal)
    ∧ quiescent_MemSecond (hMemSecond := hMemSecond)
    ∧ quiescent_MemSecondIdeal (hMemSecondIdeal := hMemSecondIdeal)
    ∧ quiescent_MemSecondRefIdeal (hMemSecondRefIdeal := hMemSecondRefIdeal)
    ∧ quiescent_FinalPrompt (hFinalPrompt := hFinalPrompt)
    ∧ quiescent_FinalPromptIdeal (hFinalPromptIdeal := hFinalPromptIdeal)
    ∧ quiescent_FinalPromptRefIdeal (hFinalPromptRefIdeal := hFinalPromptRefIdeal)
    ∧ quiescent_FinalSample (hFinalSample := hFinalSample)
    ∧ quiescent_FinalSampleIdeal (hFinalSampleIdeal := hFinalSampleIdeal)
    ∧ quiescent_FinalSampleRefIdeal (hFinalSampleRefIdeal := hFinalSampleRefIdeal)
    ∧ quiescent_SconvSample (hSconvSample := hSconvSample)
    ∧ quiescent_SconvSampleIdeal (hSconvSampleIdeal := hSconvSampleIdeal)
    ∧ quiescent_SconvSampleRefIdeal (hSconvSampleRefIdeal := hSconvSampleRefIdeal)
    ∧ quiescent_LruSample (hLruSample := hLruSample)
    ∧ quiescent_LruSampleIdeal (hLruSampleIdeal := hLruSampleIdeal)
    ∧ quiescent_LruSampleRefIdeal (hLruSampleRefIdeal := hLruSampleRefIdeal)
    ∧ preserves_Kernel_KernelIdeal
    ∧ algebraic_KernelIdeal_ReferenceIdeal_on_prompt_rows (hKernelIdeal := hKernelIdeal) (hReferenceIdeal := hReferenceIdeal) (hOn_prompt_rows := hOn_prompt_rows)
    ∧ preserves_Down_DownIdeal
    ∧ algebraic_DownIdeal_DownRefIdeal (hDownIdeal := hDownIdeal) (hDownRefIdeal := hDownRefIdeal)
    ∧ preserves_Up_UpIdeal
    ∧ algebraic_UpIdeal_UpRefIdeal (hUpIdeal := hUpIdeal) (hUpRefIdeal := hUpRefIdeal)
    ∧ preserves_OddIn_OddInIdeal
    ∧ algebraic_OddInIdeal_OddInRefIdeal (hOddInIdeal := hOddInIdeal) (hOddInRefIdeal := hOddInRefIdeal)
    ∧ preserves_Query_QueryIdeal
    ∧ algebraic_QueryIdeal_QueryRefIdeal (hQueryIdeal := hQueryIdeal) (hQueryRefIdeal := hQueryRefIdeal)
    ∧ preserves_AttnOut_AttnOutIdeal
    ∧ algebraic_AttnOutIdeal_AttnOutRefIdeal (hAttnOutIdeal := hAttnOutIdeal) (hAttnOutRefIdeal := hAttnOutRefIdeal)
    ∧ preserves_OddOut_OddOutIdeal
    ∧ algebraic_OddOutIdeal_OddOutRefIdeal (hOddOutIdeal := hOddOutIdeal) (hOddOutRefIdeal := hOddOutRefIdeal)
    ∧ preserves_EvenIn_EvenInIdeal
    ∧ algebraic_EvenInIdeal_EvenInRefIdeal (hEvenInIdeal := hEvenInIdeal) (hEvenInRefIdeal := hEvenInRefIdeal)
    ∧ preserves_LruIn_LruInIdeal
    ∧ algebraic_LruInIdeal_LruInRefIdeal (hLruInIdeal := hLruInIdeal) (hLruInRefIdeal := hLruInRefIdeal)
    ∧ preserves_EvenOut_EvenOutIdeal
    ∧ algebraic_EvenOutIdeal_EvenOutRefIdeal (hEvenOutIdeal := hEvenOutIdeal) (hEvenOutRefIdeal := hEvenOutRefIdeal)
    ∧ preserves_MemFirst_MemFirstIdeal
    ∧ algebraic_MemFirstIdeal_MemFirstRefIdeal (hMemFirstIdeal := hMemFirstIdeal) (hMemFirstRefIdeal := hMemFirstRefIdeal)
    ∧ preserves_MemSecond_MemSecondIdeal
    ∧ algebraic_MemSecondIdeal_MemSecondRefIdeal (hMemSecondIdeal := hMemSecondIdeal) (hMemSecondRefIdeal := hMemSecondRefIdeal)
    ∧ preserves_FinalPrompt_FinalPromptIdeal
    ∧ algebraic_FinalPromptIdeal_FinalPromptRefIdeal (hFinalPromptIdeal := hFinalPromptIdeal) (hFinalPromptRefIdeal := hFinalPromptRefIdeal)
    ∧ preserves_FinalSample_FinalSampleIdeal
    ∧ algebraic_FinalSampleIdeal_FinalSampleRefIdeal (hFinalSampleIdeal := hFinalSampleIdeal) (hFinalSampleRefIdeal := hFinalSampleRefIdeal)
    ∧ preserves_SconvSample_SconvSampleIdeal
    ∧ algebraic_SconvSampleIdeal_SconvSampleRefIdeal (hSconvSampleIdeal := hSconvSampleIdeal) (hSconvSampleRefIdeal := hSconvSampleRefIdeal)
    ∧ preserves_LruSample_LruSampleIdeal
    ∧ algebraic_LruSampleIdeal_LruSampleRefIdeal (hLruSampleIdeal := hLruSampleIdeal) (hLruSampleRefIdeal := hLruSampleRefIdeal)
-- ==== On_prompt_rows.lean ====
abbrev S8704x4096 : Shape := ⟨2, ![8704, 4096]⟩
abbrev S1024x4096 : Shape := ⟨2, ![1024, 4096]⟩
abbrev S_ : Shape := ⟨0, ![]⟩

class Facts : Prop where
  bcast_S_S8704x4096 : S_.BroadcastsInDim S8704x4096 (![] : Fin 0 → Fin S8704x4096.rank)

variable [Facts]

def fn {F : FTy → Type} [FloatOps F] (main_arg0 : FVec F S8704x4096 .bf16) (main_arg1 : FVec F S1024x4096 .f32) (main_arg2 : FVec F S1024x4096 .f32) : IVec S8704x4096 1 :=
  let main_v0 : IVec S8704x4096 32 := iotaInDim S8704x4096 32 0
  let main_c : IVec S_ 32 := constantI S_ 32 8192#32
  let main_v1 : IVec S8704x4096 32 := broadcastInDim S8704x4096 ![] bcast_S_S8704x4096 main_c
  let main_v2 : IVec S8704x4096 1 := cmpi .slt main_v0 main_v1
  main_v2
-- ==== Kernel.lean ====
abbrev S8704x4096 : Shape := ⟨2, ![8704, 4096]⟩
abbrev S1024x4096 : Shape := ⟨2, ![1024, 4096]⟩
abbrev S2048x1024 : Shape := ⟨2, ![2048, 1024]⟩
abbrev S256x1024 : Shape := ⟨2, ![256, 1024]⟩
abbrev S2048x256 : Shape := ⟨2, ![2048, 256]⟩
abbrev S2048 : Shape := ⟨1, ![2048]⟩
abbrev S2048x1 : Shape := ⟨2, ![2048, 1]⟩

abbrev nBuf : Space → Nat
  | .hbm => 4
  | .vmem => 8
  | .smem => 0
  | _ => 0

abbrev bufTy : (tb : Table) → Fin (tcTables nBuf tb) → BufTy
  | .hbm, ⟨0, _⟩ => ⟨S8704x4096, .bf16⟩
  | .hbm, ⟨1, _⟩ => ⟨S1024x4096, .f32⟩
  | .hbm, ⟨2, _⟩ => ⟨S1024x4096, .f32⟩
  | .hbm, ⟨3, _⟩ => ⟨S8704x4096, .bf16⟩
  | .local _ .vmem, ⟨0, _⟩ => ⟨S2048x1024, .bf16⟩
  | .local _ .vmem, ⟨1, _⟩ => ⟨S2048x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S2048x1024, .bf16⟩
  | .local _ .vmem, ⟨7, _⟩ => ⟨S2048x1024, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8704x4096 : Shape := ⟨2, ![8704, 4096]⟩
abbrev S1024x4096 : Shape := ⟨2, ![1024, 4096]⟩
abbrev S8192x4096 : Shape := ⟨2, ![8192, 4096]⟩
abbrev S4x2048x4x1024 : Shape := ⟨4, ![4, 2048, 4, 1024]⟩
abbrev S4x256x4x1024 : Shape := ⟨4, ![4, 256, 4, 1024]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x1024x2048 : Shape := ⟨4, ![4, 4, 1024, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S1024x4096, .f32⟩
  | .hbm, ⟨2, _⟩ => ⟨S1024x4096, .f32⟩
  | .hbm, ⟨3, _⟩ => ⟨S8704x4096, .f32⟩
  | .hbm, ⟨4, _⟩ => ⟨S8192x4096, .f32⟩
  | .hbm, ⟨5, _⟩ => ⟨S4x2048x4x1024, .f32⟩
  | .hbm, ⟨6, _⟩ => ⟨S4x256x4x1024, .f32⟩
  | .hbm, ⟨7, _⟩ => ⟨S4x256x4x1024, .f32⟩
  | .hbm, ⟨8, _⟩ => ⟨S4x4x2048x256, .f32⟩
  | .hbm, ⟨9, _⟩ => ⟨S_, .f32⟩
  | .hbm, ⟨10, _⟩ => ⟨S4x4x2048x256, .f32⟩
  | .hbm, ⟨11, _⟩ => ⟨S4x4x2048x256, .f32⟩
  | .hbm, ⟨12, _⟩ => ⟨S_, .f32⟩
  | .hbm, ⟨13, _⟩ => ⟨S4x4x2048, .f32⟩
  | .hbm, ⟨14, _⟩ => ⟨S_, .f32⟩
  | .hbm, ⟨15, _⟩ => ⟨S4x4x2048, .f32⟩
  | .hbm, ⟨16, _⟩ => ⟨S4x4x2048, .f32⟩
  | .hbm, ⟨17, _⟩ => ⟨S4x4x2048x1, .f32⟩
  | .hbm, ⟨18, _⟩ => ⟨S4x4x2048x256, .f32⟩
  | .hbm, ⟨19, _⟩ => ⟨S4x4x2048x256, .f32⟩
  | .hbm, ⟨20, _⟩ => ⟨S4x4x2048x256, .f32⟩
  | .hbm, ⟨21, _⟩ => ⟨S_, .f32⟩
  | .hbm, ⟨22, _⟩ => ⟨S4x4x2048, .f32⟩
  | .hbm, ⟨23, _⟩ => ⟨S4x4x2048x1, .f32⟩
  | .hbm, ⟨24, _⟩ => ⟨S4x4x2048x256, .f32⟩
  | .hbm, ⟨25, _⟩ => ⟨S4x4x2048x256, .f32⟩
  | .hbm, ⟨26, _⟩ => ⟨S4x4x1024x2048, .f32⟩
  | .hbm, ⟨27, _⟩ => ⟨S4x2048x4x1024, .f32⟩
  | .hbm, ⟨28, _⟩ => ⟨S8192x4096, .f32⟩
  | .hbm, ⟨29, _⟩ => ⟨S_, .i32⟩
  | .hbm, ⟨30, _⟩ => ⟨S_, .f32⟩
  | .hbm, ⟨31, _⟩ => ⟨S8704x4096, .f32⟩
  | .hbm, ⟨32, _⟩ => ⟨S8704x4096, .bf16⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c : Ref sig .tc := ⟨.hbm, 29, rfl⟩
abbrev main_call0_v0 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Down.lean ====
abbrev S8704x16384 : Shape := ⟨2, ![8704, 16384]⟩
abbrev S16384x4096 : Shape := ⟨2, ![16384, 4096]⟩
abbrev S8704x4096 : Shape := ⟨2, ![8704, 4096]⟩
abbrev S1088x4096 : Shape := ⟨2, ![1088, 4096]⟩
abbrev S4096x1024 : Shape := ⟨2, ![4096, 1024]⟩
abbrev S1088x1024 : Shape := ⟨2, ![1088, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8704x16384, .bf16⟩
  | .hbm, ⟨1, _⟩ => ⟨S16384x4096, .bf16⟩
  | .hbm, ⟨2, _⟩ => ⟨S8704x4096, .f32⟩
  | .hbm, ⟨3, _⟩ => ⟨S8704x4096, .f32⟩
  | .local _ .vmem, ⟨0, _⟩ => ⟨S1088x4096, .bf16⟩
  | .local _ .vmem, ⟨1, _⟩ => ⟨S1088x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | .local _ .vmem, ⟨7, _⟩ => ⟨S1088x1024, .f32⟩
  | _, _ => ⟨S8704x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .ne arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S8704x16384 : Shape := ⟨2, ![8704, 16384]⟩
abbrev S16384x4096 : Shape := ⟨2, ![16384, 4096]⟩
abbrev S8704x4096 : Shape := ⟨2, ![8704, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8704x16384, .bf16⟩
  | .hbm, ⟨1, _⟩ => ⟨S16384x4096, .bf16⟩
  | .hbm, ⟨2, _⟩ => ⟨S8704x4096, .f32⟩
  | .hbm, ⟨3, _⟩ => ⟨S8704x16384, .f32⟩
  | .hbm, ⟨4, _⟩ => ⟨S16384x4096, .f32⟩
  | .hbm, ⟨5, _⟩ => ⟨S8704x4096, .f32⟩
  | .hbm, ⟨6, _⟩ => ⟨S8704x4096, .f32⟩
  | _, _ => ⟨S8704x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Up.lean ====
abbrev S8704x4096 : Shape := ⟨2, ![8704, 4096]⟩
abbrev S2x4096x16384 : Shape := ⟨3, ![2, 4096, 16384]⟩
abbrev S2x16384x4096 : Shape := ⟨3, ![2, 16384, 4096]⟩
abbrev S8704x16384 : Shape := ⟨2, ![8704, 16384]⟩
abbrev S16384x4096 : Shape := ⟨2, ![16384, 4096]⟩
abbrev S1088x4096 : Shape := ⟨2, ![1088, 4096]⟩
abbrev S1x512x1024 : Shape := ⟨3, ![1, 512, 1024]⟩
abbrev S1x128x4096 : Shape := ⟨3, ![1, 128, 4096]⟩
abbrev S1088x1024 : Shape := ⟨2, ![1088, 1024]⟩
abbrev S128x4096 : Shape := ⟨2, ![128, 4096]⟩
abbrev S2x4096x1024 : Shape := ⟨3, ![2, 4096, 1024]⟩
abbrev S1x4096x1024 : Shape := ⟨3, ![1, 4096, 1024]⟩
abbrev S4096x1024 : Shape := ⟨2, ![4096, 1024]⟩
abbrev S512x1024 : Shape := ⟨2, ![512, 1024]⟩

abbrev nBuf : Space → Nat
  | .hbm => 5
  | .vmem => 11
  | .smem => 0
  | _ => 0

abbrev bufTy : (tb : Table) → Fin (tcTables nBuf tb) → BufTy
  | .hbm, ⟨0, _⟩ => ⟨S8704x4096, .bf16⟩
  | .hbm, ⟨1, _⟩ => ⟨S2x4096x16384, .f32⟩
  | .hbm, ⟨2, _⟩ => ⟨S2x16384x4096, .f32⟩
  | .hbm, ⟨3, _⟩ => ⟨S8704x16384, .bf16⟩
  | .hbm, ⟨4, _⟩ => ⟨S16384x4096, .bf16⟩
  | .local _ .vmem, ⟨0, _⟩ => ⟨S1088x4096, .bf16⟩
  | .local _ .vmem, ⟨1, _⟩ => ⟨S1088x4096, .bf16⟩
  | .local _ .vmem, ⟨2, _⟩ => ⟨S1x512x1024, .f32⟩
  | .local _ .vmem, ⟨3, _⟩ => ⟨S1x512x1024, .f32⟩
  | .local _ .vmem, ⟨4, _⟩ => ⟨S1x128x4096, .f32⟩
  | .local _ .vmem, ⟨5, _⟩ => ⟨S1x128x4096, .f32⟩
  | .local _ .vmem, ⟨6, _⟩ => ⟨S1088x1024, .bf16⟩
  | .local _ .vmem, ⟨7, _⟩ => ⟨S1088x1024, .bf16⟩
  | .local _ .vmem, ⟨8, _⟩ => ⟨S128x4096, .bf16⟩
  | .local _ .vmem, ⟨9, _⟩ => ⟨S128x4096, .bf16⟩
  | .local _ .vmem, ⟨10, _⟩ => ⟨S2x4096x1024, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![17, 8], ![false, false]⟩

def k0_cond1 (i : grid0.Coords) : BitVec 1 :=
  let arg0 : BitVec 32 := BitVec.ofNat 32 (i 0).val
  let c0_i32 : BitVec 32 := 0#32
  let v0 : BitVec 1 := Scalar.cmpi .sgt arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg0 : BitVec 32 := BitVec.ofNat 32 (i 0).val
  let c1_i32 : BitVec 32 := 1#32
  let v10 : BitVec 32 := Scalar.subi arg0 c1_i32
  let c2_i32 : BitVec 32 := 2#32
  let c0_i32_6 : BitVec 32 := 0#32
  let v11 : BitVec 1 := Scalar.cmpi .eq c2_i32 c0_i32_6
  let c1_i32_7 : BitVec 32 := 1#32
  let v12 : BitVec 32 := Scalar.select v11 c1_i32_7 c2_i32
  let v13 : BitVec 32 := Scalar.remsi v10 v12
  let c0_i32_9 : BitVec 32 := 0#32
  let v15 : BitVec 1 := Scalar.cmpi .slt v13 c0_i32_9
  let c0_i32_10 : BitVec 32 := 0#32
  let v16 : BitVec 1 := Scalar.cmpi .slt v12 c0_i32_10
  let v17 : BitVec 1 := Scalar.xori v15 v16
  let c0_i32_8 : BitVec 32 := 0#32
  let v14 : BitVec 1 := Scalar.cmpi .ne v13 c0_i32_8
  let v18 : BitVec 1 := Scalar.andi v17 v14
  let v19 : BitVec 32 := Scalar.addi v13 v12
  let v20 : BitVec 32 := Scalar.select v18 v19 v13
  let v22 : Index := Scalar.indexCast v20
  let c0_13 : Index := 0#32
  let c0_14 : Index := 0#32
  ![v22.toNat, 0, 0]
def k0_cond2 (i : grid0.Coords) : BitVec 1 :=
  let arg0 : BitVec 32 := BitVec.ofNat 32 (i 0).val
  let c16_i32 : BitVec 32 := 16#32
  let v3 : BitVec 1 := Scalar.cmpi .slt arg0 c16_i32
  let v4 : BitVec 32 := Scalar.extui v3
  let c0_i32_1 : BitVec 32 := 0#32
  let v5 : BitVec 1 := Scalar.cmpi .ne v4 c0_i32_1
  v5

def k0_mult1 (i : grid0.Coords) : BitVec 32 :=
  let arg1 : BitVec 32 := BitVec.ofNat 32 (i 1).val
  let c512_i32 : BitVec 32 := 512#32
  let v6 : BitVec 32 := Scalar.muli arg1 c512_i32
  v6
def k0_off2 (i : grid0.Coords) : Fin 3 → Nat :=
  let arg0 : BitVec 32 := BitVec.ofNat 32 (i 0).val
  let c2_i32 : BitVec 32 := 2#32
  let c0_i32_4 : BitVec 32 := 0#32
  let v11 : BitVec 1 := Scalar.cmpi .eq c2_i32 c0_i32_4
  let c1_i32 : BitVec 32 := 1#32
  let v12 : BitVec 32 := Scalar.select v11 c1_i32 c2_i32
  let v13 : BitVec 32 := Scalar.remsi arg0 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : Index := Scalar.indexCast v20
  let arg1 : BitVec 32 := BitVec.ofNat 32 (i 1).val
  let c512_i32 : BitVec 32 := 512#32
  let v6 : BitVec 32 := Scalar.muli arg1 c512_i32
  let v7 : BitVec 32 := v6
  let v22 : Index := Scalar.indexCast v7
  let c0_8 : Index := 0#32
  ![v21.toNat, v22.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c7_i32 : BitVec 32 := 7#32
  let v1 : BitVec 32 := Scalar.select v0 arg1 c7_i32
  let c15_i32 : BitVec 32 := 15#32
  let v2 : BitVec 32 := Scalar.minsi arg0 c15_i32
  let c0_i32 : BitVec 32 := 0#32
  let c0_i32_0 : BitVec 32 := 0#32
  ![c0_i32.toNat, v1.toNat, v2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.muli v1 c8_i32
  let c0_i32_0 : BitVec 32 := 0#32
  let v3 : BitVec 1 := Scalar.cmpi .sgt arg0 c0_i32_0
  let c0_i32_1 : BitVec 32 := 0#32
  let v4 : BitVec 32 := Scalar.select v3 arg1 c0_i32_1
  let v5 : BitVec 32 := Scalar.addi v2 v4
  let c0_i32_2 : BitVec 32 := 0#32
  let c0_i32_3 : BitVec 32 := 0#32
  let c0_i32_4 : BitVec 32 := 0#32
  ![c0_i32_2.toNat, v5.toNat, c0_i32_3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.muli v1 c8_i32
  let c0_i32_0 : BitVec 32 := 0#32
  let v3 : BitVec 1 := Scalar.cmpi .sgt arg0 c0_i32_0
  let c0_i32_1 : BitVec 32 := 0#32
  let v4 : BitVec 32 := Scalar.select v3 arg1 c0_i32_1
  let v5 : BitVec 32 := Scalar.addi v2 v4
  let c0_i32_2 : BitVec 32 := 0#32
  let c0_i32_3 : BitVec 32 := 0#32
  ![v5.toNat, c0_i32_2.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1088x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== UpRefIdeal.lean ====
abbrev S8704x4096 : Shape := ⟨2, ![8704, 4096]⟩
abbrev S2x4096x16384 : Shape := ⟨3, ![2, 4096, 16384]⟩
abbrev S2x16384x4096 : Shape := ⟨3, ![2, 16384, 4096]⟩
abbrev S1x4096x16384 : Shape := ⟨3, ![1, 4096, 16384]⟩
abbrev S4096x16384 : Shape := ⟨2, ![4096, 16384]⟩
abbrev S8704x16384 : Shape := ⟨2, ![8704, 16384]⟩
abbrev S_ : Shape := ⟨0, ![]⟩
abbrev S1x16384x4096 : Shape := ⟨3, ![1, 16384, 4096]⟩
abbrev S16384x4096 : Shape := ⟨2, ![16384, 4096]⟩

abbrev nBuf : Space → Nat
  | .hbm => 15
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S2x4096x16384, .f32⟩
  | .hbm, ⟨2, _⟩ => ⟨S2x16384x4096, .f32⟩
  | .hbm, ⟨3, _⟩ => ⟨S8704x4096, .f32⟩
  | .hbm, ⟨4, _⟩ => ⟨S1x4096x16384, .f32⟩
  | .hbm, ⟨5, _⟩ => ⟨S4096x16384, .f32⟩
  | .hbm, ⟨6, _⟩ => ⟨S8704x16384, .f32⟩
  | .hbm, ⟨7, _⟩ => ⟨S_, .f32⟩
  | .hbm, ⟨8, _⟩ => ⟨S8704x16384, .f32⟩
  | .hbm, ⟨9, _⟩ => ⟨S8704x16384, .f32⟩
  | .hbm, ⟨10, _⟩ => ⟨S8704x16384, .f32⟩
  | .hbm, ⟨11, _⟩ => ⟨S8704x16384, .bf16⟩
  | .hbm, ⟨12, _⟩ => ⟨S1x16384x4096, .f32⟩
  | .hbm, ⟨13, _⟩ => ⟨S16384x4096, .f32⟩
  | .hbm, ⟨14, _⟩ => ⟨S16384x4096, .bf16⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== OddIn.lean ====
abbrev S8704x4096 : Shape := ⟨2, ![8704, 4096]⟩
abbrev S1x4096x12288 : Shape := ⟨3, ![1, 4096, 12288]⟩
abbrev S8704x12288 : Shape := ⟨2, ![8704, 12288]⟩
abbrev S1088x4096 : Shape := ⟨2, ![1088, 4096]⟩
abbrev S1x512x1024 : Shape := ⟨3, ![1, 512, 1024]⟩
abbrev S1088x1024 : Shape := ⟨2, ![1088, 1024]⟩
abbrev S2x4096x1024 : Shape := ⟨3, ![2, 4096, 1024]⟩
abbrev S1x4096x1024 : Shape := ⟨3, ![1, 4096, 1024]⟩
abbrev S4096x1024 : Shape := ⟨2, ![4096, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8704x4096, .bf16⟩
  | .hbm, ⟨1, _⟩ => ⟨S1x4096x12288, .f32⟩
  | .hbm, ⟨2, _⟩ => ⟨S8704x12288, .f32⟩
  | .local _ .vmem, ⟨0, _⟩ => ⟨S1088x4096, .bf16⟩
  | .local _ .vmem, ⟨1, _⟩ => ⟨S1088x4096, .bf16⟩
  | .local _ .vmem, ⟨2, _⟩ => ⟨S1x512x1024, .f32⟩
  | .local _ .vmem, ⟨3, _⟩ => ⟨S1x512x1024, .f32⟩
  | .local _ .vmem, ⟨4, _⟩ => ⟨S1088x1024, .f32⟩
  | .local _ .vmem, ⟨5, _⟩ => ⟨S1088x1024, .f32⟩
  | .local _ .vmem, ⟨6, _⟩ => ⟨S2x4096x1024, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![13, 8], ![false, false]⟩

def k0_cond1 (i : grid0.Coords) : BitVec 1 :=
  let arg0 : BitVec 32 := BitVec.ofNat 32 (i 0).val
  let c0_i32 : BitVec 32 := 0#32
  let v0 : BitVec 1 := Scalar.cmpi .sgt arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg0 : BitVec 32 := BitVec.ofNat 32 (i 0).val
  let c1_i32 : BitVec 32 := 1#32
  let v6 : BitVec 32 := Scalar.subi arg0 c1_i32
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v18 : Index := Scalar.indexCast v16
  let c0_8 : Index := 0#32
  let c0_9 : Index := 0#32
  ![v18.toNat, 0, 0]
def k0_cond2 (i : grid0.Coords) : BitVec 1 :=
  let arg0 : BitVec 32 := BitVec.ofNat 32 (i 0).val
  let c12_i32 : BitVec 32 := 12#32
  let v3 : BitVec 1 := Scalar.cmpi .slt arg0 c12_i32
  let v4 : BitVec 32 := Scalar.extui v3
  let c0_i32_1 : BitVec 32 := 0#32
  let v5 : BitVec 1 := Scalar.cmpi .ne v4 c0_i32_1
  v5

def k0_mult1 (i : grid0.Coords) : BitVec 32 :=
  let arg1 : BitVec 32 := BitVec.ofNat 32 (i 1).val
  let c512_i32 : BitVec 32 := 512#32
  let v6 : BitVec 32 := Scalar.muli arg1 c512_i32
  v6
def k0_off2 (i : grid0.Coords) : Fin 3 → Nat :=
  let arg0 : BitVec 32 := BitVec.ofNat 32 (i 0).val
  let c2_i32 : BitVec 32 := 2#32
  let c0_i32_4 : BitVec 32 := 0#32
  let v11 : BitVec 1 := Scalar.cmpi .eq c2_i32 c0_i32_4
  let c1_i32 : BitVec 32 := 1#32
  let v12 : BitVec 32 := Scalar.select v11 c1_i32 c2_i32
  let v13 : BitVec 32 := Scalar.remsi arg0 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : Index := Scalar.indexCast v20
  let arg1 : BitVec 32 := BitVec.ofNat 32 (i 1).val
  let c512_i32 : BitVec 32 := 512#32
  let v6 : BitVec 32 := Scalar.muli arg1 c512_i32
  let v7 : BitVec 32 := v6
  let v22 : Index := Scalar.indexCast v7
  let c0_8 : Index := 0#32
  ![v21.toNat, v22.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 1 := Scalar.cmpi .slt arg0 c12_i32
  let c7_i32 : BitVec 32 := 7#32
  let v1 : BitVec 32 := Scalar.select v0 arg1 c7_i32
  let c11_i32 : BitVec 32 := 11#32
  let v2 : BitVec 32 := Scalar.minsi arg0 c11_i32
  let c0_i32 : BitVec 32 := 0#32
  let c0_i32_0 : BitVec 32 := 0#32
  ![c0_i32.toNat, v1.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddInRefIdeal.lean ====
abbrev S8704x4096 : Shape := ⟨2, ![8704, 4096]⟩
abbrev S1x4096x12288 : Shape := ⟨3, ![1, 4096, 12288]⟩
abbrev S4096x12288 : Shape := ⟨2, ![4096, 12288]⟩
abbrev S8704x12288 : Shape := ⟨2, ![8704, 12288]⟩

abbrev nBuf : Space → Nat
  | .hbm => 5
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S1x4096x12288, .f32⟩
  | .hbm, ⟨2, _⟩ => ⟨S8704x4096, .f32⟩
  | .hbm, ⟨3, _⟩ => ⟨S4096x12288, .f32⟩
  | .hbm, ⟨4, _⟩ => ⟨S8704x12288, .f32⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Query.lean ====
abbrev S8704x4096 : Shape := ⟨2, ![8704, 4096]⟩
abbrev S2x4096x4096 : Shape := ⟨3, ![2, 4096, 4096]⟩
abbrev S1088x4096 : Shape := ⟨2, ![1088, 4096]⟩
abbrev S1x512x1024 : Shape := ⟨3, ![1, 512, 1024]⟩
abbrev S1088x1024 : Shape := ⟨2, ![1088, 1024]⟩
abbrev S2x4096x1024 : Shape := ⟨3, ![2, 4096, 1024]⟩
abbrev S1x4096x1024 : Shape := ⟨3, ![1, 4096, 1024]⟩
abbrev S4096x1024 : Shape := ⟨2, ![4096, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8704x4096, .bf16⟩
  | .hbm, ⟨1, _⟩ => ⟨S2x4096x4096, .f32⟩
  | .hbm, ⟨2, _⟩ => ⟨S8704x4096, .bf16⟩
  | .local _ .vmem, ⟨0, _⟩ => ⟨S1088x4096, .bf16⟩
  | .local _ .vmem, ⟨1, _⟩ => ⟨S1088x4096, .bf16⟩
  | .local _ .vmem, ⟨2, _⟩ => ⟨S1x512x1024, .f32⟩
  | .local _ .vmem, ⟨3, _⟩ => ⟨S1x512x1024, .f32⟩
  | .local _ .vmem, ⟨4, _⟩ => ⟨S1088x1024, .bf16⟩
  | .local _ .vmem, ⟨5, _⟩ => ⟨S1088x1024, .bf16⟩
  | .local _ .vmem, ⟨6, _⟩ => ⟨S2x4096x1024, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 8], ![false, false]⟩

def k0_cond1 (i : grid0.Coords) : BitVec 1 :=
  let arg0 : BitVec 32 := BitVec.ofNat 32 (i 0).val
  let c0_i32 : BitVec 32 := 0#32
  let v0 : BitVec 1 := Scalar.cmpi .sgt arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg0 : BitVec 32 := BitVec.ofNat 32 (i 0).val
  let c1_i32 : BitVec 32 := 1#32
  let v6 : BitVec 32 := Scalar.subi arg0 c1_i32
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v18 : Index := Scalar.indexCast v16
  let c0_8 : Index := 0#32
  let c0_9 : Index := 0#32
  ![v18.toNat, 0, 0]
def k0_cond2 (i : grid0.Coords) : BitVec 1 :=
  let arg0 : BitVec 32 := BitVec.ofNat 32 (i 0).val
  let c4_i32 : BitVec 32 := 4#32
  let v3 : BitVec 1 := Scalar.cmpi .slt arg0 c4_i32
  let v4 : BitVec 32 := Scalar.extui v3
  let c0_i32_1 : BitVec 32 := 0#32
  let v5 : BitVec 1 := Scalar.cmpi .ne v4 c0_i32_1
  v5

def k0_mult1 (i : grid0.Coords) : BitVec 32 :=
  let arg1 : BitVec 32 := BitVec.ofNat 32 (i 1).val
  let c512_i32 : BitVec 32 := 512#32
  let v6 : BitVec 32 := Scalar.muli arg1 c512_i32
  v6
def k0_off2 (i : grid0.Coords) : Fin 3 → Nat :=
  let arg0 : BitVec 32 := BitVec.ofNat 32 (i 0).val
  let c2_i32 : BitVec 32 := 2#32
  let c0_i32_4 : BitVec 32 := 0#32
  let v11 : BitVec 1 := Scalar.cmpi .eq c2_i32 c0_i32_4
  let c1_i32 : BitVec 32 := 1#32
  let v12 : BitVec 32 := Scalar.select v11 c1_i32 c2_i32
  let v13 : BitVec 32 := Scalar.remsi arg0 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : Index := Scalar.indexCast v20
  let arg1 : BitVec 32 := BitVec.ofNat 32 (i 1).val
  let c512_i32 : BitVec 32 := 512#32
  let v6 : BitVec 32 := Scalar.muli arg1 c512_i32
  let v7 : BitVec 32 := v6
  let v22 : Index := Scalar.indexCast v7
  let c0_8 : Index := 0#32
  ![v21.toNat, v22.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c7_i32 : BitVec 32 := 7#32
  let v1 : BitVec 32 := Scalar.select v0 arg1 c7_i32
  let c3_i32 : BitVec 32 := 3#32
  let v2 : BitVec 32 := Scalar.minsi arg0 c3_i32
  let c0_i32 : BitVec 32 := 0#32
  let c0_i32_0 : BitVec 32 := 0#32
  ![c0_i32.toNat, v1.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QueryRefIdeal.lean ====
abbrev S8704x4096 : Shape := ⟨2, ![8704, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S2x4096x4096, .f32⟩
  | .hbm, ⟨2, _⟩ => ⟨S8704x4096, .f32⟩
  | .hbm, ⟨3, _⟩ => ⟨S1x4096x4096, .f32⟩
  | .hbm, ⟨4, _⟩ => ⟨S4096x4096, .f32⟩
  | .hbm, ⟨5, _⟩ => ⟨S8704x4096, .f32⟩
  | .hbm, ⟨6, _⟩ => ⟨S8704x4096, .bf16⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== AttnOut.lean ====
abbrev S8704x4096 : Shape := ⟨2, ![8704, 4096]⟩
abbrev S2x4096x4096 : Shape := ⟨3, ![2, 4096, 4096]⟩
abbrev S544x4096 : Shape := ⟨2, ![544, 4096]⟩
abbrev S1x256x1024 : Shape := ⟨3, ![1, 256, 1024]⟩
abbrev S544x1024 : Shape := ⟨2, ![544, 1024]⟩
abbrev S2x4096x1024 : Shape := ⟨3, ![2, 4096, 1024]⟩
abbrev S1x4096x1024 : Shape := ⟨3, ![1, 4096, 1024]⟩
abbrev S4096x1024 : Shape := ⟨2, ![4096, 1024]⟩
abbrev S256x1024 : Shape := ⟨2, ![256, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8704x4096, .bf16⟩
  | .hbm, ⟨1, _⟩ => ⟨S2x4096x4096, .f32⟩
  | .hbm, ⟨2, _⟩ => ⟨S8704x4096, .f32⟩
  | .hbm, ⟨3, _⟩ => ⟨S8704x4096, .f32⟩
  | .local _ .vmem, ⟨0, _⟩ => ⟨S544x4096, .bf16⟩
  | .local _ .vmem, ⟨1, _⟩ => ⟨S544x4096, .bf16⟩
  | .local _ .vmem, ⟨2, _⟩ => ⟨S1x256x1024, .f32⟩
  | .local _ .vmem, ⟨3, _⟩ => ⟨S1x256x1024, .f32⟩
  | .local _ .vmem, ⟨4, _⟩ => ⟨S544x1024, .f32⟩
  | .local _ .vmem, ⟨5, _⟩ => ⟨S544x1024, .f32⟩
  | .local _ .vmem, ⟨6, _⟩ => ⟨S544x1024, .f32⟩
  | .local _ .vmem, ⟨7, _⟩ => ⟨S544x1024, .f32⟩
  | .local _ .vmem, ⟨8, _⟩ => ⟨S2x4096x1024, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![5, 16], ![false, false]⟩

def k0_cond1 (i : grid0.Coords) : BitVec 1 :=
  let arg0 : BitVec 32 := BitVec.ofNat 32 (i 0).val
  let c0_i32 : BitVec 32 := 0#32
  let v0 : BitVec 1 := Scalar.cmpi .sgt arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg0 : BitVec 32 := BitVec.ofNat 32 (i 0).val
  let c1_i32 : BitVec 32 := 1#32
  let v6 : BitVec 32 := Scalar.subi arg0 c1_i32
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v18 : Index := Scalar.indexCast v16
  let c0_8 : Index := 0#32
  let c0_9 : Index := 0#32
  ![v18.toNat, 0, 0]
def k0_cond2 (i : grid0.Coords) : BitVec 1 :=
  let arg0 : BitVec 32 := BitVec.ofNat 32 (i 0).val
  let c4_i32 : BitVec 32 := 4#32
  let v3 : BitVec 1 := Scalar.cmpi .slt arg0 c4_i32
  let v4 : BitVec 32 := Scalar.extui v3
  let c0_i32_1 : BitVec 32 := 0#32
  let v5 : BitVec 1 := Scalar.cmpi .ne v4 c0_i32_1
  v5

def k0_mult1 (i : grid0.Coords) : BitVec 32 :=
  let arg1 : BitVec 32 := BitVec.ofNat 32 (i 1).val
  let c256_i32 : BitVec 32 := 256#32
  let v6 : BitVec 32 := Scalar.muli arg1 c256_i32
  v6
def k0_off2 (i : grid0.Coords) : Fin 3 → Nat :=
  let arg0 : BitVec 32 := BitVec.ofNat 32 (i 0).val
  let c2_i32 : BitVec 32 := 2#32
  let c0_i32_4 : BitVec 32 := 0#32
  let v11 : BitVec 1 := Scalar.cmpi .eq c2_i32 c0_i32_4
  let c1_i32 : BitVec 32 := 1#32
  let v12 : BitVec 32 := Scalar.select v11 c1_i32 c2_i32
  let v13 : BitVec 32 := Scalar.remsi arg0 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : Index := Scalar.indexCast v20
  let arg1 : BitVec 32 := BitVec.ofNat 32 (i 1).val
  let c256_i32 : BitVec 32 := 256#32
  let v6 : BitVec 32 := Scalar.muli arg1 c256_i32
  let v7 : BitVec 32 := v6
  let v22 : Index := Scalar.indexCast v7
  let c0_8 : Index := 0#32
  ![v21.toNat, v22.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c15_i32 : BitVec 32 := 15#32
  let v1 : BitVec 32 := Scalar.select v0 arg1 c15_i32
  let c3_i32 : BitVec 32 := 3#32
  let v2 : BitVec 32 := Scalar.minsi arg0 c3_i32
  let c0_i32 : BitVec 32 := 0#32
  let c0_i32_0 : BitVec 32 := 0#32
  ![c0_i32.toNat, v1.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S544x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttnOutRefIdeal.lean ====
abbrev S8704x4096 : Shape := ⟨2, ![8704, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S2x4096x4096, .f32⟩
  | .hbm, ⟨2, _⟩ => ⟨S8704x4096, .f32⟩
  | .hbm, ⟨3, _⟩ => ⟨S8704x4096, .f32⟩
  | .hbm, ⟨4, _⟩ => ⟨S1x4096x4096, .f32⟩
  | .hbm, ⟨5, _⟩ => ⟨S4096x4096, .f32⟩
  | .hbm, ⟨6, _⟩ => ⟨S8704x4096, .f32⟩
  | .hbm, ⟨7, _⟩ => ⟨S8704x4096, .f32⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OddOut.lean ====
abbrev S8704x4096 : Shape := ⟨2, ![8704, 4096]⟩
abbrev S1x4096x4096 : Shape := ⟨3, ![1, 4096, 4096]⟩
abbrev S544x4096 : Shape := ⟨2, ![544, 4096]⟩
abbrev S1x256x1024 : Shape := ⟨3, ![1, 256, 1024]⟩
abbrev S544x1024 : Shape := ⟨2, ![544, 1024]⟩
abbrev S2x4096x1024 : Shape := ⟨3, ![2, 4096, 1024]⟩
abbrev S1x4096x1024 : Shape := ⟨3, ![1, 4096, 1024]⟩
abbrev S4096x1024 : Shape := ⟨2, ![4096, 1024]⟩
abbrev S256x1024 : Shape := ⟨2, ![256, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8704x4096, .bf16⟩
  | .hbm, ⟨1, _⟩ => ⟨S1x4096x4096, .f32⟩
  | .hbm, ⟨2, _⟩ => ⟨S8704x4096, .f32⟩
  | .hbm, ⟨3, _⟩ => ⟨S8704x4096, .f32⟩
  | .local _ .vmem, ⟨0, _⟩ => ⟨S544x4096, .bf16⟩
  | .local _ .vmem, ⟨1, _⟩ => ⟨S544x4096, .bf16⟩
  | .local _ .vmem, ⟨2, _⟩ => ⟨S1x256x1024, .f32⟩
  | .local _ .vmem, ⟨3, _⟩ => ⟨S1x256x1024, .f32⟩
  | .local _ .vmem, ⟨4, _⟩ => ⟨S544x1024, .f32⟩
  | .local _ .vmem, ⟨5, _⟩ => ⟨S544x1024, .f32⟩
  | .local _ .vmem, ⟨6, _⟩ => ⟨S544x1024, .f32⟩
  | .local _ .vmem, ⟨7, _⟩ => ⟨S544x1024, .f32⟩
  | .local _ .vmem, ⟨8, _⟩ => ⟨S2x4096x1024, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![5, 16], ![false, false]⟩

def k0_cond1 (i : grid0.Coords) : BitVec 1 :=
  let arg0 : BitVec 32 := BitVec.ofNat 32 (i 0).val
  let c0_i32 : BitVec 32 := 0#32
  let v0 : BitVec 1 := Scalar.cmpi .sgt arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg0 : BitVec 32 := BitVec.ofNat 32 (i 0).val
  let c1_i32 : BitVec 32 := 1#32
  let v6 : BitVec 32 := Scalar.subi arg0 c1_i32
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v18 : Index := Scalar.indexCast v16
  let c0_8 : Index := 0#32
  let c0_9 : Index := 0#32
  ![v18.toNat, 0, 0]
def k0_cond2 (i : grid0.Coords) : BitVec 1 :=
  let arg0 : BitVec 32 := BitVec.ofNat 32 (i 0).val
  let c4_i32 : BitVec 32 := 4#32
  let v3 : BitVec 1 := Scalar.cmpi .slt arg0 c4_i32
  let v4 : BitVec 32 := Scalar.extui v3
  let c0_i32_1 : BitVec 32 := 0#32
  let v5 : BitVec 1 := Scalar.cmpi .ne v4 c0_i32_1
  v5

def k0_mult1 (i : grid0.Coords) : BitVec 32 :=
  let arg1 : BitVec 32 := BitVec.ofNat 32 (i 1).val
  let c256_i32 : BitVec 32 := 256#32
  let v6 : BitVec 32 := Scalar.muli arg1 c256_i32
  v6
def k0_off2 (i : grid0.Coords) : Fin 3 → Nat :=
  let arg0 : BitVec 32 := BitVec.ofNat 32 (i 0).val
  let c2_i32 : BitVec 32 := 2#32
  let c0_i32_4 : BitVec 32 := 0#32
  let v11 : BitVec 1 := Scalar.cmpi .eq c2_i32 c0_i32_4
  let c1_i32 : BitVec 32 := 1#32
  let v12 : BitVec 32 := Scalar.select v11 c1_i32 c2_i32
  let v13 : BitVec 32 := Scalar.remsi arg0 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : Index := Scalar.indexCast v20
  let arg1 : BitVec 32 := BitVec.ofNat 32 (i 1).val
  let c256_i32 : BitVec 32 := 256#32
  let v6 : BitVec 32 := Scalar.muli arg1 c256_i32
  let v7 : BitVec 32 := v6
  let v22 : Index := Scalar.indexCast v7
  let c0_8 : Index := 0#32
  ![v21.toNat, v22.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c15_i32 : BitVec 32 := 15#32
  let v1 : BitVec 32 := Scalar.select v0 arg1 c15_i32
  let c3_i32 : BitVec 32 := 3#32
  let v2 : BitVec 32 := Scalar.minsi arg0 c3_i32
  let c0_i32 : BitVec 32 := 0#32
  let c0_i32_0 : BitVec 32 := 0#32
  ![c0_i32.toNat, v1.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S544x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OddOutRefIdeal.lean ====
abbrev S8704x4096 : Shape := ⟨2, ![8704, 4096]⟩
abbrev S1x4096x4096 : Shape := ⟨3, ![1, 4096, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S1x4096x4096, .f32⟩
  | .hbm, ⟨2, _⟩ => ⟨S8704x4096, .f32⟩
  | .hbm, ⟨3, _⟩ => ⟨S8704x4096, .f32⟩
  | .hbm, ⟨4, _⟩ => ⟨S4096x4096, .f32⟩
  | .hbm, ⟨5, _⟩ => ⟨S8704x4096, .f32⟩
  | .hbm, ⟨6, _⟩ => ⟨S8704x4096, .f32⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== EvenIn.lean ====
abbrev S8704x4096 : Shape := ⟨2, ![8704, 4096]⟩
abbrev S1x4096x10256 : Shape := ⟨3, ![1, 4096, 10256]⟩
abbrev S4096x10256 : Shape := ⟨2, ![4096, 10256]⟩
abbrev S10256x4096 : Shape := ⟨2, ![10256, 4096]⟩
abbrev S8704x6144 : Shape := ⟨2, ![8704, 6144]⟩
abbrev S1088x4096 : Shape := ⟨2, ![1088, 4096]⟩
abbrev S1024x512 : Shape := ⟨2, ![1024, 512]⟩
abbrev S1088x1024 : Shape := ⟨2, ![1088, 1024]⟩
abbrev S2x1024x4096 : Shape := ⟨3, ![2, 1024, 4096]⟩
abbrev S1x1024x4096 : Shape := ⟨3, ![1, 1024, 4096]⟩
abbrev S1024x4096 : Shape := ⟨2, ![1024, 4096]⟩
abbrev S1x1024x512 : Shape := ⟨3, ![1, 1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8704x4096, .bf16⟩
  | .hbm, ⟨1, _⟩ => ⟨S1x4096x10256, .f32⟩
  | .hbm, ⟨2, _⟩ => ⟨S4096x10256, .f32⟩
  | .hbm, ⟨3, _⟩ => ⟨S10256x4096, .f32⟩
  | .hbm, ⟨4, _⟩ => ⟨S8704x6144, .f32⟩
  | .local _ .vmem, ⟨0, _⟩ => ⟨S1088x4096, .bf16⟩
  | .local _ .vmem, ⟨1, _⟩ => ⟨S1088x4096, .bf16⟩
  | .local _ .vmem, ⟨2, _⟩ => ⟨S1024x512, .f32⟩
  | .local _ .vmem, ⟨3, _⟩ => ⟨S1024x512, .f32⟩
  | .local _ .vmem, ⟨4, _⟩ => ⟨S1088x1024, .f32⟩
  | .local _ .vmem, ⟨5, _⟩ => ⟨S1088x1024, .f32⟩
  | .local _ .vmem, ⟨6, _⟩ => ⟨S2x1024x4096, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![7, 8], ![false, false]⟩

def k0_cond1 (i : grid0.Coords) : BitVec 1 :=
  let arg0 : BitVec 32 := BitVec.ofNat 32 (i 0).val
  let c0_i32 : BitVec 32 := 0#32
  let v0 : BitVec 1 := Scalar.cmpi .sgt arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg0 : BitVec 32 := BitVec.ofNat 32 (i 0).val
  let c1_i32 : BitVec 32 := 1#32
  let v6 : BitVec 32 := Scalar.subi arg0 c1_i32
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v18 : Index := Scalar.indexCast v16
  let c0_8 : Index := 0#32
  let c0_9 : Index := 0#32
  ![v18.toNat, 0, 0]
def k0_cond2 (i : grid0.Coords) : BitVec 1 :=
  let arg0 : BitVec 32 := BitVec.ofNat 32 (i 0).val
  let c6_i32 : BitVec 32 := 6#32
  let v3 : BitVec 1 := Scalar.cmpi .slt arg0 c6_i32
  let v4 : BitVec 32 := Scalar.extui v3
  let c0_i32_1 : BitVec 32 := 0#32
  let v5 : BitVec 1 := Scalar.cmpi .ne v4 c0_i32_1
  v5

def k0_mult1 (i : grid0.Coords) : BitVec 32 :=
  let arg1 : BitVec 32 := BitVec.ofNat 32 (i 1).val
  let c512_i32 : BitVec 32 := 512#32
  let v6 : BitVec 32 := Scalar.muli arg1 c512_i32
  v6
def k0_off2 (i : grid0.Coords) : Fin 3 → Nat :=
  let arg0 : BitVec 32 := BitVec.ofNat 32 (i 0).val
  let c2_i32 : BitVec 32 := 2#32
  let c0_i32_3 : BitVec 32 := 0#32
  let v11 : BitVec 1 := Scalar.cmpi .eq c2_i32 c0_i32_3
  let c1_i32 : BitVec 32 := 1#32
  let v12 : BitVec 32 := Scalar.select v11 c1_i32 c2_i32
  let v13 : BitVec 32 := Scalar.remsi arg0 v12
  let c0_i32_5 : BitVec 32 := 0#32
  let v15 : BitVec 1 := Scalar.cmpi .slt v13 c0_i32_5
  let c0_i32_6 : BitVec 32 := 0#32
  let v16 : BitVec 1 := Scalar.cmpi .slt v12 c0_i32_6
  let v17 : BitVec 1 := Scalar.xori v15 v16
  let c0_i32_4 : BitVec 32 := 0#32
  let v14 : BitVec 1 := Scalar.cmpi .ne v13 c0_i32_4
  let v18 : BitVec 1 := Scalar.andi v17 v14
  let v19 : BitVec 32 := Scalar.addi v13 v12
  let v20 : BitVec 32 := Scalar.select v18 v19 v13
  let v21 : Index := Scalar.indexCast v20
  let c0_7 : Index := 0#32
  let arg1 : BitVec 32 := BitVec.ofNat 32 (i 1).val
  let c512_i32 : BitVec 32 := 512#32
  let v6 : BitVec 32 := Scalar.muli arg1 c512_i32
  let v7 : BitVec 32 := v6
  let v22 : Index := Scalar.indexCast v7
  ![v21.toNat, 0, v22.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 1 := Scalar.cmpi .slt arg0 c6_i32
  let c7_i32 : BitVec 32 := 7#32
  let v1 : BitVec 32 := Scalar.select v0 arg1 c7_i32
  let c5_i32 : BitVec 32 := 5#32
  let v2 : BitVec 32 := Scalar.minsi arg0 c5_i32
  let c0_i32 : BitVec 32 := 0#32
  ![v2.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenInRefIdeal.lean ====
abbrev S8704x4096 : Shape := ⟨2, ![8704, 4096]⟩
abbrev S1x4096x10256 : Shape := ⟨3, ![1, 4096, 10256]⟩
abbrev S4096x10256 : Shape := ⟨2, ![4096, 10256]⟩
abbrev S8704x10256 : Shape := ⟨2, ![8704, 10256]⟩
abbrev S8704x6144 : Shape := ⟨2, ![8704, 6144]⟩

abbrev nBuf : Space → Nat
  | .hbm => 6
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S1x4096x10256, .f32⟩
  | .hbm, ⟨2, _⟩ => ⟨S8704x4096, .f32⟩
  | .hbm, ⟨3, _⟩ => ⟨S4096x10256, .f32⟩
  | .hbm, ⟨4, _⟩ => ⟨S8704x10256, .f32⟩
  | .hbm, ⟨5, _⟩ => ⟨S8704x6144, .f32⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== LruIn.lean ====
abbrev S8704x4096 : Shape := ⟨2, ![8704, 4096]⟩
abbrev S1x4096x10256 : Shape := ⟨3, ![1, 4096, 10256]⟩
abbrev S4096x10256 : Shape := ⟨2, ![4096, 10256]⟩
abbrev S10256x4096 : Shape := ⟨2, ![10256, 4096]⟩
abbrev S4096x4096 : Shape := ⟨2, ![4096, 4096]⟩
abbrev S1088x4096 : Shape := ⟨2, ![1088, 4096]⟩
abbrev S1024x512 : Shape := ⟨2, ![1024, 512]⟩
abbrev S1088x1024 : Shape := ⟨2, ![1088, 1024]⟩
abbrev S2x1024x4096 : Shape := ⟨3, ![2, 1024, 4096]⟩
abbrev S1x1024x4096 : Shape := ⟨3, ![1, 1024, 4096]⟩
abbrev S1024x4096 : Shape := ⟨2, ![1024, 4096]⟩
abbrev S1x1024x512 : Shape := ⟨3, ![1, 1024, 512]⟩

abbrev nBuf : Space → Nat
  | .hbm => 6
  | .vmem => 7
  | .smem => 0
  | _ => 0

abbrev bufTy : (tb : Table) → Fin (tcTables nBuf tb) → BufTy
  | .hbm, ⟨0, _⟩ => ⟨S8704x4096, .bf16⟩
  | .hbm, ⟨1, _⟩ => ⟨S1x4096x10256, .f32⟩
  | .hbm, ⟨2, _⟩ => ⟨S4096x10256, .f32⟩
  | .hbm, ⟨3, _⟩ => ⟨S10256x4096, .f32⟩
  | .hbm, ⟨4, _⟩ => ⟨S4096x4096, .f32⟩
  | .hbm, ⟨5, _⟩ => ⟨S8704x4096, .f32⟩
  | .local _ .vmem, ⟨0, _⟩ => ⟨S1088x4096, .bf16⟩
  | .local _ .vmem, ⟨1, _⟩ => ⟨S1088x4096, .bf16⟩
  | .local _ .vmem, ⟨2, _⟩ => ⟨S1024x512, .f32⟩
  | .local _ .vmem, ⟨3, _⟩ => ⟨S1024x512, .f32⟩
  | .local _ .vmem, ⟨4, _⟩ => ⟨S1088x1024, .f32⟩
  | .local _ .vmem, ⟨5, _⟩ => ⟨S1088x1024, .f32⟩
  | .local _ .vmem, ⟨6, _⟩ => ⟨S2x1024x4096, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 8], ![false, false]⟩

def k0_cond1 (i : grid0.Coords) : BitVec 1 :=
  let arg0 : BitVec 32 := BitVec.ofNat 32 (i 0).val
  let c0_i32 : BitVec 32 := 0#32
  let v0 : BitVec 1 := Scalar.cmpi .sgt arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg0 : BitVec 32 := BitVec.ofNat 32 (i 0).val
  let c1_i32 : BitVec 32 := 1#32
  let v6 : BitVec 32 := Scalar.subi arg0 c1_i32
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v18 : Index := Scalar.indexCast v16
  let c0_8 : Index := 0#32
  let c0_9 : Index := 0#32
  ![v18.toNat, 0, 0]
def k0_cond2 (i : grid0.Coords) : BitVec 1 :=
  let arg0 : BitVec 32 := BitVec.ofNat 32 (i 0).val
  let c4_i32 : BitVec 32 := 4#32
  let v3 : BitVec 1 := Scalar.cmpi .slt arg0 c4_i32
  let v4 : BitVec 32 := Scalar.extui v3
  let c0_i32_1 : BitVec 32 := 0#32
  let v5 : BitVec 1 := Scalar.cmpi .ne v4 c0_i32_1
  v5

def k0_mult1 (i : grid0.Coords) : BitVec 32 :=
  let arg1 : BitVec 32 := BitVec.ofNat 32 (i 1).val
  let c512_i32 : BitVec 32 := 512#32
  let v6 : BitVec 32 := Scalar.muli arg1 c512_i32
  v6
def k0_off2 (i : grid0.Coords) : Fin 3 → Nat :=
  let arg0 : BitVec 32 := BitVec.ofNat 32 (i 0).val
  let c2_i32 : BitVec 32 := 2#32
  let c0_i32_3 : BitVec 32 := 0#32
  let v11 : BitVec 1 := Scalar.cmpi .eq c2_i32 c0_i32_3
  let c1_i32 : BitVec 32 := 1#32
  let v12 : BitVec 32 := Scalar.select v11 c1_i32 c2_i32
  let v13 : BitVec 32 := Scalar.remsi arg0 v12
  let c0_i32_5 : BitVec 32 := 0#32
  let v15 : BitVec 1 := Scalar.cmpi .slt v13 c0_i32_5
  let c0_i32_6 : BitVec 32 := 0#32
  let v16 : BitVec 1 := Scalar.cmpi .slt v12 c0_i32_6
  let v17 : BitVec 1 := Scalar.xori v15 v16
  let c0_i32_4 : BitVec 32 := 0#32
  let v14 : BitVec 1 := Scalar.cmpi .ne v13 c0_i32_4
  let v18 : BitVec 1 := Scalar.andi v17 v14
  let v19 : BitVec 32 := Scalar.addi v13 v12
  let v20 : BitVec 32 := Scalar.select v18 v19 v13
  let v21 : Index := Scalar.indexCast v20
  let c0_7 : Index := 0#32
  let arg1 : BitVec 32 := BitVec.ofNat 32 (i 1).val
  let c512_i32 : BitVec 32 := 512#32
  let v6 : BitVec 32 := Scalar.muli arg1 c512_i32
  let v7 : BitVec 32 := v6
  let v22 : Index := Scalar.indexCast v7
  ![v21.toNat, 0, v22.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c7_i32 : BitVec 32 := 7#32
  let v1 : BitVec 32 := Scalar.select v0 arg1 c7_i32
  let c3_i32 : BitVec 32 := 3#32
  let v2 : BitVec 32 := Scalar.minsi arg0 c3_i32
  let c0_i32 : BitVec 32 := 0#32
  ![v2.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LruInRefIdeal.lean ====
abbrev S8704x4096 : Shape := ⟨2, ![8704, 4096]⟩
abbrev S1x4096x10256 : Shape := ⟨3, ![1, 4096, 10256]⟩
abbrev S4096x10256 : Shape := ⟨2, ![4096, 10256]⟩
abbrev S8704x10256 : Shape := ⟨2, ![8704, 10256]⟩

abbrev nBuf : Space → Nat
  | .hbm => 6
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S1x4096x10256, .f32⟩
  | .hbm, ⟨2, _⟩ => ⟨S8704x4096, .f32⟩
  | .hbm, ⟨3, _⟩ => ⟨S4096x10256, .f32⟩
  | .hbm, ⟨4, _⟩ => ⟨S8704x10256, .f32⟩
  | .hbm, ⟨5, _⟩ => ⟨S8704x4096, .f32⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== EvenOut.lean ====
abbrev S8704x2048 : Shape := ⟨2, ![8704, 2048]⟩
abbrev S1x4096x4096 : Shape := ⟨3, ![1, 4096, 4096]⟩
abbrev S8704x4096 : Shape := ⟨2, ![8704, 4096]⟩
abbrev S544x2048 : Shape := ⟨2, ![544, 2048]⟩
abbrev S1x256x1024 : Shape := ⟨3, ![1, 256, 1024]⟩
abbrev S544x1024 : Shape := ⟨2, ![544, 1024]⟩
abbrev S2x4096x1024 : Shape := ⟨3, ![2, 4096, 1024]⟩
abbrev S1x2048x1024 : Shape := ⟨3, ![1, 2048, 1024]⟩
abbrev S2048x1024 : Shape := ⟨2, ![2048, 1024]⟩
abbrev S256x1024 : Shape := ⟨2, ![256, 1024]⟩

abbrev nBuf : Space → Nat
  | .hbm => 5
  | .vmem => 11
  | .smem => 0
  | _ => 0

abbrev bufTy : (tb : Table) → Fin (tcTables nBuf tb) → BufTy
  | .hbm, ⟨0, _⟩ => ⟨S8704x2048, .bf16⟩
  | .hbm, ⟨1, _⟩ => ⟨S8704x2048, .bf16⟩
  | .hbm, ⟨2, _⟩ => ⟨S1x4096x4096, .f32⟩
  | .hbm, ⟨3, _⟩ => ⟨S8704x4096, .f32⟩
  | .hbm, ⟨4, _⟩ => ⟨S8704x4096, .f32⟩
  | .local _ .vmem, ⟨0, _⟩ => ⟨S544x2048, .bf16⟩
  | .local _ .vmem, ⟨1, _⟩ => ⟨S544x2048, .bf16⟩
  | .local _ .vmem, ⟨2, _⟩ => ⟨S544x2048, .bf16⟩
  | .local _ .vmem, ⟨3, _⟩ => ⟨S544x2048, .bf16⟩
  | .local _ .vmem, ⟨4, _⟩ => ⟨S1x256x1024, .f32⟩
  | .local _ .vmem, ⟨5, _⟩ => ⟨S1x256x1024, .f32⟩
  | .local _ .vmem, ⟨6, _⟩ => ⟨S544x1024, .f32⟩
  | .local _ .vmem, ⟨7, _⟩ => ⟨S544x1024, .f32⟩
  | .local _ .vmem, ⟨8, _⟩ => ⟨S544x1024, .f32⟩
  | .local _ .vmem, ⟨9, _⟩ => ⟨S544x1024, .f32⟩
  | .local _ .vmem, ⟨10, _⟩ => ⟨S2x4096x1024, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![5, 16], ![false, false]⟩

def k0_cond1 (i : grid0.Coords) : BitVec 1 :=
  let arg0 : BitVec 32 := BitVec.ofNat 32 (i 0).val
  let c0_i32 : BitVec 32 := 0#32
  let v0 : BitVec 1 := Scalar.cmpi .sgt arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg0 : BitVec 32 := BitVec.ofNat 32 (i 0).val
  let c1_i32 : BitVec 32 := 1#32
  let v6 : BitVec 32 := Scalar.subi arg0 c1_i32
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v18 : Index := Scalar.indexCast v16
  let c0_8 : Index := 0#32
  let c0_9 : Index := 0#32
  ![v18.toNat, 0, 0]
def k0_off2 (i : grid0.Coords) : Fin 3 → Nat :=
  let arg0 : BitVec 32 := BitVec.ofNat 32 (i 0).val
  let c1_i32 : BitVec 32 := 1#32
  let v6 : BitVec 32 := Scalar.subi arg0 c1_i32
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v23 : Index := Scalar.indexCast v16
  let c2048 : Index := 2048#32
  let c0_12 : Index := 0#32
  ![v23.toNat, 2048, 0]
def k0_cond2 (i : grid0.Coords) : BitVec 1 :=
  let arg0 : BitVec 32 := BitVec.ofNat 32 (i 0).val
  let c4_i32 : BitVec 32 := 4#32
  let v3 : BitVec 1 := Scalar.cmpi .slt arg0 c4_i32
  let v4 : BitVec 32 := Scalar.extui v3
  let c0_i32_1 : BitVec 32 := 0#32
  let v5 : BitVec 1 := Scalar.cmpi .ne v4 c0_i32_1
  v5

def k0_mult1 (i : grid0.Coords) : BitVec 32 :=
  let arg1 : BitVec 32 := BitVec.ofNat 32 (i 1).val
  let c256_i32 : BitVec 32 := 256#32
  let v6 : BitVec 32 := Scalar.muli arg1 c256_i32
  v6
def k0_off3 (i : grid0.Coords) : Fin 3 → Nat :=
  let arg0 : BitVec 32 := BitVec.ofNat 32 (i 0).val
  let c2_i32 : BitVec 32 := 2#32
  let c0_i32_4 : BitVec 32 := 0#32
  let v11 : BitVec 1 := Scalar.cmpi .eq c2_i32 c0_i32_4
  let c1_i32 : BitVec 32 := 1#32
  let v12 : BitVec 32 := Scalar.select v11 c1_i32 c2_i32
  let v13 : BitVec 32 := Scalar.remsi arg0 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : Index := Scalar.indexCast v20
  let arg1 : BitVec 32 := BitVec.ofNat 32 (i 1).val
  let c256_i32 : BitVec 32 := 256#32
  let v6 : BitVec 32 := Scalar.muli arg1 c256_i32
  let v7 : BitVec 32 := v6
  let v22 : Index := Scalar.indexCast v7
  let c0_8 : Index := 0#32
  ![v21.toNat, v22.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c15_i32 : BitVec 32 := 15#32
  let v1 : BitVec 32 := Scalar.select v0 arg1 c15_i32
  let c3_i32 : BitVec 32 := 3#32
  let v2 : BitVec 32 := Scalar.minsi arg0 c3_i32
  let c0_i32 : BitVec 32 := 0#32
  let c0_i32_0 : BitVec 32 := 0#32
  ![c0_i32.toNat, v1.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S544x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S544x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== EvenOutRefIdeal.lean ====
abbrev S8704x2048 : Shape := ⟨2, ![8704, 2048]⟩
abbrev S1x4096x4096 : Shape := ⟨3, ![1, 4096, 4096]⟩
abbrev S8704x4096 : Shape := ⟨2, ![8704, 4096]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S8704x2048, .bf16⟩
  | .hbm, ⟨2, _⟩ => ⟨S1x4096x4096, .f32⟩
  | .hbm, ⟨3, _⟩ => ⟨S8704x4096, .f32⟩
  | .hbm, ⟨4, _⟩ => ⟨S8704x4096, .bf16⟩
  | .hbm, ⟨5, _⟩ => ⟨S8704x4096, .f32⟩
  | .hbm, ⟨6, _⟩ => ⟨S4096x4096, .f32⟩
  | .hbm, ⟨7, _⟩ => ⟨S8704x4096, .f32⟩
  | .hbm, ⟨8, _⟩ => ⟨S8704x4096, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== MemFirst.lean ====
abbrev S4x256x4096 : Shape := ⟨3, ![4, 256, 4096]⟩
abbrev S2x4096x4096 : Shape := ⟨3, ![2, 4096, 4096]⟩
abbrev S1024x4096 : Shape := ⟨2, ![1024, 4096]⟩
abbrev S512x4096 : Shape := ⟨2, ![512, 4096]⟩
abbrev S1x2048x1024 : Shape := ⟨3, ![1, 2048, 1024]⟩
abbrev S512x1024 : Shape := ⟨2, ![512, 1024]⟩
abbrev S2x4096x1024 : Shape := ⟨3, ![2, 4096, 1024]⟩
abbrev S1x4096x1024 : Shape := ⟨3, ![1, 4096, 1024]⟩
abbrev S4096x1024 : Shape := ⟨2, ![4096, 1024]⟩
abbrev S2048x1024 : Shape := ⟨2, ![2048, 1024]⟩
abbrev S4x256x4x1024 : Shape := ⟨4, ![4, 256, 4, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4x256x4096, .f32⟩
  | .hbm, ⟨1, _⟩ => ⟨S2x4096x4096, .f32⟩
  | .hbm, ⟨2, _⟩ => ⟨S1024x4096, .f32⟩
  | .hbm, ⟨3, _⟩ => ⟨S1024x4096, .bf16⟩
  | .hbm, ⟨4, _⟩ => ⟨S1024x4096, .f32⟩
  | .hbm, ⟨5, _⟩ => ⟨S4x256x4x1024, .f32⟩
  | .local _ .vmem, ⟨0, _⟩ => ⟨S512x4096, .bf16⟩
  | .local _ .vmem, ⟨1, _⟩ => ⟨S512x4096, .bf16⟩
  | .local _ .vmem, ⟨2, _⟩ => ⟨S1x2048x1024, .f32⟩
  | .local _ .vmem, ⟨3, _⟩ => ⟨S1x2048x1024, .f32⟩
  | .local _ .vmem, ⟨4, _⟩ => ⟨S512x1024, .f32⟩
  | .local _ .vmem, ⟨5, _⟩ => ⟨S512x1024, .f32⟩
  | .local _ .vmem, ⟨6, _⟩ => ⟨S2x4096x1024, .bf16⟩
  | _, _ => ⟨S4x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 2], ![false, false]⟩

def k0_cond1 (i : grid0.Coords) : BitVec 1 :=
  let arg0 : BitVec 32 := BitVec.ofNat 32 (i 0).val
  let c0_i32 : BitVec 32 := 0#32
  let v0 : BitVec 1 := Scalar.cmpi .sgt arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg0 : BitVec 32 := BitVec.ofNat 32 (i 0).val
  let c1_i32 : BitVec 32 := 1#32
  let v6 : BitVec 32 := Scalar.subi arg0 c1_i32
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v19 : Index := Scalar.indexCast v16
  let c0_8 : Index := 0#32
  let c0_9 : Index := 0#32
  ![v19.toNat, 0, 0]
def k0_cond2 (i : grid0.Coords) : BitVec 1 :=
  let arg0 : BitVec 32 := BitVec.ofNat 32 (i 0).val
  let c4_i32 : BitVec 32 := 4#32
  let v3 : BitVec 1 := Scalar.cmpi .slt arg0 c4_i32
  let v4 : BitVec 32 := Scalar.extui v3
  let c0_i32_1 : BitVec 32 := 0#32
  let v5 : BitVec 1 := Scalar.cmpi .ne v4 c0_i32_1
  v5

def k0_mult1 (i : grid0.Coords) : BitVec 32 :=
  let arg1 : BitVec 32 := BitVec.ofNat 32 (i 1).val
  let c2048_i32 : BitVec 32 := 2048#32
  let v6 : BitVec 32 := Scalar.muli arg1 c2048_i32
  v6
def k0_off2 (i : grid0.Coords) : Fin 3 → Nat :=
  let arg0 : BitVec 32 := BitVec.ofNat 32 (i 0).val
  let c2_i32 : BitVec 32 := 2#32
  let c0_i32_4 : BitVec 32 := 0#32
  let v11 : BitVec 1 := Scalar.cmpi .eq c2_i32 c0_i32_4
  let c1_i32 : BitVec 32 := 1#32
  let v12 : BitVec 32 := Scalar.select v11 c1_i32 c2_i32
  let v13 : BitVec 32 := Scalar.remsi arg0 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : Index := Scalar.indexCast v20
  let arg1 : BitVec 32 := BitVec.ofNat 32 (i 1).val
  let c2048_i32 : BitVec 32 := 2048#32
  let v6 : BitVec 32 := Scalar.muli arg1 c2048_i32
  let v7 : BitVec 32 := v6
  let v22 : Index := Scalar.indexCast v7
  let c0_8 : Index := 0#32
  ![v21.toNat, v22.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c1_i32 : BitVec 32 := 1#32
  let v1 : BitVec 32 := Scalar.select v0 arg1 c1_i32
  let c3_i32 : BitVec 32 := 3#32
  let v2 : BitVec 32 := Scalar.minsi arg0 c3_i32
  let c0_i32 : BitVec 32 := 0#32
  let c0_i32_0 : BitVec 32 := 0#32
  ![c0_i32.toNat, v1.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemFirstRefIdeal.lean ====
abbrev S4x256x4096 : Shape := ⟨3, ![4, 256, 4096]⟩
abbrev S2x4096x4096 : Shape := ⟨3, ![2, 4096, 4096]⟩
abbrev S1x4096x4096 : Shape := ⟨3, ![1, 4096, 4096]⟩
abbrev S4096x4096 : Shape := ⟨2, ![4096, 4096]⟩
abbrev S4x256x4x1024 : Shape := ⟨4, ![4, 256, 4, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4x256x4096, .f32⟩
  | .hbm, ⟨1, _⟩ => ⟨S2x4096x4096, .f32⟩
  | .hbm, ⟨2, _⟩ => ⟨S1x4096x4096, .f32⟩
  | .hbm, ⟨3, _⟩ => ⟨S4096x4096, .f32⟩
  | .hbm, ⟨4, _⟩ => ⟨S4x256x4096, .f32⟩
  | .hbm, ⟨5, _⟩ => ⟨S4x256x4x1024, .f32⟩
  | _, _ => ⟨S4x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MemSecond.lean ====
abbrev S4x256x4096 : Shape := ⟨3, ![4, 256, 4096]⟩
abbrev S2x4096x4096 : Shape := ⟨3, ![2, 4096, 4096]⟩
abbrev S1024x4096 : Shape := ⟨2, ![1024, 4096]⟩
abbrev S512x4096 : Shape := ⟨2, ![512, 4096]⟩
abbrev S1x2048x1024 : Shape := ⟨3, ![1, 2048, 1024]⟩
abbrev S512x1024 : Shape := ⟨2, ![512, 1024]⟩
abbrev S2x4096x1024 : Shape := ⟨3, ![2, 4096, 1024]⟩
abbrev S1x4096x1024 : Shape := ⟨3, ![1, 4096, 1024]⟩
abbrev S4096x1024 : Shape := ⟨2, ![4096, 1024]⟩
abbrev S2048x1024 : Shape := ⟨2, ![2048, 1024]⟩
abbrev S4x256x4x1024 : Shape := ⟨4, ![4, 256, 4, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4x256x4096, .f32⟩
  | .hbm, ⟨1, _⟩ => ⟨S2x4096x4096, .f32⟩
  | .hbm, ⟨2, _⟩ => ⟨S1024x4096, .f32⟩
  | .hbm, ⟨3, _⟩ => ⟨S1024x4096, .bf16⟩
  | .hbm, ⟨4, _⟩ => ⟨S1024x4096, .f32⟩
  | .hbm, ⟨5, _⟩ => ⟨S4x256x4x1024, .f32⟩
  | .local _ .vmem, ⟨0, _⟩ => ⟨S512x4096, .bf16⟩
  | .local _ .vmem, ⟨1, _⟩ => ⟨S512x4096, .bf16⟩
  | .local _ .vmem, ⟨2, _⟩ => ⟨S1x2048x1024, .f32⟩
  | .local _ .vmem, ⟨3, _⟩ => ⟨S1x2048x1024, .f32⟩
  | .local _ .vmem, ⟨4, _⟩ => ⟨S512x1024, .f32⟩
  | .local _ .vmem, ⟨5, _⟩ => ⟨S512x1024, .f32⟩
  | .local _ .vmem, ⟨6, _⟩ => ⟨S2x4096x1024, .bf16⟩
  | _, _ => ⟨S4x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 2], ![false, false]⟩

def k0_cond1 (i : grid0.Coords) : BitVec 1 :=
  let arg0 : BitVec 32 := BitVec.ofNat 32 (i 0).val
  let c0_i32 : BitVec 32 := 0#32
  let v0 : BitVec 1 := Scalar.cmpi .sgt arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg0 : BitVec 32 := BitVec.ofNat 32 (i 0).val
  let c1_i32 : BitVec 32 := 1#32
  let v6 : BitVec 32 := Scalar.subi arg0 c1_i32
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v19 : Index := Scalar.indexCast v16
  let c0_8 : Index := 0#32
  let c0_9 : Index := 0#32
  ![v19.toNat, 0, 0]
def k0_cond2 (i : grid0.Coords) : BitVec 1 :=
  let arg0 : BitVec 32 := BitVec.ofNat 32 (i 0).val
  let c4_i32 : BitVec 32 := 4#32
  let v3 : BitVec 1 := Scalar.cmpi .slt arg0 c4_i32
  let v4 : BitVec 32 := Scalar.extui v3
  let c0_i32_1 : BitVec 32 := 0#32
  let v5 : BitVec 1 := Scalar.cmpi .ne v4 c0_i32_1
  v5

def k0_mult1 (i : grid0.Coords) : BitVec 32 :=
  let arg1 : BitVec 32 := BitVec.ofNat 32 (i 1).val
  let c2048_i32 : BitVec 32 := 2048#32
  let v6 : BitVec 32 := Scalar.muli arg1 c2048_i32
  v6
def k0_off2 (i : grid0.Coords) : Fin 3 → Nat :=
  let arg0 : BitVec 32 := BitVec.ofNat 32 (i 0).val
  let c2_i32 : BitVec 32 := 2#32
  let c0_i32_4 : BitVec 32 := 0#32
  let v11 : BitVec 1 := Scalar.cmpi .eq c2_i32 c0_i32_4
  let c1_i32 : BitVec 32 := 1#32
  let v12 : BitVec 32 := Scalar.select v11 c1_i32 c2_i32
  let v13 : BitVec 32 := Scalar.remsi arg0 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : Index := Scalar.indexCast v20
  let arg1 : BitVec 32 := BitVec.ofNat 32 (i 1).val
  let c2048_i32 : BitVec 32 := 2048#32
  let v6 : BitVec 32 := Scalar.muli arg1 c2048_i32
  let v7 : BitVec 32 := v6
  let v22 : Index := Scalar.indexCast v7
  let c0_8 : Index := 0#32
  ![v21.toNat, v22.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c1_i32 : BitVec 32 := 1#32
  let v1 : BitVec 32 := Scalar.select v0 arg1 c1_i32
  let c3_i32 : BitVec 32 := 3#32
  let v2 : BitVec 32 := Scalar.minsi arg0 c3_i32
  let c1_i32_0 : BitVec 32 := 1#32
  let c0_i32 : BitVec 32 := 0#32
  ![c1_i32_0.toNat, v1.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemSecondRefIdeal.lean ====
abbrev S4x256x4096 : Shape := ⟨3, ![4, 256, 4096]⟩
abbrev S2x4096x4096 : Shape := ⟨3, ![2, 4096, 4096]⟩
abbrev S1x4096x4096 : Shape := ⟨3, ![1, 4096, 4096]⟩
abbrev S4096x4096 : Shape := ⟨2, ![4096, 4096]⟩
abbrev S4x256x4x1024 : Shape := ⟨4, ![4, 256, 4, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4x256x4096, .f32⟩
  | .hbm, ⟨1, _⟩ => ⟨S2x4096x4096, .f32⟩
  | .hbm, ⟨2, _⟩ => ⟨S1x4096x4096, .f32⟩
  | .hbm, ⟨3, _⟩ => ⟨S4096x4096, .f32⟩
  | .hbm, ⟨4, _⟩ => ⟨S4x256x4096, .f32⟩
  | .hbm, ⟨5, _⟩ => ⟨S4x256x4x1024, .f32⟩
  | _, _ => ⟨S4x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FinalPrompt.lean ====
abbrev S8704x4096 : Shape := ⟨2, ![8704, 4096]⟩
abbrev S4096 : Shape := ⟨1, ![4096]⟩
abbrev S1x4096 : Shape := ⟨2, ![1, 4096]⟩
abbrev S8192x4096 : Shape := ⟨2, ![8192, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8704x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalPromptRefIdeal.lean ====
abbrev S8704x4096 : Shape := ⟨2, ![8704, 4096]⟩
abbrev S4096 : Shape := ⟨1, ![4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S4096, .f32⟩
  | .hbm, ⟨2, _⟩ => ⟨S8192x4096, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== FinalSample.lean ====
abbrev S8704x4096 : Shape := ⟨2, ![8704, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 3
  | .smem => 0
  | _ => 0

abbrev bufTy : (tb : Table) → Fin (tcTables nBuf tb) → BufTy
  | .hbm, ⟨0, _⟩ => ⟨S8704x4096, .f32⟩
  | .hbm, ⟨1, _⟩ => ⟨S4096, .f32⟩
  | .hbm, ⟨2, _⟩ => ⟨S1x4096, .f32⟩
  | .hbm, ⟨3, _⟩ => ⟨S512x4096, .f32⟩
  | .local _ .vmem, ⟨0, _⟩ => ⟨S512x4096, .f32⟩
  | .local _ .vmem, ⟨1, _⟩ => ⟨S1x4096, .f32⟩
  | .local _ .vmem, ⟨2, _⟩ => ⟨S512x4096, .f32⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== FinalSampleRefIdeal.lean ====
abbrev S8704x4096 : Shape := ⟨2, ![8704, 4096]⟩
abbrev S4096 : Shape := ⟨1, ![4096]⟩
abbrev S512x4096 : Shape := ⟨2, ![512, 4096]⟩
abbrev S_ : Shape := ⟨0, ![]⟩
abbrev S512 : Shape := ⟨1, ![512]⟩
abbrev S512x1 : Shape := ⟨2, ![512, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S4096, .f32⟩
  | .hbm, ⟨2, _⟩ => ⟨S512x4096, .f32⟩
  | .hbm, ⟨3, _⟩ => ⟨S512x4096, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x4096, .f32⟩
  | .hbm, ⟨15, _⟩ => ⟨S512x4096, .f32⟩
  | .hbm, ⟨16, _⟩ => ⟨S1x4096, .f32⟩
  | .hbm, ⟨17, _⟩ => ⟨S512x4096, .f32⟩
  | .hbm, ⟨18, _⟩ => ⟨S512x4096, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== SconvSample.lean ====
abbrev S8704x12288 : Shape := ⟨2, ![8704, 12288]⟩
abbrev S1x128x2x4096 : Shape := ⟨4, ![1, 128, 2, 4096]⟩
abbrev S1x3x4096 : Shape := ⟨3, ![1, 3, 4096]⟩
abbrev S128x2x4096 : Shape := ⟨3, ![128, 2, 4096]⟩
abbrev S2x128x4096 : Shape := ⟨3, ![2, 128, 4096]⟩
abbrev S512x12288 : Shape := ⟨2, ![512, 12288]⟩
abbrev S128x4x12288 : Shape := ⟨3, ![128, 4, 12288]⟩
abbrev S4x128x12288 : Shape := ⟨3, ![4, 128, 12288]⟩
abbrev S3x4096 : Shape := ⟨2, ![3, 4096]⟩
abbrev S4x128x4096 : Shape := ⟨3, ![4, 128, 4096]⟩
abbrev S4x128x512 : Shape := ⟨3, ![4, 128, 512]⟩
abbrev S2x128x512 : Shape := ⟨3, ![2, 128, 512]⟩
abbrev S3x512 : Shape := ⟨2, ![3, 512]⟩
abbrev S1x128x512 : Shape := ⟨3, ![1, 128, 512]⟩
abbrev S128x512 : Shape := ⟨2, ![128, 512]⟩
abbrev S1x512 : Shape := ⟨2, ![1, 512]⟩
abbrev S128x4x4096 : Shape := ⟨3, ![128, 4, 4096]⟩
abbrev S512x4096 : Shape := ⟨2, ![512, 4096]⟩
abbrev S128x6x4096 : Shape := ⟨3, ![128, 6, 4096]⟩

abbrev nBuf : Space → Nat
  | .hbm => 18
  | .vmem => 14
  | .smem => 0
  | _ => 0

abbrev bufTy : (tb : Table) → Fin (tcTables nBuf tb) → BufTy
  | .hbm, ⟨0, _⟩ => ⟨S8704x12288, .f32⟩
  | .hbm, ⟨1, _⟩ => ⟨S1x128x2x4096, .f32⟩
  | .hbm, ⟨2, _⟩ => ⟨S1x3x4096, .f32⟩
  | .hbm, ⟨3, _⟩ => ⟨S128x2x4096, .f32⟩
  | .hbm, ⟨4, _⟩ => ⟨S2x128x4096, .f32⟩
  | .hbm, ⟨5, _⟩ => ⟨S512x12288, .f32⟩
  | .hbm, ⟨6, _⟩ => ⟨S128x4x12288, .f32⟩
  | .hbm, ⟨7, _⟩ => ⟨S4x128x12288, .f32⟩
  | .hbm, ⟨8, _⟩ => ⟨S3x4096, .f32⟩
  | .hbm, ⟨9, _⟩ => ⟨S4x128x4096, .bf16⟩
  | .hbm, ⟨10, _⟩ => ⟨S4x128x4096, .f32⟩
  | .hbm, ⟨11, _⟩ => ⟨S128x4x4096, .bf16⟩
  | .hbm, ⟨12, _⟩ => ⟨S512x4096, .bf16⟩
  | .hbm, ⟨13, _⟩ => ⟨S128x4x4096, .f32⟩
  | .hbm, ⟨14, _⟩ => ⟨S128x2x4096, .f32⟩
  | .hbm, ⟨15, _⟩ => ⟨S128x6x4096, .f32⟩
  | .hbm, ⟨16, _⟩ => ⟨S128x2x4096, .f32⟩
  | .hbm, ⟨17, _⟩ => ⟨S1x128x2x4096, .f32⟩
  | .local _ .vmem, ⟨0, _⟩ => ⟨S4x128x512, .f32⟩
  | .local _ .vmem, ⟨1, _⟩ => ⟨S4x128x512, .f32⟩
  | .local _ .vmem, ⟨2, _⟩ => ⟨S4x128x512, .f32⟩
  | .local _ .vmem, ⟨3, _⟩ => ⟨S4x128x512, .f32⟩
  | .local _ .vmem, ⟨4, _⟩ => ⟨S4x128x512, .f32⟩
  | .local _ .vmem, ⟨5, _⟩ => ⟨S4x128x512, .f32⟩
  | .local _ .vmem, ⟨6, _⟩ => ⟨S2x128x512, .f32⟩
  | .local _ .vmem, ⟨7, _⟩ => ⟨S2x128x512, .f32⟩
  | .local _ .vmem, ⟨8, _⟩ => ⟨S3x512, .f32⟩
  | .local _ .vmem, ⟨9, _⟩ => ⟨S3x512, .f32⟩
  | .local _ .vmem, ⟨10, _⟩ => ⟨S4x128x512, .bf16⟩
  | .local _ .vmem, ⟨11, _⟩ => ⟨S4x128x512, .bf16⟩
  | .local _ .vmem, ⟨12, _⟩ => ⟨S4x128x512, .f32⟩
  | .local _ .vmem, ⟨13, _⟩ => ⟨S4x128x512, .f32⟩
  | _, _ => ⟨S8704x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 3 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S4x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SconvSampleRefIdeal.lean ====
abbrev S8704x12288 : Shape := ⟨2, ![8704, 12288]⟩
abbrev S1x128x2x4096 : Shape := ⟨4, ![1, 128, 2, 4096]⟩
abbrev S1x3x4096 : Shape := ⟨3, ![1, 3, 4096]⟩
abbrev S512x12288 : Shape := ⟨2, ![512, 12288]⟩
abbrev S128x4x12288 : Shape := ⟨3, ![128, 4, 12288]⟩
abbrev S128x4x4096 : Shape := ⟨3, ![128, 4, 4096]⟩
abbrev S3x4096 : Shape := ⟨2, ![3, 4096]⟩
abbrev S128x2x4096 : Shape := ⟨3, ![128, 2, 4096]⟩
abbrev S128x6x4096 : Shape := ⟨3, ![128, 6, 4096]⟩
abbrev S1x4096 : Shape := ⟨2, ![1, 4096]⟩
abbrev S4096 : Shape := ⟨1, ![4096]⟩
abbrev S1x1x4096 : Shape := ⟨3, ![1, 1, 4096]⟩
abbrev S512x4096 : Shape := ⟨2, ![512, 4096]⟩

abbrev nBuf : Space → Nat
  | .hbm => 37
  | .vmem => 0
  | .smem => 0
  | _ => 0

abbrev bufTy : (tb : Table) → Fin (tcTables nBuf tb) → BufTy
  | .hbm, ⟨0, _⟩ => ⟨S8704x12288, .f32⟩
  | .hbm, ⟨1, _⟩ => ⟨S1x128x2x4096, .f32⟩
  | .hbm, ⟨2, _⟩ => ⟨S1x3x4096, .f32⟩
  | .hbm, ⟨3, _⟩ => ⟨S512x12288, .f32⟩
  | .hbm, ⟨4, _⟩ => ⟨S128x4x12288, .f32⟩
  | .hbm, ⟨5, _⟩ => ⟨S128x4x4096, .f32⟩
  | .hbm, ⟨6, _⟩ => ⟨S128x4x4096, .f32⟩
  | .hbm, ⟨7, _⟩ => ⟨S128x4x4096, .f32⟩
  | .hbm, ⟨8, _⟩ => ⟨S3x4096, .f32⟩
  | .hbm, ⟨9, _⟩ => ⟨S128x2x4096, .f32⟩
  | .hbm, ⟨10, _⟩ => ⟨S128x4x4096, .f32⟩
  | .hbm, ⟨11, _⟩ => ⟨S128x6x4096, .f32⟩
  | .hbm, ⟨12, _⟩ => ⟨S128x4x4096, .f32⟩
  | .hbm, ⟨13, _⟩ => ⟨S1x4096, .f32⟩
  | .hbm, ⟨14, _⟩ => ⟨S4096, .f32⟩
  | .hbm, ⟨15, _⟩ => ⟨S1x1x4096, .f32⟩
  | .hbm, ⟨16, _⟩ => ⟨S128x4x4096, .f32⟩
  | .hbm, ⟨17, _⟩ => ⟨S128x4x4096, .f32⟩
  | .hbm, ⟨18, _⟩ => ⟨S128x4x4096, .f32⟩
  | .hbm, ⟨19, _⟩ => ⟨S1x4096, .f32⟩
  | .hbm, ⟨20, _⟩ => ⟨S4096, .f32⟩
  | .hbm, ⟨21, _⟩ => ⟨S1x1x4096, .f32⟩
  | .hbm, ⟨22, _⟩ => ⟨S128x4x4096, .f32⟩
  | .hbm, ⟨23, _⟩ => ⟨S128x4x4096, .f32⟩
  | .hbm, ⟨24, _⟩ => ⟨S128x4x4096, .f32⟩
  | .hbm, ⟨25, _⟩ => ⟨S128x4x4096, .f32⟩
  | .hbm, ⟨26, _⟩ => ⟨S1x4096, .f32⟩
  | .hbm, ⟨27, _⟩ => ⟨S4096, .f32⟩
  | .hbm, ⟨28, _⟩ => ⟨S1x1x4096, .f32⟩
  | .hbm, ⟨29, _⟩ => ⟨S128x4x4096, .f32⟩
  | .hbm, ⟨30, _⟩ => ⟨S128x4x4096, .f32⟩
  | .hbm, ⟨31, _⟩ => ⟨S128x4x4096, .f32⟩
  | .hbm, ⟨32, _⟩ => ⟨S128x4x4096, .f32⟩
  | .hbm, ⟨33, _⟩ => ⟨S512x4096, .f32⟩
  | .hbm, ⟨34, _⟩ => ⟨S512x4096, .bf16⟩
  | .hbm, ⟨35, _⟩ => ⟨S128x2x4096, .f32⟩
  | .hbm, ⟨36, _⟩ => ⟨S1x128x2x4096, .f32⟩
  | _, _ => ⟨S8704x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩

abbrev nD : Nat := 1
abbrev τ : Topo := Topo.v7x

variable {F : FTy → Type} [FloatOps F]
-- ==== LruSample.lean ====
abbrev S8704x4096 : Shape := ⟨2, ![8704, 4096]⟩
abbrev S1x128x3x2048 : Shape := ⟨4, ![1, 128, 3, 2048]⟩
abbrev S1x128x2048 : Shape := ⟨3, ![1, 128, 2048]⟩
abbrev S1x4x2048 : Shape := ⟨3, ![1, 4, 2048]⟩
abbrev S1x2048 : Shape := ⟨2, ![1, 2048]⟩
abbrev S1x16x128x128 : Shape := ⟨4, ![1, 16, 128, 128]⟩
abbrev S128x3x2048 : Shape := ⟨3, ![128, 3, 2048]⟩
abbrev S3x128x2048 : Shape := ⟨3, ![3, 128, 2048]⟩
abbrev S512x2048 : Shape := ⟨2, ![512, 2048]⟩
abbrev S128x4x2048 : Shape := ⟨3, ![128, 4, 2048]⟩
abbrev S4x128x2048 : Shape := ⟨3, ![4, 128, 2048]⟩
abbrev S128x2048 : Shape := ⟨2, ![128, 2048]⟩
abbrev S4x2048 : Shape := ⟨2, ![4, 2048]⟩
abbrev S2048 : Shape := ⟨1, ![2048]⟩
abbrev S16x128x128 : Shape := ⟨3, ![16, 128, 128]⟩
abbrev S4x128x256 : Shape := ⟨3, ![4, 128, 256]⟩
abbrev S3x128x256 : Shape := ⟨3, ![3, 128, 256]⟩
abbrev S128x256 : Shape := ⟨2, ![128, 256]⟩
abbrev S4x256 : Shape := ⟨2, ![4, 256]⟩
abbrev S1x256 : Shape := ⟨2, ![1, 256]⟩
abbrev S2x128x128 : Shape := ⟨3, ![2, 128, 128]⟩
abbrev S1x128x256 : Shape := ⟨3, ![1, 128, 256]⟩
abbrev S128x128 : Shape := ⟨2, ![128, 128]⟩
abbrev S1x128x128 : Shape := ⟨3, ![1, 128, 128]⟩
abbrev S128x7x2048 : Shape := ⟨3, ![128, 7, 2048]⟩

abbrev nBuf : Space → Nat
  | .hbm => 41
  | .vmem => 26
  | .smem => 0
  | _ => 0

abbrev bufTy : (tb : Table) → Fin (tcTables nBuf tb) → BufTy
  | .hbm, ⟨0, _⟩ => ⟨S8704x4096, .f32⟩
  | .hbm, ⟨1, _⟩ => ⟨S1x128x3x2048, .f32⟩
  | .hbm, ⟨2, _⟩ => ⟨S1x128x2048, .f32⟩
  | .hbm, ⟨3, _⟩ => ⟨S1x4x2048, .f32⟩
  | .hbm, ⟨4, _⟩ => ⟨S1x2048, .f32⟩
  | .hbm, ⟨5, _⟩ => ⟨S1x16x128x128, .f32⟩
  | .hbm, ⟨6, _⟩ => ⟨S1x2048, .f32⟩
  | .hbm, ⟨7, _⟩ => ⟨S1x16x128x128, .f32⟩
  | .hbm, ⟨8, _⟩ => ⟨S1x2048, .f32⟩
  | .hbm, ⟨9, _⟩ => ⟨S1x2048, .f32⟩
  | .hbm, ⟨10, _⟩ => ⟨S128x3x2048, .f32⟩
  | .hbm, ⟨11, _⟩ => ⟨S3x128x2048, .f32⟩
  | .hbm, ⟨12, _⟩ => ⟨S512x2048, .f32⟩
  | .hbm, ⟨13, _⟩ => ⟨S128x4x2048, .f32⟩
  | .hbm, ⟨14, _⟩ => ⟨S512x2048, .f32⟩
  | .hbm, ⟨15, _⟩ => ⟨S128x4x2048, .f32⟩
  | .hbm, ⟨16, _⟩ => ⟨S4x128x2048, .f32⟩
  | .hbm, ⟨17, _⟩ => ⟨S4x128x2048, .f32⟩
  | .hbm, ⟨18, _⟩ => ⟨S128x2048, .f32⟩
  | .hbm, ⟨19, _⟩ => ⟨S4x2048, .f32⟩
  | .hbm, ⟨20, _⟩ => ⟨S2048, .f32⟩
  | .hbm, ⟨21, _⟩ => ⟨S1x2048, .f32⟩
  | .hbm, ⟨22, _⟩ => ⟨S16x128x128, .f32⟩
  | .hbm, ⟨23, _⟩ => ⟨S16x128x128, .bf16⟩
  | .hbm, ⟨24, _⟩ => ⟨S16x128x128, .f32⟩
  | .hbm, ⟨25, _⟩ => ⟨S16x128x128, .bf16⟩
  | .hbm, ⟨26, _⟩ => ⟨S2048, .f32⟩
  | .hbm, ⟨27, _⟩ => ⟨S1x2048, .f32⟩
  | .hbm, ⟨28, _⟩ => ⟨S2048, .f32⟩
  | .hbm, ⟨29, _⟩ => ⟨S1x2048, .f32⟩
  | .hbm, ⟨30, _⟩ => ⟨S2048, .f32⟩
  | .hbm, ⟨31, _⟩ => ⟨S1x2048, .f32⟩
  | .hbm, ⟨32, _⟩ => ⟨S4x128x2048, .bf16⟩
  | .hbm, ⟨33, _⟩ => ⟨S128x2048, .f32⟩
  | .hbm, ⟨34, _⟩ => ⟨S128x4x2048, .bf16⟩
  | .hbm, ⟨35, _⟩ => ⟨S512x2048, .bf16⟩
  | .hbm, ⟨36, _⟩ => ⟨S128x3x2048, .f32⟩
  | .hbm, ⟨37, _⟩ => ⟨S128x7x2048, .f32⟩
  | .hbm, ⟨38, _⟩ => ⟨S128x3x2048, .f32⟩
  | .hbm, ⟨39, _⟩ => ⟨S1x128x2048, .f32⟩
  | .hbm, ⟨40, _⟩ => ⟨S1x128x3x2048, .f32⟩
  | .local _ .vmem, ⟨0, _⟩ => ⟨S4x128x256, .f32⟩
  | .local _ .vmem, ⟨1, _⟩ => ⟨S4x128x256, .f32⟩
  | .local _ .vmem, ⟨2, _⟩ => ⟨S4x128x256, .f32⟩
  | .local _ .vmem, ⟨3, _⟩ => ⟨S4x128x256, .f32⟩
  | .local _ .vmem, ⟨4, _⟩ => ⟨S3x128x256, .f32⟩
  | .local _ .vmem, ⟨5, _⟩ => ⟨S3x128x256, .f32⟩
  | .local _ .vmem, ⟨6, _⟩ => ⟨S128x256, .f32⟩
  | .local _ .vmem, ⟨7, _⟩ => ⟨S128x256, .f32⟩
  | .local _ .vmem, ⟨8, _⟩ => ⟨S4x256, .f32⟩
  | .local _ .vmem, ⟨9, _⟩ => ⟨S4x256, .f32⟩
  | .local _ .vmem, ⟨10, _⟩ => ⟨S1x256, .f32⟩
  | .local _ .vmem, ⟨11, _⟩ => ⟨S1x256, .f32⟩
  | .local _ .vmem, ⟨12, _⟩ => ⟨S2x128x128, .bf16⟩
  | .local _ .vmem, ⟨13, _⟩ => ⟨S2x128x128, .bf16⟩
  | .local _ .vmem, ⟨14, _⟩ => ⟨S2x128x128, .bf16⟩
  | .local _ .vmem, ⟨15, _⟩ => ⟨S2x128x128, .bf16⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S4x128x256, .bf16⟩
  | .local _ .vmem, ⟨23, _⟩ => ⟨S4x128x256, .bf16⟩
  | .local _ .vmem, ⟨24, _⟩ => ⟨S128x256, .f32⟩
  | .local _ .vmem, ⟨25, _⟩ => ⟨S128x256, .f32⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x128x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== LruSampleRefIdeal.lean ====
abbrev S8704x4096 : Shape := ⟨2, ![8704, 4096]⟩
abbrev S1x128x3x2048 : Shape := ⟨4, ![1, 128, 3, 2048]⟩
abbrev S1x128x2048 : Shape := ⟨3, ![1, 128, 2048]⟩
abbrev S1x4x2048 : Shape := ⟨3, ![1, 4, 2048]⟩
abbrev S1x2048 : Shape := ⟨2, ![1, 2048]⟩
abbrev S1x16x128x128 : Shape := ⟨4, ![1, 16, 128, 128]⟩
abbrev S512x2048 : Shape := ⟨2, ![512, 2048]⟩
abbrev S128x4x2048 : Shape := ⟨3, ![128, 4, 2048]⟩
abbrev S4x2048 : Shape := ⟨2, ![4, 2048]⟩
abbrev S128x3x2048 : Shape := ⟨3, ![128, 3, 2048]⟩
abbrev S128x7x2048 : Shape := ⟨3, ![128, 7, 2048]⟩
abbrev S2048 : Shape := ⟨1, ![2048]⟩
abbrev S1x1x2048 : Shape := ⟨3, ![1, 1, 2048]⟩
abbrev S128x4x16x128 : Shape := ⟨4, ![128, 4, 16, 128]⟩
abbrev S16x128x128 : Shape := ⟨3, ![16, 128, 128]⟩
abbrev S16x128x128x4 : Shape := ⟨4, ![16, 128, 128, 4]⟩
abbrev S_ : Shape := ⟨0, ![]⟩
abbrev S128x1x2048 : Shape := ⟨3, ![128, 1, 2048]⟩
abbrev S128x2048 : Shape := ⟨2, ![128, 2048]⟩

abbrev nBuf : Space → Nat
  | .hbm => 166
  | .vmem => 0
  | .smem => 0
  | _ => 0

abbrev hbmTy0_0 (i : Nat) : BufTy := match i % 128 with
  | 0 => ⟨S8704x4096, .f32⟩
  | 1 => ⟨S1x128x3x2048, .f32⟩
  | 2 => ⟨S1x128x2048, .f32⟩
  | 3 => ⟨S1x4x2048, .f32⟩
  | 4 => ⟨S1x2048, .f32⟩
  | 5 => ⟨S1x16x128x128, .f32⟩
  | 6 => ⟨S1x2048, .f32⟩
  | 7 => ⟨S1x16x128x128, .f32⟩
  | 8 => ⟨S1x2048, .f32⟩
  | 9 => ⟨S1x2048, .f32⟩
  | 10 => ⟨S512x2048, .f32⟩
  | 11 => ⟨S128x4x2048, .f32⟩
  | 12 => ⟨S512x2048, .f32⟩
  | 13 => ⟨S128x4x2048, .f32⟩
  | 14 => ⟨S4x2048, .f32⟩
  | 15 => ⟨S128x3x2048, .f32⟩
  | 16 => ⟨S128x7x2048, .f32⟩
  | 17 => ⟨S128x4x2048, .f32⟩
  | 18 => ⟨S1x2048, .f32⟩
  | 19 => ⟨S2048, .f32⟩
  | 20 => ⟨S1x1x2048, .f32⟩
  | 21 => ⟨S128x4x2048, .f32⟩
  | 22 => ⟨S128x4x2048, .f32⟩
  | 23 => ⟨S128x4x2048, .f32⟩
  | 24 => ⟨S1x2048, .f32⟩
  | 25 => ⟨S2048, .f32⟩
  | 26 => ⟨S1x1x2048, .f32⟩
  | 27 => ⟨S128x4x2048, .f32⟩
  | 28 => ⟨S128x4x2048, .f32⟩
  | 29 => ⟨S128x4x2048, .f32⟩
  | 30 => ⟨S128x4x2048, .f32⟩
  | 31 => ⟨S1x2048, .f32⟩
  | 32 => ⟨S2048, .f32⟩
  | 33 => ⟨S1x1x2048, .f32⟩
  | 34 => ⟨S128x4x2048, .f32⟩
  | 35 => ⟨S128x4x2048, .f32⟩
  | 36 => ⟨S128x4x2048, .f32⟩
  | 37 => ⟨S128x4x2048, .f32⟩
  | 38 => ⟨S1x2048, .f32⟩
  | 39 => ⟨S2048, .f32⟩
  | 40 => ⟨S1x1x2048, .f32⟩
  | 41 => ⟨S128x4x2048, .f32⟩
  | 42 => ⟨S128x4x2048, .f32⟩
  | 43 => ⟨S128x4x2048, .f32⟩
  | 44 => ⟨S2048, .f32⟩
  | 45 => ⟨S1x1x2048, .f32⟩
  | 46 => ⟨S128x4x2048, .f32⟩
  | 47 => ⟨S128x4x2048, .f32⟩
  | 48 => ⟨S128x4x16x128, .f32⟩
  | 49 => ⟨S16x128x128, .f32⟩
  | 50 => ⟨S16x128x128x4, .f32⟩
  | 51 => ⟨S128x4x16x128, .f32⟩
  | 52 => ⟨S128x4x2048, .f32⟩
  | 53 => ⟨S2048, .f32⟩
  | 54 => ⟨S1x1x2048, .f32⟩
  | 55 => ⟨S128x4x2048, .f32⟩
  | 56 => ⟨S128x4x2048, .f32⟩
  | 57 => ⟨S128x4x2048, .f32⟩
  | 58 => ⟨S128x4x2048, .f32⟩
  | 59 => ⟨S_, .f32⟩
  | 60 => ⟨S128x4x2048, .f32⟩
  | 61 => ⟨S128x4x2048, .f32⟩
  | 62 => ⟨S_, .f32⟩
  | 63 => ⟨S128x4x2048, .f32⟩
  | 64 => ⟨S128x4x2048, .f32⟩
  | 65 => ⟨S16x128x128, .f32⟩
  | 66 => ⟨S16x128x128x4, .f32⟩
  | 67 => ⟨S128x4x16x128, .f32⟩
  | 68 => ⟨S128x4x2048, .f32⟩
  | 69 => ⟨S2048, .f32⟩
  | 70 => ⟨S1x1x2048, .f32⟩
  | 71 => ⟨S128x4x2048, .f32⟩
  | 72 => ⟨S128x4x2048, .f32⟩
  | 73 => ⟨S128x4x2048, .f32⟩
  | 74 => ⟨S128x4x2048, .f32⟩
  | 75 => ⟨S_, .f32⟩
  | 76 => ⟨S128x4x2048, .f32⟩
  | 77 => ⟨S128x4x2048, .f32⟩
  | 78 => ⟨S_, .f32⟩
  | 79 => ⟨S128x4x2048, .f32⟩
  | 80 => ⟨S128x4x2048, .f32⟩
  | 81 => ⟨S_, .f32⟩
  | 82 => ⟨S128x4x2048, .f32⟩
  | 83 => ⟨S128x4x2048, .f32⟩
  | 84 => ⟨S2048, .f32⟩
  | 85 => ⟨S2048, .f32⟩
  | 86 => ⟨S_, .f32⟩
  | 87 => ⟨S2048, .f32⟩
  | 88 => ⟨S2048, .f32⟩
  | 89 => ⟨S2048, .f32⟩
  | 90 => ⟨S2048, .f32⟩
  | 91 => ⟨S2048, .i1⟩
  | 92 => ⟨S2048, .f32⟩
  | 93 => ⟨S2048, .f32⟩
  | 94 => ⟨S2048, .f32⟩
  | 95 => ⟨S2048, .f32⟩
  | 96 => ⟨S2048, .f32⟩
  | 97 => ⟨S2048, .f32⟩
  | 98 => ⟨S2048, .f32⟩
  | 99 => ⟨S2048, .f32⟩
  | 100 => ⟨S2048, .f32⟩
  | 101 => ⟨S1x1x2048, .f32⟩
  | 102 => ⟨S128x4x2048, .f32⟩
  | 103 => ⟨S128x4x2048, .f32⟩
  | 104 => ⟨S128x4x2048, .f32⟩
  | 105 => ⟨S_, .f32⟩
  | 106 => ⟨S128x4x2048, .f32⟩
  | 107 => ⟨S128x4x2048, .f32⟩
  | 108 => ⟨S128x4x2048, .f32⟩
  | 109 => ⟨S128x4x2048, .f32⟩
  | 110 => ⟨S128x4x2048, .f32⟩
  | 111 => ⟨S128x4x2048, .f32⟩
  | 112 => ⟨S128x4x2048, .f32⟩
  | 113 => ⟨S128x1x2048, .f32⟩
  | 114 => ⟨S128x2048, .f32⟩
  | 115 => ⟨S128x2048, .f32⟩
  | 116 => ⟨S128x2048, .f32⟩
  | 117 => ⟨S128x1x2048, .f32⟩
  | 118 => ⟨S128x2048, .f32⟩
  | 119 => ⟨S128x2048, .f32⟩
  | 120 => ⟨S128x1x2048, .f32⟩
  | 121 => ⟨S128x2048, .f32⟩
  | 122 => ⟨S128x2048, .f32⟩
  | 123 => ⟨S128x1x2048, .f32⟩
  | 124 => ⟨S128x2048, .f32⟩
  | 125 => ⟨S128x2048, .f32⟩
  | 126 => ⟨S128x1x2048, .f32⟩
  | 127 => ⟨S128x2048, .f32⟩
  | _ => ⟨S8704x4096, .f32⟩

abbrev hbmTy0_1 (i : Nat) : BufTy := match i % 128 with
  | 0 => ⟨S128x2048, .f32⟩
  | 1 => ⟨S128x1x2048, .f32⟩
  | 2 => ⟨S128x2048, .f32⟩
  | 3 => ⟨S128x2048, .f32⟩
  | 4 => ⟨S128x1x2048, .f32⟩
  | 5 => ⟨S128x2048, .f32⟩
  | 6 => ⟨S128x2048, .f32⟩
  | 7 => ⟨S128x1x2048, .f32⟩
  | 8 => ⟨S128x2048, .f32⟩
  | 9 => ⟨S128x2048, .f32⟩
  | 10 => ⟨S128x1x2048, .f32⟩
  | 11 => ⟨S128x1x2048, .f32⟩
  | 12 => ⟨S128x1x2048, .f32⟩
  | 13 => ⟨S128x1x2048, .f32⟩
  | 14 => ⟨S128x4x2048, .f32⟩
  | 15 => ⟨S128x4x2048, .f32⟩
  | 16 => ⟨S128x4x2048, .f32⟩
  | 17 => ⟨S_, .f32⟩
  | 18 => ⟨S128x4x2048, .f32⟩
  | 19 => ⟨S128x4x2048, .f32⟩
  | 20 => ⟨S128x4x2048, .f32⟩
  | 21 => ⟨S_, .f32⟩
  | 22 => ⟨S128x4x2048, .f32⟩
  | 23 => ⟨S128x4x2048, .f32⟩
  | 24 => ⟨S128x4x2048, .f32⟩
  | 25 => ⟨S_, .f32⟩
  | 26 => ⟨S128x4x2048, .f32⟩
  | 27 => ⟨S128x4x2048, .f32⟩
  | 28 => ⟨S_, .f32⟩
  | 29 => ⟨S128x4x2048, .f32⟩
  | 30 => ⟨S128x4x2048, .f32⟩
  | 31 => ⟨S128x4x2048, .f32⟩
  | 32 => ⟨S128x4x2048, .f32⟩
  | 33 => ⟨S512x2048, .f32⟩
  | 34 => ⟨S512x2048, .bf16⟩
  | 35 => ⟨S1x128x2048, .f32⟩
  | 36 => ⟨S128x3x2048, .f32⟩
  | 37 => ⟨S1x128x3x2048, .f32⟩
  | _ => ⟨S8704x4096, .f32⟩

abbrev hbmTy (i : Nat) : BufTy := match i / 128 with
  | 0 => hbmTy0_0 i
  | 1 => hbmTy0_1 i
  | _ => ⟨S8704x4096, .f32⟩

abbrev bufTy : (tb : Table) → Fin (tcTables nBuf tb) → BufTy
  | .hbm, ⟨i, _⟩ => hbmTy i
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst : Ref sig .tc := ⟨.hbm, 59, rfl⟩
abbrev main_v49 : Ref sig .tc := ⟨.hbm, 60, rfl⟩
abbrev main_v50 : Ref sig .tc := ⟨.hbm, 61, rfl⟩
abbrev main_cst_0 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_cst_1 : Ref sig .tc := ⟨.hbm, 75, rfl⟩
abbrev main_v63 : Ref sig .tc := ⟨.hbm, 76, rfl⟩
abbrev main_v64 : Ref sig .tc := ⟨.hbm, 77, rfl⟩
abbrev main_cst_2 : Ref sig .tc := ⟨.hbm, 78, rfl⟩
abbrev main_v65 : Ref sig .tc := ⟨.hbm, 79, rfl⟩
abbrev main_v66 : Ref sig .tc := ⟨.hbm, 80, rfl⟩
abbrev main_cst_3 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_call0_v0 : Ref sig .tc := ⟨.hbm, 85, rfl⟩
abbrev main_call0_call0_cst : Ref sig .tc := ⟨.hbm, 86, rfl⟩
abbrev main_call0_call0_v0 : Ref sig .tc := ⟨.hbm, 87, rfl⟩
abbrev main_call0_call0_v1 : Ref sig .tc := ⟨.hbm, 88, rfl⟩
abbrev main_call0_call0_v2 : Ref sig .tc := ⟨.hbm, 89, rfl⟩
abbrev main_call0_call0_v3 : Ref sig .tc := ⟨.hbm, 90, rfl⟩
abbrev main_call0_call0_v4 : Ref sig .tc := ⟨.hbm, 91, rfl⟩
abbrev main_call0_call0_v5 : Ref sig .tc := ⟨.hbm, 92, rfl⟩
abbrev main_call0_call0_v6 : Ref sig .tc := ⟨.hbm, 93, rfl⟩
abbrev main_call0_call0_v7 : Ref sig .tc := ⟨.hbm, 94, rfl⟩
abbrev main_call0_call0_v8 : Ref sig .tc := ⟨.hbm, 95, rfl⟩
abbrev main_call0_call0_v9 : Ref sig .tc := ⟨.hbm, 96, rfl⟩
abbrev main_call0_call0_v10 : Ref sig .tc := ⟨.hbm, 97, rfl⟩
abbrev main_call0_call0_v11 : Ref sig .tc := ⟨.hbm, 98, rfl⟩
abbrev main_call0_v1 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_4 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_cst_5 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_cst_6 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_cst_7 : Ref sig .tc := ⟨.hbm, 153, rfl⟩
abbrev main_v120 : Ref sig .tc := ⟨.hbm, 154, rfl⟩
abbrev main_v121 : Ref sig .tc := ⟨.hbm, 155, rfl⟩
abbrev main_cst_8 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩

abbrev nD : Nat := 1
abbrev τ : Topo := Topo.v7x

variable {F : FTy → Type} [FloatOps F]
-- ==== Proof.Attention.lean ====
/- The attention over the memory: what the kernel leaves in its result is the softmax attention of the reference, on the rows of the prompt. -/
module

public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.On_prompt_rows
public import proofs.«01_k».proof.Defs
public import Idealize.ShloMosaic.Lib.Pipeline.ValueKit
public import Idealize.ShloMosaic.Lib.KernelVsHost

@[expose] public section

set_option maxRecDepth 16384

noncomputable section

namespace Cert.KernelIdeal.Attention

open Cert.KernelIdeal Cert.KernelIdeal.Gen Idealize.ShloMosaic Idealize.ShloMosaic.TcCoe Idealize.SL.Sem
open Idealize.ShloMosaic.Pipeline (Dat)

/-- Softmax of a row of scores, times a column of values: `∑ x, exp (s x - max s) / (∑ x', exp (s x' - max s)) * u x`. -/
def mix (s u : Fin 256 → EReal) : EReal :=
  ∑ x, Ideal.div (Ideal.exp (s x - Finset.fold max (Ideal.ofBits .f32 0xFF800000#32) s Finset.univ))
      (∑ x', Ideal.exp (s x' - Finset.fold max (Ideal.ofBits .f32 0xFF800000#32) s Finset.univ)) * u x

/-- What the kernel computes for one block of queries against one block of keys and values, at an entry. -/
theorem pay_at (q : FVec Ideal S2048x1024 .bf16) (k v : FVec Ideal S256x1024 .f32) (j : S2048x1024.Idx) :
    k0_pay1 (F := Ideal) q k v j
      = mix (fun x => (∑ d : Fin 1024, q (ix2 (j 0) d) * k (ix2 x d)) * Ideal.ofBits .f32 0x3D000000#32)
          (fun x => v (ix2 x (j 1))) := by
  pointwise [k0_pay1, mix]

section Reference

open Cert.ReferenceIdeal.Read

variable (q : FVec Ideal S8704x4096 .bf16) (k v : FVec Ideal S1024x4096 .f32)

/-- The reference's scaled score of query `r` of sequence `b` against memory slot `x`, in head `h`. -/
theorem v7_at (b h : Fin 4) (r : Fin 2048) (x : Fin 256) :
    val_main_v7 (F := Ideal) q k (ix4 b h r x)
      = (∑ d : Fin 1024, q (ix2 ⟨b.val * 2048 + r.val, by omega⟩ ⟨h.val * 1024 + d.val, by omega⟩)
          * k (ix2 ⟨b.val * 256 + x.val, by omega⟩ ⟨h.val * 1024 + d.val, by omega⟩)) * Ideal.ofBits .f32 0x3D000000#32 := by
  pointwise [val_main_v7, val_main_v6, val_main_v5, val_main_v3, val_main_v2, val_main_v1, val_main_v0, val_main_cst]

/-- The host's maximum along the last axis, at an entry. -/
theorem max_at (y : FVec Ideal Cert.ReferenceIdeal.S4x4x2048x256 .f32) (b h : Fin 4) (r : Fin 2048) :
    Host.reduce FloatOps.maximumf y (constant Cert.ReferenceIdeal.S_ .f32 0xFF800000#32)
        Cert.ReferenceIdeal.Gen.reducesTo_S4x4x2048x256_S4x4x2048_d3 Cert.ReferenceIdeal.Gen.h_S_ (ix3 b h r)
      = Finset.fold max (Ideal.ofBits .f32 0xFF800000#32) (fun x => y (ix4 b h r x)) Finset.univ := by
  have hred : Cert.ReferenceIdeal.S4x4x2048x256.Reduces [3] Cert.ReferenceIdeal.S4x4x2048 := by decide
  rw [hostReduce_maximumf_eq_multiReduction (F := Ideal) y 0xFF800000#32 Cert.ReferenceIdeal.Gen.reducesTo_S4x4x2048x256_S4x4x2048_d3
    Cert.ReferenceIdeal.Gen.h_S_ hred (.inl rfl) rfl]
  refine (Ideal.multiReduction_maximumf_single y 0xFF800000#32 hred (.inl rfl) rfl (ix3 b h r)).trans ?_
  refine congrArg (fun f : Fin 256 → EReal => Finset.fold max (Ideal.ofBits .f32 0xFF800000#32) f Finset.univ) (funext fun x => congrArg y ?_)
  funext a
  match a with
  | ⟨0, _⟩ => rfl
  | ⟨1, _⟩ => rfl
  | ⟨2, _⟩ => rfl
  | ⟨3, _⟩ => rfl

/-- The reference's largest score of a row. -/
theorem v10_at (b h : Fin 4) (r : Fin 2048) :
    val_main_v10 (F := Ideal) q k (ix3 b h r)
      = Finset.fold max (Ideal.ofBits .f32 0xFF800000#32) (fun x => val_main_v7 (F := Ideal) q k (ix4 b h r x)) Finset.univ := by
  rw [val_main_v10_apply, val_main_v9_apply, val_main_cst_1_apply]
  refine (congrArg (FloatOps.maximumf (F := Ideal) (φ := .f32) _) (max_at (val_main_v7 (F := Ideal) q k) b h r)).trans (max_eq_right ?_)
  exact Finset.le_fold_max _ |>.mpr (Or.inl le_rfl)

/-- The reference's weights. -/
theorem v18_at (b h : Fin 4) (r : Fin 2048) (x : Fin 256) :
    val_main_v18 (F := Ideal) q k (ix4 b h r x)
      = Ideal.div (Ideal.exp (val_main_v7 (F := Ideal) q k (ix4 b h r x) - val_main_v10 (F := Ideal) q k (ix3 b h r)))
          (∑ x' : Fin 256, Ideal.exp (val_main_v7 (F := Ideal) q k (ix4 b h r x') - val_main_v10 (F := Ideal) q k (ix3 b h r))) := by
  pointwise [val_main_v18, val_main_v17, val_main_v16, val_main_v15, val_main_v14, val_main_v13, val_main_v12, val_main_v11, val_main_cst_2]

/-- The reference's result on the rows of the prompt: heads laid side by side along the columns. -/
theorem v23_at (j : S8704x4096.Idx) (hj : (j 0).val < 8192) :
    val_main_v23 (F := Ideal) q k v j
      = ∑ x : Fin 256, v (ix2 ⟨(j 0).val / 2048 * 256 + x.val, by omega⟩ (j 1))
          * val_main_v18 (F := Ideal) q k (ix4 ⟨(j 0).val / 2048, by omega⟩ ⟨(j 1).val / 1024, by have := (j 1).isLt; change (j 1).val < 4096 at this; omega⟩
              ⟨(j 0).val % 2048, by omega⟩ x) := by
  pointwise [val_main_v23, val_main_v22, val_main_v21, val_main_v20, val_main_v19, val_main_v4]
  rw [dif_pos hj]

/-- The reference at an entry of sequence `b`'s row `r`, head `h`'s column `e`. -/
theorem ref_at (b h : Fin 4) (r : Fin 2048) (e : Fin 1024) (j : S8704x4096.Idx) (h0 : (j 0).val = b.val * 2048 + r.val)
    (h1 : (j 1).val = h.val * 1024 + e.val) :
    val_main_v23 (F := Ideal) q k v j
      = mix (fun x => (∑ d : Fin 1024, q (ix2 ⟨b.val * 2048 + r.val, by omega⟩ ⟨h.val * 1024 + d.val, by omega⟩)
          * k (ix2 ⟨b.val * 256 + x.val, by omega⟩ ⟨h.val * 1024 + d.val, by omega⟩)) * Ideal.ofBits .f32 0x3D000000#32)
          (fun x => v (ix2 ⟨b.val * 256 + x.val, by omega⟩ ⟨h.val * 1024 + e.val, by omega⟩)) := by
  rw [v23_at q k v j (by omega), mix]
  have hb : (j 0).val / 2048 = b.val := by omega
  have hr : (j 0).val % 2048 = r.val := by omega
  have hh : (j 1).val / 1024 = h.val := by omega
  refine Finset.sum_congr rfl fun x _ => ?_
  have e4 : (ix4 ⟨(j 0).val / 2048, by omega⟩ ⟨(j 1).val / 1024, by omega⟩ ⟨(j 0).val % 2048, by omega⟩ x : Cert.ReferenceIdeal.S4x4x2048x256.Idx)
      = ix4 b h r x := by
    simp only [hb, hr, hh]
  have e2 : (ix2 ⟨(j 0).val / 2048 * 256 + x.val, by omega⟩ (j 1) : S1024x4096.Idx) = ix2 ⟨b.val * 256 + x.val, by omega⟩ ⟨h.val * 1024 + e.val, by omega⟩ := by
    blk_ext
  rw [e2, e4, v18_at, v10_at, mul_comm]
  simp only [v7_at]

end Reference

variable (m : (ℓ : Loc nD τ sig) → Buf (Elt Ideal) ℓ)

/-- Where each window's block sits in its array at a grid point. -/
theorem idx : ∀ t : Fin cfg0.N, win0_0.index t = ![t.val / 4, t.val % 4] ∧ win0_1.index t = ![t.val / 4, t.val % 4]
    ∧ win0_2.index t = ![t.val / 4, t.val % 4] ∧ win0_3.index t = ![t.val / 4, t.val % 4] :=
  (by decide +kernel : ∀ t : Fin grid0.N, _)

/-- The block of queries at a grid point, entry by entry. -/
theorem queries_at (c : Dev nD) (t : Fin cfg0.N) (y : S2048x1024.Idx) (j : S8704x4096.Idx)
    (h0 : (j 0).val = t.val / 4 * 2048 + (y 0).val) (h1 : (j 1).val = t.val % 4 * 1024 + (y 1).val) :
    X0_0 m c t y = m ((c : Thread nD τ).loc main_arg0) j := by
  have hy : y = (cfg0.win 0).xinj (cfg0.grid.coords t) (fun a => ⟨(y a).val, lt_of_lt_of_eq (y a).isLt (xsize0_0 t a).symm⟩) := rfl
  rw [hy, X0_0, Pipeline.Window.fill_xinj]
  blk_ext [iblk, V, idx t]

/-- The block of keys at a grid point, entry by entry. -/
theorem keys_at (c : Dev nD) (t : Fin cfg0.N) (y : S256x1024.Idx) (j : S1024x4096.Idx)
    (h0 : (j 0).val = t.val / 4 * 256 + (y 0).val) (h1 : (j 1).val = t.val % 4 * 1024 + (y 1).val) :
    iblk m c 1 t y = m ((c : Thread nD τ).loc main_arg1) j := by
  blk_ext [iblk, V, idx t]

/-- The block of values at a grid point, entry by entry. -/
theorem values_at (c : Dev nD) (t : Fin cfg0.N) (y : S256x1024.Idx) (j : S1024x4096.Idx)
    (h0 : (j 0).val = t.val / 4 * 256 + (y 0).val) (h1 : (j 1).val = t.val % 4 * 1024 + (y 1).val) :
    iblk m c 2 t y = m ((c : Thread nD τ).loc main_arg2) j := by
  blk_ext [iblk, V, idx t]

/-- What the kernel's result holds on the rows of the prompt is the reference's result. -/
theorem final (c : Dev nD) (i : S8704x4096.Idx) (hi : (i 0).val < 8192) : (dats m 0 c).arrAt 3 cfg0.N i
    = Cert.ReferenceIdeal.Read.val_main_v23 (F := Ideal) (m ((c : Thread nD τ).loc main_arg0))
      (m ((c : Thread nD τ).loc main_arg1)) (m ((c : Thread nD τ).loc main_arg2)) i := by
  refine ((dats m 0 c).arrAt_apply_of_coversWhere 3 (Cert.ReferenceIdeal.Read.val_main_v23 (F := Ideal) (m ((c : Thread nD τ).loc main_arg0))
      (m ((c : Thread nD τ).loc main_arg1)) (m ((c : Thread nD τ).loc main_arg2))) (P := fun j => (j 0).val < 8192) (fun β => β 0 < 4) (by decide +kernel) (fun t hf y => ?_)
      (fun j => by blk_simp [Pipeline.Window.cell_apply]; omega) i).trans (if_pos hi)
  blk_simp
  rw [after0_3]; unfold outsAt0; frame_out
  have ht : t.val < 16 := t.isLt
  obtain ⟨r, hr⟩ : ∃ r : Fin 2048, r.val = (y 0).val := ⟨⟨(y 0).val, ((cfg0.win 3).xinj (cfg0.grid.coords t) y 0).isLt⟩, rfl⟩
  obtain ⟨e, he⟩ : ∃ e : Fin 1024, e.val = (y 1).val := ⟨⟨(y 1).val, ((cfg0.win 3).xinj (cfg0.grid.coords t) y 1).isLt⟩, rfl⟩
  obtain ⟨b, hb⟩ : ∃ b : Fin 4, b.val = t.val / 4 := ⟨⟨t.val / 4, by omega⟩, rfl⟩
  obtain ⟨h, hh⟩ : ∃ h : Fin 4, h.val = t.val % 4 := ⟨⟨t.val % 4, by omega⟩, rfl⟩
  refine (pay_at _ _ _ _).trans (Eq.trans ?_ (ref_at _ _ _ b h r e _ ?_ ?_).symm)
  · refine congrArg₂ mix (funext fun x => congrArg (fun s : EReal => s * Ideal.ofBits .f32 0x3D000000#32)
      (Finset.sum_congr rfl fun d _ => congrArg₂ (fun s u : EReal => s * u) ?_ ?_)) (funext fun x => ?_)
    · refine queries_at m c t _ _ ?_ ?_
      · show b.val * 2048 + r.val = t.val / 4 * 2048 + (y 0).val; omega
      · show h.val * 1024 + d.val = t.val % 4 * 1024 + d.val; omega
    · refine keys_at m c t _ _ ?_ ?_
      · show b.val * 256 + x.val = t.val / 4 * 256 + x.val; omega
      · show h.val * 1024 + d.val = t.val % 4 * 1024 + d.val; omega
    · refine values_at m c t _ _ ?_ ?_
      · show b.val * 256 + x.val = t.val / 4 * 256 + x.val; omega
      · show h.val * 1024 + e.val = t.val % 4 * 1024 + (y 1).val; omega
  · blk_simp [idx t]; omega
  · blk_simp [idx t]; omega

/-- The mask marks the rows of the prompt. -/
theorem mask_iff (q : FVec Ideal S8704x4096 .bf16) (k v : FVec Ideal S1024x4096 .f32) (i : S8704x4096.Idx) :
    Cert.On_prompt_rows.fn (F := Ideal) q k v i = 1#1 ↔ (i 0).val < 8192 := by
  show IntOp.cmpi .slt (BitVec.ofNat 32 (i 0).val) 8192#32 = 1#1 ↔ _
  have h : (i 0).val < 8704 := (i 0).isLt
  have e : (BitVec.ofNat 32 (i 0).val).toInt = ((i 0).val : Int) := by
    rw [BitVec.toInt_eq_toNat_of_lt] <;> simp only [BitVec.toNat_ofNat] <;> omega
  have e' : (8192#32).toInt = 8192 := by decide
  simp only [IntOp.cmpi, BitVec.slt, e, e']
  by_cases hlt : (i 0).val < 8192
  · have : ((i 0).val : Int) < 8192 := by omega
    simp [hlt, this]
  · have : ¬((i 0).val : Int) < 8192 := by omega
    simp [hlt, this]

/-- The kernel over ideal values and the reference end with equal results on the rows of the prompt. -/
theorem algebraic : Cert.algebraic_KernelIdeal_ReferenceIdeal_on_prompt_rows := by
  intro m g m' g' _ hagree
  refine ⟨fun c => Cert.ReferenceIdeal.Read.val_main_v23 (F := Ideal) (m ((c : Thread nD τ).loc main_arg0))
      (m ((c : Thread nD τ).loc main_arg1)) (m ((c : Thread nD τ).loc main_arg2)), ?_, ?_⟩
  · exact (θ_run Cert.KernelIdeal.defs _ _).mono (fun _ h c => ⟨fun i hi => (congrFun (h c).1 i).trans
      (final m c i ((mask_iff _ _ _ i).mp hi)), (h c).2⟩) (Cert.KernelIdeal.Value.run_blocks (F := Ideal) m g)
  · refine (θ_run Cert.ReferenceIdeal.defs _ _).mono (fun _ h c => ⟨fun i _ => congrFun ((h c).1.trans ?_) i, (h c).2⟩)
      (Cert.ReferenceIdeal.Value.run (F := Ideal) m' g')
    rw [(hagree c).1, (hagree c).2.1, (hagree c).2.2]
    exact Cert.ReferenceIdeal.Read.val_main_v23_eq _ _ _

/-- The reference runs, leaves its arguments as they were and every semaphore at zero. -/
theorem frame_reference : Cert.quiescent_ReferenceIdeal := fun m ρ _ =>
  (θ_run Cert.ReferenceIdeal.defs _ _).mono (fun r h => ⟨fun c => ⟨(h c).2.1, (h c).2.2.1, (h c).2.2.2⟩,
    Idealize.ShloMosaic.sem_eq_zero_of_no_sems (by decide) r.2⟩) (Cert.ReferenceIdeal.Value.run (F := Ideal) m ρ)

end Cert.KernelIdeal.Attention

end
-- ==== Proof.Down.lean ====
/- The product back from the wide layer: what the kernel leaves in its result is the residual plus the whole contraction. -/
module

public import proofs.«01_k».proof.Proof.Gen.DownIdeal.Value
public import proofs.«01_k».proof.Proof.Gen.DownRefIdeal.Run
public import proofs.«01_k».proof.Proof.Gen.DownRefIdeal.Read
public import proofs.«01_k».proof.Defs
public import Idealize.ShloMosaic.Lib.Pipeline.ValueKit

@[expose] public section

set_option maxRecDepth 16384

noncomputable section

namespace Cert.DownIdeal.Contraction

open Cert.DownIdeal Cert.DownIdeal.Gen Idealize.ShloMosaic Idealize.ShloMosaic.TcCoe Idealize.SL.Sem
open Idealize.ShloMosaic.Pipeline (Dat)

variable (m : (ℓ : Loc nD τ sig) → Buf (Elt Ideal) ℓ)

/-- Where each window's block sits in its array at a grid point. -/
theorem idx : ∀ t : Fin cfg0.N, win0_0.index t = ![t.val / 16, t.val % 4] ∧ win0_1.index t = ![t.val % 4, t.val / 4 % 4]
    ∧ win0_2.index t = ![t.val / 16, t.val / 4 % 4] ∧ win0_3.index t = ![t.val / 16, t.val / 4 % 4] :=
  (by decide +kernel : ∀ t : Fin grid0.N, _)

/-- The product of one strip of the contraction, added to what is there: at an entry. -/
theorem pay_first (a : FVec Ideal S1088x1024 .f32) (h : FVec Ideal S1088x4096 .bf16) (w : FVec Ideal S4096x1024 .bf16)
    (j : S1088x1024.Idx) : k0_pay1 a h w j = a j + ∑ k : Fin 4096, h (ix2 (j 0) k) * w (ix2 k (j 1)) := by
  pointwise [k0_pay1]

theorem pay_next (a : FVec Ideal S1088x1024 .f32) (h : FVec Ideal S1088x4096 .bf16) (w : FVec Ideal S4096x1024 .bf16)
    (j : S1088x1024.Idx) : k0_pay2 a h w j = a j + ∑ k : Fin 4096, h (ix2 (j 0) k) * w (ix2 k (j 1)) := by
  pointwise [k0_pay2]

open Cert.DownRefIdeal.Read in
/-- The reference at an entry: the residual plus the whole contraction. -/
theorem ref_at (h : FVec Ideal S8704x16384 .bf16) (w : FVec Ideal S16384x4096 .bf16) (x : FVec Ideal S8704x4096 .f32)
    (j : S8704x4096.Idx) :
    val_main_v3 (F := Ideal) h w x j = x j + ∑ k : Fin 16384, h (ix2 (j 0) k) * w (ix2 k (j 1)) := by
  pointwise [val_main_v3, val_main_v2, val_main_v1, val_main_v0]

/-- The residual's block, counted at the first strip only. -/
def resid (c : Dev nD) (t : Fin cfg0.N) (j : S1088x1024.Idx) : EReal :=
  if t.val % 4 = 0 then (show FVec Ideal S1088x1024 .f32 from iblk m c 2 t) j else 0

/-- The strip's product at a grid point. -/
def strip (c : Dev nD) (t : Fin cfg0.N) (j : S1088x1024.Idx) : EReal :=
  ∑ k : Fin 4096, (show FVec Ideal S1088x4096 .bf16 from iblk m c 0 t) (ix2 (j 0) k)
    * (show FVec Ideal S4096x1024 .bf16 from iblk m c 1 t) (ix2 k (j 1))

theorem first_point (c : Dev nD) (t : Fin cfg0.N) (h : t.val % 4 = 0) (j : S1088x1024.Idx) :
    outsAt0 m c t.val t.isLt j = (0 : EReal) + (resid m c t j + strip m c t j) := by
  rw [outsAt0_A m c t h (by omega)]; frame_out
  rw [pay_first, zero_add, resid, if_pos h, strip]

theorem next_point (c : Dev nD) (t : Fin cfg0.N) (h : ¬t.val % 4 = 0) (j : S1088x1024.Idx) :
    outsAt0 m c t.val t.isLt j = outsAt0 m c (t.val - 1) (Nat.lt_of_le_of_lt (Nat.sub_le _ _) t.isLt) j
      + (resid m c t j + strip m c t j) := by
  rw [outsAt0_B m c t h (by omega)]; frame_out
  rw [pay_next, resid, if_neg h, zero_add, strip]

/-- THE RESULT of the kernel is the reference's. -/
theorem final (c : Dev nD) : (dats m 0 c).arrAt 3 cfg0.N
    = Cert.DownRefIdeal.Read.val_main_v3 (F := Ideal) (m ((c : Thread nD τ).loc main_arg0))
      (m ((c : Thread nD τ).loc main_arg1)) (m ((c : Thread nD τ).loc main_arg2)) := by
  refine (dats m 0 c).arrAt_eq_of_covers 3 _ (by decide +kernel) fun t hf y => ?_
  blk_simp
  rw [after0_3, Pipeline.eq_sum_fin_of_reset_step_apply_of_flush (fun n h => outsAt0 m c n h) 4 (fun _ => (0 : EReal))
    (fun p j => resid m c p j + strip m c p j) (first_point m c) (next_point m c) t ((flush0_3 t).mp hf) _]
  rw [zero_add, Finset.sum_add_distrib, ref_at]
  refine congrArg₂ (fun a b : EReal => a + b) ?_ ?_
  · have e : ∀ s : Fin 4, (⟨4 * (t.val / 4) + s.val, Pipeline.run_point_lt_of_flush t ((flush0_3 t).mp hf) s⟩ : Fin cfg0.N).val % 4 = s.val := by
      intro s; show (4 * (t.val / 4) + s.val) % 4 = s.val; omega
    rw [Fin.sum_univ_four]
    simp only [resid, e]
    norm_num
    blk_point [iblk, V, idx t, idx ⟨_, Pipeline.run_point_lt_of_flush t ((flush0_3 t).mp hf) 0⟩]
  · simp only [strip]
    refine Fin.sum_mul_add_congr fun s k hl => ?_
    blk_point [iblk, V, idx t, idx ⟨_, Pipeline.run_point_lt_of_flush t ((flush0_3 t).mp hf) s⟩]

/-- The kernel over ideal values and the reference end with equal results. -/
theorem algebraic : Cert.algebraic_DownIdeal_DownRefIdeal := by
  intro m g m' g' _ hagree
  refine ⟨fun c => Cert.DownRefIdeal.Read.val_main_v3 (F := Ideal) (m ((c : Thread nD τ).loc main_arg0))
      (m ((c : Thread nD τ).loc main_arg1)) (m ((c : Thread nD τ).loc main_arg2)), ?_, ?_⟩
  · exact (θ_run Cert.DownIdeal.defs _ _).mono (fun _ h c => ⟨(h c).1.trans (final m c), (h c).2⟩)
      (Cert.DownIdeal.Value.run_blocks (F := Ideal) m g)
  · refine (θ_run Cert.DownRefIdeal.defs _ _).mono (fun _ h c => ⟨(h c).1.trans ?_, (h c).2⟩)
      (Cert.DownRefIdeal.Value.run (F := Ideal) m' g')
    rw [(hagree c).1, (hagree c).2.1, (hagree c).2.2]
    exact Cert.DownRefIdeal.Read.val_main_v3_eq _ _ _

/-- The reference runs, leaves its arguments as they were and every semaphore at zero. -/
theorem frame_reference : Cert.quiescent_DownRefIdeal := fun m ρ _ =>
  (θ_run Cert.DownRefIdeal.defs _ _).mono (fun r h => ⟨fun c => ⟨(h c).2.1, (h c).2.2.1, (h c).2.2.2⟩,
    Idealize.ShloMosaic.sem_eq_zero_of_no_sems (by decide) r.2⟩) (Cert.DownRefIdeal.Value.run (F := Ideal) m ρ)

end Cert.DownIdeal.Contraction

end
-- ==== Proof.Held.lean ====
/- Whole buffers read and written: a load of the whole of a buffer, a load of a rectangle of one, and a store over the
   whole of one. -/
module

public import Idealize.ShloMosaic.Lib.Tactic
public import Idealize.ShloMosaic.Lib.Writes
public import Idealize.ShloMosaic.Lib.Pipeline.FrameBody

@[expose] public section

noncomputable section

namespace Cert.Held

open Idealize.ShloMosaic

variable {sig : RefSig} {κ : Kind} {sp : Space} {s : Shape} {e : EltTy} {Val : EltTy → Type}

/-- A rectangle at the origin of the full extent places every index at itself. -/
theorem emb_full {off : Fin s.rank → ℕ} (h0 : ∀ a, off a = 0) (inb : ∀ a, off a + s.size a ≤ s.size a) (y : s.Idx) :
    (Rect.unit (s := s) off s.size inb).emb y = y :=
  Rect.emb_eq_of_coords _ _ _ fun a => by
    show (y a).val = off a + 1 * (y a).val
    rw [h0 a]; omega

/-- A load through a rectangle reads the held value at the rectangle's places. -/
theorem load_rect {M : Memref sig κ sp s e} (h : M.IsWhole) (x : s.Idx → Val e) (r : Rect s) :
    M.view.readAt Val r.toLoadRect (h.unread x) = fun y => x (r.emb y) :=
  funext fun y => congrFun (h.read_unread x) (r.emb y)

/-- A load of the whole reads the held value. -/
theorem load_full {M : Memref sig κ sp s e} (h : M.IsWhole) (x : s.Idx → Val e) {off : Fin s.rank → ℕ} (h0 : ∀ a, off a = 0)
    (inb : ∀ a, off a + s.size a ≤ s.size a) :
    M.view.readAt Val (Rect.unit (s := s) off s.size inb).toLoadRect (h.unread x) = x :=
  (load_rect h x _).trans (funext fun y => congrArg x (emb_full h0 inb y))

/-- A store over the whole leaves the stored value. -/
theorem store_full (v : View sig κ sp s e) (f : v.ty.Contents Val) {off : Fin s.rank → ℕ} (h0 : ∀ a, off a = 0)
    (inb : ∀ a, off a + s.size a ≤ s.size a) (w : s.Idx → Val e) :
    v.read Val (v.writes Val f [⟨Rect.unit (s := s) off s.size inb, w⟩]) = w :=
  funext fun y => View.read_writes_cons_hit v f (Rect.unit (s := s) off s.size inb) w [] y y (emb_full h0 inb y)

end Cert.Held

end
-- ==== Proof.UpRun.lean ====
/- What one grid point of the first feed-forward product does to its buffers, by the three kinds of grid point:
   the first pass (a chunk of the weights is cast into the scratch, nothing is multiplied), a middle pass (both), and
   the last pass (the product alone). -/
module

public import proofs.«01_k».proof.Proof.Gen.UpIdeal.Frame
public import proofs.«01_k».proof.Proof.Gen.UpIdeal.Skeleton
public import proofs.«01_k».proof.Proof.Held
public import Idealize.ShloMosaic.Lib.Pipeline.TableIdle

@[expose] public section

set_option maxRecDepth 16384

noncomputable section

namespace Cert.UpIdeal.Pipelined

open Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid in closed form -/

theorem product_iff : ∀ t : Fin cfg0.N, k0_cond1 (grid0.coords t) = 1#1 ↔ 8 ≤ t.val :=
  (by decide +kernel : ∀ t : Fin grid0.N, _)
theorem cast_iff : ∀ t : Fin cfg0.N, k0_cond2 (grid0.coords t) = 1#1 ↔ t.val < 128 :=
  (by decide +kernel : ∀ t : Fin grid0.N, _)
/-- The product reads the slab of the pass before. -/
theorem slab_off : ∀ t : Fin cfg0.N, 8 ≤ t.val → k0_off1 (grid0.coords t) = ![(t.val / 8 - 1) % 2, 0, 0] :=
  (by decide +kernel : ∀ t : Fin grid0.N, _)
/-- The cast writes the chunk of this point into the slab of this pass. -/
theorem chunk_off : ∀ t : Fin cfg0.N, k0_off2 (grid0.coords t) = ![t.val / 8 % 2, t.val % 8 * 512, 0] :=
  (by decide +kernel : ∀ t : Fin grid0.N, _)

/-! ## The three runs -/

set_option maxHeartbeats 1000000 in
/-- The first pass: the chunk is cast into the scratch, the results are left as they were. -/
theorem run_first (c : Dev nD) (i : grid0.Coords)
    (arg2 : Memref sig .tc .vmem S1088x4096 .bf16) (harg2 : arg2.IsWhole) (arg3 : Memref sig .tc .vmem S1x512x1024 .f32) (harg3 : arg3.IsWhole)
    (arg4 : Memref sig .tc .vmem S1x128x4096 .f32) (harg4 : arg4.IsWhole) (arg5 : Memref sig .tc .vmem S1088x1024 .bf16) (harg5 : arg5.IsWhole)
    (arg6 : Memref sig .tc .vmem S128x4096 .bf16) (harg6 : arg6.IsWhole) (arg7 : Memref sig .tc .vmem S2x4096x1024 .bf16) (harg7 : arg7.IsWhole)
    (h1 : ¬k0_cond1 i = 1#1) (h2 : k0_cond2 i = 1#1)
    (x0 : Vec F S1088x4096 .bf16) (x1 : Vec F S1x512x1024 .f32) (x2 : Vec F S1x128x4096 .f32) (d3 : Vec F S1088x1024 .bf16)
    (d4 : Vec F S128x4096 .bf16) (s : Vec F S2x4096x1024 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d3 ∗ owns (c : Thread nD τ) arg6 fullShare d4 ∗ owns (c : Thread nD τ) arg7 fullShare s
        ∗ (iprop(owns (c : Thread nD τ) arg2 fullShare x0 ∗ owns (c : Thread nD τ) arg3 fullShare x1 ∗ owns (c : Thread nD τ) arg4 fullShare x2
            ∗ owns (c : Thread nD τ) arg5 fullShare d3
            ∗ owns (c : Thread nD τ) arg6 fullShare d4
            ∗ owns (c : Thread nD τ) arg7 fullShare (arg7.view.read (Elt F) (arg7.view.writes (Elt F) (harg7.unread s)
                [⟨Rect.unit (s := S2x4096x1024) (k0_off2 i) S1x512x1024.size (k0_off2_inb i h2), k0_pay3 x1⟩]))) -∗ K ⟨⟩))
      ⊢ wp frame (wpE (defs₀ (F := F)) Variants.none c none) E (cc0_ff1 i arg2 harg2 arg3 harg3 arg4 harg4 arg5 harg5 arg6 harg6 arg7 harg7) K := by
  simp only [cc0_ff1_eq_skeleton]; unfold cc0_ff1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr; swap; · iexact H5
  ipureintro
  rw [Held.load_full harg3 x1 (by decide)]

set_option maxHeartbeats 1000000 in
/-- A middle pass: the side weights are cast, the product is written, and the chunk is cast into the scratch. -/
theorem run_both (c : Dev nD) (i : grid0.Coords)
    (arg2 : Memref sig .tc .vmem S1088x4096 .bf16) (harg2 : arg2.IsWhole) (arg3 : Memref sig .tc .vmem S1x512x1024 .f32) (harg3 : arg3.IsWhole)
    (arg4 : Memref sig .tc .vmem S1x128x4096 .f32) (harg4 : arg4.IsWhole) (arg5 : Memref sig .tc .vmem S1088x1024 .bf16) (harg5 : arg5.IsWhole)
    (arg6 : Memref sig .tc .vmem S128x4096 .bf16) (harg6 : arg6.IsWhole) (arg7 : Memref sig .tc .vmem S2x4096x1024 .bf16) (harg7 : arg7.IsWhole)
    (h1 : k0_cond1 i = 1#1) (h2 : k0_cond2 i = 1#1)
    (x0 : Vec F S1088x4096 .bf16) (x1 : Vec F S1x512x1024 .f32) (x2 : Vec F S1x128x4096 .f32) (d3 : Vec F S1088x1024 .bf16)
    (d4 : Vec F S128x4096 .bf16) (s : Vec F S2x4096x1024 .bf16)
    (sl : Vec F S1x4096x1024 .bf16) (hsl : (fun y => s ((Rect.unit (s := S2x4096x1024) (k0_off1 i) S1x4096x1024.size (k0_off1_inb i h1)).emb y)) = sl) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d3 ∗ owns (c : Thread nD τ) arg6 fullShare d4 ∗ owns (c : Thread nD τ) arg7 fullShare s
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 x0 sl)
            ∗ owns (c : Thread nD τ) arg6 fullShare (k0_pay1 x2)
            ∗ owns (c : Thread nD τ) arg7 fullShare (arg7.view.read (Elt F) (arg7.view.writes (Elt F) (harg7.unread s)
                [⟨Rect.unit (s := S2x4096x1024) (k0_off2 i) S1x512x1024.size (k0_off2_inb i h2), k0_pay3 x1⟩]))) -∗ K ⟨⟩))
      ⊢ wp frame (wpE (defs₀ (F := F)) Variants.none c none) E (cc0_ff1 i arg2 harg2 arg3 harg3 arg4 harg4 arg5 harg5 arg6 harg6 arg7 harg7) K := by
  simp only [cc0_ff1_eq_skeleton]; unfold cc0_ff1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    rw [Held.store_full _ _ (by decide), Held.load_full harg2 x0 (by decide), Held.load_rect harg7]
    exact congrArg (k0_pay2 x0) hsl
  isplitl [H4]
  · iexists _; isplitr; swap; · iexact H4
    ipureintro
    rw [Held.store_full _ _ (by decide), Held.load_full harg4 x2 (by decide)]
  iexists _; isplitr; swap; · iexact H5
  ipureintro
  rw [Held.load_full harg3 x1 (by decide)]

set_option maxHeartbeats 1000000 in
/-- The last pass: the side weights are cast and the product is written; the scratch stays. -/
theorem run_last (c : Dev nD) (i : grid0.Coords)
    (arg2 : Memref sig .tc .vmem S1088x4096 .bf16) (harg2 : arg2.IsWhole) (arg3 : Memref sig .tc .vmem S1x512x1024 .f32) (harg3 : arg3.IsWhole)
    (arg4 : Memref sig .tc .vmem S1x128x4096 .f32) (harg4 : arg4.IsWhole) (arg5 : Memref sig .tc .vmem S1088x1024 .bf16) (harg5 : arg5.IsWhole)
    (arg6 : Memref sig .tc .vmem S128x4096 .bf16) (harg6 : arg6.IsWhole) (arg7 : Memref sig .tc .vmem S2x4096x1024 .bf16) (harg7 : arg7.IsWhole)
    (h1 : k0_cond1 i = 1#1) (h2 : ¬k0_cond2 i = 1#1)
    (x0 : Vec F S1088x4096 .bf16) (x1 : Vec F S1x512x1024 .f32) (x2 : Vec F S1x128x4096 .f32) (d3 : Vec F S1088x1024 .bf16)
    (d4 : Vec F S128x4096 .bf16) (s : Vec F S2x4096x1024 .bf16)
    (sl : Vec F S1x4096x1024 .bf16) (hsl : (fun y => s ((Rect.unit (s := S2x4096x1024) (k0_off1 i) S1x4096x1024.size (k0_off1_inb i h1)).emb y)) = sl) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d3 ∗ owns (c : Thread nD τ) arg6 fullShare d4 ∗ owns (c : Thread nD τ) arg7 fullShare s
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 x0 sl)
            ∗ owns (c : Thread nD τ) arg6 fullShare (k0_pay1 x2)
            ∗ owns (c : Thread nD τ) arg7 fullShare s) -∗ K ⟨⟩))
      ⊢ wp frame (wpE (defs₀ (F := F)) Variants.none c none) E (cc0_ff1 i arg2 harg2 arg3 harg3 arg4 harg4 arg5 harg5 arg6 harg6 arg7 harg7) K := by
  simp only [cc0_ff1_eq_skeleton]; unfold cc0_ff1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    rw [Held.store_full _ _ (by decide), Held.load_full harg2 x0 (by decide), Held.load_rect harg7]
    exact congrArg (k0_pay2 x0) hsl
  isplitl [H4]
  · iexists _; isplitr; swap; · iexact H4
    ipureintro
    rw [Held.store_full _ _ (by decide), Held.load_full harg4 x2 (by decide)]
  iexists _; isplitr; · ipureintro; exact harg7.read_unread _
  iexact H5

end Cert.UpIdeal.Pipelined

end
-- ==== Proof.UpFrame.lean ====
/- The first feed-forward product as a run over its grid. The kernel keeps two slabs of the weights in a scratch: while
   the product of one slab is taken, the next slab is cast into the other, a chunk of 512 rows at a point. What is
   carried from point to point is that the last sixteen chunks cast are where they were put. -/
module

public import proofs.«01_k».proof.Proof.UpRun
public import Idealize.ShloMosaic.Lib.Claim
public import Idealize.ShloMosaic.Lib.Pipeline.ValueKit

@[expose] public section

set_option maxRecDepth 16384

noncomputable section

namespace Cert.UpIdeal.Pipelined

open Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem points (t : Fin cfg0.N) : t.val < 136 := lt_of_lt_of_eq t.isLt (show cfg0.N = 136 from N_0)

/-! ## What the scratch holds -/

/-- Before point `n` the scratch `s` holds each of the last sixteen chunks cast, in the slab of its pass. -/
def Holds (c : Dev nD) (n : ℕ) (s : Vec F S2x4096x1024 .bf16) : Prop :=
  ∀ t : Fin cfg0.N, t.val < n → n ≤ t.val + 16 → t.val < 128 → ∀ (y : S1x512x1024.Idx) (z : S2x4096x1024.Idx),
    (z 0).val = t.val / 8 % 2 → (z 1).val = t.val % 8 * 512 + (y 1).val → (z 2).val = (y 2).val →
      s z = k0_pay3 (iblk m c 1 t) y

theorem holds_zero (c : Dev nD) (s : Vec F S2x4096x1024 .bf16) : Holds m c 0 s :=
  fun _ h => absurd h (Nat.not_lt_zero _)

/-- Past the last cast the scratch is left as it was. -/
theorem Holds.stay {c : Dev nD} {n : ℕ} {s : Vec F S2x4096x1024 .bf16} (h : Holds m c n s) (hn : 128 ≤ n) : Holds m c (n + 1) s :=
  fun t ht hr h128 y z => h t (by omega) (by omega) h128 y z

/-- Casting the chunk of a point keeps the fifteen before it, which lie elsewhere. -/
theorem Holds.step {c : Dev nD} {t : Fin cfg0.N} {s : Vec F S2x4096x1024 .bf16} (h : Holds m c t.val s)
    (h2 : k0_cond2 (grid0.coords t) = 1#1) {M : Memref sig .tc .vmem S2x4096x1024 .bf16} (hM : M.IsWhole) :
    Holds m c (t.val + 1) (M.view.read (Elt F) (M.view.writes (Elt F) (hM.unread s)
      [⟨Rect.unit (s := S2x4096x1024) (k0_off2 (grid0.coords t)) S1x512x1024.size (k0_off2_inb (grid0.coords t) h2), k0_pay3 (iblk m c 1 t)⟩])) := by
  intro t' ht hr h128 y z hz0 hz1 hz2
  have hy0 : (y 0).val = 0 := by have : (y 0).val < 1 := (y 0).isLt; omega
  have hy1 : (y 1).val < 512 := (y 1).isLt
  have hoff := chunk_off t
  by_cases he : t' = t
  · subst he
    refine View.read_writes_cons_hit_of_coords M.view (hM.unread s)
      (Rect.unit (s := S2x4096x1024) (k0_off2 (grid0.coords t')) S1x512x1024.size (k0_off2_inb (grid0.coords t') h2)) (k0_pay3 (iblk m c 1 t')) [] y z fun a => ?_
    show (z a).val = k0_off2 (grid0.coords t') a + 1 * (y a).val
    rw [hoff]
    match a with
    | 0 => show (z 0).val = t'.val / 8 % 2 + 1 * (y 0).val; omega
    | 1 => show (z 1).val = t'.val % 8 * 512 + 1 * (y 1).val; omega
    | 2 => show (z 2).val = 0 + 1 * (y 2).val; omega
  · have hlt : t'.val < t.val := by
      have : t'.val ≠ t.val := fun e => he (Fin.ext e)
      omega
    have hkeep := (congrFun (hM.read_unread s) z).trans (h t' hlt (by omega) h128 y z hz0 hz1 hz2)
    by_cases hc : t'.val % 8 = t.val % 8
    · refine (View.read_writes_cons_miss_of_axis _ _ _ _ z 0 (t.val / 8 % 2) 1 (congrFun hoff 0) rfl rfl ?_).trans hkeep
      rw [hz0]; omega
    · refine (View.read_writes_cons_miss_of_axis _ _ _ _ z 1 (t.val % 8 * 512) 512 (congrFun hoff 1) rfl rfl ?_).trans hkeep
      rw [hz1]; omega

/-- The slab the product of a point reads: the eight chunks cast in the pass before. -/
def slab (c : Dev nD) (t : Fin cfg0.N) : Vec F S1x4096x1024 .bf16 := fun y =>
  k0_pay3 (iblk m c 1 ⟨8 * (t.val / 8 - 1) + (y 1).val / 512, by
    have := points t; have : (y 1).val < 4096 := (y 1).isLt
    exact lt_of_lt_of_eq (by omega : _ < 136) (show cfg0.N = 136 from N_0).symm⟩)
    (fun a => match a with
      | 0 => ⟨0, Nat.one_pos⟩
      | 1 => ⟨(y 1).val % 512, Nat.mod_lt _ (by decide)⟩
      | 2 => y 2)

theorem slab_read {c : Dev nD} {t : Fin cfg0.N} {s : Vec F S2x4096x1024 .bf16} (h : Holds m c t.val s) (h8 : 8 ≤ t.val)
    (h1 : k0_cond1 (grid0.coords t) = 1#1) :
    (fun y => s ((Rect.unit (s := S2x4096x1024) (k0_off1 (grid0.coords t)) S1x4096x1024.size (k0_off1_inb (grid0.coords t) h1)).emb y)) = slab m c t := by
  funext y
  have ht := points t
  have hy1 : (y 1).val < 4096 := (y 1).isLt
  have hy0 : (y 0).val = 0 := by have : (y 0).val < 1 := (y 0).isLt; omega
  have hoff := slab_off t h8
  refine h _ ?_ ?_ ?_ _ _ ?_ ?_ ?_
  · show 8 * (t.val / 8 - 1) + (y 1).val / 512 < t.val; omega
  · show t.val ≤ 8 * (t.val / 8 - 1) + (y 1).val / 512 + 16; omega
  · show 8 * (t.val / 8 - 1) + (y 1).val / 512 < 128; omega
  · show k0_off1 (grid0.coords t) 0 + 1 * (y 0).val = (8 * (t.val / 8 - 1) + (y 1).val / 512) / 8 % 2
    have h0 : k0_off1 (grid0.coords t) 0 = (t.val / 8 - 1) % 2 := congrFun hoff 0
    omega
  · show k0_off1 (grid0.coords t) 1 + 1 * (y 1).val = (8 * (t.val / 8 - 1) + (y 1).val / 512) % 8 * 512 + (y 1).val % 512
    have h0 : k0_off1 (grid0.coords t) 1 = 0 := congrFun hoff 1
    omega
  · show k0_off1 (grid0.coords t) 2 + 1 * (y 2).val = (y 2).val
    have h0 : k0_off1 (grid0.coords t) 2 = 0 := congrFun hoff 2
    omega

/-! ## The proof data -/

/-- Between points: the scratch at some contents that hold the chunks, and the generator register. -/
def Carried (c : Dev nD) (n : ℕ) : sProp 𝕄 :=
  iprop((∃ s : Vec F S2x4096x1024 .bf16, ⌜Holds m c n s⌝ ∗ owns (c : Thread nD τ) (Memref.whole cc0_scratch0) fullShare s) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (iblk m c 0 t) (slab m c t)
    | ⟨4, _⟩ => k0_pay1 (iblk m c 2 t)
  Φ t := Carried m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay2 (iblk m c 0 t) (slab m c t) := by dsimp only [dats]
theorem after_4 (c : Dev nD) (t : Fin cfg0.N) : (dats m 0 c).after 4 t = k0_pay1 (iblk m c 2 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem carried_start (c : Dev nD) (t : Fin cfg0.N) : (dats m 0 c).Φ t.castSucc = Carried m c t.val := by
  dsimp only [dats]; exact Pipeline.Dat.Φ_castSucc (fun n _ => Carried m c n) t
theorem carried_end (c : Dev nD) (t : Fin cfg0.N) : (dats m 0 c).Φ t.succ = Carried m c (t.val + 1) := by dsimp only [dats]; rfl

/-! ## Which results a point writes -/

theorem idle_3 : ∀ t : Fin cfg0.N, t.val < 8 → cfg0.idle 3 (grid0.coords t) = true := (by decide +kernel : ∀ t : Fin grid0.N, _)
theorem idle_4 : ∀ t : Fin cfg0.N, t.val < 8 → cfg0.idle 4 (grid0.coords t) = true := (by decide +kernel : ∀ t : Fin grid0.N, _)
theorem kept_3 : ∀ t : Fin cfg0.N, t.val < 8 → (cfg0.win 3).flush t = false := (by decide +kernel : ∀ t : Fin grid0.N, _)
theorem kept_4 : ∀ t : Fin cfg0.N, t.val < 8 → (cfg0.win 4).flush t = false := (by decide +kernel : ∀ t : Fin grid0.N, _)
theorem live_3 : ∀ t : Fin cfg0.N, 8 ≤ t.val → cfg0.idle 3 (grid0.coords t) = false := (by decide +kernel : ∀ t : Fin grid0.N, _)
theorem live_4 : ∀ t : Fin cfg0.N, 8 ≤ t.val → cfg0.idle 4 (grid0.coords t) = false := (by decide +kernel : ∀ t : Fin grid0.N, _)

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [carried_start, carried_end, show (dats m 0 c).owesAt () t.succ = (dats m 0 c).owesAt () t.castSucc from rfl]
  rw [show (dats m 0 c).leavesExact 0 t = owns (c : Thread nD τ) (st0_0 t) fullShare (iblk m c 0 t) from by rw [← after_0 m c t],
    show (dats m 0 c).leavesExact 1 t = owns (c : Thread nD τ) (st0_1 t) fullShare (iblk m c 1 t) from by rw [← after_1 m c t],
    show (dats m 0 c).leavesExact 2 t = owns (c : Thread nD τ) (st0_2 t) fullShare (iblk m c 2 t) from by rw [← after_2 m c t]]
  have hN := points t
  by_cases h8 : 8 ≤ t.val
  · have h1 := (product_iff t).mpr h8
    rw [show (dats m 0 c).leavesExact 3 t = owns (c : Thread nD τ) (st0_3 t) fullShare (k0_pay2 (iblk m c 0 t) (slab m c t)) from by
        unfold Dat.leavesExact; rw [live_3 t h8, after_3],
      show (dats m 0 c).leavesExact 4 t = owns (c : Thread nD τ) (st0_4 t) fullShare (k0_pay1 (iblk m c 2 t)) from by
        unfold Dat.leavesExact; rw [live_4 t h8, after_4]]
    by_cases h128 : t.val < 128
    · have h2 := (cast_iff t).mpr h128
      unfold Carried
      iintro ⟨⟨⟨%s, %hs, HS⟩, Hg⟩, Ho, ⟨%d0, H0⟩, ⟨%d1, H1⟩, ⟨%d2, H2⟩, ⟨%d3, H3⟩, ⟨%d4, H4⟩⟩
      iapply (run_both c (grid0.coords t) _ _ _ _ _ _ _ _ _ _ _ _ h1 h2 (iblk m c 0 t) (iblk m c 1 t) (iblk m c 2 t) _ _ s (slab m c t) (slab_read m hs h8 h1) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]
        · iexists _; isplitr; swap; · iexact HS
          ipureintro; exact hs.step m h2 _
        · iexact Hg
      isplitl [Ho]; · iexact Ho
      isplitl [H0]; · iexact H0
      isplitl [H1]; · iexact H1
      isplitl [H2]; · iexact H2
      isplitl [H3]; · iexact H3
      iexact H4
    · have h2 : ¬k0_cond2 (grid0.coords t) = 1#1 := fun h => h128 ((cast_iff t).mp h)
      unfold Carried
      iintro ⟨⟨⟨%s, %hs, HS⟩, Hg⟩, Ho, ⟨%d0, H0⟩, ⟨%d1, H1⟩, ⟨%d2, H2⟩, ⟨%d3, H3⟩, ⟨%d4, H4⟩⟩
      iapply (run_last c (grid0.coords t) _ _ _ _ _ _ _ _ _ _ _ _ h1 h2 (iblk m c 0 t) (iblk m c 1 t) (iblk m c 2 t) _ _ s (slab m c t) (slab_read m hs h8 h1) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]
        · iexists s; isplitr; swap; · iexact HS
          ipureintro; exact hs.stay m (by omega)
        · iexact Hg
      isplitl [Ho]; · iexact Ho
      isplitl [H0]; · iexact H0
      isplitl [H1]; · iexact H1
      isplitl [H2]; · iexact H2
      isplitl [H3]; · iexact H3
      iexact H4
  · have h1 : ¬k0_cond1 (grid0.coords t) = 1#1 := fun h => h8 ((product_iff t).mp h)
    have h2 := (cast_iff t).mpr (by omega)
    rw [(dats m 0 c).leavesExact_idle 3 t (idle_3 t (by omega)) (kept_3 t (by omega)),
      (dats m 0 c).leavesExact_idle 4 t (idle_4 t (by omega)) (kept_4 t (by omega))]
    unfold Carried
    iintro ⟨⟨⟨%s, %hs, HS⟩, Hg⟩, Ho, ⟨%d0, H0⟩, ⟨%d1, H1⟩, ⟨%d2, H2⟩, ⟨%d3, H3⟩, ⟨%d4, H4⟩⟩
    iapply (run_first c (grid0.coords t) _ _ _ _ _ _ _ _ _ _ _ _ h1 h2 (iblk m c 0 t) (iblk m c 1 t) (iblk m c 2 t) _ _ s Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hg]
    · isplitl [HS]
      · iexists _; isplitr; swap; · iexact HS
        ipureintro; exact hs.step m h2 _
      · iexact Hg
    isplitl [Ho]; · iexact Ho
    isplitl [H0]; · iexact H0
    isplitl [H1]; · iexact H1
    isplitl [H2]; · iexact H2
    isplitl [H3]; · iexists d3; iexact H3
    iexists d4; iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- Before the first point the scratch holds anything. -/
theorem carried_in (c : Dev nD) : Pipeline.ΦA spec0 c ⊢ (dats m 0 c).Φ 0 := by
  rw [show (dats m 0 c).Φ 0 = Carried m c 0 from rfl]
  unfold Pipeline.ΦA Carried
  rw [scopedRest0_eq]
  simp only [owns_whole]
  iintro ⟨⟨%f, H⟩, Hg⟩
  isplitl [H]
  · iexists f; isplitr; swap; · iexact H
    ipureintro; exact holds_zero m c f
  · iexact Hg

/-- After the last point what the scratch holds is forgotten. -/
theorem carried_out (c : Dev nD) : (dats m 0 c).Φ (Fin.last cfg0.N) ⊢ Pipeline.ΦA spec0 c := by
  rw [show (dats m 0 c).Φ (Fin.last cfg0.N) = Carried m c (Fin.last cfg0.N).val from rfl]
  unfold Pipeline.ΦA Carried
  rw [scopedRest0_eq]
  simp only [owns_whole]
  iintro ⟨⟨%f, %hf, H⟩, Hg⟩
  isplitl [H]
  · iexists f; iexact H
  · iexact Hg

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := carried_in m) (hout := carried_out m)

theorem run : θ_run defs (onTc (τ := τ) (main (F := F))) (s₀ m ρ) (Pipeline.FramePost cfgs (dats m) 0 (V m)) :=
  (θ_run defs _ _).mono (fun _ h => h.1) (run_quiescent m ρ)

/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run m ρ)) ((θ_run defs _ _).mono (fun _ h => h.2) (run_quiescent m ρ))

end Cert.UpIdeal.Pipelined

end
-- ==== Proof.Up.lean ====
/- The first feed-forward product: what the kernel leaves in its two results is the squared rectified product, and the
   second feed-forward product's weights. -/
module

public import proofs.«01_k».proof.Proof.UpFrame
public import proofs.«01_k».proof.Proof.Gen.UpRefIdeal.Run
public import proofs.«01_k».proof.Proof.Gen.UpRefIdeal.Read
public import proofs.«01_k».proof.Defs
public import proofs.«01_k».proof.Proof.Gen.Up.Frame
public import Idealize.ShloMosaic.Lib.Pipeline.ValueKit

@[expose] public section

set_option maxRecDepth 16384

noncomputable section

namespace Cert.UpIdeal.Pipelined

open Cert.UpIdeal Cert.UpIdeal.Gen Idealize.ShloMosaic Idealize.ShloMosaic.TcCoe Idealize.SL.Sem
open Idealize.ShloMosaic.Pipeline (Dat)

variable (m : (ℓ : Loc nD τ sig) → Buf (Elt Ideal) ℓ)

/-- Where each window's block sits in its array at a grid point. -/
theorem idx_0 : ∀ t : Fin cfg0.N, 8 ≤ t.val → win0_0.index t = ![t.val % 8, 0] :=
  (by decide +kernel : ∀ t : Fin grid0.N, _)
theorem idx_1 : ∀ t : Fin cfg0.N, t.val < 128 → win0_1.index t = ![0, t.val % 8, t.val / 8] :=
  (by decide +kernel : ∀ t : Fin grid0.N, _)
theorem idx_2 : ∀ t : Fin cfg0.N, 8 ≤ t.val → win0_2.index t = ![0, t.val - 8, 0] :=
  (by decide +kernel : ∀ t : Fin grid0.N, _)
theorem idx_3 : ∀ t : Fin cfg0.N, 8 ≤ t.val → win0_3.index t = ![t.val % 8, t.val / 8 - 1] :=
  (by decide +kernel : ∀ t : Fin grid0.N, _)
theorem idx_4 : ∀ t : Fin cfg0.N, 8 ≤ t.val → win0_4.index t = ![t.val - 8, 0] :=
  (by decide +kernel : ∀ t : Fin grid0.N, _)
theorem written_3 : ∀ t : Fin cfg0.N, (cfg0.win 3).flush t = true → 8 ≤ t.val := (by decide +kernel : ∀ t : Fin grid0.N, _)
theorem written_4 : ∀ t : Fin cfg0.N, (cfg0.win 4).flush t = true → 8 ≤ t.val := (by decide +kernel : ∀ t : Fin grid0.N, _)

theorem side_at (w : FVec Ideal S1x128x4096 .f32) (j : S128x4096.Idx) : k0_pay1 (F := Ideal) w j = w (ix3 0 (j 0) (j 1)) := by
  pointwise [k0_pay1]

theorem chunk_at (w : FVec Ideal S1x512x1024 .f32) (y : S1x512x1024.Idx) : k0_pay3 (F := Ideal) w y = w y := by
  pointwise [k0_pay3]

/-- The square of the rectified value. -/
def relu2 (x : EReal) : EReal := max x 0 * max x 0

theorem product_at (u : FVec Ideal S1088x4096 .bf16) (w : FVec Ideal S1x4096x1024 .bf16) (j : S1088x1024.Idx) :
    k0_pay2 (F := Ideal) u w j = relu2 (∑ k : Fin 4096, u (ix2 (j 0) k) * w (ix3 0 k (j 1))) := by
  pointwise [k0_pay2, relu2]

open Cert.UpRefIdeal.Read in
theorem ref_product (u : FVec Ideal S8704x4096 .bf16) (w : FVec Ideal S2x4096x16384 .f32) (j : S8704x16384.Idx) :
    val_main_v7 (F := Ideal) u w j = relu2 (∑ k : Fin 4096, u (ix2 (j 0) k) * w (ix3 0 k (j 1))) := by
  pointwise [val_main_v7, val_main_v6, val_main_v5, val_main_v4, val_main_v3, val_main_v2, val_main_v1, val_main_v0, val_main_cst, relu2]

open Cert.UpRefIdeal.Read in
theorem ref_side (w : FVec Ideal S2x16384x4096 .f32) (j : S16384x4096.Idx) :
    val_main_v10 (F := Ideal) w j = w (ix3 0 (j 0) (j 1)) := by
  pointwise [val_main_v10, val_main_v9, val_main_v8]

/-- The slab at an entry is the chunk's entry as the point that cast it found it. -/
theorem slab_at (c : Dev nD) (t : Fin cfg0.N) (y : S1x4096x1024.Idx) (t' : Fin cfg0.N) (ht : t'.val = 8 * (t.val / 8 - 1) + (y 1).val / 512)
    (z : S1x512x1024.Idx) (h1 : (z 1).val = (y 1).val % 512) (h2 : z 2 = y 2) :
    slab m c t y = (show FVec Ideal S1x512x1024 .f32 from iblk m c 1 t') z := by
  unfold slab
  rw [chunk_at]
  obtain ⟨v, hv⟩ := t'
  obtain rfl : v = 8 * (t.val / 8 - 1) + (y 1).val / 512 := ht
  refine congrArg (show FVec Ideal S1x512x1024 .f32 from iblk m c 1 _) (funext fun a => ?_)
  match a with
  | 0 => exact (Fin.ext (by have : (z 0).val < 1 := (z 0).isLt; show 0 = (z 0).val; omega))
  | 1 => exact Fin.ext h1.symm
  | 2 => exact h2.symm

/-- THE FIRST RESULT of the kernel is the reference's. -/
theorem final_product (c : Dev nD) : (dats m 0 c).arrAt 3 cfg0.N
    = Cert.UpRefIdeal.Read.val_main_v7 (F := Ideal) (m ((c : Thread nD τ).loc main_arg0)) (m ((c : Thread nD τ).loc main_arg1)) := by
  refine (dats m 0 c).arrAt_eq_of_covers 3 _ (by decide +kernel) fun t hf y => ?_
  have h8 := written_3 t hf
  have hN := points t
  blk_simp
  rw [after_3, ref_product, product_at]
  refine congrArg relu2 (Finset.sum_congr rfl fun k _ => ?_)
  have hk : k.val < 4096 := k.isLt
  have hlt : 8 * (t.val / 8 - 1) + k.val / 512 < cfg0.N :=
    lt_of_lt_of_eq (by omega : _ < 136) (show cfg0.N = 136 from N_0).symm
  have hi := idx_1 ⟨8 * (t.val / 8 - 1) + k.val / 512, hlt⟩ (show 8 * (t.val / 8 - 1) + k.val / 512 < 128 by omega)
  rw [slab_at m c t _ ⟨8 * (t.val / 8 - 1) + k.val / 512, hlt⟩ rfl (ix3 0 ⟨k.val % 512, Nat.mod_lt _ (by decide)⟩ _) rfl rfl]
  refine congrArg₂ (fun a b : EReal => a * b) ?_ ?_
  · blk_point [iblk, V, idx_0 t h8, idx_3 t h8]
  · blk_point [iblk, V, hi, idx_3 t h8]

/-- THE SECOND RESULT of the kernel is the reference's. -/
theorem final_side (c : Dev nD) : (dats m 0 c).arrAt 4 cfg0.N
    = Cert.UpRefIdeal.Read.val_main_v10 (F := Ideal) (m ((c : Thread nD τ).loc main_arg2)) := by
  refine (dats m 0 c).arrAt_eq_of_covers 4 _ (by decide +kernel) fun t hf y => ?_
  have h8 := written_4 t hf
  blk_simp
  rw [after_4, ref_side, side_at]
  blk_point [iblk, V, idx_2 t h8, idx_4 t h8]

/-- The kernel over ideal values and the reference end with equal results. -/
theorem algebraic : Cert.algebraic_UpIdeal_UpRefIdeal := by
  intro m g m' g' _ hagree
  refine ⟨fun c => Cert.UpRefIdeal.Read.val_main_v7 (F := Ideal) (m ((c : Thread nD τ).loc main_arg0)) (m ((c : Thread nD τ).loc main_arg1)),
    fun c => Cert.UpRefIdeal.Read.val_main_v10 (F := Ideal) (m ((c : Thread nD τ).loc main_arg2)), ?_, ?_⟩
  · exact (θ_run Cert.UpIdeal.defs _ _).mono (fun _ h c => ⟨((h.1 c).1 3).trans (final_product m c), ((h.1 c).1 4).trans (final_side m c), (h.2.1 c)⟩)
      (θ_run_and (run m g) (frame m g))
  · refine (θ_run Cert.UpRefIdeal.defs _ _).mono (fun _ h c => ⟨(h c).1.trans ?_, (h c).2.1.trans ?_, (h c).2.2⟩)
      (Cert.UpRefIdeal.Value.run (F := Ideal) m' g')
    · rw [(hagree c).1, (hagree c).2.1]
      exact Cert.UpRefIdeal.Read.val_main_v7_eq _ _
    · rw [(hagree c).2.2]
      exact Cert.UpRefIdeal.Read.val_main_v10_eq _

/-- Over words the kernel's body table is the same text. -/
theorem rows_same : Cert.UpIdeal.defs₀ (F := Bits) = Cert.Up.defs₀ (F := Bits) := by
  unfold Cert.UpIdeal.defs₀ Cert.Up.defs₀
  refine congrArg Defs.onTc (funext fun l => funext fun a => ?_)
  match l, a with
  | 0, (t, s) => rfl

theorem frame_kernel : Cert.quiescent_Up := fun m ρ _ => by
  have h := frame (F := Bits) m ρ
  unfold Cert.UpIdeal.defs at h
  rw [rows_same] at h
  exact h

theorem frame_ideal : Cert.quiescent_UpIdeal := fun m ρ _ => frame (F := Ideal) m ρ

/-- The reference runs, leaves its arguments as they were and every semaphore at zero. -/
theorem frame_reference : Cert.quiescent_UpRefIdeal := fun m ρ _ =>
  (θ_run Cert.UpRefIdeal.defs _ _).mono (fun r h => ⟨fun c => (h c).2.2,
    Idealize.ShloMosaic.sem_eq_zero_of_no_sems (by decide) r.2⟩) (Cert.UpRefIdeal.Value.run (F := Ideal) m ρ)

end Cert.UpIdeal.Pipelined

end
-- ==== Proof.OddInRun.lean ====
/- The input projection of the odd layer: what one grid point does to its buffers, by the three kinds of grid point. In the first pass a chunk of the
   weights is cast into the scratch and nothing is multiplied, in a middle pass both are done, in the last pass the
   product alone. -/
module

public import proofs.«01_k».proof.Proof.Gen.OddInIdeal.Frame
public import proofs.«01_k».proof.Proof.Gen.OddInIdeal.Skeleton
public import proofs.«01_k».proof.Proof.Held
public import Idealize.ShloMosaic.Lib.Pipeline.TableIdle

@[expose] public section

set_option maxRecDepth 16384

noncomputable section

namespace Cert.OddInIdeal.Pipelined

open Cert.OddInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid in closed form -/

theorem product_iff : ∀ t : Fin cfg0.N, k0_cond1 (grid0.coords t) = 1#1 ↔ 8 ≤ t.val :=
  (by decide +kernel : ∀ t : Fin grid0.N, _)
theorem cast_iff : ∀ t : Fin cfg0.N, k0_cond2 (grid0.coords t) = 1#1 ↔ t.val < 96 :=
  (by decide +kernel : ∀ t : Fin grid0.N, _)
/-- The product reads the slab of the pass before. -/
theorem slab_off : ∀ t : Fin cfg0.N, 8 ≤ t.val → k0_off1 (grid0.coords t) = ![(t.val / 8 - 1) % 2, 0, 0] :=
  (by decide +kernel : ∀ t : Fin grid0.N, _)
/-- The cast writes the chunk of this point into the slab of this pass. -/
theorem chunk_off : ∀ t : Fin cfg0.N, k0_off2 (grid0.coords t) = ![t.val / 8 % 2, t.val % 8 * 512, 0] :=
  (by decide +kernel : ∀ t : Fin grid0.N, _)

/-! ## The three runs -/

set_option maxHeartbeats 1000000 in
/-- The first pass: the chunk is cast into the scratch, the result is left as it was. -/
theorem run_first (c : Dev nD) (i : grid0.Coords)
    (arg2 : Memref sig .tc .vmem S1088x4096 .bf16) (harg2 : arg2.IsWhole)
    (arg3 : Memref sig .tc .vmem S1x512x1024 .f32) (harg3 : arg3.IsWhole)
    (arg4 : Memref sig .tc .vmem S1088x1024 .f32) (harg4 : arg4.IsWhole)
    (arg5 : Memref sig .tc .vmem S2x4096x1024 .bf16) (harg5 : arg5.IsWhole)
    (h1 : ¬k0_cond1 i = 1#1) (h2 : k0_cond2 i = 1#1)
    (x0 : Vec F S1088x4096 .bf16) (x1 : Vec F S1x512x1024 .f32) (d : Vec F S1088x1024 .f32)
    (s : Vec F S2x4096x1024 .bf16) (E : Set ℕ) (K : PUnit → sProp 𝕄) :
    iprop(owns (c : Thread nD τ) arg2 fullShare x0
        ∗ owns (c : Thread nD τ) arg3 fullShare x1
        ∗ owns (c : Thread nD τ) arg4 fullShare d
        ∗ owns (c : Thread nD τ) arg5 fullShare s
        ∗ (iprop(owns (c : Thread nD τ) arg2 fullShare x0
            ∗ owns (c : Thread nD τ) arg3 fullShare x1
            ∗ owns (c : Thread nD τ) arg4 fullShare d
            ∗ owns (c : Thread nD τ) arg5 fullShare (arg5.view.read (Elt F) (arg5.view.writes (Elt F) (harg5.unread s)
                [⟨Rect.unit (s := S2x4096x1024) (k0_off2 i) S1x512x1024.size (k0_off2_inb i h2), k0_pay2 x1⟩]))) -∗ K ⟨⟩))
      ⊢ wp frame (wpE (defs₀ (F := F)) Variants.none c none) E (cc0_in_proj_odd i arg2 harg2 arg3 harg3 arg4 harg4 arg5 harg5) K := by
  simp only [cc0_in_proj_odd_eq_skeleton]; unfold cc0_in_proj_odd_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr; swap; · iexact H3
  ipureintro
  rw [Held.load_full harg3 x1 (by decide)]

set_option maxHeartbeats 1000000 in
/-- A middle pass: the product is written, and the chunk is cast into the scratch. -/
theorem run_both (c : Dev nD) (i : grid0.Coords)
    (arg2 : Memref sig .tc .vmem S1088x4096 .bf16) (harg2 : arg2.IsWhole)
    (arg3 : Memref sig .tc .vmem S1x512x1024 .f32) (harg3 : arg3.IsWhole)
    (arg4 : Memref sig .tc .vmem S1088x1024 .f32) (harg4 : arg4.IsWhole)
    (arg5 : Memref sig .tc .vmem S2x4096x1024 .bf16) (harg5 : arg5.IsWhole)
    (h1 : k0_cond1 i = 1#1) (h2 : k0_cond2 i = 1#1)
    (x0 : Vec F S1088x4096 .bf16) (x1 : Vec F S1x512x1024 .f32) (d : Vec F S1088x1024 .f32)
    (s : Vec F S2x4096x1024 .bf16)
    (sl0 : Vec F S1x4096x1024 .bf16) (hsl0 : (fun y => s ((Rect.unit (s := S2x4096x1024) (k0_off1 i) S1x4096x1024.size (k0_off1_inb i h1)).emb y)) = sl0) (E : Set ℕ) (K : PUnit → sProp 𝕄) :
    iprop(owns (c : Thread nD τ) arg2 fullShare x0
        ∗ owns (c : Thread nD τ) arg3 fullShare x1
        ∗ owns (c : Thread nD τ) arg4 fullShare d
        ∗ owns (c : Thread nD τ) arg5 fullShare s
        ∗ (iprop(owns (c : Thread nD τ) arg2 fullShare x0
            ∗ owns (c : Thread nD τ) arg3 fullShare x1
            ∗ owns (c : Thread nD τ) arg4 fullShare (k0_pay1 x0 sl0)
            ∗ owns (c : Thread nD τ) arg5 fullShare (arg5.view.read (Elt F) (arg5.view.writes (Elt F) (harg5.unread s)
                [⟨Rect.unit (s := S2x4096x1024) (k0_off2 i) S1x512x1024.size (k0_off2_inb i h2), k0_pay2 x1⟩]))) -∗ K ⟨⟩))
      ⊢ wp frame (wpE (defs₀ (F := F)) Variants.none c none) E (cc0_in_proj_odd i arg2 harg2 arg3 harg3 arg4 harg4 arg5 harg5) K := by
  simp only [cc0_in_proj_odd_eq_skeleton]; unfold cc0_in_proj_odd_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    rw [Held.store_full _ _ (by decide), Held.load_full harg2 x0 (by decide), Held.load_rect harg5]
    exact congrArg (fun a => k0_pay1 x0 a) hsl0
  iexists _; isplitr; swap; · iexact H3
  ipureintro
  rw [Held.load_full harg3 x1 (by decide)]

set_option maxHeartbeats 1000000 in
/-- The last pass: the product is written; the scratch stays. -/
theorem run_last (c : Dev nD) (i : grid0.Coords)
    (arg2 : Memref sig .tc .vmem S1088x4096 .bf16) (harg2 : arg2.IsWhole)
    (arg3 : Memref sig .tc .vmem S1x512x1024 .f32) (harg3 : arg3.IsWhole)
    (arg4 : Memref sig .tc .vmem S1088x1024 .f32) (harg4 : arg4.IsWhole)
    (arg5 : Memref sig .tc .vmem S2x4096x1024 .bf16) (harg5 : arg5.IsWhole)
    (h1 : k0_cond1 i = 1#1) (h2 : ¬k0_cond2 i = 1#1)
    (x0 : Vec F S1088x4096 .bf16) (x1 : Vec F S1x512x1024 .f32) (d : Vec F S1088x1024 .f32)
    (s : Vec F S2x4096x1024 .bf16)
    (sl0 : Vec F S1x4096x1024 .bf16) (hsl0 : (fun y => s ((Rect.unit (s := S2x4096x1024) (k0_off1 i) S1x4096x1024.size (k0_off1_inb i h1)).emb y)) = sl0) (E : Set ℕ) (K : PUnit → sProp 𝕄) :
    iprop(owns (c : Thread nD τ) arg2 fullShare x0
        ∗ owns (c : Thread nD τ) arg3 fullShare x1
        ∗ owns (c : Thread nD τ) arg4 fullShare d
        ∗ owns (c : Thread nD τ) arg5 fullShare s
        ∗ (iprop(owns (c : Thread nD τ) arg2 fullShare x0
            ∗ owns (c : Thread nD τ) arg3 fullShare x1
            ∗ owns (c : Thread nD τ) arg4 fullShare (k0_pay1 x0 sl0)
            ∗ owns (c : Thread nD τ) arg5 fullShare s) -∗ K ⟨⟩))
      ⊢ wp frame (wpE (defs₀ (F := F)) Variants.none c none) E (cc0_in_proj_odd i arg2 harg2 arg3 harg3 arg4 harg4 arg5 harg5) K := by
  simp only [cc0_in_proj_odd_eq_skeleton]; unfold cc0_in_proj_odd_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    rw [Held.store_full _ _ (by decide), Held.load_full harg2 x0 (by decide), Held.load_rect harg5]
    exact congrArg (fun a => k0_pay1 x0 a) hsl0
  iexists _; isplitr; · ipureintro; exact harg5.read_unread _
  iexact H3

end Cert.OddInIdeal.Pipelined

end
-- ==== Proof.OddInFrame.lean ====
/- The input projection of the odd layer, as a run over its grid. The kernel keeps two slabs of the weights in a scratch: while the product of
   one slab is taken, the next slab is cast into the other, a chunk of 512 rows at a point. What is carried from
   point to point is that the last 16 chunks cast are where they were put. -/
module

public import proofs.«01_k».proof.Proof.OddInRun
public import Idealize.ShloMosaic.Lib.Claim
public import Idealize.ShloMosaic.Lib.Pipeline.ValueKit

@[expose] public section

set_option maxRecDepth 16384

noncomputable section

namespace Cert.OddInIdeal.Pipelined

open Cert.OddInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem points (t : Fin cfg0.N) : t.val < 104 := lt_of_lt_of_eq t.isLt (show cfg0.N = 104 from N_0)

/-! ## What the scratch holds -/

/-- Before point `n` the scratch `s` holds each of the last 16 chunks cast, in the slab of its pass. -/
def Holds (c : Dev nD) (n : ℕ) (s : Vec F S2x4096x1024 .bf16) : Prop :=
  ∀ t : Fin cfg0.N, t.val < n → n ≤ t.val + 16 → t.val < 96 → ∀ (y : S1x512x1024.Idx) (z : S2x4096x1024.Idx),
    (z 0).val = t.val / 8 % 2 → (z 1).val = t.val % 8 * 512 + (y 1).val → (z 2).val = (y 2).val →
      s z = k0_pay2 (iblk m c 1 t) y

theorem holds_zero (c : Dev nD) (s : Vec F S2x4096x1024 .bf16) : Holds m c 0 s :=
  fun _ h => absurd h (Nat.not_lt_zero _)

/-- Past the last cast the scratch is left as it was. -/
theorem Holds.stay {c : Dev nD} {n : ℕ} {s : Vec F S2x4096x1024 .bf16} (h : Holds m c n s) (hn : 96 ≤ n) : Holds m c (n + 1) s :=
  fun t ht hr hB y z => h t (by omega) (by omega) hB y z

/-- Casting the chunk of a point keeps the 15 before it, which lie elsewhere. -/
theorem Holds.step {c : Dev nD} {t : Fin cfg0.N} {s : Vec F S2x4096x1024 .bf16} (h : Holds m c t.val s)
    (h2 : k0_cond2 (grid0.coords t) = 1#1) {M : Memref sig .tc .vmem S2x4096x1024 .bf16} (hM : M.IsWhole) :
    Holds m c (t.val + 1) (M.view.read (Elt F) (M.view.writes (Elt F) (hM.unread s)
      [⟨Rect.unit (s := S2x4096x1024) (k0_off2 (grid0.coords t)) S1x512x1024.size (k0_off2_inb (grid0.coords t) h2), k0_pay2 (iblk m c 1 t)⟩])) := by
  intro t' ht hr hB y z hz0 hz1 hz2
  have hy0 : (y 0).val = 0 := by have : (y 0).val < 1 := (y 0).isLt; omega
  have hyk : (y 1).val < 512 := (y 1).isLt
  have hoff := chunk_off t
  by_cases he : t' = t
  · subst he
    refine View.read_writes_cons_hit_of_coords M.view (hM.unread s)
      (Rect.unit (s := S2x4096x1024) (k0_off2 (grid0.coords t')) S1x512x1024.size (k0_off2_inb (grid0.coords t') h2)) (k0_pay2 (iblk m c 1 t')) [] y z fun a => ?_
    show (z a).val = k0_off2 (grid0.coords t') a + 1 * (y a).val
    rw [hoff]
    match a with
    | 0 => show (z 0).val = t'.val / 8 % 2 + 1 * (y 0).val; omega
    | 1 => show (z 1).val = t'.val % 8 * 512 + 1 * (y 1).val; omega
    | 2 => show (z 2).val = 0 + 1 * (y 2).val; omega
  · have hlt : t'.val < t.val := by
      have : t'.val ≠ t.val := fun e => he (Fin.ext e)
      omega
    have hkeep := (congrFun (hM.read_unread s) z).trans (h t' hlt (by omega) hB y z hz0 hz1 hz2)
    by_cases hc : t'.val % 8 = t.val % 8
    · refine (View.read_writes_cons_miss_of_axis _ _ _ _ z 0 (t.val / 8 % 2) 1 (congrFun hoff 0) rfl rfl ?_).trans hkeep
      rw [hz0]; omega
    · refine (View.read_writes_cons_miss_of_axis _ _ _ _ z 1 (t.val % 8 * 512) 512 (congrFun hoff 1) rfl rfl ?_).trans hkeep
      rw [hz1]; omega

/-- The slab the product of a point reads: the chunks cast in the pass before. -/
def slab (c : Dev nD) (t : Fin cfg0.N) : Vec F S1x4096x1024 .bf16 := fun y =>
  k0_pay2 (iblk m c 1 ⟨8 * (t.val / 8 - 1) + (y 1).val / 512, by
    have := points t; have : (y 1).val < 4096 := (y 1).isLt
    exact lt_of_lt_of_eq (by omega : _ < 104) (show cfg0.N = 104 from N_0).symm⟩)
    (fun a => match a with
      | 0 => ⟨0, Nat.one_pos⟩
      | 1 => ⟨(y 1).val % 512, Nat.mod_lt _ (by decide)⟩
      | 2 => y 2)

theorem slab_read {c : Dev nD} {t : Fin cfg0.N} {s : Vec F S2x4096x1024 .bf16} (h : Holds m c t.val s) (hni : 8 ≤ t.val)
    (h1 : k0_cond1 (grid0.coords t) = 1#1) :
    (fun y => s ((Rect.unit (s := S2x4096x1024) (k0_off1 (grid0.coords t)) S1x4096x1024.size (k0_off1_inb (grid0.coords t) h1)).emb y)) = slab m c t := by
  funext y
  have ht := points t
  have hyk : (y 1).val < 4096 := (y 1).isLt
  have hy0 : (y 0).val = 0 := by have : (y 0).val < 1 := (y 0).isLt; omega
  have hoff := slab_off t hni
  refine h _ ?_ ?_ ?_ _ _ ?_ ?_ ?_
  · show 8 * (t.val / 8 - 1) + (y 1).val / 512 < t.val; omega
  · show t.val ≤ 8 * (t.val / 8 - 1) + (y 1).val / 512 + 16; omega
  · show 8 * (t.val / 8 - 1) + (y 1).val / 512 < 96; omega
  · show k0_off1 (grid0.coords t) 0 + 1 * (y 0).val = (8 * (t.val / 8 - 1) + (y 1).val / 512) / 8 % 2
    have h0 : k0_off1 (grid0.coords t) 0 = (t.val / 8 - 1) % 2 := congrFun hoff 0
    omega
  · show k0_off1 (grid0.coords t) 1 + 1 * (y 1).val = (8 * (t.val / 8 - 1) + (y 1).val / 512) % 8 * 512 + (y 1).val % 512
    have h0 : k0_off1 (grid0.coords t) 1 = 0 := congrFun hoff 1
    omega
  · show k0_off1 (grid0.coords t) 2 + 1 * (y 2).val = (y 2).val
    have h0 : k0_off1 (grid0.coords t) 2 = 0 := congrFun hoff 2
    omega

/-! ## The proof data -/

/-- Between points: the scratch at some contents that hold the chunks, and the generator register. -/
def Carried (c : Dev nD) (n : ℕ) : sProp 𝕄 :=
  iprop((∃ s : Vec F S2x4096x1024 .bf16, ⌜Holds m c n s⌝ ∗ owns (c : Thread nD τ) (Memref.whole cc0_scratch0) fullShare s) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay1 (iblk m c 0 t) (slab m c t)
  Φ t := Carried m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = k0_pay1 (iblk m c 0 t) (slab m c t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem carried_start (c : Dev nD) (t : Fin cfg0.N) : (dats m 0 c).Φ t.castSucc = Carried m c t.val := by
  dsimp only [dats]; exact Pipeline.Dat.Φ_castSucc (fun n _ => Carried m c n) t
theorem carried_end (c : Dev nD) (t : Fin cfg0.N) : (dats m 0 c).Φ t.succ = Carried m c (t.val + 1) := by dsimp only [dats]; rfl

/-! ## When a point writes the result -/

theorem idle_out : ∀ t : Fin cfg0.N, t.val < 8 → cfg0.idle 2 (grid0.coords t) = true := (by decide +kernel : ∀ t : Fin grid0.N, _)
theorem kept_out : ∀ t : Fin cfg0.N, t.val < 8 → (cfg0.win 2).flush t = false := (by decide +kernel : ∀ t : Fin grid0.N, _)
theorem live_out : ∀ t : Fin cfg0.N, 8 ≤ t.val → cfg0.idle 2 (grid0.coords t) = false := (by decide +kernel : ∀ t : Fin grid0.N, _)

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [carried_start, carried_end, show (dats m 0 c).owesAt () t.succ = (dats m 0 c).owesAt () t.castSucc from rfl]
  rw [show (dats m 0 c).leavesExact 0 t = owns (c : Thread nD τ) (st0_0 t) fullShare (iblk m c 0 t) from by rw [← after_0 m c t],
    show (dats m 0 c).leavesExact 1 t = owns (c : Thread nD τ) (st0_1 t) fullShare (iblk m c 1 t) from by rw [← after_1 m c t]]
  have hN := points t
  by_cases hni : 8 ≤ t.val
  · have h1 := (product_iff t).mpr hni
    rw [show (dats m 0 c).leavesExact 2 t = owns (c : Thread nD τ) (st0_2 t) fullShare (k0_pay1 (iblk m c 0 t) (slab m c t)) from by
        unfold Dat.leavesExact; rw [live_out t hni, after_2]]
    by_cases hB : t.val < 96
    · have h2 := (cast_iff t).mpr hB
      unfold Carried
      iintro ⟨⟨⟨%s, %hs, HS⟩, Hg⟩, Ho, ⟨%d0, H0⟩, ⟨%d1, H1⟩, ⟨%d2, H2⟩⟩
      iapply (run_both c (grid0.coords t) _ _ _ _ _ _ _ _ h1 h2 (iblk m c 0 t) (iblk m c 1 t) _ s (slab m c t) (slab_read m hs hni h1) Set.univ _)
      isplitl [H0]; · iexact H0
      isplitl [H1]; · iexact H1
      isplitl [H2]; · iexact H2
      isplitl [HS]; · iexact HS
      iintro ⟨H0, H1, H2, HS⟩
      isplitl [HS Hg]
      · isplitl [HS]
        · iexists _; isplitr; swap; · iexact HS
          ipureintro; exact hs.step m h2 _
        · iexact Hg
      isplitl [Ho]; · iexact Ho
      isplitl [H0]; · iexact H0
      isplitl [H1]; · iexact H1
      iexact H2
    · have h2 : ¬k0_cond2 (grid0.coords t) = 1#1 := fun h => hB ((cast_iff t).mp h)
      unfold Carried
      iintro ⟨⟨⟨%s, %hs, HS⟩, Hg⟩, Ho, ⟨%d0, H0⟩, ⟨%d1, H1⟩, ⟨%d2, H2⟩⟩
      iapply (run_last c (grid0.coords t) _ _ _ _ _ _ _ _ h1 h2 (iblk m c 0 t) (iblk m c 1 t) _ s (slab m c t) (slab_read m hs hni h1) Set.univ _)
      isplitl [H0]; · iexact H0
      isplitl [H1]; · iexact H1
      isplitl [H2]; · iexact H2
      isplitl [HS]; · iexact HS
      iintro ⟨H0, H1, H2, HS⟩
      isplitl [HS Hg]
      · isplitl [HS]
        · iexists _; isplitr; swap; · iexact HS
          ipureintro; exact hs.stay m (by omega)
        · iexact Hg
      isplitl [Ho]; · iexact Ho
      isplitl [H0]; · iexact H0
      isplitl [H1]; · iexact H1
      iexact H2
  · have h1 : ¬k0_cond1 (grid0.coords t) = 1#1 := fun h => hni ((product_iff t).mp h)
    have h2 := (cast_iff t).mpr (by omega)
    rw [(dats m 0 c).leavesExact_idle 2 t (idle_out t (by omega)) (kept_out t (by omega))]
    unfold Carried
    iintro ⟨⟨⟨%s, %hs, HS⟩, Hg⟩, Ho, ⟨%d0, H0⟩, ⟨%d1, H1⟩, ⟨%d2, H2⟩⟩
    iapply (run_first c (grid0.coords t) _ _ _ _ _ _ _ _ h1 h2 (iblk m c 0 t) (iblk m c 1 t) _ s Set.univ _)
    isplitl [H0]; · iexact H0
    isplitl [H1]; · iexact H1
    isplitl [H2]; · iexact H2
    isplitl [HS]; · iexact HS
    iintro ⟨H0, H1, H2, HS⟩
    isplitl [HS Hg]
    · isplitl [HS]
      · iexists _; isplitr; swap; · iexact HS
        ipureintro; exact hs.step m h2 _
      · iexact Hg
    isplitl [Ho]; · iexact Ho
    isplitl [H0]; · iexact H0
    isplitl [H1]; · iexact H1
    iexists d2; iexact H2

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- Before the first point the scratch holds anything. -/
theorem carried_in (c : Dev nD) : Pipeline.ΦA spec0 c ⊢ (dats m 0 c).Φ 0 := by
  rw [show (dats m 0 c).Φ 0 = Carried m c 0 from rfl]
  unfold Pipeline.ΦA Carried
  rw [scopedRest0_eq]
  simp only [owns_whole]
  iintro ⟨⟨%f, H⟩, Hg⟩
  isplitl [H]
  · iexists f; isplitr; swap; · iexact H
    ipureintro; exact holds_zero m c f
  · iexact Hg

/-- After the last point what the scratch holds is forgotten. -/
theorem carried_out (c : Dev nD) : (dats m 0 c).Φ (Fin.last cfg0.N) ⊢ Pipeline.ΦA spec0 c := by
  rw [show (dats m 0 c).Φ (Fin.last cfg0.N) = Carried m c (Fin.last cfg0.N).val from rfl]
  unfold Pipeline.ΦA Carried
  rw [scopedRest0_eq]
  simp only [owns_whole]
  iintro ⟨⟨%f, %hf, H⟩, Hg⟩
  isplitl [H]
  · iexists f; iexact H
  · iexact Hg

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := carried_in m) (hout := carried_out m)

theorem run : θ_run defs (onTc (τ := τ) (main (F := F))) (s₀ m ρ) (Pipeline.FramePost cfgs (dats m) 0 (V m)) :=
  (θ_run defs _ _).mono (fun _ h => h.1) (run_quiescent m ρ)

/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run m ρ)) ((θ_run defs _ _).mono (fun _ h => h.2) (run_quiescent m ρ))

end Cert.OddInIdeal.Pipelined

end
-- ==== Proof.OddIn.lean ====
/- The input projection of the odd layer: what the kernel leaves in its result is what the reference computes. -/
module

public import proofs.«01_k».proof.Proof.OddInFrame
public import proofs.«01_k».proof.Proof.Gen.OddInRefIdeal.Run
public import proofs.«01_k».proof.Proof.Gen.OddInRefIdeal.Read
public import proofs.«01_k».proof.Defs
public import proofs.«01_k».proof.Proof.Gen.OddIn.Frame
public import Idealize.ShloMosaic.Lib.Pipeline.ValueKit

@[expose] public section

set_option maxRecDepth 16384

noncomputable section

namespace Cert.OddInIdeal.Pipelined

open Cert.OddInIdeal Cert.OddInIdeal.Gen Idealize.ShloMosaic Idealize.ShloMosaic.TcCoe Idealize.SL.Sem
open Idealize.ShloMosaic.Pipeline (Dat)

variable (m : (ℓ : Loc nD τ sig) → Buf (Elt Ideal) ℓ)

/-- Where each window's block sits in its array at a grid point. -/
theorem idx_0 : ∀ t : Fin cfg0.N, 8 ≤ t.val → win0_0.index t = ![t.val % 8, 0] :=
  (by decide +kernel : ∀ t : Fin grid0.N, _)
theorem idx_1 : ∀ t : Fin cfg0.N, t.val < 96 → win0_1.index t = ![0, t.val % 8, t.val / 8] :=
  (by decide +kernel : ∀ t : Fin grid0.N, _)
theorem idx_2 : ∀ t : Fin cfg0.N, 8 ≤ t.val → win0_2.index t = ![t.val % 8, t.val / 8 - 1] :=
  (by decide +kernel : ∀ t : Fin grid0.N, _)
theorem written : ∀ t : Fin cfg0.N, (cfg0.win 2).flush t = true → 8 ≤ t.val := (by decide +kernel : ∀ t : Fin grid0.N, _)

theorem chunk_at (w : FVec Ideal S1x512x1024 .f32) (y : S1x512x1024.Idx) : k0_pay2 (F := Ideal) w y = w y := by
  pointwise [k0_pay2]

theorem product_at (u : FVec Ideal S1088x4096 .bf16) (w : FVec Ideal S1x4096x1024 .bf16) (j : S1088x1024.Idx) :
    k0_pay1 (F := Ideal) u w j = ∑ k : Fin 4096, u (ix2 (j 0) k) * w (ix3 0 k (j 1)) := by
  pointwise [k0_pay1]

open Cert.OddInRefIdeal.Read in
theorem ref_product (u : FVec Ideal S8704x4096 .bf16) (w : FVec Ideal S1x4096x12288 .f32) (j : S8704x12288.Idx) :
    val_main_v2 (F := Ideal) u w j = ∑ k : Fin 4096, u (ix2 (j 0) k) * w (ix3 0 k (j 1)) := by
  pointwise [val_main_v2, val_main_v1, val_main_v0]

/-- The slab at an entry is the chunk's entry as the point that cast it found it. -/
theorem slab_at (c : Dev nD) (t : Fin cfg0.N) (y : S1x4096x1024.Idx) (t' : Fin cfg0.N) (ht : t'.val = 8 * (t.val / 8 - 1) + (y 1).val / 512)
    (z : S1x512x1024.Idx) (h1 : (z 1).val = (y 1).val % 512) (h2 : z 2 = y 2) :
    slab m c t y = (show FVec Ideal S1x512x1024 .f32 from iblk m c 1 t') z := by
  unfold slab
  rw [chunk_at]
  obtain ⟨v, hv⟩ := t'
  obtain rfl : v = 8 * (t.val / 8 - 1) + (y 1).val / 512 := ht
  refine congrArg (show FVec Ideal S1x512x1024 .f32 from iblk m c 1 _) (funext fun a => ?_)
  match a with
  | 0 => exact (Fin.ext (by have : (z 0).val < 1 := (z 0).isLt; show 0 = (z 0).val; omega))
  | 1 => exact Fin.ext h1.symm
  | 2 => exact h2.symm

/-- THE RESULT of the kernel is the reference's. -/
theorem final_product (c : Dev nD) : (dats m 0 c).arrAt 2 cfg0.N
    = Cert.OddInRefIdeal.Read.val_main_v2 (F := Ideal) (m ((c : Thread nD τ).loc main_arg0)) (m ((c : Thread nD τ).loc main_arg1)) := by
  refine (dats m 0 c).arrAt_eq_of_covers 2 _ (by decide +kernel) fun t hf y => ?_
  have hni := written t hf
  have hN := points t
  blk_simp
  rw [after_2, ref_product, product_at]
  refine congrArg (fun a : EReal => a) (Finset.sum_congr rfl fun k _ => ?_)
  have hk : k.val < 4096 := k.isLt
  have hlt : 8 * (t.val / 8 - 1) + k.val / 512 < cfg0.N :=
    lt_of_lt_of_eq (by omega : _ < 104) (show cfg0.N = 104 from N_0).symm
  have hi := idx_1 ⟨8 * (t.val / 8 - 1) + k.val / 512, hlt⟩ (show 8 * (t.val / 8 - 1) + k.val / 512 < 96 by omega)
  rw [slab_at m c t _ ⟨8 * (t.val / 8 - 1) + k.val / 512, hlt⟩ rfl (ix3 0 ⟨k.val % 512, Nat.mod_lt _ (by decide)⟩ _) rfl rfl]
  refine congrArg₂ (fun a b : EReal => a * b) ?_ ?_
  · blk_point [iblk, V, idx_0 t hni, idx_2 t hni]
  · blk_point [iblk, V, hi, idx_2 t hni]

/-- The kernel over ideal values and the reference end with equal results. -/
theorem algebraic : Cert.algebraic_OddInIdeal_OddInRefIdeal := by
  intro m g m' g' _ hagree
  refine ⟨fun c => Cert.OddInRefIdeal.Read.val_main_v2 (F := Ideal) (m ((c : Thread nD τ).loc main_arg0)) (m ((c : Thread nD τ).loc main_arg1)), ?_, ?_⟩
  · exact (θ_run Cert.OddInIdeal.defs _ _).mono (fun _ h c => ⟨((h.1 c).1 2).trans (final_product m c), (h.2.1 c)⟩)
      (θ_run_and (run m g) (frame m g))
  · refine (θ_run Cert.OddInRefIdeal.defs _ _).mono (fun _ h c => ⟨(h c).1.trans ?_, (h c).2⟩)
      (Cert.OddInRefIdeal.Value.run (F := Ideal) m' g')
    rw [(hagree c).1, (hagree c).2]
    exact Cert.OddInRefIdeal.Read.val_main_v2_eq _ _

/-- Over words the kernel's body table is the same text. -/
theorem rows_same : Cert.OddInIdeal.defs₀ (F := Bits) = Cert.OddIn.defs₀ (F := Bits) := by
  unfold Cert.OddInIdeal.defs₀ Cert.OddIn.defs₀
  refine congrArg Defs.onTc (funext fun l => funext fun a => ?_)
  match l, a with
  | 0, (t, s) => rfl

theorem frame_kernel : Cert.quiescent_OddIn := fun m ρ _ => by
  have h := frame (F := Bits) m ρ
  unfold Cert.OddInIdeal.defs at h
  rw [rows_same] at h
  exact h

theorem frame_ideal : Cert.quiescent_OddInIdeal := fun m ρ _ => frame (F := Ideal) m ρ

/-- The reference runs, leaves its arguments as they were and every semaphore at zero. -/
theorem frame_reference : Cert.quiescent_OddInRefIdeal := fun m ρ _ =>
  (θ_run Cert.OddInRefIdeal.defs _ _).mono (fun r h => ⟨fun c => (h c).2,
    Idealize.ShloMosaic.sem_eq_zero_of_no_sems (by decide) r.2⟩) (Cert.OddInRefIdeal.Value.run (F := Ideal) m ρ)

end Cert.OddInIdeal.Pipelined

end
-- ==== Proof.QueryRun.lean ====
/- The queries of the cross-attention: what one grid point does to its buffers, by the three kinds of grid point. In the first pass a chunk of the
   weights is cast into the scratch and nothing is multiplied, in a middle pass both are done, in the last pass the
   product alone. -/
module

public import proofs.«01_k».proof.Proof.Gen.QueryIdeal.Frame
public import proofs.«01_k».proof.Proof.Gen.QueryIdeal.Skeleton
public import proofs.«01_k».proof.Proof.Held
public import Idealize.ShloMosaic.Lib.Pipeline.TableIdle

@[expose] public section

set_option maxRecDepth 16384

noncomputable section

namespace Cert.QueryIdeal.Pipelined

open Cert.QueryIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid in closed form -/

theorem product_iff : ∀ t : Fin cfg0.N, k0_cond1 (grid0.coords t) = 1#1 ↔ 8 ≤ t.val :=
  (by decide +kernel : ∀ t : Fin grid0.N, _)
theorem cast_iff : ∀ t : Fin cfg0.N, k0_cond2 (grid0.coords t) = 1#1 ↔ t.val < 32 :=
  (by decide +kernel : ∀ t : Fin grid0.N, _)
/-- The product reads the slab of the pass before. -/
theorem slab_off : ∀ t : Fin cfg0.N, 8 ≤ t.val → k0_off1 (grid0.coords t) = ![(t.val / 8 - 1) % 2, 0, 0] :=
  (by decide +kernel : ∀ t : Fin grid0.N, _)
/-- The cast writes the chunk of this point into the slab of this pass. -/
theorem chunk_off : ∀ t : Fin cfg0.N, k0_off2 (grid0.coords t) = ![t.val / 8 % 2, t.val % 8 * 512, 0] :=
  (by decide +kernel : ∀ t : Fin grid0.N, _)

/-! ## The three runs -/

set_option maxHeartbeats 1000000 in
/-- The first pass: the chunk is cast into the scratch, the result is left as it was. -/
theorem run_first (c : Dev nD) (i : grid0.Coords)
    (arg2 : Memref sig .tc .vmem S1088x4096 .bf16) (harg2 : arg2.IsWhole)
    (arg3 : Memref sig .tc .vmem S1x512x1024 .f32) (harg3 : arg3.IsWhole)
    (arg4 : Memref sig .tc .vmem S1088x1024 .bf16) (harg4 : arg4.IsWhole)
    (arg5 : Memref sig .tc .vmem S2x4096x1024 .bf16) (harg5 : arg5.IsWhole)
    (h1 : ¬k0_cond1 i = 1#1) (h2 : k0_cond2 i = 1#1)
    (x0 : Vec F S1088x4096 .bf16) (x1 : Vec F S1x512x1024 .f32) (d : Vec F S1088x1024 .bf16)
    (s : Vec F S2x4096x1024 .bf16) (E : Set ℕ) (K : PUnit → sProp 𝕄) :
    iprop(owns (c : Thread nD τ) arg2 fullShare x0
        ∗ owns (c : Thread nD τ) arg3 fullShare x1
        ∗ owns (c : Thread nD τ) arg4 fullShare d
        ∗ owns (c : Thread nD τ) arg5 fullShare s
        ∗ (iprop(owns (c : Thread nD τ) arg2 fullShare x0
            ∗ owns (c : Thread nD τ) arg3 fullShare x1
            ∗ owns (c : Thread nD τ) arg4 fullShare d
            ∗ owns (c : Thread nD τ) arg5 fullShare (arg5.view.read (Elt F) (arg5.view.writes (Elt F) (harg5.unread s)
                [⟨Rect.unit (s := S2x4096x1024) (k0_off2 i) S1x512x1024.size (k0_off2_inb i h2), k0_pay2 x1⟩]))) -∗ K ⟨⟩))
      ⊢ wp frame (wpE (defs₀ (F := F)) Variants.none c none) E (cc0_xattn_q i arg2 harg2 arg3 harg3 arg4 harg4 arg5 harg5) K := by
  simp only [cc0_xattn_q_eq_skeleton]; unfold cc0_xattn_q_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr; swap; · iexact H3
  ipureintro
  rw [Held.load_full harg3 x1 (by decide)]

set_option maxHeartbeats 1000000 in
/-- A middle pass: the product is written, and the chunk is cast into the scratch. -/
theorem run_both (c : Dev nD) (i : grid0.Coords)
    (arg2 : Memref sig .tc .vmem S1088x4096 .bf16) (harg2 : arg2.IsWhole)
    (arg3 : Memref sig .tc .vmem S1x512x1024 .f32) (harg3 : arg3.IsWhole)
    (arg4 : Memref sig .tc .vmem S1088x1024 .bf16) (harg4 : arg4.IsWhole)
    (arg5 : Memref sig .tc .vmem S2x4096x1024 .bf16) (harg5 : arg5.IsWhole)
    (h1 : k0_cond1 i = 1#1) (h2 : k0_cond2 i = 1#1)
    (x0 : Vec F S1088x4096 .bf16) (x1 : Vec F S1x512x1024 .f32) (d : Vec F S1088x1024 .bf16)
    (s : Vec F S2x4096x1024 .bf16)
    (sl0 : Vec F S1x4096x1024 .bf16) (hsl0 : (fun y => s ((Rect.unit (s := S2x4096x1024) (k0_off1 i) S1x4096x1024.size (k0_off1_inb i h1)).emb y)) = sl0) (E : Set ℕ) (K : PUnit → sProp 𝕄) :
    iprop(owns (c : Thread nD τ) arg2 fullShare x0
        ∗ owns (c : Thread nD τ) arg3 fullShare x1
        ∗ owns (c : Thread nD τ) arg4 fullShare d
        ∗ owns (c : Thread nD τ) arg5 fullShare s
        ∗ (iprop(owns (c : Thread nD τ) arg2 fullShare x0
            ∗ owns (c : Thread nD τ) arg3 fullShare x1
            ∗ owns (c : Thread nD τ) arg4 fullShare (k0_pay1 x0 sl0)
            ∗ owns (c : Thread nD τ) arg5 fullShare (arg5.view.read (Elt F) (arg5.view.writes (Elt F) (harg5.unread s)
                [⟨Rect.unit (s := S2x4096x1024) (k0_off2 i) S1x512x1024.size (k0_off2_inb i h2), k0_pay2 x1⟩]))) -∗ K ⟨⟩))
      ⊢ wp frame (wpE (defs₀ (F := F)) Variants.none c none) E (cc0_xattn_q i arg2 harg2 arg3 harg3 arg4 harg4 arg5 harg5) K := by
  simp only [cc0_xattn_q_eq_skeleton]; unfold cc0_xattn_q_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    rw [Held.store_full _ _ (by decide), Held.load_full harg2 x0 (by decide), Held.load_rect harg5]
    exact congrArg (fun a => k0_pay1 x0 a) hsl0
  iexists _; isplitr; swap; · iexact H3
  ipureintro
  rw [Held.load_full harg3 x1 (by decide)]

set_option maxHeartbeats 1000000 in
/-- The last pass: the product is written; the scratch stays. -/
theorem run_last (c : Dev nD) (i : grid0.Coords)
    (arg2 : Memref sig .tc .vmem S1088x4096 .bf16) (harg2 : arg2.IsWhole)
    (arg3 : Memref sig .tc .vmem S1x512x1024 .f32) (harg3 : arg3.IsWhole)
    (arg4 : Memref sig .tc .vmem S1088x1024 .bf16) (harg4 : arg4.IsWhole)
    (arg5 : Memref sig .tc .vmem S2x4096x1024 .bf16) (harg5 : arg5.IsWhole)
    (h1 : k0_cond1 i = 1#1) (h2 : ¬k0_cond2 i = 1#1)
    (x0 : Vec F S1088x4096 .bf16) (x1 : Vec F S1x512x1024 .f32) (d : Vec F S1088x1024 .bf16)
    (s : Vec F S2x4096x1024 .bf16)
    (sl0 : Vec F S1x4096x1024 .bf16) (hsl0 : (fun y => s ((Rect.unit (s := S2x4096x1024) (k0_off1 i) S1x4096x1024.size (k0_off1_inb i h1)).emb y)) = sl0) (E : Set ℕ) (K : PUnit → sProp 𝕄) :
    iprop(owns (c : Thread nD τ) arg2 fullShare x0
        ∗ owns (c : Thread nD τ) arg3 fullShare x1
        ∗ owns (c : Thread nD τ) arg4 fullShare d
        ∗ owns (c : Thread nD τ) arg5 fullShare s
        ∗ (iprop(owns (c : Thread nD τ) arg2 fullShare x0
            ∗ owns (c : Thread nD τ) arg3 fullShare x1
            ∗ owns (c : Thread nD τ) arg4 fullShare (k0_pay1 x0 sl0)
            ∗ owns (c : Thread nD τ) arg5 fullShare s) -∗ K ⟨⟩))
      ⊢ wp frame (wpE (defs₀ (F := F)) Variants.none c none) E (cc0_xattn_q i arg2 harg2 arg3 harg3 arg4 harg4 arg5 harg5) K := by
  simp only [cc0_xattn_q_eq_skeleton]; unfold cc0_xattn_q_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    rw [Held.store_full _ _ (by decide), Held.load_full harg2 x0 (by decide), Held.load_rect harg5]
    exact congrArg (fun a => k0_pay1 x0 a) hsl0
  iexists _; isplitr; · ipureintro; exact harg5.read_unread _
  iexact H3

end Cert.QueryIdeal.Pipelined

end
-- ==== Proof.QueryFrame.lean ====
/- The queries of the cross-attention, as a run over its grid. The kernel keeps two slabs of the weights in a scratch: while the product of
   one slab is taken, the next slab is cast into the other, a chunk of 512 rows at a point. What is carried from
   point to point is that the last 16 chunks cast are where they were put. -/
module

public import proofs.«01_k».proof.Proof.QueryRun
public import Idealize.ShloMosaic.Lib.Claim
public import Idealize.ShloMosaic.Lib.Pipeline.ValueKit

@[expose] public section

set_option maxRecDepth 16384

noncomputable section

namespace Cert.QueryIdeal.Pipelined

open Cert.QueryIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem points (t : Fin cfg0.N) : t.val < 40 := lt_of_lt_of_eq t.isLt (show cfg0.N = 40 from N_0)

/-! ## What the scratch holds -/

/-- Before point `n` the scratch `s` holds each of the last 16 chunks cast, in the slab of its pass. -/
def Holds (c : Dev nD) (n : ℕ) (s : Vec F S2x4096x1024 .bf16) : Prop :=
  ∀ t : Fin cfg0.N, t.val < n → n ≤ t.val + 16 → t.val < 32 → ∀ (y : S1x512x1024.Idx) (z : S2x4096x1024.Idx),
    (z 0).val = t.val / 8 % 2 → (z 1).val = t.val % 8 * 512 + (y 1).val → (z 2).val = (y 2).val →
      s z = k0_pay2 (iblk m c 1 t) y

theorem holds_zero (c : Dev nD) (s : Vec F S2x4096x1024 .bf16) : Holds m c 0 s :=
  fun _ h => absurd h (Nat.not_lt_zero _)

/-- Past the last cast the scratch is left as it was. -/
theorem Holds.stay {c : Dev nD} {n : ℕ} {s : Vec F S2x4096x1024 .bf16} (h : Holds m c n s) (hn : 32 ≤ n) : Holds m c (n + 1) s :=
  fun t ht hr hB y z => h t (by omega) (by omega) hB y z

/-- Casting the chunk of a point keeps the 15 before it, which lie elsewhere. -/
theorem Holds.step {c : Dev nD} {t : Fin cfg0.N} {s : Vec F S2x4096x1024 .bf16} (h : Holds m c t.val s)
    (h2 : k0_cond2 (grid0.coords t) = 1#1) {M : Memref sig .tc .vmem S2x4096x1024 .bf16} (hM : M.IsWhole) :
    Holds m c (t.val + 1) (M.view.read (Elt F) (M.view.writes (Elt F) (hM.unread s)
      [⟨Rect.unit (s := S2x4096x1024) (k0_off2 (grid0.coords t)) S1x512x1024.size (k0_off2_inb (grid0.coords t) h2), k0_pay2 (iblk m c 1 t)⟩])) := by
  intro t' ht hr hB y z hz0 hz1 hz2
  have hy0 : (y 0).val = 0 := by have : (y 0).val < 1 := (y 0).isLt; omega
  have hyk : (y 1).val < 512 := (y 1).isLt
  have hoff := chunk_off t
  by_cases he : t' = t
  · subst he
    refine View.read_writes_cons_hit_of_coords M.view (hM.unread s)
      (Rect.unit (s := S2x4096x1024) (k0_off2 (grid0.coords t')) S1x512x1024.size (k0_off2_inb (grid0.coords t') h2)) (k0_pay2 (iblk m c 1 t')) [] y z fun a => ?_
    show (z a).val = k0_off2 (grid0.coords t') a + 1 * (y a).val
    rw [hoff]
    match a with
    | 0 => show (z 0).val = t'.val / 8 % 2 + 1 * (y 0).val; omega
    | 1 => show (z 1).val = t'.val % 8 * 512 + 1 * (y 1).val; omega
    | 2 => show (z 2).val = 0 + 1 * (y 2).val; omega
  · have hlt : t'.val < t.val := by
      have : t'.val ≠ t.val := fun e => he (Fin.ext e)
      omega
    have hkeep := (congrFun (hM.read_unread s) z).trans (h t' hlt (by omega) hB y z hz0 hz1 hz2)
    by_cases hc : t'.val % 8 = t.val % 8
    · refine (View.read_writes_cons_miss_of_axis _ _ _ _ z 0 (t.val / 8 % 2) 1 (congrFun hoff 0) rfl rfl ?_).trans hkeep
      rw [hz0]; omega
    · refine (View.read_writes_cons_miss_of_axis _ _ _ _ z 1 (t.val % 8 * 512) 512 (congrFun hoff 1) rfl rfl ?_).trans hkeep
      rw [hz1]; omega

/-- The slab the product of a point reads: the chunks cast in the pass before. -/
def slab (c : Dev nD) (t : Fin cfg0.N) : Vec F S1x4096x1024 .bf16 := fun y =>
  k0_pay2 (iblk m c 1 ⟨8 * (t.val / 8 - 1) + (y 1).val / 512, by
    have := points t; have : (y 1).val < 4096 := (y 1).isLt
    exact lt_of_lt_of_eq (by omega : _ < 40) (show cfg0.N = 40 from N_0).symm⟩)
    (fun a => match a with
      | 0 => ⟨0, Nat.one_pos⟩
      | 1 => ⟨(y 1).val % 512, Nat.mod_lt _ (by decide)⟩
      | 2 => y 2)

theorem slab_read {c : Dev nD} {t : Fin cfg0.N} {s : Vec F S2x4096x1024 .bf16} (h : Holds m c t.val s) (hni : 8 ≤ t.val)
    (h1 : k0_cond1 (grid0.coords t) = 1#1) :
    (fun y => s ((Rect.unit (s := S2x4096x1024) (k0_off1 (grid0.coords t)) S1x4096x1024.size (k0_off1_inb (grid0.coords t) h1)).emb y)) = slab m c t := by
  funext y
  have ht := points t
  have hyk : (y 1).val < 4096 := (y 1).isLt
  have hy0 : (y 0).val = 0 := by have : (y 0).val < 1 := (y 0).isLt; omega
  have hoff := slab_off t hni
  refine h _ ?_ ?_ ?_ _ _ ?_ ?_ ?_
  · show 8 * (t.val / 8 - 1) + (y 1).val / 512 < t.val; omega
  · show t.val ≤ 8 * (t.val / 8 - 1) + (y 1).val / 512 + 16; omega
  · show 8 * (t.val / 8 - 1) + (y 1).val / 512 < 32; omega
  · show k0_off1 (grid0.coords t) 0 + 1 * (y 0).val = (8 * (t.val / 8 - 1) + (y 1).val / 512) / 8 % 2
    have h0 : k0_off1 (grid0.coords t) 0 = (t.val / 8 - 1) % 2 := congrFun hoff 0
    omega
  · show k0_off1 (grid0.coords t) 1 + 1 * (y 1).val = (8 * (t.val / 8 - 1) + (y 1).val / 512) % 8 * 512 + (y 1).val % 512
    have h0 : k0_off1 (grid0.coords t) 1 = 0 := congrFun hoff 1
    omega
  · show k0_off1 (grid0.coords t) 2 + 1 * (y 2).val = (y 2).val
    have h0 : k0_off1 (grid0.coords t) 2 = 0 := congrFun hoff 2
    omega

/-! ## The proof data -/

/-- Between points: the scratch at some contents that hold the chunks, and the generator register. -/
def Carried (c : Dev nD) (n : ℕ) : sProp 𝕄 :=
  iprop((∃ s : Vec F S2x4096x1024 .bf16, ⌜Holds m c n s⌝ ∗ owns (c : Thread nD τ) (Memref.whole cc0_scratch0) fullShare s) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay1 (iblk m c 0 t) (slab m c t)
  Φ t := Carried m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = k0_pay1 (iblk m c 0 t) (slab m c t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem carried_start (c : Dev nD) (t : Fin cfg0.N) : (dats m 0 c).Φ t.castSucc = Carried m c t.val := by
  dsimp only [dats]; exact Pipeline.Dat.Φ_castSucc (fun n _ => Carried m c n) t
theorem carried_end (c : Dev nD) (t : Fin cfg0.N) : (dats m 0 c).Φ t.succ = Carried m c (t.val + 1) := by dsimp only [dats]; rfl

/-! ## When a point writes the result -/

theorem idle_out : ∀ t : Fin cfg0.N, t.val < 8 → cfg0.idle 2 (grid0.coords t) = true := (by decide +kernel : ∀ t : Fin grid0.N, _)
theorem kept_out : ∀ t : Fin cfg0.N, t.val < 8 → (cfg0.win 2).flush t = false := (by decide +kernel : ∀ t : Fin grid0.N, _)
theorem live_out : ∀ t : Fin cfg0.N, 8 ≤ t.val → cfg0.idle 2 (grid0.coords t) = false := (by decide +kernel : ∀ t : Fin grid0.N, _)

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [carried_start, carried_end, show (dats m 0 c).owesAt () t.succ = (dats m 0 c).owesAt () t.castSucc from rfl]
  rw [show (dats m 0 c).leavesExact 0 t = owns (c : Thread nD τ) (st0_0 t) fullShare (iblk m c 0 t) from by rw [← after_0 m c t],
    show (dats m 0 c).leavesExact 1 t = owns (c : Thread nD τ) (st0_1 t) fullShare (iblk m c 1 t) from by rw [← after_1 m c t]]
  have hN := points t
  by_cases hni : 8 ≤ t.val
  · have h1 := (product_iff t).mpr hni
    rw [show (dats m 0 c).leavesExact 2 t = owns (c : Thread nD τ) (st0_2 t) fullShare (k0_pay1 (iblk m c 0 t) (slab m c t)) from by
        unfold Dat.leavesExact; rw [live_out t hni, after_2]]
    by_cases hB : t.val < 32
    · have h2 := (cast_iff t).mpr hB
      unfold Carried
      iintro ⟨⟨⟨%s, %hs, HS⟩, Hg⟩, Ho, ⟨%d0, H0⟩, ⟨%d1, H1⟩, ⟨%d2, H2⟩⟩
      iapply (run_both c (grid0.coords t) _ _ _ _ _ _ _ _ h1 h2 (iblk m c 0 t) (iblk m c 1 t) _ s (slab m c t) (slab_read m hs hni h1) Set.univ _)
      isplitl [H0]; · iexact H0
      isplitl [H1]; · iexact H1
      isplitl [H2]; · iexact H2
      isplitl [HS]; · iexact HS
      iintro ⟨H0, H1, H2, HS⟩
      isplitl [HS Hg]
      · isplitl [HS]
        · iexists _; isplitr; swap; · iexact HS
          ipureintro; exact hs.step m h2 _
        · iexact Hg
      isplitl [Ho]; · iexact Ho
      isplitl [H0]; · iexact H0
      isplitl [H1]; · iexact H1
      iexact H2
    · have h2 : ¬k0_cond2 (grid0.coords t) = 1#1 := fun h => hB ((cast_iff t).mp h)
      unfold Carried
      iintro ⟨⟨⟨%s, %hs, HS⟩, Hg⟩, Ho, ⟨%d0, H0⟩, ⟨%d1, H1⟩, ⟨%d2, H2⟩⟩
      iapply (run_last c (grid0.coords t) _ _ _ _ _ _ _ _ h1 h2 (iblk m c 0 t) (iblk m c 1 t) _ s (slab m c t) (slab_read m hs hni h1) Set.univ _)
      isplitl [H0]; · iexact H0
      isplitl [H1]; · iexact H1
      isplitl [H2]; · iexact H2
      isplitl [HS]; · iexact HS
      iintro ⟨H0, H1, H2, HS⟩
      isplitl [HS Hg]
      · isplitl [HS]
        · iexists _; isplitr; swap; · iexact HS
          ipureintro; exact hs.stay m (by omega)
        · iexact Hg
      isplitl [Ho]; · iexact Ho
      isplitl [H0]; · iexact H0
      isplitl [H1]; · iexact H1
      iexact H2
  · have h1 : ¬k0_cond1 (grid0.coords t) = 1#1 := fun h => hni ((product_iff t).mp h)
    have h2 := (cast_iff t).mpr (by omega)
    rw [(dats m 0 c).leavesExact_idle 2 t (idle_out t (by omega)) (kept_out t (by omega))]
    unfold Carried
    iintro ⟨⟨⟨%s, %hs, HS⟩, Hg⟩, Ho, ⟨%d0, H0⟩, ⟨%d1, H1⟩, ⟨%d2, H2⟩⟩
    iapply (run_first c (grid0.coords t) _ _ _ _ _ _ _ _ h1 h2 (iblk m c 0 t) (iblk m c 1 t) _ s Set.univ _)
    isplitl [H0]; · iexact H0
    isplitl [H1]; · iexact H1
    isplitl [H2]; · iexact H2
    isplitl [HS]; · iexact HS
    iintro ⟨H0, H1, H2, HS⟩
    isplitl [HS Hg]
    · isplitl [HS]
      · iexists _; isplitr; swap; · iexact HS
        ipureintro; exact hs.step m h2 _
      · iexact Hg
    isplitl [Ho]; · iexact Ho
    isplitl [H0]; · iexact H0
    isplitl [H1]; · iexact H1
    iexists d2; iexact H2

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- Before the first point the scratch holds anything. -/
theorem carried_in (c : Dev nD) : Pipeline.ΦA spec0 c ⊢ (dats m 0 c).Φ 0 := by
  rw [show (dats m 0 c).Φ 0 = Carried m c 0 from rfl]
  unfold Pipeline.ΦA Carried
  rw [scopedRest0_eq]
  simp only [owns_whole]
  iintro ⟨⟨%f, H⟩, Hg⟩
  isplitl [H]
  · iexists f; isplitr; swap; · iexact H
    ipureintro; exact holds_zero m c f
  · iexact Hg

/-- After the last point what the scratch holds is forgotten. -/
theorem carried_out (c : Dev nD) : (dats m 0 c).Φ (Fin.last cfg0.N) ⊢ Pipeline.ΦA spec0 c := by
  rw [show (dats m 0 c).Φ (Fin.last cfg0.N) = Carried m c (Fin.last cfg0.N).val from rfl]
  unfold Pipeline.ΦA Carried
  rw [scopedRest0_eq]
  simp only [owns_whole]
  iintro ⟨⟨%f, %hf, H⟩, Hg⟩
  isplitl [H]
  · iexists f; iexact H
  · iexact Hg

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := carried_in m) (hout := carried_out m)

theorem run : θ_run defs (onTc (τ := τ) (main (F := F))) (s₀ m ρ) (Pipeline.FramePost cfgs (dats m) 0 (V m)) :=
  (θ_run defs _ _).mono (fun _ h => h.1) (run_quiescent m ρ)

/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run m ρ)) ((θ_run defs _ _).mono (fun _ h => h.2) (run_quiescent m ρ))

end Cert.QueryIdeal.Pipelined

end
-- ==== Proof.Query.lean ====
/- The queries of the cross-attention: what the kernel leaves in its result is what the reference computes. -/
module

public import proofs.«01_k».proof.Proof.QueryFrame
public import proofs.«01_k».proof.Proof.Gen.QueryRefIdeal.Run
public import proofs.«01_k».proof.Proof.Gen.QueryRefIdeal.Read
public import proofs.«01_k».proof.Defs
public import proofs.«01_k».proof.Proof.Gen.Query.Frame
public import Idealize.ShloMosaic.Lib.Pipeline.ValueKit

@[expose] public section

set_option maxRecDepth 16384

noncomputable section

namespace Cert.QueryIdeal.Pipelined

open Cert.QueryIdeal Cert.QueryIdeal.Gen Idealize.ShloMosaic Idealize.ShloMosaic.TcCoe Idealize.SL.Sem
open Idealize.ShloMosaic.Pipeline (Dat)

variable (m : (ℓ : Loc nD τ sig) → Buf (Elt Ideal) ℓ)

/-- Where each window's block sits in its array at a grid point. -/
theorem idx_0 : ∀ t : Fin cfg0.N, 8 ≤ t.val → win0_0.index t = ![t.val % 8, 0] :=
  (by decide +kernel : ∀ t : Fin grid0.N, _)
theorem idx_1 : ∀ t : Fin cfg0.N, t.val < 32 → win0_1.index t = ![0, t.val % 8, t.val / 8] :=
  (by decide +kernel : ∀ t : Fin grid0.N, _)
theorem idx_2 : ∀ t : Fin cfg0.N, 8 ≤ t.val → win0_2.index t = ![t.val % 8, t.val / 8 - 1] :=
  (by decide +kernel : ∀ t : Fin grid0.N, _)
theorem written : ∀ t : Fin cfg0.N, (cfg0.win 2).flush t = true → 8 ≤ t.val := (by decide +kernel : ∀ t : Fin grid0.N, _)

theorem chunk_at (w : FVec Ideal S1x512x1024 .f32) (y : S1x512x1024.Idx) : k0_pay2 (F := Ideal) w y = w y := by
  pointwise [k0_pay2]

theorem product_at (u : FVec Ideal S1088x4096 .bf16) (w : FVec Ideal S1x4096x1024 .bf16) (j : S1088x1024.Idx) :
    k0_pay1 (F := Ideal) u w j = ∑ k : Fin 4096, u (ix2 (j 0) k) * w (ix3 0 k (j 1)) := by
  pointwise [k0_pay1]

open Cert.QueryRefIdeal.Read in
theorem ref_product (u : FVec Ideal S8704x4096 .bf16) (w : FVec Ideal S2x4096x4096 .f32) (j : S8704x4096.Idx) :
    val_main_v4 (F := Ideal) u w j = ∑ k : Fin 4096, u (ix2 (j 0) k) * w (ix3 0 k (j 1)) := by
  pointwise [val_main_v4, val_main_v3, val_main_v2, val_main_v1, val_main_v0]

/-- The slab at an entry is the chunk's entry as the point that cast it found it. -/
theorem slab_at (c : Dev nD) (t : Fin cfg0.N) (y : S1x4096x1024.Idx) (t' : Fin cfg0.N) (ht : t'.val = 8 * (t.val / 8 - 1) + (y 1).val / 512)
    (z : S1x512x1024.Idx) (h1 : (z 1).val = (y 1).val % 512) (h2 : z 2 = y 2) :
    slab m c t y = (show FVec Ideal S1x512x1024 .f32 from iblk m c 1 t') z := by
  unfold slab
  rw [chunk_at]
  obtain ⟨v, hv⟩ := t'
  obtain rfl : v = 8 * (t.val / 8 - 1) + (y 1).val / 512 := ht
  refine congrArg (show FVec Ideal S1x512x1024 .f32 from iblk m c 1 _) (funext fun a => ?_)
  match a with
  | 0 => exact (Fin.ext (by have : (z 0).val < 1 := (z 0).isLt; show 0 = (z 0).val; omega))
  | 1 => exact Fin.ext h1.symm
  | 2 => exact h2.symm

/-- THE RESULT of the kernel is the reference's. -/
theorem final_product (c : Dev nD) : (dats m 0 c).arrAt 2 cfg0.N
    = Cert.QueryRefIdeal.Read.val_main_v4 (F := Ideal) (m ((c : Thread nD τ).loc main_arg0)) (m ((c : Thread nD τ).loc main_arg1)) := by
  refine (dats m 0 c).arrAt_eq_of_covers 2 _ (by decide +kernel) fun t hf y => ?_
  have hni := written t hf
  have hN := points t
  blk_simp
  rw [after_2, ref_product, product_at]
  refine congrArg (fun a : EReal => a) (Finset.sum_congr rfl fun k _ => ?_)
  have hk : k.val < 4096 := k.isLt
  have hlt : 8 * (t.val / 8 - 1) + k.val / 512 < cfg0.N :=
    lt_of_lt_of_eq (by omega : _ < 40) (show cfg0.N = 40 from N_0).symm
  have hi := idx_1 ⟨8 * (t.val / 8 - 1) + k.val / 512, hlt⟩ (show 8 * (t.val / 8 - 1) + k.val / 512 < 32 by omega)
  rw [slab_at m c t _ ⟨8 * (t.val / 8 - 1) + k.val / 512, hlt⟩ rfl (ix3 0 ⟨k.val % 512, Nat.mod_lt _ (by decide)⟩ _) rfl rfl]
  refine congrArg₂ (fun a b : EReal => a * b) ?_ ?_
  · blk_point [iblk, V, idx_0 t hni, idx_2 t hni]
  · blk_point [iblk, V, hi, idx_2 t hni]

/-- The kernel over ideal values and the reference end with equal results. -/
theorem algebraic : Cert.algebraic_QueryIdeal_QueryRefIdeal := by
  intro m g m' g' _ hagree
  refine ⟨fun c => Cert.QueryRefIdeal.Read.val_main_v4 (F := Ideal) (m ((c : Thread nD τ).loc main_arg0)) (m ((c : Thread nD τ).loc main_arg1)), ?_, ?_⟩
  · exact (θ_run Cert.QueryIdeal.defs _ _).mono (fun _ h c => ⟨((h.1 c).1 2).trans (final_product m c), (h.2.1 c)⟩)
      (θ_run_and (run m g) (frame m g))
  · refine (θ_run Cert.QueryRefIdeal.defs _ _).mono (fun _ h c => ⟨(h c).1.trans ?_, (h c).2⟩)
      (Cert.QueryRefIdeal.Value.run (F := Ideal) m' g')
    rw [(hagree c).1, (hagree c).2]
    exact Cert.QueryRefIdeal.Read.val_main_v4_eq _ _

/-- Over words the kernel's body table is the same text. -/
theorem rows_same : Cert.QueryIdeal.defs₀ (F := Bits) = Cert.Query.defs₀ (F := Bits) := by
  unfold Cert.QueryIdeal.defs₀ Cert.Query.defs₀
  refine congrArg Defs.onTc (funext fun l => funext fun a => ?_)
  match l, a with
  | 0, (t, s) => rfl

theorem frame_kernel : Cert.quiescent_Query := fun m ρ _ => by
  have h := frame (F := Bits) m ρ
  unfold Cert.QueryIdeal.defs at h
  rw [rows_same] at h
  exact h

theorem frame_ideal : Cert.quiescent_QueryIdeal := fun m ρ _ => frame (F := Ideal) m ρ

/-- The reference runs, leaves its arguments as they were and every semaphore at zero. -/
theorem frame_reference : Cert.quiescent_QueryRefIdeal := fun m ρ _ =>
  (θ_run Cert.QueryRefIdeal.defs _ _).mono (fun r h => ⟨fun c => (h c).2,
    Idealize.ShloMosaic.sem_eq_zero_of_no_sems (by decide) r.2⟩) (Cert.QueryRefIdeal.Value.run (F := Ideal) m ρ)

end Cert.QueryIdeal.Pipelined

end
-- ==== Proof.AttnOutRun.lean ====
/- The output projection of the cross-attention with the residual: what one grid point does to its buffers, by the three kinds of grid point. In the first pass a chunk of the
   weights is cast into the scratch and nothing is multiplied, in a middle pass both are done, in the last pass the
   product alone. -/
module

public import proofs.«01_k».proof.Proof.Gen.AttnOutIdeal.Frame
public import proofs.«01_k».proof.Proof.Gen.AttnOutIdeal.Skeleton
public import proofs.«01_k».proof.Proof.Held
public import Idealize.ShloMosaic.Lib.Pipeline.TableIdle

@[expose] public section

set_option maxRecDepth 16384

noncomputable section

namespace Cert.AttnOutIdeal.Pipelined

open Cert.AttnOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid in closed form -/

theorem product_iff : ∀ t : Fin cfg0.N, k0_cond1 (grid0.coords t) = 1#1 ↔ 16 ≤ t.val :=
  (by decide +kernel : ∀ t : Fin grid0.N, _)
theorem cast_iff : ∀ t : Fin cfg0.N, k0_cond2 (grid0.coords t) = 1#1 ↔ t.val < 64 :=
  (by decide +kernel : ∀ t : Fin grid0.N, _)
/-- The product reads the slab of the pass before. -/
theorem slab_off : ∀ t : Fin cfg0.N, 16 ≤ t.val → k0_off1 (grid0.coords t) = ![(t.val / 16 - 1) % 2, 0, 0] :=
  (by decide +kernel : ∀ t : Fin grid0.N, _)
/-- The cast writes the chunk of this point into the slab of this pass. -/
theorem chunk_off : ∀ t : Fin cfg0.N, k0_off2 (grid0.coords t) = ![t.val / 16 % 2, t.val % 16 * 256, 0] :=
  (by decide +kernel : ∀ t : Fin grid0.N, _)

/-! ## The three runs -/

set_option maxHeartbeats 1000000 in
/-- The first pass: the chunk is cast into the scratch, the result is left as it was. -/
theorem run_first (c : Dev nD) (i : grid0.Coords)
    (arg2 : Memref sig .tc .vmem S544x4096 .bf16) (harg2 : arg2.IsWhole)
    (arg3 : Memref sig .tc .vmem S1x256x1024 .f32) (harg3 : arg3.IsWhole)
    (arg4 : Memref sig .tc .vmem S544x1024 .f32) (harg4 : arg4.IsWhole)
    (arg5 : Memref sig .tc .vmem S544x1024 .f32) (harg5 : arg5.IsWhole)
    (arg6 : Memref sig .tc .vmem S2x4096x1024 .bf16) (harg6 : arg6.IsWhole)
    (h1 : ¬k0_cond1 i = 1#1) (h2 : k0_cond2 i = 1#1)
    (x0 : Vec F S544x4096 .bf16) (x1 : Vec F S1x256x1024 .f32) (x2 : Vec F S544x1024 .f32) (d : Vec F S544x1024 .f32)
    (s : Vec F S2x4096x1024 .bf16) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare d
        ∗ owns (c : Thread nD τ) arg6 fullShare s
        ∗ (iprop(owns (c : Thread nD τ) arg2 fullShare x0
            ∗ owns (c : Thread nD τ) arg3 fullShare x1
            ∗ owns (c : Thread nD τ) arg4 fullShare x2
            ∗ owns (c : Thread nD τ) arg5 fullShare d
            ∗ owns (c : Thread nD τ) arg6 fullShare (arg6.view.read (Elt F) (arg6.view.writes (Elt F) (harg6.unread s)
                [⟨Rect.unit (s := S2x4096x1024) (k0_off2 i) S1x256x1024.size (k0_off2_inb i h2), k0_pay2 x1⟩]))) -∗ K ⟨⟩))
      ⊢ wp frame (wpE (defs₀ (F := F)) Variants.none c none) E (cc0_xattn_o i arg2 harg2 arg3 harg3 arg4 harg4 arg5 harg5 arg6 harg6) K := by
  simp only [cc0_xattn_o_eq_skeleton]; unfold cc0_xattn_o_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr; swap; · iexact H4
  ipureintro
  rw [Held.load_full harg3 x1 (by decide)]

set_option maxHeartbeats 1000000 in
/-- A middle pass: the product is written, and the chunk is cast into the scratch. -/
theorem run_both (c : Dev nD) (i : grid0.Coords)
    (arg2 : Memref sig .tc .vmem S544x4096 .bf16) (harg2 : arg2.IsWhole)
    (arg3 : Memref sig .tc .vmem S1x256x1024 .f32) (harg3 : arg3.IsWhole)
    (arg4 : Memref sig .tc .vmem S544x1024 .f32) (harg4 : arg4.IsWhole)
    (arg5 : Memref sig .tc .vmem S544x1024 .f32) (harg5 : arg5.IsWhole)
    (arg6 : Memref sig .tc .vmem S2x4096x1024 .bf16) (harg6 : arg6.IsWhole)
    (h1 : k0_cond1 i = 1#1) (h2 : k0_cond2 i = 1#1)
    (x0 : Vec F S544x4096 .bf16) (x1 : Vec F S1x256x1024 .f32) (x2 : Vec F S544x1024 .f32) (d : Vec F S544x1024 .f32)
    (s : Vec F S2x4096x1024 .bf16)
    (sl0 : Vec F S1x4096x1024 .bf16) (hsl0 : (fun y => s ((Rect.unit (s := S2x4096x1024) (k0_off1 i) S1x4096x1024.size (k0_off1_inb i h1)).emb y)) = sl0) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare d
        ∗ owns (c : Thread nD τ) arg6 fullShare s
        ∗ (iprop(owns (c : Thread nD τ) arg2 fullShare x0
            ∗ owns (c : Thread nD τ) arg3 fullShare x1
            ∗ owns (c : Thread nD τ) arg4 fullShare x2
            ∗ owns (c : Thread nD τ) arg5 fullShare (k0_pay1 x0 sl0 x2)
            ∗ owns (c : Thread nD τ) arg6 fullShare (arg6.view.read (Elt F) (arg6.view.writes (Elt F) (harg6.unread s)
                [⟨Rect.unit (s := S2x4096x1024) (k0_off2 i) S1x256x1024.size (k0_off2_inb i h2), k0_pay2 x1⟩]))) -∗ K ⟨⟩))
      ⊢ wp frame (wpE (defs₀ (F := F)) Variants.none c none) E (cc0_xattn_o i arg2 harg2 arg3 harg3 arg4 harg4 arg5 harg5 arg6 harg6) K := by
  simp only [cc0_xattn_o_eq_skeleton]; unfold cc0_xattn_o_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    rw [Held.store_full _ _ (by decide), Held.load_full harg2 x0 (by decide), Held.load_full harg4 x2 (by decide), Held.load_rect harg6]
    exact congrArg (fun a => k0_pay1 x0 a x2) hsl0
  iexists _; isplitr; swap; · iexact H4
  ipureintro
  rw [Held.load_full harg3 x1 (by decide)]

set_option maxHeartbeats 1000000 in
/-- The last pass: the product is written; the scratch stays. -/
theorem run_last (c : Dev nD) (i : grid0.Coords)
    (arg2 : Memref sig .tc .vmem S544x4096 .bf16) (harg2 : arg2.IsWhole)
    (arg3 : Memref sig .tc .vmem S1x256x1024 .f32) (harg3 : arg3.IsWhole)
    (arg4 : Memref sig .tc .vmem S544x1024 .f32) (harg4 : arg4.IsWhole)
    (arg5 : Memref sig .tc .vmem S544x1024 .f32) (harg5 : arg5.IsWhole)
    (arg6 : Memref sig .tc .vmem S2x4096x1024 .bf16) (harg6 : arg6.IsWhole)
    (h1 : k0_cond1 i = 1#1) (h2 : ¬k0_cond2 i = 1#1)
    (x0 : Vec F S544x4096 .bf16) (x1 : Vec F S1x256x1024 .f32) (x2 : Vec F S544x1024 .f32) (d : Vec F S544x1024 .f32)
    (s : Vec F S2x4096x1024 .bf16)
    (sl0 : Vec F S1x4096x1024 .bf16) (hsl0 : (fun y => s ((Rect.unit (s := S2x4096x1024) (k0_off1 i) S1x4096x1024.size (k0_off1_inb i h1)).emb y)) = sl0) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare d
        ∗ owns (c : Thread nD τ) arg6 fullShare s
        ∗ (iprop(owns (c : Thread nD τ) arg2 fullShare x0
            ∗ owns (c : Thread nD τ) arg3 fullShare x1
            ∗ owns (c : Thread nD τ) arg4 fullShare x2
            ∗ owns (c : Thread nD τ) arg5 fullShare (k0_pay1 x0 sl0 x2)
            ∗ owns (c : Thread nD τ) arg6 fullShare s) -∗ K ⟨⟩))
      ⊢ wp frame (wpE (defs₀ (F := F)) Variants.none c none) E (cc0_xattn_o i arg2 harg2 arg3 harg3 arg4 harg4 arg5 harg5 arg6 harg6) K := by
  simp only [cc0_xattn_o_eq_skeleton]; unfold cc0_xattn_o_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    rw [Held.store_full _ _ (by decide), Held.load_full harg2 x0 (by decide), Held.load_full harg4 x2 (by decide), Held.load_rect harg6]
    exact congrArg (fun a => k0_pay1 x0 a x2) hsl0
  iexists _; isplitr; · ipureintro; exact harg6.read_unread _
  iexact H4

end Cert.AttnOutIdeal.Pipelined

end
-- ==== Proof.AttnOutFrame.lean ====
/- The output projection of the cross-attention with the residual, as a run over its grid. The kernel keeps two slabs of the weights in a scratch: while the product of
   one slab is taken, the next slab is cast into the other, a chunk of 256 rows at a point. What is carried from
   point to point is that the last 32 chunks cast are where they were put. -/
module

public import proofs.«01_k».proof.Proof.AttnOutRun
public import Idealize.ShloMosaic.Lib.Claim
public import Idealize.ShloMosaic.Lib.Pipeline.ValueKit

@[expose] public section

set_option maxRecDepth 16384

noncomputable section

namespace Cert.AttnOutIdeal.Pipelined

open Cert.AttnOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem points (t : Fin cfg0.N) : t.val < 80 := lt_of_lt_of_eq t.isLt (show cfg0.N = 80 from N_0)

/-! ## What the scratch holds -/

/-- Before point `n` the scratch `s` holds each of the last 32 chunks cast, in the slab of its pass. -/
def Holds (c : Dev nD) (n : ℕ) (s : Vec F S2x4096x1024 .bf16) : Prop :=
  ∀ t : Fin cfg0.N, t.val < n → n ≤ t.val + 32 → t.val < 64 → ∀ (y : S1x256x1024.Idx) (z : S2x4096x1024.Idx),
    (z 0).val = t.val / 16 % 2 → (z 1).val = t.val % 16 * 256 + (y 1).val → (z 2).val = (y 2).val →
      s z = k0_pay2 (iblk m c 1 t) y

theorem holds_zero (c : Dev nD) (s : Vec F S2x4096x1024 .bf16) : Holds m c 0 s :=
  fun _ h => absurd h (Nat.not_lt_zero _)

/-- Past the last cast the scratch is left as it was. -/
theorem Holds.stay {c : Dev nD} {n : ℕ} {s : Vec F S2x4096x1024 .bf16} (h : Holds m c n s) (hn : 64 ≤ n) : Holds m c (n + 1) s :=
  fun t ht hr hB y z => h t (by omega) (by omega) hB y z

/-- Casting the chunk of a point keeps the 31 before it, which lie elsewhere. -/
theorem Holds.step {c : Dev nD} {t : Fin cfg0.N} {s : Vec F S2x4096x1024 .bf16} (h : Holds m c t.val s)
    (h2 : k0_cond2 (grid0.coords t) = 1#1) {M : Memref sig .tc .vmem S2x4096x1024 .bf16} (hM : M.IsWhole) :
    Holds m c (t.val + 1) (M.view.read (Elt F) (M.view.writes (Elt F) (hM.unread s)
      [⟨Rect.unit (s := S2x4096x1024) (k0_off2 (grid0.coords t)) S1x256x1024.size (k0_off2_inb (grid0.coords t) h2), k0_pay2 (iblk m c 1 t)⟩])) := by
  intro t' ht hr hB y z hz0 hz1 hz2
  have hy0 : (y 0).val = 0 := by have : (y 0).val < 1 := (y 0).isLt; omega
  have hyk : (y 1).val < 256 := (y 1).isLt
  have hoff := chunk_off t
  by_cases he : t' = t
  · subst he
    refine View.read_writes_cons_hit_of_coords M.view (hM.unread s)
      (Rect.unit (s := S2x4096x1024) (k0_off2 (grid0.coords t')) S1x256x1024.size (k0_off2_inb (grid0.coords t') h2)) (k0_pay2 (iblk m c 1 t')) [] y z fun a => ?_
    show (z a).val = k0_off2 (grid0.coords t') a + 1 * (y a).val
    rw [hoff]
    match a with
    | 0 => show (z 0).val = t'.val / 16 % 2 + 1 * (y 0).val; omega
    | 1 => show (z 1).val = t'.val % 16 * 256 + 1 * (y 1).val; omega
    | 2 => show (z 2).val = 0 + 1 * (y 2).val; omega
  · have hlt : t'.val < t.val := by
      have : t'.val ≠ t.val := fun e => he (Fin.ext e)
      omega
    have hkeep := (congrFun (hM.read_unread s) z).trans (h t' hlt (by omega) hB y z hz0 hz1 hz2)
    by_cases hc : t'.val % 16 = t.val % 16
    · refine (View.read_writes_cons_miss_of_axis _ _ _ _ z 0 (t.val / 16 % 2) 1 (congrFun hoff 0) rfl rfl ?_).trans hkeep
      rw [hz0]; omega
    · refine (View.read_writes_cons_miss_of_axis _ _ _ _ z 1 (t.val % 16 * 256) 256 (congrFun hoff 1) rfl rfl ?_).trans hkeep
      rw [hz1]; omega

/-- The slab the product of a point reads: the chunks cast in the pass before. -/
def slab (c : Dev nD) (t : Fin cfg0.N) : Vec F S1x4096x1024 .bf16 := fun y =>
  k0_pay2 (iblk m c 1 ⟨16 * (t.val / 16 - 1) + (y 1).val / 256, by
    have := points t; have : (y 1).val < 4096 := (y 1).isLt
    exact lt_of_lt_of_eq (by omega : _ < 80) (show cfg0.N = 80 from N_0).symm⟩)
    (fun a => match a with
      | 0 => ⟨0, Nat.one_pos⟩
      | 1 => ⟨(y 1).val % 256, Nat.mod_lt _ (by decide)⟩
      | 2 => y 2)

theorem slab_read {c : Dev nD} {t : Fin cfg0.N} {s : Vec F S2x4096x1024 .bf16} (h : Holds m c t.val s) (hni : 16 ≤ t.val)
    (h1 : k0_cond1 (grid0.coords t) = 1#1) :
    (fun y => s ((Rect.unit (s := S2x4096x1024) (k0_off1 (grid0.coords t)) S1x4096x1024.size (k0_off1_inb (grid0.coords t) h1)).emb y)) = slab m c t := by
  funext y
  have ht := points t
  have hyk : (y 1).val < 4096 := (y 1).isLt
  have hy0 : (y 0).val = 0 := by have : (y 0).val < 1 := (y 0).isLt; omega
  have hoff := slab_off t hni
  refine h _ ?_ ?_ ?_ _ _ ?_ ?_ ?_
  · show 16 * (t.val / 16 - 1) + (y 1).val / 256 < t.val; omega
  · show t.val ≤ 16 * (t.val / 16 - 1) + (y 1).val / 256 + 32; omega
  · show 16 * (t.val / 16 - 1) + (y 1).val / 256 < 64; omega
  · show k0_off1 (grid0.coords t) 0 + 1 * (y 0).val = (16 * (t.val / 16 - 1) + (y 1).val / 256) / 16 % 2
    have h0 : k0_off1 (grid0.coords t) 0 = (t.val / 16 - 1) % 2 := congrFun hoff 0
    omega
  · show k0_off1 (grid0.coords t) 1 + 1 * (y 1).val = (16 * (t.val / 16 - 1) + (y 1).val / 256) % 16 * 256 + (y 1).val % 256
    have h0 : k0_off1 (grid0.coords t) 1 = 0 := congrFun hoff 1
    omega
  · show k0_off1 (grid0.coords t) 2 + 1 * (y 2).val = (y 2).val
    have h0 : k0_off1 (grid0.coords t) 2 = 0 := congrFun hoff 2
    omega

/-! ## The proof data -/

/-- Between points: the scratch at some contents that hold the chunks, and the generator register. -/
def Carried (c : Dev nD) (n : ℕ) : sProp 𝕄 :=
  iprop((∃ s : Vec F S2x4096x1024 .bf16, ⌜Holds m c n s⌝ ∗ owns (c : Thread nD τ) (Memref.whole cc0_scratch0) fullShare s) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay1 (iblk m c 0 t) (slab m c t) (iblk m c 2 t)
  Φ t := Carried m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay1 (iblk m c 0 t) (slab m c t) (iblk m c 2 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem carried_start (c : Dev nD) (t : Fin cfg0.N) : (dats m 0 c).Φ t.castSucc = Carried m c t.val := by
  dsimp only [dats]; exact Pipeline.Dat.Φ_castSucc (fun n _ => Carried m c n) t
theorem carried_end (c : Dev nD) (t : Fin cfg0.N) : (dats m 0 c).Φ t.succ = Carried m c (t.val + 1) := by dsimp only [dats]; rfl

/-! ## When a point writes the result -/

theorem idle_out : ∀ t : Fin cfg0.N, t.val < 16 → cfg0.idle 3 (grid0.coords t) = true := (by decide +kernel : ∀ t : Fin grid0.N, _)
theorem kept_out : ∀ t : Fin cfg0.N, t.val < 16 → (cfg0.win 3).flush t = false := (by decide +kernel : ∀ t : Fin grid0.N, _)
theorem live_out : ∀ t : Fin cfg0.N, 16 ≤ t.val → cfg0.idle 3 (grid0.coords t) = false := (by decide +kernel : ∀ t : Fin grid0.N, _)

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [carried_start, carried_end, show (dats m 0 c).owesAt () t.succ = (dats m 0 c).owesAt () t.castSucc from rfl]
  rw [show (dats m 0 c).leavesExact 0 t = owns (c : Thread nD τ) (st0_0 t) fullShare (iblk m c 0 t) from by rw [← after_0 m c t],
    show (dats m 0 c).leavesExact 1 t = owns (c : Thread nD τ) (st0_1 t) fullShare (iblk m c 1 t) from by rw [← after_1 m c t],
    show (dats m 0 c).leavesExact 2 t = owns (c : Thread nD τ) (st0_2 t) fullShare (iblk m c 2 t) from by rw [← after_2 m c t]]
  have hN := points t
  by_cases hni : 16 ≤ t.val
  · have h1 := (product_iff t).mpr hni
    rw [show (dats m 0 c).leavesExact 3 t = owns (c : Thread nD τ) (st0_3 t) fullShare (k0_pay1 (iblk m c 0 t) (slab m c t) (iblk m c 2 t)) from by
        unfold Dat.leavesExact; rw [live_out t hni, after_3]]
    by_cases hB : t.val < 64
    · have h2 := (cast_iff t).mpr hB
      unfold Carried
      iintro ⟨⟨⟨%s, %hs, HS⟩, Hg⟩, Ho, ⟨%d0, H0⟩, ⟨%d1, H1⟩, ⟨%d2, H2⟩, ⟨%d3, H3⟩⟩
      iapply (run_both c (grid0.coords t) _ _ _ _ _ _ _ _ _ _ h1 h2 (iblk m c 0 t) (iblk m c 1 t) (iblk m c 2 t) _ s (slab m c t) (slab_read m hs hni h1) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]
        · iexists _; isplitr; swap; · iexact HS
          ipureintro; exact hs.step m h2 _
        · iexact Hg
      isplitl [Ho]; · iexact Ho
      isplitl [H0]; · iexact H0
      isplitl [H1]; · iexact H1
      isplitl [H2]; · iexact H2
      iexact H3
    · have h2 : ¬k0_cond2 (grid0.coords t) = 1#1 := fun h => hB ((cast_iff t).mp h)
      unfold Carried
      iintro ⟨⟨⟨%s, %hs, HS⟩, Hg⟩, Ho, ⟨%d0, H0⟩, ⟨%d1, H1⟩, ⟨%d2, H2⟩, ⟨%d3, H3⟩⟩
      iapply (run_last c (grid0.coords t) _ _ _ _ _ _ _ _ _ _ h1 h2 (iblk m c 0 t) (iblk m c 1 t) (iblk m c 2 t) _ s (slab m c t) (slab_read m hs hni h1) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]
        · iexists _; isplitr; swap; · iexact HS
          ipureintro; exact hs.stay m (by omega)
        · iexact Hg
      isplitl [Ho]; · iexact Ho
      isplitl [H0]; · iexact H0
      isplitl [H1]; · iexact H1
      isplitl [H2]; · iexact H2
      iexact H3
  · have h1 : ¬k0_cond1 (grid0.coords t) = 1#1 := fun h => hni ((product_iff t).mp h)
    have h2 := (cast_iff t).mpr (by omega)
    rw [(dats m 0 c).leavesExact_idle 3 t (idle_out t (by omega)) (kept_out t (by omega))]
    unfold Carried
    iintro ⟨⟨⟨%s, %hs, HS⟩, Hg⟩, Ho, ⟨%d0, H0⟩, ⟨%d1, H1⟩, ⟨%d2, H2⟩, ⟨%d3, H3⟩⟩
    iapply (run_first c (grid0.coords t) _ _ _ _ _ _ _ _ _ _ h1 h2 (iblk m c 0 t) (iblk m c 1 t) (iblk m c 2 t) _ s Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hg]
    · isplitl [HS]
      · iexists _; isplitr; swap; · iexact HS
        ipureintro; exact hs.step m h2 _
      · iexact Hg
    isplitl [Ho]; · iexact Ho
    isplitl [H0]; · iexact H0
    isplitl [H1]; · iexact H1
    isplitl [H2]; · iexact H2
    iexists d3; iexact H3

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- Before the first point the scratch holds anything. -/
theorem carried_in (c : Dev nD) : Pipeline.ΦA spec0 c ⊢ (dats m 0 c).Φ 0 := by
  rw [show (dats m 0 c).Φ 0 = Carried m c 0 from rfl]
  unfold Pipeline.ΦA Carried
  rw [scopedRest0_eq]
  simp only [owns_whole]
  iintro ⟨⟨%f, H⟩, Hg⟩
  isplitl [H]
  · iexists f; isplitr; swap; · iexact H
    ipureintro; exact holds_zero m c f
  · iexact Hg

/-- After the last point what the scratch holds is forgotten. -/
theorem carried_out (c : Dev nD) : (dats m 0 c).Φ (Fin.last cfg0.N) ⊢ Pipeline.ΦA spec0 c := by
  rw [show (dats m 0 c).Φ (Fin.last cfg0.N) = Carried m c (Fin.last cfg0.N).val from rfl]
  unfold Pipeline.ΦA Carried
  rw [scopedRest0_eq]
  simp only [owns_whole]
  iintro ⟨⟨%f, %hf, H⟩, Hg⟩
  isplitl [H]
  · iexists f; iexact H
  · iexact Hg

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := carried_in m) (hout := carried_out m)

theorem run : θ_run defs (onTc (τ := τ) (main (F := F))) (s₀ m ρ) (Pipeline.FramePost cfgs (dats m) 0 (V m)) :=
  (θ_run defs _ _).mono (fun _ h => h.1) (run_quiescent m ρ)

/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run m ρ)) ((θ_run defs _ _).mono (fun _ h => h.2) (run_quiescent m ρ))

end Cert.AttnOutIdeal.Pipelined

end
-- ==== Proof.AttnOut.lean ====
/- The output projection of the cross-attention with the residual: what the kernel leaves in its result is what the reference computes. -/
module

public import proofs.«01_k».proof.Proof.AttnOutFrame
public import proofs.«01_k».proof.Proof.Gen.AttnOutRefIdeal.Run
public import proofs.«01_k».proof.Proof.Gen.AttnOutRefIdeal.Read
public import proofs.«01_k».proof.Defs
public import proofs.«01_k».proof.Proof.Gen.AttnOut.Frame
public import Idealize.ShloMosaic.Lib.Pipeline.ValueKit

@[expose] public section

set_option maxRecDepth 16384

noncomputable section

namespace Cert.AttnOutIdeal.Pipelined

open Cert.AttnOutIdeal Cert.AttnOutIdeal.Gen Idealize.ShloMosaic Idealize.ShloMosaic.TcCoe Idealize.SL.Sem
open Idealize.ShloMosaic.Pipeline (Dat)

variable (m : (ℓ : Loc nD τ sig) → Buf (Elt Ideal) ℓ)

/-- Where each window's block sits in its array at a grid point. -/
theorem idx_0 : ∀ t : Fin cfg0.N, 16 ≤ t.val → win0_0.index t = ![t.val % 16, 0] :=
  (by decide +kernel : ∀ t : Fin grid0.N, _)
theorem idx_1 : ∀ t : Fin cfg0.N, t.val < 64 → win0_1.index t = ![0, t.val % 16, t.val / 16] :=
  (by decide +kernel : ∀ t : Fin grid0.N, _)
theorem idx_2 : ∀ t : Fin cfg0.N, 16 ≤ t.val → win0_2.index t = ![t.val % 16, t.val / 16 - 1] :=
  (by decide +kernel : ∀ t : Fin grid0.N, _)
theorem idx_3 : ∀ t : Fin cfg0.N, 16 ≤ t.val → win0_3.index t = ![t.val % 16, t.val / 16 - 1] :=
  (by decide +kernel : ∀ t : Fin grid0.N, _)
theorem written : ∀ t : Fin cfg0.N, (cfg0.win 3).flush t = true → 16 ≤ t.val := (by decide +kernel : ∀ t : Fin grid0.N, _)

theorem chunk_at (w : FVec Ideal S1x256x1024 .f32) (y : S1x256x1024.Idx) : k0_pay2 (F := Ideal) w y = w y := by
  pointwise [k0_pay2]

theorem product_at (u : FVec Ideal S544x4096 .bf16) (w : FVec Ideal S1x4096x1024 .bf16) (r : FVec Ideal S544x1024 .f32) (j : S544x1024.Idx) :
    k0_pay1 (F := Ideal) u w r j = r (ix2 (j 0) (j 1)) + ∑ k : Fin 4096, u (ix2 (j 0) k) * w (ix3 0 k (j 1)) := by
  pointwise [k0_pay1]

open Cert.AttnOutRefIdeal.Read in
theorem ref_product (u : FVec Ideal S8704x4096 .bf16) (w : FVec Ideal S2x4096x4096 .f32) (r : FVec Ideal S8704x4096 .f32) (j : S8704x4096.Idx) :
    val_main_v4 (F := Ideal) u w r j = r (ix2 (j 0) (j 1)) + ∑ k : Fin 4096, u (ix2 (j 0) k) * w (ix3 0 k (j 1)) := by
  pointwise [val_main_v4, val_main_v3, val_main_v2, val_main_v1, val_main_v0]

/-- The slab at an entry is the chunk's entry as the point that cast it found it. -/
theorem slab_at (c : Dev nD) (t : Fin cfg0.N) (y : S1x4096x1024.Idx) (t' : Fin cfg0.N) (ht : t'.val = 16 * (t.val / 16 - 1) + (y 1).val / 256)
    (z : S1x256x1024.Idx) (h1 : (z 1).val = (y 1).val % 256) (h2 : z 2 = y 2) :
    slab m c t y = (show FVec Ideal S1x256x1024 .f32 from iblk m c 1 t') z := by
  unfold slab
  rw [chunk_at]
  obtain ⟨v, hv⟩ := t'
  obtain rfl : v = 16 * (t.val / 16 - 1) + (y 1).val / 256 := ht
  refine congrArg (show FVec Ideal S1x256x1024 .f32 from iblk m c 1 _) (funext fun a => ?_)
  match a with
  | 0 => exact (Fin.ext (by have : (z 0).val < 1 := (z 0).isLt; show 0 = (z 0).val; omega))
  | 1 => exact Fin.ext h1.symm
  | 2 => exact h2.symm

/-- THE RESULT of the kernel is the reference's. -/
theorem final_product (c : Dev nD) : (dats m 0 c).arrAt 3 cfg0.N
    = Cert.AttnOutRefIdeal.Read.val_main_v4 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have hni := written t hf
  have hN := points t
  blk_simp
  rw [after_3, ref_product, product_at]
  refine congrArg₂ (fun a b : EReal => a + b) ?_ (Finset.sum_congr rfl fun k _ => ?_)
  · blk_point [iblk, V, idx_2 t hni, idx_3 t hni]
  have hk : k.val < 4096 := k.isLt
  have hlt : 16 * (t.val / 16 - 1) + k.val / 256 < cfg0.N :=
    lt_of_lt_of_eq (by omega : _ < 80) (show cfg0.N = 80 from N_0).symm
  have hi := idx_1 ⟨16 * (t.val / 16 - 1) + k.val / 256, hlt⟩ (show 16 * (t.val / 16 - 1) + k.val / 256 < 64 by omega)
  rw [slab_at m c t _ ⟨16 * (t.val / 16 - 1) + k.val / 256, hlt⟩ rfl (ix3 0 ⟨k.val % 256, Nat.mod_lt _ (by decide)⟩ _) rfl rfl]
  refine congrArg₂ (fun a b : EReal => a * b) ?_ ?_
  · blk_point [iblk, V, idx_0 t hni, idx_3 t hni]
  · blk_point [iblk, V, hi, idx_3 t hni]

/-- The kernel over ideal values and the reference end with equal results. -/
theorem algebraic : Cert.algebraic_AttnOutIdeal_AttnOutRefIdeal := by
  intro m g m' g' _ hagree
  refine ⟨fun c => Cert.AttnOutRefIdeal.Read.val_main_v4 (F := Ideal) (m ((c : Thread nD τ).loc main_arg0)) (m ((c : Thread nD τ).loc main_arg1)) (m ((c : Thread nD τ).loc main_arg2)), ?_, ?_⟩
  · exact (θ_run Cert.AttnOutIdeal.defs _ _).mono (fun _ h c => ⟨((h.1 c).1 3).trans (final_product m c), (h.2.1 c)⟩)
      (θ_run_and (run m g) (frame m g))
  · refine (θ_run Cert.AttnOutRefIdeal.defs _ _).mono (fun _ h c => ⟨(h c).1.trans ?_, (h c).2⟩)
      (Cert.AttnOutRefIdeal.Value.run (F := Ideal) m' g')
    rw [(hagree c).1, (hagree c).2.1, (hagree c).2.2]
    exact Cert.AttnOutRefIdeal.Read.val_main_v4_eq _ _ _

/-- Over words the kernel's body table is the same text. -/
theorem rows_same : Cert.AttnOutIdeal.defs₀ (F := Bits) = Cert.AttnOut.defs₀ (F := Bits) := by
  unfold Cert.AttnOutIdeal.defs₀ Cert.AttnOut.defs₀
  refine congrArg Defs.onTc (funext fun l => funext fun a => ?_)
  match l, a with
  | 0, (t, s) => rfl

theorem frame_kernel : Cert.quiescent_AttnOut := fun m ρ _ => by
  have h := frame (F := Bits) m ρ
  unfold Cert.AttnOutIdeal.defs at h
  rw [rows_same] at h
  exact h

theorem frame_ideal : Cert.quiescent_AttnOutIdeal := fun m ρ _ => frame (F := Ideal) m ρ

/-- The reference runs, leaves its arguments as they were and every semaphore at zero. -/
theorem frame_reference : Cert.quiescent_AttnOutRefIdeal := fun m ρ _ =>
  (θ_run Cert.AttnOutRefIdeal.defs _ _).mono (fun r h => ⟨fun c => (h c).2,
    Idealize.ShloMosaic.sem_eq_zero_of_no_sems (by decide) r.2⟩) (Cert.AttnOutRefIdeal.Value.run (F := Ideal) m ρ)

end Cert.AttnOutIdeal.Pipelined

end
-- ==== Proof.OddOutRun.lean ====
/- The output projection of the odd layer with the residual: what one grid point does to its buffers, by the three kinds of grid point. In the first pass a chunk of the
   weights is cast into the scratch and nothing is multiplied, in a middle pass both are done, in the last pass the
   product alone. -/
module

public import proofs.«01_k».proof.Proof.Gen.OddOutIdeal.Frame
public import proofs.«01_k».proof.Proof.Gen.OddOutIdeal.Skeleton
public import proofs.«01_k».proof.Proof.Held
public import Idealize.ShloMosaic.Lib.Pipeline.TableIdle

@[expose] public section

set_option maxRecDepth 16384

noncomputable section

namespace Cert.OddOutIdeal.Pipelined

open Cert.OddOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid in closed form -/

theorem product_iff : ∀ t : Fin cfg0.N, k0_cond1 (grid0.coords t) = 1#1 ↔ 16 ≤ t.val :=
  (by decide +kernel : ∀ t : Fin grid0.N, _)
theorem cast_iff : ∀ t : Fin cfg0.N, k0_cond2 (grid0.coords t) = 1#1 ↔ t.val < 64 :=
  (by decide +kernel : ∀ t : Fin grid0.N, _)
/-- The product reads the slab of the pass before. -/
theorem slab_off : ∀ t : Fin cfg0.N, 16 ≤ t.val → k0_off1 (grid0.coords t) = ![(t.val / 16 - 1) % 2, 0, 0] :=
  (by decide +kernel : ∀ t : Fin grid0.N, _)
/-- The cast writes the chunk of this point into the slab of this pass. -/
theorem chunk_off : ∀ t : Fin cfg0.N, k0_off2 (grid0.coords t) = ![t.val / 16 % 2, t.val % 16 * 256, 0] :=
  (by decide +kernel : ∀ t : Fin grid0.N, _)

/-! ## The three runs -/

set_option maxHeartbeats 1000000 in
/-- The first pass: the chunk is cast into the scratch, the result is left as it was. -/
theorem run_first (c : Dev nD) (i : grid0.Coords)
    (arg2 : Memref sig .tc .vmem S544x4096 .bf16) (harg2 : arg2.IsWhole)
    (arg3 : Memref sig .tc .vmem S1x256x1024 .f32) (harg3 : arg3.IsWhole)
    (arg4 : Memref sig .tc .vmem S544x1024 .f32) (harg4 : arg4.IsWhole)
    (arg5 : Memref sig .tc .vmem S544x1024 .f32) (harg5 : arg5.IsWhole)
    (arg6 : Memref sig .tc .vmem S2x4096x1024 .bf16) (harg6 : arg6.IsWhole)
    (h1 : ¬k0_cond1 i = 1#1) (h2 : k0_cond2 i = 1#1)
    (x0 : Vec F S544x4096 .bf16) (x1 : Vec F S1x256x1024 .f32) (x2 : Vec F S544x1024 .f32) (d : Vec F S544x1024 .f32)
    (s : Vec F S2x4096x1024 .bf16) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare d
        ∗ owns (c : Thread nD τ) arg6 fullShare s
        ∗ (iprop(owns (c : Thread nD τ) arg2 fullShare x0
            ∗ owns (c : Thread nD τ) arg3 fullShare x1
            ∗ owns (c : Thread nD τ) arg4 fullShare x2
            ∗ owns (c : Thread nD τ) arg5 fullShare d
            ∗ owns (c : Thread nD τ) arg6 fullShare (arg6.view.read (Elt F) (arg6.view.writes (Elt F) (harg6.unread s)
                [⟨Rect.unit (s := S2x4096x1024) (k0_off2 i) S1x256x1024.size (k0_off2_inb i h2), k0_pay2 x1⟩]))) -∗ K ⟨⟩))
      ⊢ wp frame (wpE (defs₀ (F := F)) Variants.none c none) E (cc0_out_proj_odd i arg2 harg2 arg3 harg3 arg4 harg4 arg5 harg5 arg6 harg6) K := by
  simp only [cc0_out_proj_odd_eq_skeleton]; unfold cc0_out_proj_odd_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr; swap; · iexact H4
  ipureintro
  rw [Held.load_full harg3 x1 (by decide)]

set_option maxHeartbeats 1000000 in
/-- A middle pass: the product is written, and the chunk is cast into the scratch. -/
theorem run_both (c : Dev nD) (i : grid0.Coords)
    (arg2 : Memref sig .tc .vmem S544x4096 .bf16) (harg2 : arg2.IsWhole)
    (arg3 : Memref sig .tc .vmem S1x256x1024 .f32) (harg3 : arg3.IsWhole)
    (arg4 : Memref sig .tc .vmem S544x1024 .f32) (harg4 : arg4.IsWhole)
    (arg5 : Memref sig .tc .vmem S544x1024 .f32) (harg5 : arg5.IsWhole)
    (arg6 : Memref sig .tc .vmem S2x4096x1024 .bf16) (harg6 : arg6.IsWhole)
    (h1 : k0_cond1 i = 1#1) (h2 : k0_cond2 i = 1#1)
    (x0 : Vec F S544x4096 .bf16) (x1 : Vec F S1x256x1024 .f32) (x2 : Vec F S544x1024 .f32) (d : Vec F S544x1024 .f32)
    (s : Vec F S2x4096x1024 .bf16)
    (sl0 : Vec F S1x4096x1024 .bf16) (hsl0 : (fun y => s ((Rect.unit (s := S2x4096x1024) (k0_off1 i) S1x4096x1024.size (k0_off1_inb i h1)).emb y)) = sl0) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare d
        ∗ owns (c : Thread nD τ) arg6 fullShare s
        ∗ (iprop(owns (c : Thread nD τ) arg2 fullShare x0
            ∗ owns (c : Thread nD τ) arg3 fullShare x1
            ∗ owns (c : Thread nD τ) arg4 fullShare x2
            ∗ owns (c : Thread nD τ) arg5 fullShare (k0_pay1 x0 sl0 x2)
            ∗ owns (c : Thread nD τ) arg6 fullShare (arg6.view.read (Elt F) (arg6.view.writes (Elt F) (harg6.unread s)
                [⟨Rect.unit (s := S2x4096x1024) (k0_off2 i) S1x256x1024.size (k0_off2_inb i h2), k0_pay2 x1⟩]))) -∗ K ⟨⟩))
      ⊢ wp frame (wpE (defs₀ (F := F)) Variants.none c none) E (cc0_out_proj_odd i arg2 harg2 arg3 harg3 arg4 harg4 arg5 harg5 arg6 harg6) K := by
  simp only [cc0_out_proj_odd_eq_skeleton]; unfold cc0_out_proj_odd_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    rw [Held.store_full _ _ (by decide), Held.load_full harg2 x0 (by decide), Held.load_full harg4 x2 (by decide), Held.load_rect harg6]
    exact congrArg (fun a => k0_pay1 x0 a x2) hsl0
  iexists _; isplitr; swap; · iexact H4
  ipureintro
  rw [Held.load_full harg3 x1 (by decide)]

set_option maxHeartbeats 1000000 in
/-- The last pass: the product is written; the scratch stays. -/
theorem run_last (c : Dev nD) (i : grid0.Coords)
    (arg2 : Memref sig .tc .vmem S544x4096 .bf16) (harg2 : arg2.IsWhole)
    (arg3 : Memref sig .tc .vmem S1x256x1024 .f32) (harg3 : arg3.IsWhole)
    (arg4 : Memref sig .tc .vmem S544x1024 .f32) (harg4 : arg4.IsWhole)
    (arg5 : Memref sig .tc .vmem S544x1024 .f32) (harg5 : arg5.IsWhole)
    (arg6 : Memref sig .tc .vmem S2x4096x1024 .bf16) (harg6 : arg6.IsWhole)
    (h1 : k0_cond1 i = 1#1) (h2 : ¬k0_cond2 i = 1#1)
    (x0 : Vec F S544x4096 .bf16) (x1 : Vec F S1x256x1024 .f32) (x2 : Vec F S544x1024 .f32) (d : Vec F S544x1024 .f32)
    (s : Vec F S2x4096x1024 .bf16)
    (sl0 : Vec F S1x4096x1024 .bf16) (hsl0 : (fun y => s ((Rect.unit (s := S2x4096x1024) (k0_off1 i) S1x4096x1024.size (k0_off1_inb i h1)).emb y)) = sl0) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare d
        ∗ owns (c : Thread nD τ) arg6 fullShare s
        ∗ (iprop(owns (c : Thread nD τ) arg2 fullShare x0
            ∗ owns (c : Thread nD τ) arg3 fullShare x1
            ∗ owns (c : Thread nD τ) arg4 fullShare x2
            ∗ owns (c : Thread nD τ) arg5 fullShare (k0_pay1 x0 sl0 x2)
            ∗ owns (c : Thread nD τ) arg6 fullShare s) -∗ K ⟨⟩))
      ⊢ wp frame (wpE (defs₀ (F := F)) Variants.none c none) E (cc0_out_proj_odd i arg2 harg2 arg3 harg3 arg4 harg4 arg5 harg5 arg6 harg6) K := by
  simp only [cc0_out_proj_odd_eq_skeleton]; unfold cc0_out_proj_odd_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    rw [Held.store_full _ _ (by decide), Held.load_full harg2 x0 (by decide), Held.load_full harg4 x2 (by decide), Held.load_rect harg6]
    exact congrArg (fun a => k0_pay1 x0 a x2) hsl0
  iexists _; isplitr; · ipureintro; exact harg6.read_unread _
  iexact H4

end Cert.OddOutIdeal.Pipelined

end
-- ==== Proof.OddOutFrame.lean ====
/- The output projection of the odd layer with the residual, as a run over its grid. The kernel keeps two slabs of the weights in a scratch: while the product of
   one slab is taken, the next slab is cast into the other, a chunk of 256 rows at a point. What is carried from
   point to point is that the last 32 chunks cast are where they were put. -/
module

public import proofs.«01_k».proof.Proof.OddOutRun
public import Idealize.ShloMosaic.Lib.Claim
public import Idealize.ShloMosaic.Lib.Pipeline.ValueKit

@[expose] public section

set_option maxRecDepth 16384

noncomputable section

namespace Cert.OddOutIdeal.Pipelined

open Cert.OddOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem points (t : Fin cfg0.N) : t.val < 80 := lt_of_lt_of_eq t.isLt (show cfg0.N = 80 from N_0)

/-! ## What the scratch holds -/

/-- Before point `n` the scratch `s` holds each of the last 32 chunks cast, in the slab of its pass. -/
def Holds (c : Dev nD) (n : ℕ) (s : Vec F S2x4096x1024 .bf16) : Prop :=
  ∀ t : Fin cfg0.N, t.val < n → n ≤ t.val + 32 → t.val < 64 → ∀ (y : S1x256x1024.Idx) (z : S2x4096x1024.Idx),
    (z 0).val = t.val / 16 % 2 → (z 1).val = t.val % 16 * 256 + (y 1).val → (z 2).val = (y 2).val →
      s z = k0_pay2 (iblk m c 1 t) y

theorem holds_zero (c : Dev nD) (s : Vec F S2x4096x1024 .bf16) : Holds m c 0 s :=
  fun _ h => absurd h (Nat.not_lt_zero _)

/-- Past the last cast the scratch is left as it was. -/
theorem Holds.stay {c : Dev nD} {n : ℕ} {s : Vec F S2x4096x1024 .bf16} (h : Holds m c n s) (hn : 64 ≤ n) : Holds m c (n + 1) s :=
  fun t ht hr hB y z => h t (by omega) (by omega) hB y z

/-- Casting the chunk of a point keeps the 31 before it, which lie elsewhere. -/
theorem Holds.step {c : Dev nD} {t : Fin cfg0.N} {s : Vec F S2x4096x1024 .bf16} (h : Holds m c t.val s)
    (h2 : k0_cond2 (grid0.coords t) = 1#1) {M : Memref sig .tc .vmem S2x4096x1024 .bf16} (hM : M.IsWhole) :
    Holds m c (t.val + 1) (M.view.read (Elt F) (M.view.writes (Elt F) (hM.unread s)
      [⟨Rect.unit (s := S2x4096x1024) (k0_off2 (grid0.coords t)) S1x256x1024.size (k0_off2_inb (grid0.coords t) h2), k0_pay2 (iblk m c 1 t)⟩])) := by
  intro t' ht hr hB y z hz0 hz1 hz2
  have hy0 : (y 0).val = 0 := by have : (y 0).val < 1 := (y 0).isLt; omega
  have hyk : (y 1).val < 256 := (y 1).isLt
  have hoff := chunk_off t
  by_cases he : t' = t
  · subst he
    refine View.read_writes_cons_hit_of_coords M.view (hM.unread s)
      (Rect.unit (s := S2x4096x1024) (k0_off2 (grid0.coords t')) S1x256x1024.size (k0_off2_inb (grid0.coords t') h2)) (k0_pay2 (iblk m c 1 t')) [] y z fun a => ?_
    show (z a).val = k0_off2 (grid0.coords t') a + 1 * (y a).val
    rw [hoff]
    match a with
    | 0 => show (z 0).val = t'.val / 16 % 2 + 1 * (y 0).val; omega
    | 1 => show (z 1).val = t'.val % 16 * 256 + 1 * (y 1).val; omega
    | 2 => show (z 2).val = 0 + 1 * (y 2).val; omega
  · have hlt : t'.val < t.val := by
      have : t'.val ≠ t.val := fun e => he (Fin.ext e)
      omega
    have hkeep := (congrFun (hM.read_unread s) z).trans (h t' hlt (by omega) hB y z hz0 hz1 hz2)
    by_cases hc : t'.val % 16 = t.val % 16
    · refine (View.read_writes_cons_miss_of_axis _ _ _ _ z 0 (t.val / 16 % 2) 1 (congrFun hoff 0) rfl rfl ?_).trans hkeep
      rw [hz0]; omega
    · refine (View.read_writes_cons_miss_of_axis _ _ _ _ z 1 (t.val % 16 * 256) 256 (congrFun hoff 1) rfl rfl ?_).trans hkeep
      rw [hz1]; omega

/-- The slab the product of a point reads: the chunks cast in the pass before. -/
def slab (c : Dev nD) (t : Fin cfg0.N) : Vec F S1x4096x1024 .bf16 := fun y =>
  k0_pay2 (iblk m c 1 ⟨16 * (t.val / 16 - 1) + (y 1).val / 256, by
    have := points t; have : (y 1).val < 4096 := (y 1).isLt
    exact lt_of_lt_of_eq (by omega : _ < 80) (show cfg0.N = 80 from N_0).symm⟩)
    (fun a => match a with
      | 0 => ⟨0, Nat.one_pos⟩
      | 1 => ⟨(y 1).val % 256, Nat.mod_lt _ (by decide)⟩
      | 2 => y 2)

theorem slab_read {c : Dev nD} {t : Fin cfg0.N} {s : Vec F S2x4096x1024 .bf16} (h : Holds m c t.val s) (hni : 16 ≤ t.val)
    (h1 : k0_cond1 (grid0.coords t) = 1#1) :
    (fun y => s ((Rect.unit (s := S2x4096x1024) (k0_off1 (grid0.coords t)) S1x4096x1024.size (k0_off1_inb (grid0.coords t) h1)).emb y)) = slab m c t := by
  funext y
  have ht := points t
  have hyk : (y 1).val < 4096 := (y 1).isLt
  have hy0 : (y 0).val = 0 := by have : (y 0).val < 1 := (y 0).isLt; omega
  have hoff := slab_off t hni
  refine h _ ?_ ?_ ?_ _ _ ?_ ?_ ?_
  · show 16 * (t.val / 16 - 1) + (y 1).val / 256 < t.val; omega
  · show t.val ≤ 16 * (t.val / 16 - 1) + (y 1).val / 256 + 32; omega
  · show 16 * (t.val / 16 - 1) + (y 1).val / 256 < 64; omega
  · show k0_off1 (grid0.coords t) 0 + 1 * (y 0).val = (16 * (t.val / 16 - 1) + (y 1).val / 256) / 16 % 2
    have h0 : k0_off1 (grid0.coords t) 0 = (t.val / 16 - 1) % 2 := congrFun hoff 0
    omega
  · show k0_off1 (grid0.coords t) 1 + 1 * (y 1).val = (16 * (t.val / 16 - 1) + (y 1).val / 256) % 16 * 256 + (y 1).val % 256
    have h0 : k0_off1 (grid0.coords t) 1 = 0 := congrFun hoff 1
    omega
  · show k0_off1 (grid0.coords t) 2 + 1 * (y 2).val = (y 2).val
    have h0 : k0_off1 (grid0.coords t) 2 = 0 := congrFun hoff 2
    omega

/-! ## The proof data -/

/-- Between points: the scratch at some contents that hold the chunks, and the generator register. -/
def Carried (c : Dev nD) (n : ℕ) : sProp 𝕄 :=
  iprop((∃ s : Vec F S2x4096x1024 .bf16, ⌜Holds m c n s⌝ ∗ owns (c : Thread nD τ) (Memref.whole cc0_scratch0) fullShare s) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay1 (iblk m c 0 t) (slab m c t) (iblk m c 2 t)
  Φ t := Carried m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay1 (iblk m c 0 t) (slab m c t) (iblk m c 2 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem carried_start (c : Dev nD) (t : Fin cfg0.N) : (dats m 0 c).Φ t.castSucc = Carried m c t.val := by
  dsimp only [dats]; exact Pipeline.Dat.Φ_castSucc (fun n _ => Carried m c n) t
theorem carried_end (c : Dev nD) (t : Fin cfg0.N) : (dats m 0 c).Φ t.succ = Carried m c (t.val + 1) := by dsimp only [dats]; rfl

/-! ## When a point writes the result -/

theorem idle_out : ∀ t : Fin cfg0.N, t.val < 16 → cfg0.idle 3 (grid0.coords t) = true := (by decide +kernel : ∀ t : Fin grid0.N, _)
theorem kept_out : ∀ t : Fin cfg0.N, t.val < 16 → (cfg0.win 3).flush t = false := (by decide +kernel : ∀ t : Fin grid0.N, _)
theorem live_out : ∀ t : Fin cfg0.N, 16 ≤ t.val → cfg0.idle 3 (grid0.coords t) = false := (by decide +kernel : ∀ t : Fin grid0.N, _)

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [carried_start, carried_end, show (dats m 0 c).owesAt () t.succ = (dats m 0 c).owesAt () t.castSucc from rfl]
  rw [show (dats m 0 c).leavesExact 0 t = owns (c : Thread nD τ) (st0_0 t) fullShare (iblk m c 0 t) from by rw [← after_0 m c t],
    show (dats m 0 c).leavesExact 1 t = owns (c : Thread nD τ) (st0_1 t) fullShare (iblk m c 1 t) from by rw [← after_1 m c t],
    show (dats m 0 c).leavesExact 2 t = owns (c : Thread nD τ) (st0_2 t) fullShare (iblk m c 2 t) from by rw [← after_2 m c t]]
  have hN := points t
  by_cases hni : 16 ≤ t.val
  · have h1 := (product_iff t).mpr hni
    rw [show (dats m 0 c).leavesExact 3 t = owns (c : Thread nD τ) (st0_3 t) fullShare (k0_pay1 (iblk m c 0 t) (slab m c t) (iblk m c 2 t)) from by
        unfold Dat.leavesExact; rw [live_out t hni, after_3]]
    by_cases hB : t.val < 64
    · have h2 := (cast_iff t).mpr hB
      unfold Carried
      iintro ⟨⟨⟨%s, %hs, HS⟩, Hg⟩, Ho, ⟨%d0, H0⟩, ⟨%d1, H1⟩, ⟨%d2, H2⟩, ⟨%d3, H3⟩⟩
      iapply (run_both c (grid0.coords t) _ _ _ _ _ _ _ _ _ _ h1 h2 (iblk m c 0 t) (iblk m c 1 t) (iblk m c 2 t) _ s (slab m c t) (slab_read m hs hni h1) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]
        · iexists _; isplitr; swap; · iexact HS
          ipureintro; exact hs.step m h2 _
        · iexact Hg
      isplitl [Ho]; · iexact Ho
      isplitl [H0]; · iexact H0
      isplitl [H1]; · iexact H1
      isplitl [H2]; · iexact H2
      iexact H3
    · have h2 : ¬k0_cond2 (grid0.coords t) = 1#1 := fun h => hB ((cast_iff t).mp h)
      unfold Carried
      iintro ⟨⟨⟨%s, %hs, HS⟩, Hg⟩, Ho, ⟨%d0, H0⟩, ⟨%d1, H1⟩, ⟨%d2, H2⟩, ⟨%d3, H3⟩⟩
      iapply (run_last c (grid0.coords t) _ _ _ _ _ _ _ _ _ _ h1 h2 (iblk m c 0 t) (iblk m c 1 t) (iblk m c 2 t) _ s (slab m c t) (slab_read m hs hni h1) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]
        · iexists _; isplitr; swap; · iexact HS
          ipureintro; exact hs.stay m (by omega)
        · iexact Hg
      isplitl [Ho]; · iexact Ho
      isplitl [H0]; · iexact H0
      isplitl [H1]; · iexact H1
      isplitl [H2]; · iexact H2
      iexact H3
  · have h1 : ¬k0_cond1 (grid0.coords t) = 1#1 := fun h => hni ((product_iff t).mp h)
    have h2 := (cast_iff t).mpr (by omega)
    rw [(dats m 0 c).leavesExact_idle 3 t (idle_out t (by omega)) (kept_out t (by omega))]
    unfold Carried
    iintro ⟨⟨⟨%s, %hs, HS⟩, Hg⟩, Ho, ⟨%d0, H0⟩, ⟨%d1, H1⟩, ⟨%d2, H2⟩, ⟨%d3, H3⟩⟩
    iapply (run_first c (grid0.coords t) _ _ _ _ _ _ _ _ _ _ h1 h2 (iblk m c 0 t) (iblk m c 1 t) (iblk m c 2 t) _ s Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hg]
    · isplitl [HS]
      · iexists _; isplitr; swap; · iexact HS
        ipureintro; exact hs.step m h2 _
      · iexact Hg
    isplitl [Ho]; · iexact Ho
    isplitl [H0]; · iexact H0
    isplitl [H1]; · iexact H1
    isplitl [H2]; · iexact H2
    iexists d3; iexact H3

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- Before the first point the scratch holds anything. -/
theorem carried_in (c : Dev nD) : Pipeline.ΦA spec0 c ⊢ (dats m 0 c).Φ 0 := by
  rw [show (dats m 0 c).Φ 0 = Carried m c 0 from rfl]
  unfold Pipeline.ΦA Carried
  rw [scopedRest0_eq]
  simp only [owns_whole]
  iintro ⟨⟨%f, H⟩, Hg⟩
  isplitl [H]
  · iexists f; isplitr; swap; · iexact H
    ipureintro; exact holds_zero m c f
  · iexact Hg

/-- After the last point what the scratch holds is forgotten. -/
theorem carried_out (c : Dev nD) : (dats m 0 c).Φ (Fin.last cfg0.N) ⊢ Pipeline.ΦA spec0 c := by
  rw [show (dats m 0 c).Φ (Fin.last cfg0.N) = Carried m c (Fin.last cfg0.N).val from rfl]
  unfold Pipeline.ΦA Carried
  rw [scopedRest0_eq]
  simp only [owns_whole]
  iintro ⟨⟨%f, %hf, H⟩, Hg⟩
  isplitl [H]
  · iexists f; iexact H
  · iexact Hg

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := carried_in m) (hout := carried_out m)

theorem run : θ_run defs (onTc (τ := τ) (main (F := F))) (s₀ m ρ) (Pipeline.FramePost cfgs (dats m) 0 (V m)) :=
  (θ_run defs _ _).mono (fun _ h => h.1) (run_quiescent m ρ)

/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run m ρ)) ((θ_run defs _ _).mono (fun _ h => h.2) (run_quiescent m ρ))

end Cert.OddOutIdeal.Pipelined

end
-- ==== Proof.OddOut.lean ====
/- The output projection of the odd layer with the residual: what the kernel leaves in its result is what the reference computes. -/
module

public import proofs.«01_k».proof.Proof.OddOutFrame
public import proofs.«01_k».proof.Proof.Gen.OddOutRefIdeal.Run
public import proofs.«01_k».proof.Proof.Gen.OddOutRefIdeal.Read
public import proofs.«01_k».proof.Defs
public import proofs.«01_k».proof.Proof.Gen.OddOut.Frame
public import Idealize.ShloMosaic.Lib.Pipeline.ValueKit

@[expose] public section

set_option maxRecDepth 16384

noncomputable section

namespace Cert.OddOutIdeal.Pipelined

open Cert.OddOutIdeal Cert.OddOutIdeal.Gen Idealize.ShloMosaic Idealize.ShloMosaic.TcCoe Idealize.SL.Sem
open Idealize.ShloMosaic.Pipeline (Dat)

variable (m : (ℓ : Loc nD τ sig) → Buf (Elt Ideal) ℓ)

/-- Where each window's block sits in its array at a grid point. -/
theorem idx_0 : ∀ t : Fin cfg0.N, 16 ≤ t.val → win0_0.index t = ![t.val % 16, 0] :=
  (by decide +kernel : ∀ t : Fin grid0.N, _)
theorem idx_1 : ∀ t : Fin cfg0.N, t.val < 64 → win0_1.index t = ![0, t.val % 16, t.val / 16] :=
  (by decide +kernel : ∀ t : Fin grid0.N, _)
theorem idx_2 : ∀ t : Fin cfg0.N, 16 ≤ t.val → win0_2.index t = ![t.val % 16, t.val / 16 - 1] :=
  (by decide +kernel : ∀ t : Fin grid0.N, _)
theorem idx_3 : ∀ t : Fin cfg0.N, 16 ≤ t.val → win0_3.index t = ![t.val % 16, t.val / 16 - 1] :=
  (by decide +kernel : ∀ t : Fin grid0.N, _)
theorem written : ∀ t : Fin cfg0.N, (cfg0.win 3).flush t = true → 16 ≤ t.val := (by decide +kernel : ∀ t : Fin grid0.N, _)

theorem chunk_at (w : FVec Ideal S1x256x1024 .f32) (y : S1x256x1024.Idx) : k0_pay2 (F := Ideal) w y = w y := by
  pointwise [k0_pay2]

theorem product_at (u : FVec Ideal S544x4096 .bf16) (w : FVec Ideal S1x4096x1024 .bf16) (r : FVec Ideal S544x1024 .f32) (j : S544x1024.Idx) :
    k0_pay1 (F := Ideal) u w r j = r (ix2 (j 0) (j 1)) + ∑ k : Fin 4096, u (ix2 (j 0) k) * w (ix3 0 k (j 1)) := by
  pointwise [k0_pay1]

open Cert.OddOutRefIdeal.Read in
theorem ref_product (u : FVec Ideal S8704x4096 .bf16) (w : FVec Ideal S1x4096x4096 .f32) (r : FVec Ideal S8704x4096 .f32) (j : S8704x4096.Idx) :
    val_main_v3 (F := Ideal) u w r j = r (ix2 (j 0) (j 1)) + ∑ k : Fin 4096, u (ix2 (j 0) k) * w (ix3 0 k (j 1)) := by
  pointwise [val_main_v3, val_main_v2, val_main_v1, val_main_v0]

/-- The slab at an entry is the chunk's entry as the point that cast it found it. -/
theorem slab_at (c : Dev nD) (t : Fin cfg0.N) (y : S1x4096x1024.Idx) (t' : Fin cfg0.N) (ht : t'.val = 16 * (t.val / 16 - 1) + (y 1).val / 256)
    (z : S1x256x1024.Idx) (h1 : (z 1).val = (y 1).val % 256) (h2 : z 2 = y 2) :
    slab m c t y = (show FVec Ideal S1x256x1024 .f32 from iblk m c 1 t') z := by
  unfold slab
  rw [chunk_at]
  obtain ⟨v, hv⟩ := t'
  obtain rfl : v = 16 * (t.val / 16 - 1) + (y 1).val / 256 := ht
  refine congrArg (show FVec Ideal S1x256x1024 .f32 from iblk m c 1 _) (funext fun a => ?_)
  match a with
  | 0 => exact (Fin.ext (by have : (z 0).val < 1 := (z 0).isLt; show 0 = (z 0).val; omega))
  | 1 => exact Fin.ext h1.symm
  | 2 => exact h2.symm

/-- THE RESULT of the kernel is the reference's. -/
theorem final_product (c : Dev nD) : (dats m 0 c).arrAt 3 cfg0.N
    = Cert.OddOutRefIdeal.Read.val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have hni := written t hf
  have hN := points t
  blk_simp
  rw [after_3, ref_product, product_at]
  refine congrArg₂ (fun a b : EReal => a + b) ?_ (Finset.sum_congr rfl fun k _ => ?_)
  · blk_point [iblk, V, idx_2 t hni, idx_3 t hni]
  have hk : k.val < 4096 := k.isLt
  have hlt : 16 * (t.val / 16 - 1) + k.val / 256 < cfg0.N :=
    lt_of_lt_of_eq (by omega : _ < 80) (show cfg0.N = 80 from N_0).symm
  have hi := idx_1 ⟨16 * (t.val / 16 - 1) + k.val / 256, hlt⟩ (show 16 * (t.val / 16 - 1) + k.val / 256 < 64 by omega)
  rw [slab_at m c t _ ⟨16 * (t.val / 16 - 1) + k.val / 256, hlt⟩ rfl (ix3 0 ⟨k.val % 256, Nat.mod_lt _ (by decide)⟩ _) rfl rfl]
  refine congrArg₂ (fun a b : EReal => a * b) ?_ ?_
  · blk_point [iblk, V, idx_0 t hni, idx_3 t hni]
  · blk_point [iblk, V, hi, idx_3 t hni]

/-- The kernel over ideal values and the reference end with equal results. -/
theorem algebraic : Cert.algebraic_OddOutIdeal_OddOutRefIdeal := by
  intro m g m' g' _ hagree
  refine ⟨fun c => Cert.OddOutRefIdeal.Read.val_main_v3 (F := Ideal) (m ((c : Thread nD τ).loc main_arg0)) (m ((c : Thread nD τ).loc main_arg1)) (m ((c : Thread nD τ).loc main_arg2)), ?_, ?_⟩
  · exact (θ_run Cert.OddOutIdeal.defs _ _).mono (fun _ h c => ⟨((h.1 c).1 3).trans (final_product m c), (h.2.1 c)⟩)
      (θ_run_and (run m g) (frame m g))
  · refine (θ_run Cert.OddOutRefIdeal.defs _ _).mono (fun _ h c => ⟨(h c).1.trans ?_, (h c).2⟩)
      (Cert.OddOutRefIdeal.Value.run (F := Ideal) m' g')
    rw [(hagree c).1, (hagree c).2.1, (hagree c).2.2]
    exact Cert.OddOutRefIdeal.Read.val_main_v3_eq _ _ _

/-- Over words the kernel's body table is the same text. -/
theorem rows_same : Cert.OddOutIdeal.defs₀ (F := Bits) = Cert.OddOut.defs₀ (F := Bits) := by
  unfold Cert.OddOutIdeal.defs₀ Cert.OddOut.defs₀
  refine congrArg Defs.onTc (funext fun l => funext fun a => ?_)
  match l, a with
  | 0, (t, s) => rfl

theorem frame_kernel : Cert.quiescent_OddOut := fun m ρ _ => by
  have h := frame (F := Bits) m ρ
  unfold Cert.OddOutIdeal.defs at h
  rw [rows_same] at h
  exact h

theorem frame_ideal : Cert.quiescent_OddOutIdeal := fun m ρ _ => frame (F := Ideal) m ρ

/-- The reference runs, leaves its arguments as they were and every semaphore at zero. -/
theorem frame_reference : Cert.quiescent_OddOutRefIdeal := fun m ρ _ =>
  (θ_run Cert.OddOutRefIdeal.defs _ _).mono (fun r h => ⟨fun c => (h c).2,
    Idealize.ShloMosaic.sem_eq_zero_of_no_sems (by decide) r.2⟩) (Cert.OddOutRefIdeal.Value.run (F := Ideal) m ρ)

end Cert.OddOutIdeal.Pipelined

end
-- ==== Proof.EvenInRun.lean ====
/- The input projection of the even layer, the mLSTM's columns: what one grid point does to its buffers, by the three kinds of grid point. In the first pass a chunk of the
   weights is cast into the scratch and nothing is multiplied, in a middle pass both are done, in the last pass the
   product alone. -/
module

public import proofs.«01_k».proof.Proof.Gen.EvenInIdeal.Frame
public import proofs.«01_k».proof.Proof.Gen.EvenInIdeal.Skeleton
public import proofs.«01_k».proof.Proof.Held
public import Idealize.ShloMosaic.Lib.Pipeline.TableIdle

@[expose] public section

set_option maxRecDepth 16384

noncomputable section

namespace Cert.EvenInIdeal.Pipelined

open Cert.EvenInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid in closed form -/

theorem product_iff : ∀ t : Fin cfg0.N, k0_cond1 (grid0.coords t) = 1#1 ↔ 8 ≤ t.val :=
  (by decide +kernel : ∀ t : Fin grid0.N, _)
theorem cast_iff : ∀ t : Fin cfg0.N, k0_cond2 (grid0.coords t) = 1#1 ↔ t.val < 48 :=
  (by decide +kernel : ∀ t : Fin grid0.N, _)
/-- The product reads the slab of the pass before. -/
theorem slab_off : ∀ t : Fin cfg0.N, 8 ≤ t.val → k0_off1 (grid0.coords t) = ![(t.val / 8 - 1) % 2, 0, 0] :=
  (by decide +kernel : ∀ t : Fin grid0.N, _)
/-- The cast writes the chunk of this point into the slab of this pass. -/
theorem chunk_off : ∀ t : Fin cfg0.N, k0_off2 (grid0.coords t) = ![t.val / 8 % 2, 0, t.val % 8 * 512] :=
  (by decide +kernel : ∀ t : Fin grid0.N, _)

/-! ## The three runs -/

set_option maxHeartbeats 1000000 in
/-- The first pass: the chunk is cast into the scratch, the result is left as it was. -/
theorem run_first (c : Dev nD) (i : grid0.Coords)
    (arg2 : Memref sig .tc .vmem S1088x4096 .bf16) (harg2 : arg2.IsWhole)
    (arg3 : Memref sig .tc .vmem S1024x512 .f32) (harg3 : arg3.IsWhole)
    (arg4 : Memref sig .tc .vmem S1088x1024 .f32) (harg4 : arg4.IsWhole)
    (arg5 : Memref sig .tc .vmem S2x1024x4096 .bf16) (harg5 : arg5.IsWhole)
    (h1 : ¬k0_cond1 i = 1#1) (h2 : k0_cond2 i = 1#1)
    (x0 : Vec F S1088x4096 .bf16) (x1 : Vec F S1024x512 .f32) (d : Vec F S1088x1024 .f32)
    (s : Vec F S2x1024x4096 .bf16) (E : Set ℕ) (K : PUnit → sProp 𝕄) :
    iprop(owns (c : Thread nD τ) arg2 fullShare x0
        ∗ owns (c : Thread nD τ) arg3 fullShare x1
        ∗ owns (c : Thread nD τ) arg4 fullShare d
        ∗ owns (c : Thread nD τ) arg5 fullShare s
        ∗ (iprop(owns (c : Thread nD τ) arg2 fullShare x0
            ∗ owns (c : Thread nD τ) arg3 fullShare x1
            ∗ owns (c : Thread nD τ) arg4 fullShare d
            ∗ owns (c : Thread nD τ) arg5 fullShare (arg5.view.read (Elt F) (arg5.view.writes (Elt F) (harg5.unread s)
                [⟨Rect.unit (s := S2x1024x4096) (k0_off2 i) S1x1024x512.size (k0_off2_inb i h2), k0_pay2 x1⟩]))) -∗ K ⟨⟩))
      ⊢ wp frame (wpE (defs₀ (F := F)) Variants.none c none) E (cc0_in_proj_even_qkvo i arg2 harg2 arg3 harg3 arg4 harg4 arg5 harg5) K := by
  simp only [cc0_in_proj_even_qkvo_eq_skeleton]; unfold cc0_in_proj_even_qkvo_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr; swap; · iexact H3
  ipureintro
  rw [Held.load_full harg3 x1 (by decide)]

set_option maxHeartbeats 1000000 in
/-- A middle pass: the product is written, and the chunk is cast into the scratch. -/
theorem run_both (c : Dev nD) (i : grid0.Coords)
    (arg2 : Memref sig .tc .vmem S1088x4096 .bf16) (harg2 : arg2.IsWhole)
    (arg3 : Memref sig .tc .vmem S1024x512 .f32) (harg3 : arg3.IsWhole)
    (arg4 : Memref sig .tc .vmem S1088x1024 .f32) (harg4 : arg4.IsWhole)
    (arg5 : Memref sig .tc .vmem S2x1024x4096 .bf16) (harg5 : arg5.IsWhole)
    (h1 : k0_cond1 i = 1#1) (h2 : k0_cond2 i = 1#1)
    (x0 : Vec F S1088x4096 .bf16) (x1 : Vec F S1024x512 .f32) (d : Vec F S1088x1024 .f32)
    (s : Vec F S2x1024x4096 .bf16)
    (sl0 : Vec F S1x1024x4096 .bf16) (hsl0 : (fun y => s ((Rect.unit (s := S2x1024x4096) (k0_off1 i) S1x1024x4096.size (k0_off1_inb i h1)).emb y)) = sl0) (E : Set ℕ) (K : PUnit → sProp 𝕄) :
    iprop(owns (c : Thread nD τ) arg2 fullShare x0
        ∗ owns (c : Thread nD τ) arg3 fullShare x1
        ∗ owns (c : Thread nD τ) arg4 fullShare d
        ∗ owns (c : Thread nD τ) arg5 fullShare s
        ∗ (iprop(owns (c : Thread nD τ) arg2 fullShare x0
            ∗ owns (c : Thread nD τ) arg3 fullShare x1
            ∗ owns (c : Thread nD τ) arg4 fullShare (k0_pay1 x0 sl0)
            ∗ owns (c : Thread nD τ) arg5 fullShare (arg5.view.read (Elt F) (arg5.view.writes (Elt F) (harg5.unread s)
                [⟨Rect.unit (s := S2x1024x4096) (k0_off2 i) S1x1024x512.size (k0_off2_inb i h2), k0_pay2 x1⟩]))) -∗ K ⟨⟩))
      ⊢ wp frame (wpE (defs₀ (F := F)) Variants.none c none) E (cc0_in_proj_even_qkvo i arg2 harg2 arg3 harg3 arg4 harg4 arg5 harg5) K := by
  simp only [cc0_in_proj_even_qkvo_eq_skeleton]; unfold cc0_in_proj_even_qkvo_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    rw [Held.store_full _ _ (by decide), Held.load_full harg2 x0 (by decide), Held.load_rect harg5]
    exact congrArg (fun a => k0_pay1 x0 a) hsl0
  iexists _; isplitr; swap; · iexact H3
  ipureintro
  rw [Held.load_full harg3 x1 (by decide)]

set_option maxHeartbeats 1000000 in
/-- The last pass: the product is written; the scratch stays. -/
theorem run_last (c : Dev nD) (i : grid0.Coords)
    (arg2 : Memref sig .tc .vmem S1088x4096 .bf16) (harg2 : arg2.IsWhole)
    (arg3 : Memref sig .tc .vmem S1024x512 .f32) (harg3 : arg3.IsWhole)
    (arg4 : Memref sig .tc .vmem S1088x1024 .f32) (harg4 : arg4.IsWhole)
    (arg5 : Memref sig .tc .vmem S2x1024x4096 .bf16) (harg5 : arg5.IsWhole)
    (h1 : k0_cond1 i = 1#1) (h2 : ¬k0_cond2 i = 1#1)
    (x0 : Vec F S1088x4096 .bf16) (x1 : Vec F S1024x512 .f32) (d : Vec F S1088x1024 .f32)
    (s : Vec F S2x1024x4096 .bf16)
    (sl0 : Vec F S1x1024x4096 .bf16) (hsl0 : (fun y => s ((Rect.unit (s := S2x1024x4096) (k0_off1 i) S1x1024x4096.size (k0_off1_inb i h1)).emb y)) = sl0) (E : Set ℕ) (K : PUnit → sProp 𝕄) :
    iprop(owns (c : Thread nD τ) arg2 fullShare x0
        ∗ owns (c : Thread nD τ) arg3 fullShare x1
        ∗ owns (c : Thread nD τ) arg4 fullShare d
        ∗ owns (c : Thread nD τ) arg5 fullShare s
        ∗ (iprop(owns (c : Thread nD τ) arg2 fullShare x0
            ∗ owns (c : Thread nD τ) arg3 fullShare x1
            ∗ owns (c : Thread nD τ) arg4 fullShare (k0_pay1 x0 sl0)
            ∗ owns (c : Thread nD τ) arg5 fullShare s) -∗ K ⟨⟩))
      ⊢ wp frame (wpE (defs₀ (F := F)) Variants.none c none) E (cc0_in_proj_even_qkvo i arg2 harg2 arg3 harg3 arg4 harg4 arg5 harg5) K := by
  simp only [cc0_in_proj_even_qkvo_eq_skeleton]; unfold cc0_in_proj_even_qkvo_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    rw [Held.store_full _ _ (by decide), Held.load_full harg2 x0 (by decide), Held.load_rect harg5]
    exact congrArg (fun a => k0_pay1 x0 a) hsl0
  iexists _; isplitr; · ipureintro; exact harg5.read_unread _
  iexact H3

end Cert.EvenInIdeal.Pipelined

end
-- ==== Proof.EvenInFrame.lean ====
/- The input projection of the even layer, the mLSTM's columns, as a run over its grid. The kernel keeps two slabs of the weights in a scratch: while the product of
   one slab is taken, the next slab is cast into the other, a chunk of 512 columns at a point. What is carried from
   point to point is that the last 16 chunks cast are where they were put. -/
module

public import proofs.«01_k».proof.Proof.EvenInRun
public import Idealize.ShloMosaic.Lib.Claim
public import Idealize.ShloMosaic.Lib.Pipeline.ValueKit

@[expose] public section

set_option maxRecDepth 16384

noncomputable section

namespace Cert.EvenInIdeal.Pipelined

open Cert.EvenInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem points (t : Fin cfg0.N) : t.val < 56 := lt_of_lt_of_eq t.isLt (show cfg0.N = 56 from N_0)

/-! ## What the scratch holds -/

/-- Before point `n` the scratch `s` holds each of the last 16 chunks cast, in the slab of its pass. -/
def Holds (c : Dev nD) (n : ℕ) (s : Vec F S2x1024x4096 .bf16) : Prop :=
  ∀ t : Fin cfg0.N, t.val < n → n ≤ t.val + 16 → t.val < 48 → ∀ (y : S1x1024x512.Idx) (z : S2x1024x4096.Idx),
    (z 0).val = t.val / 8 % 2 → (z 1).val = (y 1).val → (z 2).val = t.val % 8 * 512 + (y 2).val →
      s z = k0_pay2 (X0_1 m c t) y

theorem holds_zero (c : Dev nD) (s : Vec F S2x1024x4096 .bf16) : Holds m c 0 s :=
  fun _ h => absurd h (Nat.not_lt_zero _)

/-- Past the last cast the scratch is left as it was. -/
theorem Holds.stay {c : Dev nD} {n : ℕ} {s : Vec F S2x1024x4096 .bf16} (h : Holds m c n s) (hn : 48 ≤ n) : Holds m c (n + 1) s :=
  fun t ht hr hB y z => h t (by omega) (by omega) hB y z

/-- Casting the chunk of a point keeps the 15 before it, which lie elsewhere. -/
theorem Holds.step {c : Dev nD} {t : Fin cfg0.N} {s : Vec F S2x1024x4096 .bf16} (h : Holds m c t.val s)
    (h2 : k0_cond2 (grid0.coords t) = 1#1) {M : Memref sig .tc .vmem S2x1024x4096 .bf16} (hM : M.IsWhole) :
    Holds m c (t.val + 1) (M.view.read (Elt F) (M.view.writes (Elt F) (hM.unread s)
      [⟨Rect.unit (s := S2x1024x4096) (k0_off2 (grid0.coords t)) S1x1024x512.size (k0_off2_inb (grid0.coords t) h2), k0_pay2 (X0_1 m c t)⟩])) := by
  intro t' ht hr hB y z hz0 hz1 hz2
  have hy0 : (y 0).val = 0 := by have : (y 0).val < 1 := (y 0).isLt; omega
  have hyk : (y 2).val < 512 := (y 2).isLt
  have hoff := chunk_off t
  by_cases he : t' = t
  · subst he
    refine View.read_writes_cons_hit_of_coords M.view (hM.unread s)
      (Rect.unit (s := S2x1024x4096) (k0_off2 (grid0.coords t')) S1x1024x512.size (k0_off2_inb (grid0.coords t') h2)) (k0_pay2 (X0_1 m c t')) [] y z fun a => ?_
    show (z a).val = k0_off2 (grid0.coords t') a + 1 * (y a).val
    rw [hoff]
    match a with
    | 0 => show (z 0).val = t'.val / 8 % 2 + 1 * (y 0).val; omega
    | 1 => show (z 1).val = 0 + 1 * (y 1).val; omega
    | 2 => show (z 2).val = t'.val % 8 * 512 + 1 * (y 2).val; omega
  · have hlt : t'.val < t.val := by
      have : t'.val ≠ t.val := fun e => he (Fin.ext e)
      omega
    have hkeep := (congrFun (hM.read_unread s) z).trans (h t' hlt (by omega) hB y z hz0 hz1 hz2)
    by_cases hc : t'.val % 8 = t.val % 8
    · refine (View.read_writes_cons_miss_of_axis _ _ _ _ z 0 (t.val / 8 % 2) 1 (congrFun hoff 0) rfl rfl ?_).trans hkeep
      rw [hz0]; omega
    · refine (View.read_writes_cons_miss_of_axis _ _ _ _ z 2 (t.val % 8 * 512) 512 (congrFun hoff 2) rfl rfl ?_).trans hkeep
      rw [hz2]; omega

/-- The slab the product of a point reads: the chunks cast in the pass before. -/
def slab (c : Dev nD) (t : Fin cfg0.N) : Vec F S1x1024x4096 .bf16 := fun y =>
  k0_pay2 (X0_1 m c ⟨8 * (t.val / 8 - 1) + (y 2).val / 512, by
    have := points t; have : (y 2).val < 4096 := (y 2).isLt
    exact lt_of_lt_of_eq (by omega : _ < 56) (show cfg0.N = 56 from N_0).symm⟩)
    (fun a => match a with
      | 0 => ⟨0, Nat.one_pos⟩
      | 1 => y 1
      | 2 => ⟨(y 2).val % 512, Nat.mod_lt _ (by decide)⟩)

theorem slab_read {c : Dev nD} {t : Fin cfg0.N} {s : Vec F S2x1024x4096 .bf16} (h : Holds m c t.val s) (hni : 8 ≤ t.val)
    (h1 : k0_cond1 (grid0.coords t) = 1#1) :
    (fun y => s ((Rect.unit (s := S2x1024x4096) (k0_off1 (grid0.coords t)) S1x1024x4096.size (k0_off1_inb (grid0.coords t) h1)).emb y)) = slab m c t := by
  funext y
  have ht := points t
  have hyk : (y 2).val < 4096 := (y 2).isLt
  have hy0 : (y 0).val = 0 := by have : (y 0).val < 1 := (y 0).isLt; omega
  have hoff := slab_off t hni
  refine h _ ?_ ?_ ?_ _ _ ?_ ?_ ?_
  · show 8 * (t.val / 8 - 1) + (y 2).val / 512 < t.val; omega
  · show t.val ≤ 8 * (t.val / 8 - 1) + (y 2).val / 512 + 16; omega
  · show 8 * (t.val / 8 - 1) + (y 2).val / 512 < 48; omega
  · show k0_off1 (grid0.coords t) 0 + 1 * (y 0).val = (8 * (t.val / 8 - 1) + (y 2).val / 512) / 8 % 2
    have h0 : k0_off1 (grid0.coords t) 0 = (t.val / 8 - 1) % 2 := congrFun hoff 0
    omega
  · show k0_off1 (grid0.coords t) 1 + 1 * (y 1).val = (y 1).val
    have h0 : k0_off1 (grid0.coords t) 1 = 0 := congrFun hoff 1
    omega
  · show k0_off1 (grid0.coords t) 2 + 1 * (y 2).val = (8 * (t.val / 8 - 1) + (y 2).val / 512) % 8 * 512 + (y 2).val % 512
    have h0 : k0_off1 (grid0.coords t) 2 = 0 := congrFun hoff 2
    omega

/-! ## The proof data -/

/-- Between points: the scratch at some contents that hold the chunks, and the generator register. -/
def Carried (c : Dev nD) (n : ℕ) : sProp 𝕄 :=
  iprop((∃ s : Vec F S2x1024x4096 .bf16, ⌜Holds m c n s⌝ ∗ owns (c : Thread nD τ) (Memref.whole cc0_scratch0) fullShare s) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => k0_pay1 (iblk m c 0 t) (slab m c t)
  Φ t := Carried m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = X0_1 m c t := by dsimp only [dats]
theorem after_2 (c : Dev nD) (t : Fin cfg0.N) : (dats m 0 c).after 2 t = k0_pay1 (iblk m c 0 t) (slab m c t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = X0_1 m c t :=
  before0_1_of m (dats m 0 c) (A_eq m c 1) (after_1 m c) t d
theorem carried_start (c : Dev nD) (t : Fin cfg0.N) : (dats m 0 c).Φ t.castSucc = Carried m c t.val := by
  dsimp only [dats]; exact Pipeline.Dat.Φ_castSucc (fun n _ => Carried m c n) t
theorem carried_end (c : Dev nD) (t : Fin cfg0.N) : (dats m 0 c).Φ t.succ = Carried m c (t.val + 1) := by dsimp only [dats]; rfl

/-! ## When a point writes the result -/

theorem idle_out : ∀ t : Fin cfg0.N, t.val < 8 → cfg0.idle 2 (grid0.coords t) = true := (by decide +kernel : ∀ t : Fin grid0.N, _)
theorem kept_out : ∀ t : Fin cfg0.N, t.val < 8 → (cfg0.win 2).flush t = false := (by decide +kernel : ∀ t : Fin grid0.N, _)
theorem live_out : ∀ t : Fin cfg0.N, 8 ≤ t.val → cfg0.idle 2 (grid0.coords t) = false := (by decide +kernel : ∀ t : Fin grid0.N, _)

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [carried_start, carried_end, show (dats m 0 c).owesAt () t.succ = (dats m 0 c).owesAt () t.castSucc from rfl]
  rw [show (dats m 0 c).leavesExact 0 t = owns (c : Thread nD τ) (st0_0 t) fullShare (iblk m c 0 t) from by rw [← after_0 m c t],
    show (dats m 0 c).leavesExact 1 t = owns (c : Thread nD τ) (st0_1 t) fullShare (X0_1 m c t) from by rw [← after_1 m c t]]
  have hN := points t
  by_cases hni : 8 ≤ t.val
  · have h1 := (product_iff t).mpr hni
    rw [show (dats m 0 c).leavesExact 2 t = owns (c : Thread nD τ) (st0_2 t) fullShare (k0_pay1 (iblk m c 0 t) (slab m c t)) from by
        unfold Dat.leavesExact; rw [live_out t hni, after_2]]
    by_cases hB : t.val < 48
    · have h2 := (cast_iff t).mpr hB
      unfold Carried
      iintro ⟨⟨⟨%s, %hs, HS⟩, Hg⟩, Ho, ⟨%d0, H0⟩, ⟨%d1, H1⟩, ⟨%d2, H2⟩⟩
      iapply (run_both c (grid0.coords t) _ _ _ _ _ _ _ _ h1 h2 (iblk m c 0 t) (X0_1 m c t) _ s (slab m c t) (slab_read m hs hni h1) Set.univ _)
      isplitl [H0]; · iexact H0
      isplitl [H1]; · iexact H1
      isplitl [H2]; · iexact H2
      isplitl [HS]; · iexact HS
      iintro ⟨H0, H1, H2, HS⟩
      isplitl [HS Hg]
      · isplitl [HS]
        · iexists _; isplitr; swap; · iexact HS
          ipureintro; exact hs.step m h2 _
        · iexact Hg
      isplitl [Ho]; · iexact Ho
      isplitl [H0]; · iexact H0
      isplitl [H1]; · iexact H1
      iexact H2
    · have h2 : ¬k0_cond2 (grid0.coords t) = 1#1 := fun h => hB ((cast_iff t).mp h)
      unfold Carried
      iintro ⟨⟨⟨%s, %hs, HS⟩, Hg⟩, Ho, ⟨%d0, H0⟩, ⟨%d1, H1⟩, ⟨%d2, H2⟩⟩
      iapply (run_last c (grid0.coords t) _ _ _ _ _ _ _ _ h1 h2 (iblk m c 0 t) (X0_1 m c t) _ s (slab m c t) (slab_read m hs hni h1) Set.univ _)
      isplitl [H0]; · iexact H0
      isplitl [H1]; · iexact H1
      isplitl [H2]; · iexact H2
      isplitl [HS]; · iexact HS
      iintro ⟨H0, H1, H2, HS⟩
      isplitl [HS Hg]
      · isplitl [HS]
        · iexists _; isplitr; swap; · iexact HS
          ipureintro; exact hs.stay m (by omega)
        · iexact Hg
      isplitl [Ho]; · iexact Ho
      isplitl [H0]; · iexact H0
      isplitl [H1]; · iexact H1
      iexact H2
  · have h1 : ¬k0_cond1 (grid0.coords t) = 1#1 := fun h => hni ((product_iff t).mp h)
    have h2 := (cast_iff t).mpr (by omega)
    rw [(dats m 0 c).leavesExact_idle 2 t (idle_out t (by omega)) (kept_out t (by omega))]
    unfold Carried
    iintro ⟨⟨⟨%s, %hs, HS⟩, Hg⟩, Ho, ⟨%d0, H0⟩, ⟨%d1, H1⟩, ⟨%d2, H2⟩⟩
    iapply (run_first c (grid0.coords t) _ _ _ _ _ _ _ _ h1 h2 (iblk m c 0 t) (X0_1 m c t) _ s Set.univ _)
    isplitl [H0]; · iexact H0
    isplitl [H1]; · iexact H1
    isplitl [H2]; · iexact H2
    isplitl [HS]; · iexact HS
    iintro ⟨H0, H1, H2, HS⟩
    isplitl [HS Hg]
    · isplitl [HS]
      · iexists _; isplitr; swap; · iexact HS
        ipureintro; exact hs.step m h2 _
      · iexact Hg
    isplitl [Ho]; · iexact Ho
    isplitl [H0]; · iexact H0
    isplitl [H1]; · iexact H1
    iexists d2; iexact H2

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- Before the first point the scratch holds anything. -/
theorem carried_in (c : Dev nD) : Pipeline.ΦA spec0 c ⊢ (dats m 0 c).Φ 0 := by
  rw [show (dats m 0 c).Φ 0 = Carried m c 0 from rfl]
  unfold Pipeline.ΦA Carried
  rw [scopedRest0_eq]
  simp only [owns_whole]
  iintro ⟨⟨%f, H⟩, Hg⟩
  isplitl [H]
  · iexists f; isplitr; swap; · iexact H
    ipureintro; exact holds_zero m c f
  · iexact Hg

/-- After the last point what the scratch holds is forgotten. -/
theorem carried_out (c : Dev nD) : (dats m 0 c).Φ (Fin.last cfg0.N) ⊢ Pipeline.ΦA spec0 c := by
  rw [show (dats m 0 c).Φ (Fin.last cfg0.N) = Carried m c (Fin.last cfg0.N).val from rfl]
  unfold Pipeline.ΦA Carried
  rw [scopedRest0_eq]
  simp only [owns_whole]
  iintro ⟨⟨%f, %hf, H⟩, Hg⟩
  isplitl [H]
  · iexists f; iexact H
  · iexact Hg

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := carried_in m) (hout := carried_out m)

theorem run : θ_run defs (onTc (τ := τ) (main (F := F))) (s₀ m ρ) (Pipeline.FramePost cfgs (dats m) 0 (V m)) :=
  (θ_run defs _ _).mono (fun _ h => h.1) (run_quiescent m ρ)

/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run m ρ)) ((θ_run defs _ _).mono (fun _ h => h.2) (run_quiescent m ρ))

end Cert.EvenInIdeal.Pipelined

end
-- ==== Proof.EvenIn.lean ====
/- The input projection of the even layer, the mLSTM's columns: what the kernel leaves in its result is what the reference computes. -/
module

public import proofs.«01_k».proof.Proof.EvenInFrame
public import proofs.«01_k».proof.Proof.Gen.EvenInRefIdeal.Run
public import proofs.«01_k».proof.Proof.Gen.EvenInRefIdeal.Read
public import proofs.«01_k».proof.Defs
public import proofs.«01_k».proof.Proof.Gen.EvenIn.Frame
public import Idealize.ShloMosaic.Lib.Pipeline.ValueKit

@[expose] public section

set_option maxRecDepth 16384

noncomputable section

namespace Cert.EvenInIdeal.Pipelined

open Cert.EvenInIdeal Cert.EvenInIdeal.Gen Idealize.ShloMosaic Idealize.ShloMosaic.TcCoe Idealize.SL.Sem
open Idealize.ShloMosaic.Pipeline (Dat)

variable (m : (ℓ : Loc nD τ sig) → Buf (Elt Ideal) ℓ)

/-- Where each window's block sits in its array at a grid point. -/
theorem idx_0 : ∀ t : Fin cfg0.N, 8 ≤ t.val → win0_0.index t = ![t.val % 8, 0] :=
  (by decide +kernel : ∀ t : Fin grid0.N, _)
theorem idx_1 : ∀ t : Fin cfg0.N, t.val < 48 → win0_1.index t = ![t.val / 8, t.val % 8] :=
  (by decide +kernel : ∀ t : Fin grid0.N, _)
theorem idx_2 : ∀ t : Fin cfg0.N, 8 ≤ t.val → win0_2.index t = ![t.val % 8, t.val / 8 - 1] :=
  (by decide +kernel : ∀ t : Fin grid0.N, _)
theorem written : ∀ t : Fin cfg0.N, (cfg0.win 2).flush t = true → 8 ≤ t.val := (by decide +kernel : ∀ t : Fin grid0.N, _)

theorem chunk_at (w : FVec Ideal S1024x512 .f32) (y : S1x1024x512.Idx) : k0_pay2 (F := Ideal) w y = w (ix2 (y 1) (y 2)) := by
  pointwise [k0_pay2]

theorem product_at (u : FVec Ideal S1088x4096 .bf16) (w : FVec Ideal S1x1024x4096 .bf16) (j : S1088x1024.Idx) :
    k0_pay1 (F := Ideal) u w j = ∑ k : Fin 4096, u (ix2 (j 0) k) * w (ix3 0 (j 1) k) := by
  pointwise [k0_pay1]

open Cert.EvenInRefIdeal.Read in
theorem ref_product (u : FVec Ideal S8704x4096 .bf16) (w : FVec Ideal S1x4096x10256 .f32) (j : S8704x6144.Idx) (n : Fin 10256) (hn : n.val = (j 1).val) :
    val_main_v3 (F := Ideal) u w j = ∑ k : Fin 4096, u (ix2 (j 0) k) * w (ix3 0 k n) := by
  obtain ⟨v, hv⟩ := n
  obtain rfl : v = (j 1).val := hn
  pointwise [val_main_v3, val_main_v2, val_main_v1, val_main_v0]

/-- The weights as the pipeline finds them are the argument's, transposed. -/
theorem weights_at (c : Dev nD) (z : S10256x4096.Idx) (n : Fin 10256) (hn : n.val = (z 0).val) :
    (show FVec Ideal S10256x4096 .f32 from V m c main_v1) z = (show FVec Ideal S1x4096x10256 .f32 from m ((c : Thread nD τ).loc main_arg1)) (ix3 0 (z 1) n) := by
  obtain ⟨v, hv⟩ := n
  obtain rfl : v = (z 0).val := hn
  entry_read
  pointwise []

/-- A block of the weights at an entry, in the argument. -/
theorem block_at (c : Dev nD) (t : Fin cfg0.N) (ht : t.val < 48) (y : S1024x512.Idx) (k : Fin 4096) (hk : k.val = t.val % 8 * 512 + (y 1).val)
    (n : Fin 10256) (hn : n.val = 0 + (t.val / 8 * 1024 + (y 0).val)) :
    (show FVec Ideal S1024x512 .f32 from X0_1 m c t) y = (show FVec Ideal S1x4096x10256 .f32 from m ((c : Thread nD τ).loc main_arg1)) (ix3 0 k n) := by
  have hi := idx_1 t ht
  have hn' : n.val = t.val / 8 * 1024 + (y 0).val := hn.trans (Nat.zero_add _)
  show X0_1 m c t y = _
  unfold X0_1 Pipeline.Window.fill
  rw [dif_pos (moved0_1 t y)]
  have hy : (y 0).val < 1024 := (y 0).isLt
  refine Eq.trans ?_ (weights_at m c (ix2 ⟨t.val / 8 * 1024 + (y 0).val, by omega⟩ k) n hn')
  blk_point [iblk, hi]

/-- The slab at an entry, in the argument. -/
theorem slab_at (c : Dev nD) (t : Fin cfg0.N) (hni : 8 ≤ t.val) (y : S1x1024x4096.Idx) (k : Fin 4096) (hk : k = y 2)
    (n : Fin 10256) (hn : n.val = 0 + ((t.val / 8 - 1) * 1024 + (y 1).val)) :
    slab m c t y = (show FVec Ideal S1x4096x10256 .f32 from m ((c : Thread nD τ).loc main_arg1)) (ix3 0 k n) := by
  have hN := points t
  have hy : (y 2).val < 4096 := (y 2).isLt
  have hkv : k.val = (y 2).val := congrArg Fin.val hk
  unfold slab
  rw [chunk_at]
  refine block_at m c ⟨8 * (t.val / 8 - 1) + (y 2).val / 512, _⟩ ?_ _ k ?_ n ?_
  · show 8 * (t.val / 8 - 1) + (y 2).val / 512 < 48; omega
  · show k.val = (8 * (t.val / 8 - 1) + (y 2).val / 512) % 8 * 512 + (y 2).val % 512; omega
  · show n.val = 0 + ((8 * (t.val / 8 - 1) + (y 2).val / 512) / 8 * 1024 + (y 1).val); omega

/-- THE RESULT of the kernel is the reference's. -/
theorem final_product (c : Dev nD) : (dats m 0 c).arrAt 2 cfg0.N
    = Cert.EvenInRefIdeal.Read.val_main_v3 (F := Ideal) (m ((c : Thread nD τ).loc main_arg0)) (m ((c : Thread nD τ).loc main_arg1)) := by
  refine (dats m 0 c).arrAt_eq_of_covers 2 _ (by decide +kernel) fun t hf y => ?_
  have hni := written t hf
  have hN := points t
  have hy : (y 1).val < 1024 := (y 1).isLt
  blk_simp
  rw [after_2, product_at]
  refine Eq.trans ?_ (ref_product _ _ _ ⟨0 + ((t.val / 8 - 1) * 1024 + (y 1).val), by omega⟩ ?_).symm
  · refine congrArg (fun a : EReal => a) (Finset.sum_congr rfl fun k _ => ?_)
    rw [slab_at m c t hni _ k rfl ⟨0 + ((t.val / 8 - 1) * 1024 + (y 1).val), by omega⟩ rfl]
    refine congrArg (fun a : EReal => a * _) ?_
    blk_point [iblk, V, idx_0 t hni, idx_2 t hni]
  · blk_simp [idx_2 t hni]

/-- The kernel over ideal values and the reference end with equal results. -/
theorem algebraic : Cert.algebraic_EvenInIdeal_EvenInRefIdeal := by
  intro m g m' g' _ hagree
  refine ⟨fun c => Cert.EvenInRefIdeal.Read.val_main_v3 (F := Ideal) (m ((c : Thread nD τ).loc main_arg0)) (m ((c : Thread nD τ).loc main_arg1)), ?_, ?_⟩
  · exact (θ_run Cert.EvenInIdeal.defs _ _).mono (fun _ h c => ⟨((h.1 c).1 2).trans (final_product m c), (h.2.1 c)⟩)
      (θ_run_and (run m g) (frame m g))
  · refine (θ_run Cert.EvenInRefIdeal.defs _ _).mono (fun _ h c => ⟨(h c).1.trans ?_, (h c).2⟩)
      (Cert.EvenInRefIdeal.Value.run (F := Ideal) m' g')
    rw [(hagree c).1, (hagree c).2]
    exact Cert.EvenInRefIdeal.Read.val_main_v3_eq _ _

/-- Over words the kernel's body table is the same text. -/
theorem rows_same : Cert.EvenInIdeal.defs₀ (F := Bits) = Cert.EvenIn.defs₀ (F := Bits) := by
  unfold Cert.EvenInIdeal.defs₀ Cert.EvenIn.defs₀
  refine congrArg Defs.onTc (funext fun l => funext fun a => ?_)
  match l, a with
  | 0, (t, s) => rfl

theorem frame_kernel : Cert.quiescent_EvenIn := fun m ρ _ => by
  have h := frame (F := Bits) m ρ
  unfold Cert.EvenInIdeal.defs at h
  rw [rows_same] at h
  exact h

theorem frame_ideal : Cert.quiescent_EvenInIdeal := fun m ρ _ => frame (F := Ideal) m ρ

/-- The reference runs, leaves its arguments as they were and every semaphore at zero. -/
theorem frame_reference : Cert.quiescent_EvenInRefIdeal := fun m ρ _ =>
  (θ_run Cert.EvenInRefIdeal.defs _ _).mono (fun r h => ⟨fun c => (h c).2,
    Idealize.ShloMosaic.sem_eq_zero_of_no_sems (by decide) r.2⟩) (Cert.EvenInRefIdeal.Value.run (F := Ideal) m ρ)

end Cert.EvenInIdeal.Pipelined

end
-- ==== Proof.LruInRun.lean ====
/- The input projection of the even layer, the RG-LRU's columns: what one grid point does to its buffers, by the three kinds of grid point. In the first pass a chunk of the
   weights is cast into the scratch and nothing is multiplied, in a middle pass both are done, in the last pass the
   product alone. -/
module

public import proofs.«01_k».proof.Proof.Gen.LruInIdeal.Frame
public import proofs.«01_k».proof.Proof.Gen.LruInIdeal.Skeleton
public import proofs.«01_k».proof.Proof.Held
public import Idealize.ShloMosaic.Lib.Pipeline.TableIdle

@[expose] public section

set_option maxRecDepth 16384

noncomputable section

namespace Cert.LruInIdeal.Pipelined

open Cert.LruInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid in closed form -/

theorem product_iff : ∀ t : Fin cfg0.N, k0_cond1 (grid0.coords t) = 1#1 ↔ 8 ≤ t.val :=
  (by decide +kernel : ∀ t : Fin grid0.N, _)
theorem cast_iff : ∀ t : Fin cfg0.N, k0_cond2 (grid0.coords t) = 1#1 ↔ t.val < 32 :=
  (by decide +kernel : ∀ t : Fin grid0.N, _)
/-- The product reads the slab of the pass before. -/
theorem slab_off : ∀ t : Fin cfg0.N, 8 ≤ t.val → k0_off1 (grid0.coords t) = ![(t.val / 8 - 1) % 2, 0, 0] :=
  (by decide +kernel : ∀ t : Fin grid0.N, _)
/-- The cast writes the chunk of this point into the slab of this pass. -/
theorem chunk_off : ∀ t : Fin cfg0.N, k0_off2 (grid0.coords t) = ![t.val / 8 % 2, 0, t.val % 8 * 512] :=
  (by decide +kernel : ∀ t : Fin grid0.N, _)

/-! ## The three runs -/

set_option maxHeartbeats 1000000 in
/-- The first pass: the chunk is cast into the scratch, the result is left as it was. -/
theorem run_first (c : Dev nD) (i : grid0.Coords)
    (arg2 : Memref sig .tc .vmem S1088x4096 .bf16) (harg2 : arg2.IsWhole)
    (arg3 : Memref sig .tc .vmem S1024x512 .f32) (harg3 : arg3.IsWhole)
    (arg4 : Memref sig .tc .vmem S1088x1024 .f32) (harg4 : arg4.IsWhole)
    (arg5 : Memref sig .tc .vmem S2x1024x4096 .bf16) (harg5 : arg5.IsWhole)
    (h1 : ¬k0_cond1 i = 1#1) (h2 : k0_cond2 i = 1#1)
    (x0 : Vec F S1088x4096 .bf16) (x1 : Vec F S1024x512 .f32) (d : Vec F S1088x1024 .f32)
    (s : Vec F S2x1024x4096 .bf16) (E : Set ℕ) (K : PUnit → sProp 𝕄) :
    iprop(owns (c : Thread nD τ) arg2 fullShare x0
        ∗ owns (c : Thread nD τ) arg3 fullShare x1
        ∗ owns (c : Thread nD τ) arg4 fullShare d
        ∗ owns (c : Thread nD τ) arg5 fullShare s
        ∗ (iprop(owns (c : Thread nD τ) arg2 fullShare x0
            ∗ owns (c : Thread nD τ) arg3 fullShare x1
            ∗ owns (c : Thread nD τ) arg4 fullShare d
            ∗ owns (c : Thread nD τ) arg5 fullShare (arg5.view.read (Elt F) (arg5.view.writes (Elt F) (harg5.unread s)
                [⟨Rect.unit (s := S2x1024x4096) (k0_off2 i) S1x1024x512.size (k0_off2_inb i h2), k0_pay2 x1⟩]))) -∗ K ⟨⟩))
      ⊢ wp frame (wpE (defs₀ (F := F)) Variants.none c none) E (cc0_in_proj_even_lru i arg2 harg2 arg3 harg3 arg4 harg4 arg5 harg5) K := by
  simp only [cc0_in_proj_even_lru_eq_skeleton]; unfold cc0_in_proj_even_lru_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr; swap; · iexact H3
  ipureintro
  rw [Held.load_full harg3 x1 (by decide)]

set_option maxHeartbeats 1000000 in
/-- A middle pass: the product is written, and the chunk is cast into the scratch. -/
theorem run_both (c : Dev nD) (i : grid0.Coords)
    (arg2 : Memref sig .tc .vmem S1088x4096 .bf16) (harg2 : arg2.IsWhole)
    (arg3 : Memref sig .tc .vmem S1024x512 .f32) (harg3 : arg3.IsWhole)
    (arg4 : Memref sig .tc .vmem S1088x1024 .f32) (harg4 : arg4.IsWhole)
    (arg5 : Memref sig .tc .vmem S2x1024x4096 .bf16) (harg5 : arg5.IsWhole)
    (h1 : k0_cond1 i = 1#1) (h2 : k0_cond2 i = 1#1)
    (x0 : Vec F S1088x4096 .bf16) (x1 : Vec F S1024x512 .f32) (d : Vec F S1088x1024 .f32)
    (s : Vec F S2x1024x4096 .bf16)
    (sl0 : Vec F S1x1024x4096 .bf16) (hsl0 : (fun y => s ((Rect.unit (s := S2x1024x4096) (k0_off1 i) S1x1024x4096.size (k0_off1_inb i h1)).emb y)) = sl0) (E : Set ℕ) (K : PUnit → sProp 𝕄) :
    iprop(owns (c : Thread nD τ) arg2 fullShare x0
        ∗ owns (c : Thread nD τ) arg3 fullShare x1
        ∗ owns (c : Thread nD τ) arg4 fullShare d
        ∗ owns (c : Thread nD τ) arg5 fullShare s
        ∗ (iprop(owns (c : Thread nD τ) arg2 fullShare x0
            ∗ owns (c : Thread nD τ) arg3 fullShare x1
            ∗ owns (c : Thread nD τ) arg4 fullShare (k0_pay1 x0 sl0)
            ∗ owns (c : Thread nD τ) arg5 fullShare (arg5.view.read (Elt F) (arg5.view.writes (Elt F) (harg5.unread s)
                [⟨Rect.unit (s := S2x1024x4096) (k0_off2 i) S1x1024x512.size (k0_off2_inb i h2), k0_pay2 x1⟩]))) -∗ K ⟨⟩))
      ⊢ wp frame (wpE (defs₀ (F := F)) Variants.none c none) E (cc0_in_proj_even_lru i arg2 harg2 arg3 harg3 arg4 harg4 arg5 harg5) K := by
  simp only [cc0_in_proj_even_lru_eq_skeleton]; unfold cc0_in_proj_even_lru_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    rw [Held.store_full _ _ (by decide), Held.load_full harg2 x0 (by decide), Held.load_rect harg5]
    exact congrArg (fun a => k0_pay1 x0 a) hsl0
  iexists _; isplitr; swap; · iexact H3
  ipureintro
  rw [Held.load_full harg3 x1 (by decide)]

set_option maxHeartbeats 1000000 in
/-- The last pass: the product is written; the scratch stays. -/
theorem run_last (c : Dev nD) (i : grid0.Coords)
    (arg2 : Memref sig .tc .vmem S1088x4096 .bf16) (harg2 : arg2.IsWhole)
    (arg3 : Memref sig .tc .vmem S1024x512 .f32) (harg3 : arg3.IsWhole)
    (arg4 : Memref sig .tc .vmem S1088x1024 .f32) (harg4 : arg4.IsWhole)
    (arg5 : Memref sig .tc .vmem S2x1024x4096 .bf16) (harg5 : arg5.IsWhole)
    (h1 : k0_cond1 i = 1#1) (h2 : ¬k0_cond2 i = 1#1)
    (x0 : Vec F S1088x4096 .bf16) (x1 : Vec F S1024x512 .f32) (d : Vec F S1088x1024 .f32)
    (s : Vec F S2x1024x4096 .bf16)
    (sl0 : Vec F S1x1024x4096 .bf16) (hsl0 : (fun y => s ((Rect.unit (s := S2x1024x4096) (k0_off1 i) S1x1024x4096.size (k0_off1_inb i h1)).emb y)) = sl0) (E : Set ℕ) (K : PUnit → sProp 𝕄) :
    iprop(owns (c : Thread nD τ) arg2 fullShare x0
        ∗ owns (c : Thread nD τ) arg3 fullShare x1
        ∗ owns (c : Thread nD τ) arg4 fullShare d
        ∗ owns (c : Thread nD τ) arg5 fullShare s
        ∗ (iprop(owns (c : Thread nD τ) arg2 fullShare x0
            ∗ owns (c : Thread nD τ) arg3 fullShare x1
            ∗ owns (c : Thread nD τ) arg4 fullShare (k0_pay1 x0 sl0)
            ∗ owns (c : Thread nD τ) arg5 fullShare s) -∗ K ⟨⟩))
      ⊢ wp frame (wpE (defs₀ (F := F)) Variants.none c none) E (cc0_in_proj_even_lru i arg2 harg2 arg3 harg3 arg4 harg4 arg5 harg5) K := by
  simp only [cc0_in_proj_even_lru_eq_skeleton]; unfold cc0_in_proj_even_lru_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    rw [Held.store_full _ _ (by decide), Held.load_full harg2 x0 (by decide), Held.load_rect harg5]
    exact congrArg (fun a => k0_pay1 x0 a) hsl0
  iexists _; isplitr; · ipureintro; exact harg5.read_unread _
  iexact H3

end Cert.LruInIdeal.Pipelined

end
-- ==== Proof.LruInFrame.lean ====
/- The input projection of the even layer, the RG-LRU's columns, as a run over its grid. The kernel keeps two slabs of the weights in a scratch: while the product of
   one slab is taken, the next slab is cast into the other, a chunk of 512 columns at a point. What is carried from
   point to point is that the last 16 chunks cast are where they were put. -/
module

public import proofs.«01_k».proof.Proof.LruInRun
public import Idealize.ShloMosaic.Lib.Claim
public import Idealize.ShloMosaic.Lib.Pipeline.ValueKit

@[expose] public section

set_option maxRecDepth 16384

noncomputable section

namespace Cert.LruInIdeal.Pipelined

open Cert.LruInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem points (t : Fin cfg0.N) : t.val < 40 := lt_of_lt_of_eq t.isLt (show cfg0.N = 40 from N_0)

/-! ## What the scratch holds -/

/-- Before point `n` the scratch `s` holds each of the last 16 chunks cast, in the slab of its pass. -/
def Holds (c : Dev nD) (n : ℕ) (s : Vec F S2x1024x4096 .bf16) : Prop :=
  ∀ t : Fin cfg0.N, t.val < n → n ≤ t.val + 16 → t.val < 32 → ∀ (y : S1x1024x512.Idx) (z : S2x1024x4096.Idx),
    (z 0).val = t.val / 8 % 2 → (z 1).val = (y 1).val → (z 2).val = t.val % 8 * 512 + (y 2).val →
      s z = k0_pay2 (iblk m c 1 t) y

theorem holds_zero (c : Dev nD) (s : Vec F S2x1024x4096 .bf16) : Holds m c 0 s :=
  fun _ h => absurd h (Nat.not_lt_zero _)

/-- Past the last cast the scratch is left as it was. -/
theorem Holds.stay {c : Dev nD} {n : ℕ} {s : Vec F S2x1024x4096 .bf16} (h : Holds m c n s) (hn : 32 ≤ n) : Holds m c (n + 1) s :=
  fun t ht hr hB y z => h t (by omega) (by omega) hB y z

/-- Casting the chunk of a point keeps the 15 before it, which lie elsewhere. -/
theorem Holds.step {c : Dev nD} {t : Fin cfg0.N} {s : Vec F S2x1024x4096 .bf16} (h : Holds m c t.val s)
    (h2 : k0_cond2 (grid0.coords t) = 1#1) {M : Memref sig .tc .vmem S2x1024x4096 .bf16} (hM : M.IsWhole) :
    Holds m c (t.val + 1) (M.view.read (Elt F) (M.view.writes (Elt F) (hM.unread s)
      [⟨Rect.unit (s := S2x1024x4096) (k0_off2 (grid0.coords t)) S1x1024x512.size (k0_off2_inb (grid0.coords t) h2), k0_pay2 (iblk m c 1 t)⟩])) := by
  intro t' ht hr hB y z hz0 hz1 hz2
  have hy0 : (y 0).val = 0 := by have : (y 0).val < 1 := (y 0).isLt; omega
  have hyk : (y 2).val < 512 := (y 2).isLt
  have hoff := chunk_off t
  by_cases he : t' = t
  · subst he
    refine View.read_writes_cons_hit_of_coords M.view (hM.unread s)
      (Rect.unit (s := S2x1024x4096) (k0_off2 (grid0.coords t')) S1x1024x512.size (k0_off2_inb (grid0.coords t') h2)) (k0_pay2 (iblk m c 1 t')) [] y z fun a => ?_
    show (z a).val = k0_off2 (grid0.coords t') a + 1 * (y a).val
    rw [hoff]
    match a with
    | 0 => show (z 0).val = t'.val / 8 % 2 + 1 * (y 0).val; omega
    | 1 => show (z 1).val = 0 + 1 * (y 1).val; omega
    | 2 => show (z 2).val = t'.val % 8 * 512 + 1 * (y 2).val; omega
  · have hlt : t'.val < t.val := by
      have : t'.val ≠ t.val := fun e => he (Fin.ext e)
      omega
    have hkeep := (congrFun (hM.read_unread s) z).trans (h t' hlt (by omega) hB y z hz0 hz1 hz2)
    by_cases hc : t'.val % 8 = t.val % 8
    · refine (View.read_writes_cons_miss_of_axis _ _ _ _ z 0 (t.val / 8 % 2) 1 (congrFun hoff 0) rfl rfl ?_).trans hkeep
      rw [hz0]; omega
    · refine (View.read_writes_cons_miss_of_axis _ _ _ _ z 2 (t.val % 8 * 512) 512 (congrFun hoff 2) rfl rfl ?_).trans hkeep
      rw [hz2]; omega

/-- The slab the product of a point reads: the chunks cast in the pass before. -/
def slab (c : Dev nD) (t : Fin cfg0.N) : Vec F S1x1024x4096 .bf16 := fun y =>
  k0_pay2 (iblk m c 1 ⟨8 * (t.val / 8 - 1) + (y 2).val / 512, by
    have := points t; have : (y 2).val < 4096 := (y 2).isLt
    exact lt_of_lt_of_eq (by omega : _ < 40) (show cfg0.N = 40 from N_0).symm⟩)
    (fun a => match a with
      | 0 => ⟨0, Nat.one_pos⟩
      | 1 => y 1
      | 2 => ⟨(y 2).val % 512, Nat.mod_lt _ (by decide)⟩)

theorem slab_read {c : Dev nD} {t : Fin cfg0.N} {s : Vec F S2x1024x4096 .bf16} (h : Holds m c t.val s) (hni : 8 ≤ t.val)
    (h1 : k0_cond1 (grid0.coords t) = 1#1) :
    (fun y => s ((Rect.unit (s := S2x1024x4096) (k0_off1 (grid0.coords t)) S1x1024x4096.size (k0_off1_inb (grid0.coords t) h1)).emb y)) = slab m c t := by
  funext y
  have ht := points t
  have hyk : (y 2).val < 4096 := (y 2).isLt
  have hy0 : (y 0).val = 0 := by have : (y 0).val < 1 := (y 0).isLt; omega
  have hoff := slab_off t hni
  refine h _ ?_ ?_ ?_ _ _ ?_ ?_ ?_
  · show 8 * (t.val / 8 - 1) + (y 2).val / 512 < t.val; omega
  · show t.val ≤ 8 * (t.val / 8 - 1) + (y 2).val / 512 + 16; omega
  · show 8 * (t.val / 8 - 1) + (y 2).val / 512 < 32; omega
  · show k0_off1 (grid0.coords t) 0 + 1 * (y 0).val = (8 * (t.val / 8 - 1) + (y 2).val / 512) / 8 % 2
    have h0 : k0_off1 (grid0.coords t) 0 = (t.val / 8 - 1) % 2 := congrFun hoff 0
    omega
  · show k0_off1 (grid0.coords t) 1 + 1 * (y 1).val = (y 1).val
    have h0 : k0_off1 (grid0.coords t) 1 = 0 := congrFun hoff 1
    omega
  · show k0_off1 (grid0.coords t) 2 + 1 * (y 2).val = (8 * (t.val / 8 - 1) + (y 2).val / 512) % 8 * 512 + (y 2).val % 512
    have h0 : k0_off1 (grid0.coords t) 2 = 0 := congrFun hoff 2
    omega

/-! ## The proof data -/

/-- Between points: the scratch at some contents that hold the chunks, and the generator register. -/
def Carried (c : Dev nD) (n : ℕ) : sProp 𝕄 :=
  iprop((∃ s : Vec F S2x1024x4096 .bf16, ⌜Holds m c n s⌝ ∗ owns (c : Thread nD τ) (Memref.whole cc0_scratch0) fullShare s) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay1 (iblk m c 0 t) (slab m c t)
  Φ t := Carried m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = k0_pay1 (iblk m c 0 t) (slab m c t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem carried_start (c : Dev nD) (t : Fin cfg0.N) : (dats m 0 c).Φ t.castSucc = Carried m c t.val := by
  dsimp only [dats]; exact Pipeline.Dat.Φ_castSucc (fun n _ => Carried m c n) t
theorem carried_end (c : Dev nD) (t : Fin cfg0.N) : (dats m 0 c).Φ t.succ = Carried m c (t.val + 1) := by dsimp only [dats]; rfl

/-! ## When a point writes the result -/

theorem idle_out : ∀ t : Fin cfg0.N, t.val < 8 → cfg0.idle 2 (grid0.coords t) = true := (by decide +kernel : ∀ t : Fin grid0.N, _)
theorem kept_out : ∀ t : Fin cfg0.N, t.val < 8 → (cfg0.win 2).flush t = false := (by decide +kernel : ∀ t : Fin grid0.N, _)
theorem live_out : ∀ t : Fin cfg0.N, 8 ≤ t.val → cfg0.idle 2 (grid0.coords t) = false := (by decide +kernel : ∀ t : Fin grid0.N, _)

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [carried_start, carried_end, show (dats m 0 c).owesAt () t.succ = (dats m 0 c).owesAt () t.castSucc from rfl]
  rw [show (dats m 0 c).leavesExact 0 t = owns (c : Thread nD τ) (st0_0 t) fullShare (iblk m c 0 t) from by rw [← after_0 m c t],
    show (dats m 0 c).leavesExact 1 t = owns (c : Thread nD τ) (st0_1 t) fullShare (iblk m c 1 t) from by rw [← after_1 m c t]]
  have hN := points t
  by_cases hni : 8 ≤ t.val
  · have h1 := (product_iff t).mpr hni
    rw [show (dats m 0 c).leavesExact 2 t = owns (c : Thread nD τ) (st0_2 t) fullShare (k0_pay1 (iblk m c 0 t) (slab m c t)) from by
        unfold Dat.leavesExact; rw [live_out t hni, after_2]]
    by_cases hB : t.val < 32
    · have h2 := (cast_iff t).mpr hB
      unfold Carried
      iintro ⟨⟨⟨%s, %hs, HS⟩, Hg⟩, Ho, ⟨%d0, H0⟩, ⟨%d1, H1⟩, ⟨%d2, H2⟩⟩
      iapply (run_both c (grid0.coords t) _ _ _ _ _ _ _ _ h1 h2 (iblk m c 0 t) (iblk m c 1 t) _ s (slab m c t) (slab_read m hs hni h1) Set.univ _)
      isplitl [H0]; · iexact H0
      isplitl [H1]; · iexact H1
      isplitl [H2]; · iexact H2
      isplitl [HS]; · iexact HS
      iintro ⟨H0, H1, H2, HS⟩
      isplitl [HS Hg]
      · isplitl [HS]
        · iexists _; isplitr; swap; · iexact HS
          ipureintro; exact hs.step m h2 _
        · iexact Hg
      isplitl [Ho]; · iexact Ho
      isplitl [H0]; · iexact H0
      isplitl [H1]; · iexact H1
      iexact H2
    · have h2 : ¬k0_cond2 (grid0.coords t) = 1#1 := fun h => hB ((cast_iff t).mp h)
      unfold Carried
      iintro ⟨⟨⟨%s, %hs, HS⟩, Hg⟩, Ho, ⟨%d0, H0⟩, ⟨%d1, H1⟩, ⟨%d2, H2⟩⟩
      iapply (run_last c (grid0.coords t) _ _ _ _ _ _ _ _ h1 h2 (iblk m c 0 t) (iblk m c 1 t) _ s (slab m c t) (slab_read m hs hni h1) Set.univ _)
      isplitl [H0]; · iexact H0
      isplitl [H1]; · iexact H1
      isplitl [H2]; · iexact H2
      isplitl [HS]; · iexact HS
      iintro ⟨H0, H1, H2, HS⟩
      isplitl [HS Hg]
      · isplitl [HS]
        · iexists _; isplitr; swap; · iexact HS
          ipureintro; exact hs.stay m (by omega)
        · iexact Hg
      isplitl [Ho]; · iexact Ho
      isplitl [H0]; · iexact H0
      isplitl [H1]; · iexact H1
      iexact H2
  · have h1 : ¬k0_cond1 (grid0.coords t) = 1#1 := fun h => hni ((product_iff t).mp h)
    have h2 := (cast_iff t).mpr (by omega)
    rw [(dats m 0 c).leavesExact_idle 2 t (idle_out t (by omega)) (kept_out t (by omega))]
    unfold Carried
    iintro ⟨⟨⟨%s, %hs, HS⟩, Hg⟩, Ho, ⟨%d0, H0⟩, ⟨%d1, H1⟩, ⟨%d2, H2⟩⟩
    iapply (run_first c (grid0.coords t) _ _ _ _ _ _ _ _ h1 h2 (iblk m c 0 t) (iblk m c 1 t) _ s Set.univ _)
    isplitl [H0]; · iexact H0
    isplitl [H1]; · iexact H1
    isplitl [H2]; · iexact H2
    isplitl [HS]; · iexact HS
    iintro ⟨H0, H1, H2, HS⟩
    isplitl [HS Hg]
    · isplitl [HS]
      · iexists _; isplitr; swap; · iexact HS
        ipureintro; exact hs.step m h2 _
      · iexact Hg
    isplitl [Ho]; · iexact Ho
    isplitl [H0]; · iexact H0
    isplitl [H1]; · iexact H1
    iexists d2; iexact H2

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- Before the first point the scratch holds anything. -/
theorem carried_in (c : Dev nD) : Pipeline.ΦA spec0 c ⊢ (dats m 0 c).Φ 0 := by
  rw [show (dats m 0 c).Φ 0 = Carried m c 0 from rfl]
  unfold Pipeline.ΦA Carried
  rw [scopedRest0_eq]
  simp only [owns_whole]
  iintro ⟨⟨%f, H⟩, Hg⟩
  isplitl [H]
  · iexists f; isplitr; swap; · iexact H
    ipureintro; exact holds_zero m c f
  · iexact Hg

/-- After the last point what the scratch holds is forgotten. -/
theorem carried_out (c : Dev nD) : (dats m 0 c).Φ (Fin.last cfg0.N) ⊢ Pipeline.ΦA spec0 c := by
  rw [show (dats m 0 c).Φ (Fin.last cfg0.N) = Carried m c (Fin.last cfg0.N).val from rfl]
  unfold Pipeline.ΦA Carried
  rw [scopedRest0_eq]
  simp only [owns_whole]
  iintro ⟨⟨%f, %hf, H⟩, Hg⟩
  isplitl [H]
  · iexists f; iexact H
  · iexact Hg

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := carried_in m) (hout := carried_out m)

theorem run : θ_run defs (onTc (τ := τ) (main (F := F))) (s₀ m ρ) (Pipeline.FramePost cfgs (dats m) 0 (V m)) :=
  (θ_run defs _ _).mono (fun _ h => h.1) (run_quiescent m ρ)

/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run m ρ)) ((θ_run defs _ _).mono (fun _ h => h.2) (run_quiescent m ρ))

end Cert.LruInIdeal.Pipelined

end
-- ==== Proof.LruIn.lean ====
/- The input projection of the even layer, the RG-LRU's columns: what the kernel leaves in its result is what the reference computes. -/
module

public import proofs.«01_k».proof.Proof.LruInFrame
public import proofs.«01_k».proof.Proof.Gen.LruInRefIdeal.Run
public import proofs.«01_k».proof.Proof.Gen.LruInRefIdeal.Read
public import proofs.«01_k».proof.Defs
public import proofs.«01_k».proof.Proof.Gen.LruIn.Frame
public import Idealize.ShloMosaic.Lib.Pipeline.ValueKit

@[expose] public section

set_option maxRecDepth 16384

noncomputable section

namespace Cert.LruInIdeal.Pipelined

open Cert.LruInIdeal Cert.LruInIdeal.Gen Idealize.ShloMosaic Idealize.ShloMosaic.TcCoe Idealize.SL.Sem
open Idealize.ShloMosaic.Pipeline (Dat)

variable (m : (ℓ : Loc nD τ sig) → Buf (Elt Ideal) ℓ)

/-- Where each window's block sits in its array at a grid point. -/
theorem idx_0 : ∀ t : Fin cfg0.N, 8 ≤ t.val → win0_0.index t = ![t.val % 8, 0] :=
  (by decide +kernel : ∀ t : Fin grid0.N, _)
theorem idx_1 : ∀ t : Fin cfg0.N, t.val < 32 → win0_1.index t = ![t.val / 8, t.val % 8] :=
  (by decide +kernel : ∀ t : Fin grid0.N, _)
theorem idx_2 : ∀ t : Fin cfg0.N, 8 ≤ t.val → win0_2.index t = ![t.val % 8, t.val / 8 - 1] :=
  (by decide +kernel : ∀ t : Fin grid0.N, _)
theorem written : ∀ t : Fin cfg0.N, (cfg0.win 2).flush t = true → 8 ≤ t.val := (by decide +kernel : ∀ t : Fin grid0.N, _)

theorem chunk_at (w : FVec Ideal S1024x512 .f32) (y : S1x1024x512.Idx) : k0_pay2 (F := Ideal) w y = w (ix2 (y 1) (y 2)) := by
  pointwise [k0_pay2]

theorem product_at (u : FVec Ideal S1088x4096 .bf16) (w : FVec Ideal S1x1024x4096 .bf16) (j : S1088x1024.Idx) :
    k0_pay1 (F := Ideal) u w j = ∑ k : Fin 4096, u (ix2 (j 0) k) * w (ix3 0 (j 1) k) := by
  pointwise [k0_pay1]

open Cert.LruInRefIdeal.Read in
theorem ref_product (u : FVec Ideal S8704x4096 .bf16) (w : FVec Ideal S1x4096x10256 .f32) (j : S8704x4096.Idx) (n : Fin 10256) (hn : n.val = 6160 + (j 1).val) :
    val_main_v3 (F := Ideal) u w j = ∑ k : Fin 4096, u (ix2 (j 0) k) * w (ix3 0 k n) := by
  obtain ⟨v, hv⟩ := n
  obtain rfl : v = 6160 + (j 1).val := hn
  pointwise [val_main_v3, val_main_v2, val_main_v1, val_main_v0]

/-- The weights as the pipeline finds them are the argument's, transposed. -/
theorem weights_at (c : Dev nD) (z : S4096x4096.Idx) (n : Fin 10256) (hn : n.val = 6160 + (z 0).val) :
    (show FVec Ideal S4096x4096 .f32 from V m c main_v2) z = (show FVec Ideal S1x4096x10256 .f32 from m ((c : Thread nD τ).loc main_arg1)) (ix3 0 (z 1) n) := by
  obtain ⟨v, hv⟩ := n
  obtain rfl : v = 6160 + (z 0).val := hn
  entry_read
  pointwise []

/-- A block of the weights at an entry, in the argument. -/
theorem block_at (c : Dev nD) (t : Fin cfg0.N) (ht : t.val < 32) (y : S1024x512.Idx) (k : Fin 4096) (hk : k.val = t.val % 8 * 512 + (y 1).val)
    (n : Fin 10256) (hn : n.val = 6160 + (t.val / 8 * 1024 + (y 0).val)) :
    (show FVec Ideal S1024x512 .f32 from iblk m c 1 t) y = (show FVec Ideal S1x4096x10256 .f32 from m ((c : Thread nD τ).loc main_arg1)) (ix3 0 k n) := by
  have hi := idx_1 t ht
  have hn' : n.val = 6160 + (t.val / 8 * 1024 + (y 0).val) := hn
  have hy : (y 0).val < 1024 := (y 0).isLt
  refine Eq.trans ?_ (weights_at m c (ix2 ⟨t.val / 8 * 1024 + (y 0).val, by omega⟩ k) n hn')
  blk_point [iblk, hi]

/-- The slab at an entry, in the argument. -/
theorem slab_at (c : Dev nD) (t : Fin cfg0.N) (hni : 8 ≤ t.val) (y : S1x1024x4096.Idx) (k : Fin 4096) (hk : k = y 2)
    (n : Fin 10256) (hn : n.val = 6160 + ((t.val / 8 - 1) * 1024 + (y 1).val)) :
    slab m c t y = (show FVec Ideal S1x4096x10256 .f32 from m ((c : Thread nD τ).loc main_arg1)) (ix3 0 k n) := by
  have hN := points t
  have hy : (y 2).val < 4096 := (y 2).isLt
  have hkv : k.val = (y 2).val := congrArg Fin.val hk
  unfold slab
  rw [chunk_at]
  refine block_at m c ⟨8 * (t.val / 8 - 1) + (y 2).val / 512, _⟩ ?_ _ k ?_ n ?_
  · show 8 * (t.val / 8 - 1) + (y 2).val / 512 < 32; omega
  · show k.val = (8 * (t.val / 8 - 1) + (y 2).val / 512) % 8 * 512 + (y 2).val % 512; omega
  · show n.val = 6160 + ((8 * (t.val / 8 - 1) + (y 2).val / 512) / 8 * 1024 + (y 1).val); omega

/-- THE RESULT of the kernel is the reference's. -/
theorem final_product (c : Dev nD) : (dats m 0 c).arrAt 2 cfg0.N
    = Cert.LruInRefIdeal.Read.val_main_v3 (F := Ideal) (m ((c : Thread nD τ).loc main_arg0)) (m ((c : Thread nD τ).loc main_arg1)) := by
  refine (dats m 0 c).arrAt_eq_of_covers 2 _ (by decide +kernel) fun t hf y => ?_
  have hni := written t hf
  have hN := points t
  have hy : (y 1).val < 1024 := (y 1).isLt
  blk_simp
  rw [after_2, product_at]
  refine Eq.trans ?_ (ref_product _ _ _ ⟨6160 + ((t.val / 8 - 1) * 1024 + (y 1).val), by omega⟩ ?_).symm
  · refine congrArg (fun a : EReal => a) (Finset.sum_congr rfl fun k _ => ?_)
    rw [slab_at m c t hni _ k rfl ⟨6160 + ((t.val / 8 - 1) * 1024 + (y 1).val), by omega⟩ rfl]
    refine congrArg (fun a : EReal => a * _) ?_
    blk_point [iblk, V, idx_0 t hni, idx_2 t hni]
  · blk_simp [idx_2 t hni]

/-- The kernel over ideal values and the reference end with equal results. -/
theorem algebraic : Cert.algebraic_LruInIdeal_LruInRefIdeal := by
  intro m g m' g' _ hagree
  refine ⟨fun c => Cert.LruInRefIdeal.Read.val_main_v3 (F := Ideal) (m ((c : Thread nD τ).loc main_arg0)) (m ((c : Thread nD τ).loc main_arg1)), ?_, ?_⟩
  · exact (θ_run Cert.LruInIdeal.defs _ _).mono (fun _ h c => ⟨((h.1 c).1 2).trans (final_product m c), (h.2.1 c)⟩)
      (θ_run_and (run m g) (frame m g))
  · refine (θ_run Cert.LruInRefIdeal.defs _ _).mono (fun _ h c => ⟨(h c).1.trans ?_, (h c).2⟩)
      (Cert.LruInRefIdeal.Value.run (F := Ideal) m' g')
    rw [(hagree c).1, (hagree c).2]
    exact Cert.LruInRefIdeal.Read.val_main_v3_eq _ _

/-- Over words the kernel's body table is the same text. -/
theorem rows_same : Cert.LruInIdeal.defs₀ (F := Bits) = Cert.LruIn.defs₀ (F := Bits) := by
  unfold Cert.LruInIdeal.defs₀ Cert.LruIn.defs₀
  refine congrArg Defs.onTc (funext fun l => funext fun a => ?_)
  match l, a with
  | 0, (t, s) => rfl

theorem frame_kernel : Cert.quiescent_LruIn := fun m ρ _ => by
  have h := frame (F := Bits) m ρ
  unfold Cert.LruInIdeal.defs at h
  rw [rows_same] at h
  exact h

theorem frame_ideal : Cert.quiescent_LruInIdeal := fun m ρ _ => frame (F := Ideal) m ρ

/-- The reference runs, leaves its arguments as they were and every semaphore at zero. -/
theorem frame_reference : Cert.quiescent_LruInRefIdeal := fun m ρ _ =>
  (θ_run Cert.LruInRefIdeal.defs _ _).mono (fun r h => ⟨fun c => (h c).2,
    Idealize.ShloMosaic.sem_eq_zero_of_no_sems (by decide) r.2⟩) (Cert.LruInRefIdeal.Value.run (F := Ideal) m ρ)

end Cert.LruInIdeal.Pipelined

end
-- ==== Proof.EvenOutRun.lean ====
/- The output projection of the even layer with the residual: what one grid point does to its buffers, by the three kinds of grid point. In the first pass a chunk of the
   weights is cast into the scratch and nothing is multiplied, in a middle pass both are done, in the last pass the
   product alone. -/
module

public import proofs.«01_k».proof.Proof.Gen.EvenOutIdeal.Frame
public import proofs.«01_k».proof.Proof.Gen.EvenOutIdeal.Skeleton
public import proofs.«01_k».proof.Proof.Held
public import Idealize.ShloMosaic.Lib.Pipeline.TableIdle

@[expose] public section

set_option maxRecDepth 16384

noncomputable section

namespace Cert.EvenOutIdeal.Pipelined

open Cert.EvenOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid in closed form -/

theorem product_iff : ∀ t : Fin cfg0.N, k0_cond1 (grid0.coords t) = 1#1 ↔ 16 ≤ t.val :=
  (by decide +kernel : ∀ t : Fin grid0.N, _)
theorem cast_iff : ∀ t : Fin cfg0.N, k0_cond2 (grid0.coords t) = 1#1 ↔ t.val < 64 :=
  (by decide +kernel : ∀ t : Fin grid0.N, _)
/-- The product reads the first half of the slab of the pass before. -/
theorem slab_off : ∀ t : Fin cfg0.N, 16 ≤ t.val → k0_off1 (grid0.coords t) = ![(t.val / 16 - 1) % 2, 0, 0] :=
  (by decide +kernel : ∀ t : Fin grid0.N, _)
/-- The product reads the second half of the slab of the pass before. -/
theorem slab_second_off : ∀ t : Fin cfg0.N, 16 ≤ t.val → k0_off2 (grid0.coords t) = ![(t.val / 16 - 1) % 2, 2048, 0] :=
  (by decide +kernel : ∀ t : Fin grid0.N, _)
/-- The cast writes the chunk of this point into the slab of this pass. -/
theorem chunk_off : ∀ t : Fin cfg0.N, k0_off3 (grid0.coords t) = ![t.val / 16 % 2, t.val % 16 * 256, 0] :=
  (by decide +kernel : ∀ t : Fin grid0.N, _)

/-! ## The three runs -/

set_option maxHeartbeats 1000000 in
/-- The first pass: the chunk is cast into the scratch, the result is left as it was. -/
theorem run_first (c : Dev nD) (i : grid0.Coords)
    (arg2 : Memref sig .tc .vmem S544x2048 .bf16) (harg2 : arg2.IsWhole)
    (arg3 : Memref sig .tc .vmem S544x2048 .bf16) (harg3 : arg3.IsWhole)
    (arg4 : Memref sig .tc .vmem S1x256x1024 .f32) (harg4 : arg4.IsWhole)
    (arg5 : Memref sig .tc .vmem S544x1024 .f32) (harg5 : arg5.IsWhole)
    (arg6 : Memref sig .tc .vmem S544x1024 .f32) (harg6 : arg6.IsWhole)
    (arg7 : Memref sig .tc .vmem S2x4096x1024 .bf16) (harg7 : arg7.IsWhole)
    (h1 : ¬k0_cond1 i = 1#1) (h2 : k0_cond2 i = 1#1)
    (x0 : Vec F S544x2048 .bf16) (x1 : Vec F S544x2048 .bf16) (x2 : Vec F S1x256x1024 .f32) (x3 : Vec F S544x1024 .f32) (d : Vec F S544x1024 .f32)
    (s : Vec F S2x4096x1024 .bf16) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare d
        ∗ owns (c : Thread nD τ) arg7 fullShare s
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare d
            ∗ owns (c : Thread nD τ) arg7 fullShare (arg7.view.read (Elt F) (arg7.view.writes (Elt F) (harg7.unread s)
                [⟨Rect.unit (s := S2x4096x1024) (k0_off3 i) S1x256x1024.size (k0_off3_inb i h2), k0_pay2 x2⟩]))) -∗ K ⟨⟩))
      ⊢ wp frame (wpE (defs₀ (F := F)) Variants.none c none) E (cc0_out_proj_even i arg2 harg2 arg3 harg3 arg4 harg4 arg5 harg5 arg6 harg6 arg7 harg7) K := by
  simp only [cc0_out_proj_even_eq_skeleton]; unfold cc0_out_proj_even_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr; swap; · iexact H5
  ipureintro
  rw [Held.load_full harg4 x2 (by decide)]

set_option maxHeartbeats 1000000 in
/-- A middle pass: the product is written, and the chunk is cast into the scratch. -/
theorem run_both (c : Dev nD) (i : grid0.Coords)
    (arg2 : Memref sig .tc .vmem S544x2048 .bf16) (harg2 : arg2.IsWhole)
    (arg3 : Memref sig .tc .vmem S544x2048 .bf16) (harg3 : arg3.IsWhole)
    (arg4 : Memref sig .tc .vmem S1x256x1024 .f32) (harg4 : arg4.IsWhole)
    (arg5 : Memref sig .tc .vmem S544x1024 .f32) (harg5 : arg5.IsWhole)
    (arg6 : Memref sig .tc .vmem S544x1024 .f32) (harg6 : arg6.IsWhole)
    (arg7 : Memref sig .tc .vmem S2x4096x1024 .bf16) (harg7 : arg7.IsWhole)
    (h1 : k0_cond1 i = 1#1) (h2 : k0_cond2 i = 1#1)
    (x0 : Vec F S544x2048 .bf16) (x1 : Vec F S544x2048 .bf16) (x2 : Vec F S1x256x1024 .f32) (x3 : Vec F S544x1024 .f32) (d : Vec F S544x1024 .f32)
    (s : Vec F S2x4096x1024 .bf16)
    (sl0 : Vec F S1x2048x1024 .bf16) (hsl0 : (fun y => s ((Rect.unit (s := S2x4096x1024) (k0_off1 i) S1x2048x1024.size (k0_off1_inb i h1)).emb y)) = sl0)
    (sl1 : Vec F S1x2048x1024 .bf16) (hsl1 : (fun y => s ((Rect.unit (s := S2x4096x1024) (k0_off2 i) S1x2048x1024.size (k0_off2_inb i h1)).emb y)) = sl1) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare d
        ∗ owns (c : Thread nD τ) arg7 fullShare s
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare (k0_pay1 x0 sl0 x1 sl1 x3)
            ∗ owns (c : Thread nD τ) arg7 fullShare (arg7.view.read (Elt F) (arg7.view.writes (Elt F) (harg7.unread s)
                [⟨Rect.unit (s := S2x4096x1024) (k0_off3 i) S1x256x1024.size (k0_off3_inb i h2), k0_pay2 x2⟩]))) -∗ K ⟨⟩))
      ⊢ wp frame (wpE (defs₀ (F := F)) Variants.none c none) E (cc0_out_proj_even i arg2 harg2 arg3 harg3 arg4 harg4 arg5 harg5 arg6 harg6 arg7 harg7) K := by
  simp only [cc0_out_proj_even_eq_skeleton]; unfold cc0_out_proj_even_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    rw [Held.store_full _ _ (by decide), Held.load_full harg2 x0 (by decide), Held.load_full harg3 x1 (by decide), Held.load_full harg5 x3 (by decide), Held.load_rect harg7, Held.load_rect harg7]
    exact congrArg₂ (fun a b => k0_pay1 x0 a x1 b x3) hsl0 hsl1
  iexists _; isplitr; swap; · iexact H5
  ipureintro
  rw [Held.load_full harg4 x2 (by decide)]

set_option maxHeartbeats 1000000 in
/-- The last pass: the product is written; the scratch stays. -/
theorem run_last (c : Dev nD) (i : grid0.Coords)
    (arg2 : Memref sig .tc .vmem S544x2048 .bf16) (harg2 : arg2.IsWhole)
    (arg3 : Memref sig .tc .vmem S544x2048 .bf16) (harg3 : arg3.IsWhole)
    (arg4 : Memref sig .tc .vmem S1x256x1024 .f32) (harg4 : arg4.IsWhole)
    (arg5 : Memref sig .tc .vmem S544x1024 .f32) (harg5 : arg5.IsWhole)
    (arg6 : Memref sig .tc .vmem S544x1024 .f32) (harg6 : arg6.IsWhole)
    (arg7 : Memref sig .tc .vmem S2x4096x1024 .bf16) (harg7 : arg7.IsWhole)
    (h1 : k0_cond1 i = 1#1) (h2 : ¬k0_cond2 i = 1#1)
    (x0 : Vec F S544x2048 .bf16) (x1 : Vec F S544x2048 .bf16) (x2 : Vec F S1x256x1024 .f32) (x3 : Vec F S544x1024 .f32) (d : Vec F S544x1024 .f32)
    (s : Vec F S2x4096x1024 .bf16)
    (sl0 : Vec F S1x2048x1024 .bf16) (hsl0 : (fun y => s ((Rect.unit (s := S2x4096x1024) (k0_off1 i) S1x2048x1024.size (k0_off1_inb i h1)).emb y)) = sl0)
    (sl1 : Vec F S1x2048x1024 .bf16) (hsl1 : (fun y => s ((Rect.unit (s := S2x4096x1024) (k0_off2 i) S1x2048x1024.size (k0_off2_inb i h1)).emb y)) = sl1) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare d
        ∗ owns (c : Thread nD τ) arg7 fullShare s
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare (k0_pay1 x0 sl0 x1 sl1 x3)
            ∗ owns (c : Thread nD τ) arg7 fullShare s) -∗ K ⟨⟩))
      ⊢ wp frame (wpE (defs₀ (F := F)) Variants.none c none) E (cc0_out_proj_even i arg2 harg2 arg3 harg3 arg4 harg4 arg5 harg5 arg6 harg6 arg7 harg7) K := by
  simp only [cc0_out_proj_even_eq_skeleton]; unfold cc0_out_proj_even_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    rw [Held.store_full _ _ (by decide), Held.load_full harg2 x0 (by decide), Held.load_full harg3 x1 (by decide), Held.load_full harg5 x3 (by decide), Held.load_rect harg7, Held.load_rect harg7]
    exact congrArg₂ (fun a b => k0_pay1 x0 a x1 b x3) hsl0 hsl1
  iexists _; isplitr; · ipureintro; exact harg7.read_unread _
  iexact H5

end Cert.EvenOutIdeal.Pipelined

end
-- ==== Proof.EvenOutFrame.lean ====
/- The output projection of the even layer with the residual, as a run over its grid. The kernel keeps two slabs of the weights in a scratch: while the product of
   one slab is taken, the next slab is cast into the other, a chunk of 256 rows at a point. What is carried from
   point to point is that the last 32 chunks cast are where they were put. -/
module

public import proofs.«01_k».proof.Proof.EvenOutRun
public import Idealize.ShloMosaic.Lib.Claim
public import Idealize.ShloMosaic.Lib.Pipeline.ValueKit

@[expose] public section

set_option maxRecDepth 16384

noncomputable section

namespace Cert.EvenOutIdeal.Pipelined

open Cert.EvenOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem points (t : Fin cfg0.N) : t.val < 80 := lt_of_lt_of_eq t.isLt (show cfg0.N = 80 from N_0)

/-! ## What the scratch holds -/

/-- Before point `n` the scratch `s` holds each of the last 32 chunks cast, in the slab of its pass. -/
def Holds (c : Dev nD) (n : ℕ) (s : Vec F S2x4096x1024 .bf16) : Prop :=
  ∀ t : Fin cfg0.N, t.val < n → n ≤ t.val + 32 → t.val < 64 → ∀ (y : S1x256x1024.Idx) (z : S2x4096x1024.Idx),
    (z 0).val = t.val / 16 % 2 → (z 1).val = t.val % 16 * 256 + (y 1).val → (z 2).val = (y 2).val →
      s z = k0_pay2 (iblk m c 2 t) y

theorem holds_zero (c : Dev nD) (s : Vec F S2x4096x1024 .bf16) : Holds m c 0 s :=
  fun _ h => absurd h (Nat.not_lt_zero _)

/-- Past the last cast the scratch is left as it was. -/
theorem Holds.stay {c : Dev nD} {n : ℕ} {s : Vec F S2x4096x1024 .bf16} (h : Holds m c n s) (hn : 64 ≤ n) : Holds m c (n + 1) s :=
  fun t ht hr hB y z => h t (by omega) (by omega) hB y z

/-- Casting the chunk of a point keeps the 31 before it, which lie elsewhere. -/
theorem Holds.step {c : Dev nD} {t : Fin cfg0.N} {s : Vec F S2x4096x1024 .bf16} (h : Holds m c t.val s)
    (h2 : k0_cond2 (grid0.coords t) = 1#1) {M : Memref sig .tc .vmem S2x4096x1024 .bf16} (hM : M.IsWhole) :
    Holds m c (t.val + 1) (M.view.read (Elt F) (M.view.writes (Elt F) (hM.unread s)
      [⟨Rect.unit (s := S2x4096x1024) (k0_off3 (grid0.coords t)) S1x256x1024.size (k0_off3_inb (grid0.coords t) h2), k0_pay2 (iblk m c 2 t)⟩])) := by
  intro t' ht hr hB y z hz0 hz1 hz2
  have hy0 : (y 0).val = 0 := by have : (y 0).val < 1 := (y 0).isLt; omega
  have hyk : (y 1).val < 256 := (y 1).isLt
  have hoff := chunk_off t
  by_cases he : t' = t
  · subst he
    refine View.read_writes_cons_hit_of_coords M.view (hM.unread s)
      (Rect.unit (s := S2x4096x1024) (k0_off3 (grid0.coords t')) S1x256x1024.size (k0_off3_inb (grid0.coords t') h2)) (k0_pay2 (iblk m c 2 t')) [] y z fun a => ?_
    show (z a).val = k0_off3 (grid0.coords t') a + 1 * (y a).val
    rw [hoff]
    match a with
    | 0 => show (z 0).val = t'.val / 16 % 2 + 1 * (y 0).val; omega
    | 1 => show (z 1).val = t'.val % 16 * 256 + 1 * (y 1).val; omega
    | 2 => show (z 2).val = 0 + 1 * (y 2).val; omega
  · have hlt : t'.val < t.val := by
      have : t'.val ≠ t.val := fun e => he (Fin.ext e)
      omega
    have hkeep := (congrFun (hM.read_unread s) z).trans (h t' hlt (by omega) hB y z hz0 hz1 hz2)
    by_cases hc : t'.val % 16 = t.val % 16
    · refine (View.read_writes_cons_miss_of_axis _ _ _ _ z 0 (t.val / 16 % 2) 1 (congrFun hoff 0) rfl rfl ?_).trans hkeep
      rw [hz0]; omega
    · refine (View.read_writes_cons_miss_of_axis _ _ _ _ z 1 (t.val % 16 * 256) 256 (congrFun hoff 1) rfl rfl ?_).trans hkeep
      rw [hz1]; omega

/-- The first half of the slab the product of a point reads: the chunks cast in the pass before. -/
def slab (c : Dev nD) (t : Fin cfg0.N) : Vec F S1x2048x1024 .bf16 := fun y =>
  k0_pay2 (iblk m c 2 ⟨16 * (t.val / 16 - 1) + (y 1).val / 256, by
    have := points t; have : (y 1).val < 2048 := (y 1).isLt
    exact lt_of_lt_of_eq (by omega : _ < 80) (show cfg0.N = 80 from N_0).symm⟩)
    (fun a => match a with
      | 0 => ⟨0, Nat.one_pos⟩
      | 1 => ⟨(y 1).val % 256, Nat.mod_lt _ (by decide)⟩
      | 2 => y 2)

theorem slab_read {c : Dev nD} {t : Fin cfg0.N} {s : Vec F S2x4096x1024 .bf16} (h : Holds m c t.val s) (hni : 16 ≤ t.val)
    (h1 : k0_cond1 (grid0.coords t) = 1#1) :
    (fun y => s ((Rect.unit (s := S2x4096x1024) (k0_off1 (grid0.coords t)) S1x2048x1024.size (k0_off1_inb (grid0.coords t) h1)).emb y)) = slab m c t := by
  funext y
  have ht := points t
  have hyk : (y 1).val < 2048 := (y 1).isLt
  have hy0 : (y 0).val = 0 := by have : (y 0).val < 1 := (y 0).isLt; omega
  have hoff := slab_off t hni
  refine h _ ?_ ?_ ?_ _ _ ?_ ?_ ?_
  · show 16 * (t.val / 16 - 1) + (y 1).val / 256 < t.val; omega
  · show t.val ≤ 16 * (t.val / 16 - 1) + (y 1).val / 256 + 32; omega
  · show 16 * (t.val / 16 - 1) + (y 1).val / 256 < 64; omega
  · show k0_off1 (grid0.coords t) 0 + 1 * (y 0).val = (16 * (t.val / 16 - 1) + (y 1).val / 256) / 16 % 2
    have h0 : k0_off1 (grid0.coords t) 0 = (t.val / 16 - 1) % 2 := congrFun hoff 0
    omega
  · show k0_off1 (grid0.coords t) 1 + 1 * (y 1).val = (16 * (t.val / 16 - 1) + (y 1).val / 256) % 16 * 256 + (y 1).val % 256
    have h0 : k0_off1 (grid0.coords t) 1 = 0 := congrFun hoff 1
    omega
  · show k0_off1 (grid0.coords t) 2 + 1 * (y 2).val = (y 2).val
    have h0 : k0_off1 (grid0.coords t) 2 = 0 := congrFun hoff 2
    omega

/-- The second half of the slab the product of a point reads: the chunks cast in the pass before. -/
def slab_second (c : Dev nD) (t : Fin cfg0.N) : Vec F S1x2048x1024 .bf16 := fun y =>
  k0_pay2 (iblk m c 2 ⟨16 * (t.val / 16 - 1) + (2048 + (y 1).val) / 256, by
    have := points t; have : (y 1).val < 2048 := (y 1).isLt
    exact lt_of_lt_of_eq (by omega : _ < 80) (show cfg0.N = 80 from N_0).symm⟩)
    (fun a => match a with
      | 0 => ⟨0, Nat.one_pos⟩
      | 1 => ⟨(2048 + (y 1).val) % 256, Nat.mod_lt _ (by decide)⟩
      | 2 => y 2)

theorem slab_second_read {c : Dev nD} {t : Fin cfg0.N} {s : Vec F S2x4096x1024 .bf16} (h : Holds m c t.val s) (hni : 16 ≤ t.val)
    (h1 : k0_cond1 (grid0.coords t) = 1#1) :
    (fun y => s ((Rect.unit (s := S2x4096x1024) (k0_off2 (grid0.coords t)) S1x2048x1024.size (k0_off2_inb (grid0.coords t) h1)).emb y)) = slab_second m c t := by
  funext y
  have ht := points t
  have hyk : (y 1).val < 2048 := (y 1).isLt
  have hy0 : (y 0).val = 0 := by have : (y 0).val < 1 := (y 0).isLt; omega
  have hoff := slab_second_off t hni
  refine h _ ?_ ?_ ?_ _ _ ?_ ?_ ?_
  · show 16 * (t.val / 16 - 1) + (2048 + (y 1).val) / 256 < t.val; omega
  · show t.val ≤ 16 * (t.val / 16 - 1) + (2048 + (y 1).val) / 256 + 32; omega
  · show 16 * (t.val / 16 - 1) + (2048 + (y 1).val) / 256 < 64; omega
  · show k0_off2 (grid0.coords t) 0 + 1 * (y 0).val = (16 * (t.val / 16 - 1) + (2048 + (y 1).val) / 256) / 16 % 2
    have h0 : k0_off2 (grid0.coords t) 0 = (t.val / 16 - 1) % 2 := congrFun hoff 0
    omega
  · show k0_off2 (grid0.coords t) 1 + 1 * (y 1).val = (16 * (t.val / 16 - 1) + (2048 + (y 1).val) / 256) % 16 * 256 + (2048 + (y 1).val) % 256
    have h0 : k0_off2 (grid0.coords t) 1 = 2048 := congrFun hoff 1
    omega
  · show k0_off2 (grid0.coords t) 2 + 1 * (y 2).val = (y 2).val
    have h0 : k0_off2 (grid0.coords t) 2 = 0 := congrFun hoff 2
    omega

/-! ## The proof data -/

/-- Between points: the scratch at some contents that hold the chunks, and the generator register. -/
def Carried (c : Dev nD) (n : ℕ) : sProp 𝕄 :=
  iprop((∃ s : Vec F S2x4096x1024 .bf16, ⌜Holds m c n s⌝ ∗ owns (c : Thread nD τ) (Memref.whole cc0_scratch0) fullShare s) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay1 (iblk m c 0 t) (slab m c t) (iblk m c 1 t) (slab_second m c t) (iblk m c 3 t)
  Φ t := Carried m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = k0_pay1 (iblk m c 0 t) (slab m c t) (iblk m c 1 t) (slab_second m c t) (iblk m c 3 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem carried_start (c : Dev nD) (t : Fin cfg0.N) : (dats m 0 c).Φ t.castSucc = Carried m c t.val := by
  dsimp only [dats]; exact Pipeline.Dat.Φ_castSucc (fun n _ => Carried m c n) t
theorem carried_end (c : Dev nD) (t : Fin cfg0.N) : (dats m 0 c).Φ t.succ = Carried m c (t.val + 1) := by dsimp only [dats]; rfl

/-! ## When a point writes the result -/

theorem idle_out : ∀ t : Fin cfg0.N, t.val < 16 → cfg0.idle 4 (grid0.coords t) = true := (by decide +kernel : ∀ t : Fin grid0.N, _)
theorem kept_out : ∀ t : Fin cfg0.N, t.val < 16 → (cfg0.win 4).flush t = false := (by decide +kernel : ∀ t : Fin grid0.N, _)
theorem live_out : ∀ t : Fin cfg0.N, 16 ≤ t.val → cfg0.idle 4 (grid0.coords t) = false := (by decide +kernel : ∀ t : Fin grid0.N, _)

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [carried_start, carried_end, show (dats m 0 c).owesAt () t.succ = (dats m 0 c).owesAt () t.castSucc from rfl]
  rw [show (dats m 0 c).leavesExact 0 t = owns (c : Thread nD τ) (st0_0 t) fullShare (iblk m c 0 t) from by rw [← after_0 m c t],
    show (dats m 0 c).leavesExact 1 t = owns (c : Thread nD τ) (st0_1 t) fullShare (iblk m c 1 t) from by rw [← after_1 m c t],
    show (dats m 0 c).leavesExact 2 t = owns (c : Thread nD τ) (st0_2 t) fullShare (iblk m c 2 t) from by rw [← after_2 m c t],
    show (dats m 0 c).leavesExact 3 t = owns (c : Thread nD τ) (st0_3 t) fullShare (iblk m c 3 t) from by rw [← after_3 m c t]]
  have hN := points t
  by_cases hni : 16 ≤ t.val
  · have h1 := (product_iff t).mpr hni
    rw [show (dats m 0 c).leavesExact 4 t = owns (c : Thread nD τ) (st0_4 t) fullShare (k0_pay1 (iblk m c 0 t) (slab m c t) (iblk m c 1 t) (slab_second m c t) (iblk m c 3 t)) from by
        unfold Dat.leavesExact; rw [live_out t hni, after_4]]
    by_cases hB : t.val < 64
    · have h2 := (cast_iff t).mpr hB
      unfold Carried
      iintro ⟨⟨⟨%s, %hs, HS⟩, Hg⟩, Ho, ⟨%d0, H0⟩, ⟨%d1, H1⟩, ⟨%d2, H2⟩, ⟨%d3, H3⟩, ⟨%d4, H4⟩⟩
      iapply (run_both c (grid0.coords t) _ _ _ _ _ _ _ _ _ _ _ _ h1 h2 (iblk m c 0 t) (iblk m c 1 t) (iblk m c 2 t) (iblk m c 3 t) _ s (slab m c t) (slab_read m hs hni h1) (slab_second m c t) (slab_second_read m hs hni h1) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]
        · iexists _; isplitr; swap; · iexact HS
          ipureintro; exact hs.step m h2 _
        · iexact Hg
      isplitl [Ho]; · iexact Ho
      isplitl [H0]; · iexact H0
      isplitl [H1]; · iexact H1
      isplitl [H2]; · iexact H2
      isplitl [H3]; · iexact H3
      iexact H4
    · have h2 : ¬k0_cond2 (grid0.coords t) = 1#1 := fun h => hB ((cast_iff t).mp h)
      unfold Carried
      iintro ⟨⟨⟨%s, %hs, HS⟩, Hg⟩, Ho, ⟨%d0, H0⟩, ⟨%d1, H1⟩, ⟨%d2, H2⟩, ⟨%d3, H3⟩, ⟨%d4, H4⟩⟩
      iapply (run_last c (grid0.coords t) _ _ _ _ _ _ _ _ _ _ _ _ h1 h2 (iblk m c 0 t) (iblk m c 1 t) (iblk m c 2 t) (iblk m c 3 t) _ s (slab m c t) (slab_read m hs hni h1) (slab_second m c t) (slab_second_read m hs hni h1) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]
        · iexists _; isplitr; swap; · iexact HS
          ipureintro; exact hs.stay m (by omega)
        · iexact Hg
      isplitl [Ho]; · iexact Ho
      isplitl [H0]; · iexact H0
      isplitl [H1]; · iexact H1
      isplitl [H2]; · iexact H2
      isplitl [H3]; · iexact H3
      iexact H4
  · have h1 : ¬k0_cond1 (grid0.coords t) = 1#1 := fun h => hni ((product_iff t).mp h)
    have h2 := (cast_iff t).mpr (by omega)
    rw [(dats m 0 c).leavesExact_idle 4 t (idle_out t (by omega)) (kept_out t (by omega))]
    unfold Carried
    iintro ⟨⟨⟨%s, %hs, HS⟩, Hg⟩, Ho, ⟨%d0, H0⟩, ⟨%d1, H1⟩, ⟨%d2, H2⟩, ⟨%d3, H3⟩, ⟨%d4, H4⟩⟩
    iapply (run_first c (grid0.coords t) _ _ _ _ _ _ _ _ _ _ _ _ h1 h2 (iblk m c 0 t) (iblk m c 1 t) (iblk m c 2 t) (iblk m c 3 t) _ s Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hg]
    · isplitl [HS]
      · iexists _; isplitr; swap; · iexact HS
        ipureintro; exact hs.step m h2 _
      · iexact Hg
    isplitl [Ho]; · iexact Ho
    isplitl [H0]; · iexact H0
    isplitl [H1]; · iexact H1
    isplitl [H2]; · iexact H2
    isplitl [H3]; · iexact H3
    iexists d4; iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- Before the first point the scratch holds anything. -/
theorem carried_in (c : Dev nD) : Pipeline.ΦA spec0 c ⊢ (dats m 0 c).Φ 0 := by
  rw [show (dats m 0 c).Φ 0 = Carried m c 0 from rfl]
  unfold Pipeline.ΦA Carried
  rw [scopedRest0_eq]
  simp only [owns_whole]
  iintro ⟨⟨%f, H⟩, Hg⟩
  isplitl [H]
  · iexists f; isplitr; swap; · iexact H
    ipureintro; exact holds_zero m c f
  · iexact Hg

/-- After the last point what the scratch holds is forgotten. -/
theorem carried_out (c : Dev nD) : (dats m 0 c).Φ (Fin.last cfg0.N) ⊢ Pipeline.ΦA spec0 c := by
  rw [show (dats m 0 c).Φ (Fin.last cfg0.N) = Carried m c (Fin.last cfg0.N).val from rfl]
  unfold Pipeline.ΦA Carried
  rw [scopedRest0_eq]
  simp only [owns_whole]
  iintro ⟨⟨%f, %hf, H⟩, Hg⟩
  isplitl [H]
  · iexists f; iexact H
  · iexact Hg

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := carried_in m) (hout := carried_out m)

theorem run : θ_run defs (onTc (τ := τ) (main (F := F))) (s₀ m ρ) (Pipeline.FramePost cfgs (dats m) 0 (V m)) :=
  (θ_run defs _ _).mono (fun _ h => h.1) (run_quiescent m ρ)

/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run m ρ)) ((θ_run defs _ _).mono (fun _ h => h.2) (run_quiescent m ρ))

end Cert.EvenOutIdeal.Pipelined

end
-- ==== Proof.EvenOut.lean ====
/- The output projection of the even layer with the residual: what the kernel leaves in its result is what the reference computes. -/
module

public import proofs.«01_k».proof.Proof.EvenOutFrame
public import proofs.«01_k».proof.Proof.Gen.EvenOutRefIdeal.Run
public import proofs.«01_k».proof.Proof.Gen.EvenOutRefIdeal.Read
public import proofs.«01_k».proof.Defs
public import proofs.«01_k».proof.Proof.Gen.EvenOut.Frame
public import Idealize.ShloMosaic.Lib.Pipeline.ValueKit

@[expose] public section

set_option maxRecDepth 16384

noncomputable section

namespace Cert.EvenOutIdeal.Pipelined

open Cert.EvenOutIdeal Cert.EvenOutIdeal.Gen Idealize.ShloMosaic Idealize.ShloMosaic.TcCoe Idealize.SL.Sem
open Idealize.ShloMosaic.Pipeline (Dat)

variable (m : (ℓ : Loc nD τ sig) → Buf (Elt Ideal) ℓ)

/-- Where each window's block sits in its array at a grid point. -/
theorem idx_0 : ∀ t : Fin cfg0.N, 16 ≤ t.val → win0_0.index t = ![t.val % 16, 0] :=
  (by decide +kernel : ∀ t : Fin grid0.N, _)
theorem idx_1 : ∀ t : Fin cfg0.N, 16 ≤ t.val → win0_1.index t = ![t.val % 16, 0] :=
  (by decide +kernel : ∀ t : Fin grid0.N, _)
theorem idx_2 : ∀ t : Fin cfg0.N, t.val < 64 → win0_2.index t = ![0, t.val % 16, t.val / 16] :=
  (by decide +kernel : ∀ t : Fin grid0.N, _)
theorem idx_3 : ∀ t : Fin cfg0.N, 16 ≤ t.val → win0_3.index t = ![t.val % 16, t.val / 16 - 1] :=
  (by decide +kernel : ∀ t : Fin grid0.N, _)
theorem idx_4 : ∀ t : Fin cfg0.N, 16 ≤ t.val → win0_4.index t = ![t.val % 16, t.val / 16 - 1] :=
  (by decide +kernel : ∀ t : Fin grid0.N, _)
theorem written : ∀ t : Fin cfg0.N, (cfg0.win 4).flush t = true → 16 ≤ t.val := (by decide +kernel : ∀ t : Fin grid0.N, _)

theorem chunk_at (w : FVec Ideal S1x256x1024 .f32) (y : S1x256x1024.Idx) : k0_pay2 (F := Ideal) w y = w y := by
  pointwise [k0_pay2]

theorem product_at (u : FVec Ideal S544x2048 .bf16) (w : FVec Ideal S1x2048x1024 .bf16) (v : FVec Ideal S544x2048 .bf16) (w2 : FVec Ideal S1x2048x1024 .bf16) (r : FVec Ideal S544x1024 .f32) (j : S544x1024.Idx) :
    k0_pay1 (F := Ideal) u w v w2 r j = r (ix2 (j 0) (j 1)) + ((∑ k : Fin 2048, u (ix2 (j 0) k) * w (ix3 0 k (j 1))) + (∑ k : Fin 2048, v (ix2 (j 0) k) * w2 (ix3 0 k (j 1)))) := by
  pointwise [k0_pay1]

open Cert.EvenOutRefIdeal.Read in
theorem ref_sum (u v : FVec Ideal S8704x2048 .bf16) (w : FVec Ideal S1x4096x4096 .f32) (r : FVec Ideal S8704x4096 .f32) (j : S8704x4096.Idx) :
    val_main_v4 (F := Ideal) u v w r j
      = r (ix2 (j 0) (j 1)) + ∑ k : Fin 4096, val_main_v0 (F := Ideal) u v (ix2 (j 0) k) * w (ix3 0 k (j 1)) := by
  pointwise [val_main_v4, val_main_v3, val_main_v2, val_main_v1]

open Cert.EvenOutRefIdeal.Read in
/-- The first 2048 columns of the two parts put together are the first part's. -/
theorem joined_first (u v : FVec Ideal S8704x2048 .bf16) (i : Fin 8704) (k : Fin 2048) (k' : Fin 4096) (h : k'.val = k.val) :
    val_main_v0 (F := Ideal) u v (ix2 i k') = u (ix2 i k) := by
  have hk := k.isLt
  obtain ⟨v', hv⟩ := k'
  obtain rfl : v' = k.val := h
  pointwise [val_main_v0]

open Cert.EvenOutRefIdeal.Read in
/-- The last 2048 columns of the two parts put together are the second part's. -/
theorem joined_second (u v : FVec Ideal S8704x2048 .bf16) (i : Fin 8704) (k : Fin 2048) (k' : Fin 4096) (h : k'.val = 2048 + k.val) :
    val_main_v0 (F := Ideal) u v (ix2 i k') = v (ix2 i k) := by
  have hk := k.isLt
  obtain ⟨v', hv⟩ := k'
  obtain rfl : v' = 2048 + k.val := h
  pointwise [val_main_v0]

/-- A sum over 4096 is the sum over the first half and the sum over the second. -/
theorem halves (f : Fin 4096 → EReal) : ∑ k, f k
    = (∑ k : Fin 2048, f ⟨k.val, Nat.lt_of_lt_of_le k.isLt (by decide)⟩) + ∑ k : Fin 2048, f ⟨2048 + k.val, Nat.add_lt_add_left k.isLt 2048⟩ :=
  Fin.sum_univ_add (a := 2048) (b := 2048) f

open Cert.EvenOutRefIdeal.Read in
theorem ref_product (u v : FVec Ideal S8704x2048 .bf16) (w : FVec Ideal S1x4096x4096 .f32) (r : FVec Ideal S8704x4096 .f32) (j : S8704x4096.Idx) :
    val_main_v4 (F := Ideal) u v w r j
      = r (ix2 (j 0) (j 1)) + ((∑ k : Fin 2048, u (ix2 (j 0) k) * w (ix3 0 ⟨k.val, Nat.lt_of_lt_of_le k.isLt (by decide)⟩ (j 1)))
        + ∑ k : Fin 2048, v (ix2 (j 0) k) * w (ix3 0 ⟨2048 + k.val, Nat.add_lt_add_left k.isLt 2048⟩ (j 1))) := by
  rw [ref_sum, halves]
  refine congrArg₂ (fun a b : EReal => a + b) rfl (congrArg₂ (fun a b : EReal => a + b)
    (Finset.sum_congr rfl fun k _ => ?_) (Finset.sum_congr rfl fun k _ => ?_))
  · exact congrArg (fun e : EReal => e * _) (joined_first u v (j 0) k _ rfl)
  · exact congrArg (fun e : EReal => e * _) (joined_second u v (j 0) k _ rfl)

/-- The slab at an entry is the chunk's entry as the point that cast it found it. -/
theorem slab_at (c : Dev nD) (t : Fin cfg0.N) (y : S1x2048x1024.Idx) (t' : Fin cfg0.N) (ht : t'.val = 16 * (t.val / 16 - 1) + (y 1).val / 256)
    (z : S1x256x1024.Idx) (h1 : (z 1).val = (y 1).val % 256) (h2 : z 2 = y 2) :
    slab m c t y = (show FVec Ideal S1x256x1024 .f32 from iblk m c 2 t') z := by
  unfold slab
  rw [chunk_at]
  obtain ⟨v, hv⟩ := t'
  obtain rfl : v = 16 * (t.val / 16 - 1) + (y 1).val / 256 := ht
  refine congrArg (show FVec Ideal S1x256x1024 .f32 from iblk m c 2 _) (funext fun a => ?_)
  match a with
  | 0 => exact (Fin.ext (by have : (z 0).val < 1 := (z 0).isLt; show 0 = (z 0).val; omega))
  | 1 => exact Fin.ext h1.symm
  | 2 => exact h2.symm

/-- The slab at an entry is the chunk's entry as the point that cast it found it. -/
theorem slab_second_at (c : Dev nD) (t : Fin cfg0.N) (y : S1x2048x1024.Idx) (t' : Fin cfg0.N) (ht : t'.val = 16 * (t.val / 16 - 1) + (2048 + (y 1).val) / 256)
    (z : S1x256x1024.Idx) (h1 : (z 1).val = (2048 + (y 1).val) % 256) (h2 : z 2 = y 2) :
    slab_second m c t y = (show FVec Ideal S1x256x1024 .f32 from iblk m c 2 t') z := by
  unfold slab_second
  rw [chunk_at]
  obtain ⟨v, hv⟩ := t'
  obtain rfl : v = 16 * (t.val / 16 - 1) + (2048 + (y 1).val) / 256 := ht
  refine congrArg (show FVec Ideal S1x256x1024 .f32 from iblk m c 2 _) (funext fun a => ?_)
  match a with
  | 0 => exact (Fin.ext (by have : (z 0).val < 1 := (z 0).isLt; show 0 = (z 0).val; omega))
  | 1 => exact Fin.ext h1.symm
  | 2 => exact h2.symm

/-- THE RESULT of the kernel is the reference's. -/
theorem final_product (c : Dev nD) : (dats m 0 c).arrAt 4 cfg0.N
    = Cert.EvenOutRefIdeal.Read.val_main_v4 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have hni := written t hf
  have hN := points t
  blk_simp
  rw [after_4, ref_product, product_at]
  refine congrArg₂ (fun a b : EReal => a + b) ?_ (congrArg₂ (fun a b : EReal => a + b)
    (Finset.sum_congr rfl fun k _ => ?_) (Finset.sum_congr rfl fun k _ => ?_))
  · blk_point [iblk, V, idx_3 t hni, idx_4 t hni]
  · have hk : k.val < 2048 := k.isLt
    have hlt : 16 * (t.val / 16 - 1) + k.val / 256 < cfg0.N :=
      lt_of_lt_of_eq (by omega : _ < 80) (show cfg0.N = 80 from N_0).symm
    have hi := idx_2 ⟨16 * (t.val / 16 - 1) + k.val / 256, hlt⟩ (show 16 * (t.val / 16 - 1) + k.val / 256 < 64 by omega)
    rw [slab_at m c t _ ⟨16 * (t.val / 16 - 1) + k.val / 256, hlt⟩ rfl (ix3 0 ⟨k.val % 256, Nat.mod_lt _ (by decide)⟩ _) rfl rfl]
    refine congrArg₂ (fun a b : EReal => a * b) ?_ ?_
    · blk_point [iblk, V, idx_0 t hni, idx_4 t hni]
    · blk_point [iblk, V, hi, idx_4 t hni]
  · have hk : k.val < 2048 := k.isLt
    have hlt : 16 * (t.val / 16 - 1) + (2048 + k.val) / 256 < cfg0.N :=
      lt_of_lt_of_eq (by omega : _ < 80) (show cfg0.N = 80 from N_0).symm
    have hi := idx_2 ⟨16 * (t.val / 16 - 1) + (2048 + k.val) / 256, hlt⟩ (show 16 * (t.val / 16 - 1) + (2048 + k.val) / 256 < 64 by omega)
    rw [slab_second_at m c t _ ⟨16 * (t.val / 16 - 1) + (2048 + k.val) / 256, hlt⟩ rfl (ix3 0 ⟨(2048 + k.val) % 256, Nat.mod_lt _ (by decide)⟩ _) rfl rfl]
    refine congrArg₂ (fun a b : EReal => a * b) ?_ ?_
    · blk_point [iblk, V, idx_1 t hni, idx_4 t hni]
    · blk_point [iblk, V, hi, idx_4 t hni]

/-- The kernel over ideal values and the reference end with equal results. -/
theorem algebraic : Cert.algebraic_EvenOutIdeal_EvenOutRefIdeal := by
  intro m g m' g' _ hagree
  refine ⟨fun c => Cert.EvenOutRefIdeal.Read.val_main_v4 (F := Ideal) (m ((c : Thread nD τ).loc main_arg0)) (m ((c : Thread nD τ).loc main_arg1)) (m ((c : Thread nD τ).loc main_arg2)) (m ((c : Thread nD τ).loc main_arg3)), ?_, ?_⟩
  · exact (θ_run Cert.EvenOutIdeal.defs _ _).mono (fun _ h c => ⟨((h.1 c).1 4).trans (final_product m c), (h.2.1 c)⟩)
      (θ_run_and (run m g) (frame m g))
  · refine (θ_run Cert.EvenOutRefIdeal.defs _ _).mono (fun _ h c => ⟨(h c).1.trans ?_, (h c).2⟩)
      (Cert.EvenOutRefIdeal.Value.run (F := Ideal) m' g')
    rw [(hagree c).1, (hagree c).2.1, (hagree c).2.2.1, (hagree c).2.2.2]
    exact Cert.EvenOutRefIdeal.Read.val_main_v4_eq _ _ _ _

/-- Over words the kernel's body table is the same text. -/
theorem rows_same : Cert.EvenOutIdeal.defs₀ (F := Bits) = Cert.EvenOut.defs₀ (F := Bits) := by
  unfold Cert.EvenOutIdeal.defs₀ Cert.EvenOut.defs₀
  refine congrArg Defs.onTc (funext fun l => funext fun a => ?_)
  match l, a with
  | 0, (t, s) => rfl

theorem frame_kernel : Cert.quiescent_EvenOut := fun m ρ _ => by
  have h := frame (F := Bits) m ρ
  unfold Cert.EvenOutIdeal.defs at h
  rw [rows_same] at h
  exact h

theorem frame_ideal : Cert.quiescent_EvenOutIdeal := fun m ρ _ => frame (F := Ideal) m ρ

/-- The reference runs, leaves its arguments as they were and every semaphore at zero. -/
theorem frame_reference : Cert.quiescent_EvenOutRefIdeal := fun m ρ _ =>
  (θ_run Cert.EvenOutRefIdeal.defs _ _).mono (fun r h => ⟨fun c => (h c).2,
    Idealize.ShloMosaic.sem_eq_zero_of_no_sems (by decide) r.2⟩) (Cert.EvenOutRefIdeal.Value.run (F := Ideal) m ρ)

end Cert.EvenOutIdeal.Pipelined

end
-- ==== Proof.MemFirstRun.lean ====
/- The projection of the memory in layer 0: what one grid point does to its buffers, by the three kinds of grid point. In the first pass a chunk of the
   weights is cast into the scratch and nothing is multiplied, in a middle pass both are done, in the last pass the
   product alone. -/
module

public import proofs.«01_k».proof.Proof.Gen.MemFirstIdeal.Frame
public import proofs.«01_k».proof.Proof.Gen.MemFirstIdeal.Skeleton
public import proofs.«01_k».proof.Proof.Held
public import Idealize.ShloMosaic.Lib.Pipeline.TableIdle

@[expose] public section

set_option maxRecDepth 16384

noncomputable section

namespace Cert.MemFirstIdeal.Pipelined

open Cert.MemFirstIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid in closed form -/

theorem product_iff : ∀ t : Fin cfg0.N, k0_cond1 (grid0.coords t) = 1#1 ↔ 2 ≤ t.val :=
  (by decide +kernel : ∀ t : Fin grid0.N, _)
theorem cast_iff : ∀ t : Fin cfg0.N, k0_cond2 (grid0.coords t) = 1#1 ↔ t.val < 8 :=
  (by decide +kernel : ∀ t : Fin grid0.N, _)
/-- The product reads the slab of the pass before. -/
theorem slab_off : ∀ t : Fin cfg0.N, 2 ≤ t.val → k0_off1 (grid0.coords t) = ![(t.val / 2 - 1) % 2, 0, 0] :=
  (by decide +kernel : ∀ t : Fin grid0.N, _)
/-- The cast writes the chunk of this point into the slab of this pass. -/
theorem chunk_off : ∀ t : Fin cfg0.N, k0_off2 (grid0.coords t) = ![t.val / 2 % 2, t.val % 2 * 2048, 0] :=
  (by decide +kernel : ∀ t : Fin grid0.N, _)

/-! ## The three runs -/

set_option maxHeartbeats 1000000 in
/-- The first pass: the chunk is cast into the scratch, the result is left as it was. -/
theorem run_first (c : Dev nD) (i : grid0.Coords)
    (arg2 : Memref sig .tc .vmem S512x4096 .bf16) (harg2 : arg2.IsWhole)
    (arg3 : Memref sig .tc .vmem S1x2048x1024 .f32) (harg3 : arg3.IsWhole)
    (arg4 : Memref sig .tc .vmem S512x1024 .f32) (harg4 : arg4.IsWhole)
    (arg5 : Memref sig .tc .vmem S2x4096x1024 .bf16) (harg5 : arg5.IsWhole)
    (h1 : ¬k0_cond1 i = 1#1) (h2 : k0_cond2 i = 1#1)
    (x0 : Vec F S512x4096 .bf16) (x1 : Vec F S1x2048x1024 .f32) (d : Vec F S512x1024 .f32)
    (s : Vec F S2x4096x1024 .bf16) (E : Set ℕ) (K : PUnit → sProp 𝕄) :
    iprop(owns (c : Thread nD τ) arg2 fullShare x0
        ∗ owns (c : Thread nD τ) arg3 fullShare x1
        ∗ owns (c : Thread nD τ) arg4 fullShare d
        ∗ owns (c : Thread nD τ) arg5 fullShare s
        ∗ (iprop(owns (c : Thread nD τ) arg2 fullShare x0
            ∗ owns (c : Thread nD τ) arg3 fullShare x1
            ∗ owns (c : Thread nD τ) arg4 fullShare d
            ∗ owns (c : Thread nD τ) arg5 fullShare (arg5.view.read (Elt F) (arg5.view.writes (Elt F) (harg5.unread s)
                [⟨Rect.unit (s := S2x4096x1024) (k0_off2 i) S1x2048x1024.size (k0_off2_inb i h2), k0_pay2 x1⟩]))) -∗ K ⟨⟩))
      ⊢ wp frame (wpE (defs₀ (F := F)) Variants.none c none) E (cc0_mem_k i arg2 harg2 arg3 harg3 arg4 harg4 arg5 harg5) K := by
  simp only [cc0_mem_k_eq_skeleton]; unfold cc0_mem_k_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr; swap; · iexact H3
  ipureintro
  rw [Held.load_full harg3 x1 (by decide)]

set_option maxHeartbeats 1000000 in
/-- A middle pass: the product is written, and the chunk is cast into the scratch. -/
theorem run_both (c : Dev nD) (i : grid0.Coords)
    (arg2 : Memref sig .tc .vmem S512x4096 .bf16) (harg2 : arg2.IsWhole)
    (arg3 : Memref sig .tc .vmem S1x2048x1024 .f32) (harg3 : arg3.IsWhole)
    (arg4 : Memref sig .tc .vmem S512x1024 .f32) (harg4 : arg4.IsWhole)
    (arg5 : Memref sig .tc .vmem S2x4096x1024 .bf16) (harg5 : arg5.IsWhole)
    (h1 : k0_cond1 i = 1#1) (h2 : k0_cond2 i = 1#1)
    (x0 : Vec F S512x4096 .bf16) (x1 : Vec F S1x2048x1024 .f32) (d : Vec F S512x1024 .f32)
    (s : Vec F S2x4096x1024 .bf16)
    (sl0 : Vec F S1x4096x1024 .bf16) (hsl0 : (fun y => s ((Rect.unit (s := S2x4096x1024) (k0_off1 i) S1x4096x1024.size (k0_off1_inb i h1)).emb y)) = sl0) (E : Set ℕ) (K : PUnit → sProp 𝕄) :
    iprop(owns (c : Thread nD τ) arg2 fullShare x0
        ∗ owns (c : Thread nD τ) arg3 fullShare x1
        ∗ owns (c : Thread nD τ) arg4 fullShare d
        ∗ owns (c : Thread nD τ) arg5 fullShare s
        ∗ (iprop(owns (c : Thread nD τ) arg2 fullShare x0
            ∗ owns (c : Thread nD τ) arg3 fullShare x1
            ∗ owns (c : Thread nD τ) arg4 fullShare (k0_pay1 x0 sl0)
            ∗ owns (c : Thread nD τ) arg5 fullShare (arg5.view.read (Elt F) (arg5.view.writes (Elt F) (harg5.unread s)
                [⟨Rect.unit (s := S2x4096x1024) (k0_off2 i) S1x2048x1024.size (k0_off2_inb i h2), k0_pay2 x1⟩]))) -∗ K ⟨⟩))
      ⊢ wp frame (wpE (defs₀ (F := F)) Variants.none c none) E (cc0_mem_k i arg2 harg2 arg3 harg3 arg4 harg4 arg5 harg5) K := by
  simp only [cc0_mem_k_eq_skeleton]; unfold cc0_mem_k_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    rw [Held.store_full _ _ (by decide), Held.load_full harg2 x0 (by decide), Held.load_rect harg5]
    exact congrArg (fun a => k0_pay1 x0 a) hsl0
  iexists _; isplitr; swap; · iexact H3
  ipureintro
  rw [Held.load_full harg3 x1 (by decide)]

set_option maxHeartbeats 1000000 in
/-- The last pass: the product is written; the scratch stays. -/
theorem run_last (c : Dev nD) (i : grid0.Coords)
    (arg2 : Memref sig .tc .vmem S512x4096 .bf16) (harg2 : arg2.IsWhole)
    (arg3 : Memref sig .tc .vmem S1x2048x1024 .f32) (harg3 : arg3.IsWhole)
    (arg4 : Memref sig .tc .vmem S512x1024 .f32) (harg4 : arg4.IsWhole)
    (arg5 : Memref sig .tc .vmem S2x4096x1024 .bf16) (harg5 : arg5.IsWhole)
    (h1 : k0_cond1 i = 1#1) (h2 : ¬k0_cond2 i = 1#1)
    (x0 : Vec F S512x4096 .bf16) (x1 : Vec F S1x2048x1024 .f32) (d : Vec F S512x1024 .f32)
    (s : Vec F S2x4096x1024 .bf16)
    (sl0 : Vec F S1x4096x1024 .bf16) (hsl0 : (fun y => s ((Rect.unit (s := S2x4096x1024) (k0_off1 i) S1x4096x1024.size (k0_off1_inb i h1)).emb y)) = sl0) (E : Set ℕ) (K : PUnit → sProp 𝕄) :
    iprop(owns (c : Thread nD τ) arg2 fullShare x0
        ∗ owns (c : Thread nD τ) arg3 fullShare x1
        ∗ owns (c : Thread nD τ) arg4 fullShare d
        ∗ owns (c : Thread nD τ) arg5 fullShare s
        ∗ (iprop(owns (c : Thread nD τ) arg2 fullShare x0
            ∗ owns (c : Thread nD τ) arg3 fullShare x1
            ∗ owns (c : Thread nD τ) arg4 fullShare (k0_pay1 x0 sl0)
            ∗ owns (c : Thread nD τ) arg5 fullShare s) -∗ K ⟨⟩))
      ⊢ wp frame (wpE (defs₀ (F := F)) Variants.none c none) E (cc0_mem_k i arg2 harg2 arg3 harg3 arg4 harg4 arg5 harg5) K := by
  simp only [cc0_mem_k_eq_skeleton]; unfold cc0_mem_k_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    rw [Held.store_full _ _ (by decide), Held.load_full harg2 x0 (by decide), Held.load_rect harg5]
    exact congrArg (fun a => k0_pay1 x0 a) hsl0
  iexists _; isplitr; · ipureintro; exact harg5.read_unread _
  iexact H3

end Cert.MemFirstIdeal.Pipelined

end
-- ==== Proof.MemFirstFrame.lean ====
/- The projection of the memory in layer 0, as a run over its grid. The kernel keeps two slabs of the weights in a scratch: while the product of
   one slab is taken, the next slab is cast into the other, a chunk of 2048 rows at a point. What is carried from
   point to point is that the last 4 chunks cast are where they were put. -/
module

public import proofs.«01_k».proof.Proof.MemFirstRun
public import Idealize.ShloMosaic.Lib.Claim
public import Idealize.ShloMosaic.Lib.Pipeline.ValueKit

@[expose] public section

set_option maxRecDepth 16384

noncomputable section

namespace Cert.MemFirstIdeal.Pipelined

open Cert.MemFirstIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem points (t : Fin cfg0.N) : t.val < 10 := lt_of_lt_of_eq t.isLt (show cfg0.N = 10 from N_0)

/-! ## What the scratch holds -/

/-- Before point `n` the scratch `s` holds each of the last 4 chunks cast, in the slab of its pass. -/
def Holds (c : Dev nD) (n : ℕ) (s : Vec F S2x4096x1024 .bf16) : Prop :=
  ∀ t : Fin cfg0.N, t.val < n → n ≤ t.val + 4 → t.val < 8 → ∀ (y : S1x2048x1024.Idx) (z : S2x4096x1024.Idx),
    (z 0).val = t.val / 2 % 2 → (z 1).val = t.val % 2 * 2048 + (y 1).val → (z 2).val = (y 2).val →
      s z = k0_pay2 (iblk m c 1 t) y

theorem holds_zero (c : Dev nD) (s : Vec F S2x4096x1024 .bf16) : Holds m c 0 s :=
  fun _ h => absurd h (Nat.not_lt_zero _)

/-- Past the last cast the scratch is left as it was. -/
theorem Holds.stay {c : Dev nD} {n : ℕ} {s : Vec F S2x4096x1024 .bf16} (h : Holds m c n s) (hn : 8 ≤ n) : Holds m c (n + 1) s :=
  fun t ht hr hB y z => h t (by omega) (by omega) hB y z

/-- Casting the chunk of a point keeps the 3 before it, which lie elsewhere. -/
theorem Holds.step {c : Dev nD} {t : Fin cfg0.N} {s : Vec F S2x4096x1024 .bf16} (h : Holds m c t.val s)
    (h2 : k0_cond2 (grid0.coords t) = 1#1) {M : Memref sig .tc .vmem S2x4096x1024 .bf16} (hM : M.IsWhole) :
    Holds m c (t.val + 1) (M.view.read (Elt F) (M.view.writes (Elt F) (hM.unread s)
      [⟨Rect.unit (s := S2x4096x1024) (k0_off2 (grid0.coords t)) S1x2048x1024.size (k0_off2_inb (grid0.coords t) h2), k0_pay2 (iblk m c 1 t)⟩])) := by
  intro t' ht hr hB y z hz0 hz1 hz2
  have hy0 : (y 0).val = 0 := by have : (y 0).val < 1 := (y 0).isLt; omega
  have hyk : (y 1).val < 2048 := (y 1).isLt
  have hoff := chunk_off t
  by_cases he : t' = t
  · subst he
    refine View.read_writes_cons_hit_of_coords M.view (hM.unread s)
      (Rect.unit (s := S2x4096x1024) (k0_off2 (grid0.coords t')) S1x2048x1024.size (k0_off2_inb (grid0.coords t') h2)) (k0_pay2 (iblk m c 1 t')) [] y z fun a => ?_
    show (z a).val = k0_off2 (grid0.coords t') a + 1 * (y a).val
    rw [hoff]
    match a with
    | 0 => show (z 0).val = t'.val / 2 % 2 + 1 * (y 0).val; omega
    | 1 => show (z 1).val = t'.val % 2 * 2048 + 1 * (y 1).val; omega
    | 2 => show (z 2).val = 0 + 1 * (y 2).val; omega
  · have hlt : t'.val < t.val := by
      have : t'.val ≠ t.val := fun e => he (Fin.ext e)
      omega
    have hkeep := (congrFun (hM.read_unread s) z).trans (h t' hlt (by omega) hB y z hz0 hz1 hz2)
    by_cases hc : t'.val % 2 = t.val % 2
    · refine (View.read_writes_cons_miss_of_axis _ _ _ _ z 0 (t.val / 2 % 2) 1 (congrFun hoff 0) rfl rfl ?_).trans hkeep
      rw [hz0]; omega
    · refine (View.read_writes_cons_miss_of_axis _ _ _ _ z 1 (t.val % 2 * 2048) 2048 (congrFun hoff 1) rfl rfl ?_).trans hkeep
      rw [hz1]; omega

/-- The slab the product of a point reads: the chunks cast in the pass before. -/
def slab (c : Dev nD) (t : Fin cfg0.N) : Vec F S1x4096x1024 .bf16 := fun y =>
  k0_pay2 (iblk m c 1 ⟨2 * (t.val / 2 - 1) + (y 1).val / 2048, by
    have := points t; have : (y 1).val < 4096 := (y 1).isLt
    exact lt_of_lt_of_eq (by omega : _ < 10) (show cfg0.N = 10 from N_0).symm⟩)
    (fun a => match a with
      | 0 => ⟨0, Nat.one_pos⟩
      | 1 => ⟨(y 1).val % 2048, Nat.mod_lt _ (by decide)⟩
      | 2 => y 2)

theorem slab_read {c : Dev nD} {t : Fin cfg0.N} {s : Vec F S2x4096x1024 .bf16} (h : Holds m c t.val s) (hni : 2 ≤ t.val)
    (h1 : k0_cond1 (grid0.coords t) = 1#1) :
    (fun y => s ((Rect.unit (s := S2x4096x1024) (k0_off1 (grid0.coords t)) S1x4096x1024.size (k0_off1_inb (grid0.coords t) h1)).emb y)) = slab m c t := by
  funext y
  have ht := points t
  have hyk : (y 1).val < 4096 := (y 1).isLt
  have hy0 : (y 0).val = 0 := by have : (y 0).val < 1 := (y 0).isLt; omega
  have hoff := slab_off t hni
  refine h _ ?_ ?_ ?_ _ _ ?_ ?_ ?_
  · show 2 * (t.val / 2 - 1) + (y 1).val / 2048 < t.val; omega
  · show t.val ≤ 2 * (t.val / 2 - 1) + (y 1).val / 2048 + 4; omega
  · show 2 * (t.val / 2 - 1) + (y 1).val / 2048 < 8; omega
  · show k0_off1 (grid0.coords t) 0 + 1 * (y 0).val = (2 * (t.val / 2 - 1) + (y 1).val / 2048) / 2 % 2
    have h0 : k0_off1 (grid0.coords t) 0 = (t.val / 2 - 1) % 2 := congrFun hoff 0
    omega
  · show k0_off1 (grid0.coords t) 1 + 1 * (y 1).val = (2 * (t.val / 2 - 1) + (y 1).val / 2048) % 2 * 2048 + (y 1).val % 2048
    have h0 : k0_off1 (grid0.coords t) 1 = 0 := congrFun hoff 1
    omega
  · show k0_off1 (grid0.coords t) 2 + 1 * (y 2).val = (y 2).val
    have h0 : k0_off1 (grid0.coords t) 2 = 0 := congrFun hoff 2
    omega

/-! ## The proof data -/

/-- Between points: the scratch at some contents that hold the chunks, and the generator register. -/
def Carried (c : Dev nD) (n : ℕ) : sProp 𝕄 :=
  iprop((∃ s : Vec F S2x4096x1024 .bf16, ⌜Holds m c n s⌝ ∗ owns (c : Thread nD τ) (Memref.whole cc0_scratch0) fullShare s) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay1 (iblk m c 0 t) (slab m c t)
  Φ t := Carried m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = k0_pay1 (iblk m c 0 t) (slab m c t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem carried_start (c : Dev nD) (t : Fin cfg0.N) : (dats m 0 c).Φ t.castSucc = Carried m c t.val := by
  dsimp only [dats]; exact Pipeline.Dat.Φ_castSucc (fun n _ => Carried m c n) t
theorem carried_end (c : Dev nD) (t : Fin cfg0.N) : (dats m 0 c).Φ t.succ = Carried m c (t.val + 1) := by dsimp only [dats]; rfl

/-! ## When a point writes the result -/

theorem idle_out : ∀ t : Fin cfg0.N, t.val < 2 → cfg0.idle 2 (grid0.coords t) = true := (by decide +kernel : ∀ t : Fin grid0.N, _)
theorem kept_out : ∀ t : Fin cfg0.N, t.val < 2 → (cfg0.win 2).flush t = false := (by decide +kernel : ∀ t : Fin grid0.N, _)
theorem live_out : ∀ t : Fin cfg0.N, 2 ≤ t.val → cfg0.idle 2 (grid0.coords t) = false := (by decide +kernel : ∀ t : Fin grid0.N, _)

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [carried_start, carried_end, show (dats m 0 c).owesAt () t.succ = (dats m 0 c).owesAt () t.castSucc from rfl]
  rw [show (dats m 0 c).leavesExact 0 t = owns (c : Thread nD τ) (st0_0 t) fullShare (iblk m c 0 t) from by rw [← after_0 m c t],
    show (dats m 0 c).leavesExact 1 t = owns (c : Thread nD τ) (st0_1 t) fullShare (iblk m c 1 t) from by rw [← after_1 m c t]]
  have hN := points t
  by_cases hni : 2 ≤ t.val
  · have h1 := (product_iff t).mpr hni
    rw [show (dats m 0 c).leavesExact 2 t = owns (c : Thread nD τ) (st0_2 t) fullShare (k0_pay1 (iblk m c 0 t) (slab m c t)) from by
        unfold Dat.leavesExact; rw [live_out t hni, after_2]]
    by_cases hB : t.val < 8
    · have h2 := (cast_iff t).mpr hB
      unfold Carried
      iintro ⟨⟨⟨%s, %hs, HS⟩, Hg⟩, Ho, ⟨%d0, H0⟩, ⟨%d1, H1⟩, ⟨%d2, H2⟩⟩
      iapply (run_both c (grid0.coords t) _ _ _ _ _ _ _ _ h1 h2 (iblk m c 0 t) (iblk m c 1 t) _ s (slab m c t) (slab_read m hs hni h1) Set.univ _)
      isplitl [H0]; · iexact H0
      isplitl [H1]; · iexact H1
      isplitl [H2]; · iexact H2
      isplitl [HS]; · iexact HS
      iintro ⟨H0, H1, H2, HS⟩
      isplitl [HS Hg]
      · isplitl [HS]
        · iexists _; isplitr; swap; · iexact HS
          ipureintro; exact hs.step m h2 _
        · iexact Hg
      isplitl [Ho]; · iexact Ho
      isplitl [H0]; · iexact H0
      isplitl [H1]; · iexact H1
      iexact H2
    · have h2 : ¬k0_cond2 (grid0.coords t) = 1#1 := fun h => hB ((cast_iff t).mp h)
      unfold Carried
      iintro ⟨⟨⟨%s, %hs, HS⟩, Hg⟩, Ho, ⟨%d0, H0⟩, ⟨%d1, H1⟩, ⟨%d2, H2⟩⟩
      iapply (run_last c (grid0.coords t) _ _ _ _ _ _ _ _ h1 h2 (iblk m c 0 t) (iblk m c 1 t) _ s (slab m c t) (slab_read m hs hni h1) Set.univ _)
      isplitl [H0]; · iexact H0
      isplitl [H1]; · iexact H1
      isplitl [H2]; · iexact H2
      isplitl [HS]; · iexact HS
      iintro ⟨H0, H1, H2, HS⟩
      isplitl [HS Hg]
      · isplitl [HS]
        · iexists _; isplitr; swap; · iexact HS
          ipureintro; exact hs.stay m (by omega)
        · iexact Hg
      isplitl [Ho]; · iexact Ho
      isplitl [H0]; · iexact H0
      isplitl [H1]; · iexact H1
      iexact H2
  · have h1 : ¬k0_cond1 (grid0.coords t) = 1#1 := fun h => hni ((product_iff t).mp h)
    have h2 := (cast_iff t).mpr (by omega)
    rw [(dats m 0 c).leavesExact_idle 2 t (idle_out t (by omega)) (kept_out t (by omega))]
    unfold Carried
    iintro ⟨⟨⟨%s, %hs, HS⟩, Hg⟩, Ho, ⟨%d0, H0⟩, ⟨%d1, H1⟩, ⟨%d2, H2⟩⟩
    iapply (run_first c (grid0.coords t) _ _ _ _ _ _ _ _ h1 h2 (iblk m c 0 t) (iblk m c 1 t) _ s Set.univ _)
    isplitl [H0]; · iexact H0
    isplitl [H1]; · iexact H1
    isplitl [H2]; · iexact H2
    isplitl [HS]; · iexact HS
    iintro ⟨H0, H1, H2, HS⟩
    isplitl [HS Hg]
    · isplitl [HS]
      · iexists _; isplitr; swap; · iexact HS
        ipureintro; exact hs.step m h2 _
      · iexact Hg
    isplitl [Ho]; · iexact Ho
    isplitl [H0]; · iexact H0
    isplitl [H1]; · iexact H1
    iexists d2; iexact H2

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- Before the first point the scratch holds anything. -/
theorem carried_in (c : Dev nD) : Pipeline.ΦA spec0 c ⊢ (dats m 0 c).Φ 0 := by
  rw [show (dats m 0 c).Φ 0 = Carried m c 0 from rfl]
  unfold Pipeline.ΦA Carried
  rw [scopedRest0_eq]
  simp only [owns_whole]
  iintro ⟨⟨%f, H⟩, Hg⟩
  isplitl [H]
  · iexists f; isplitr; swap; · iexact H
    ipureintro; exact holds_zero m c f
  · iexact Hg

/-- After the last point what the scratch holds is forgotten. -/
theorem carried_out (c : Dev nD) : (dats m 0 c).Φ (Fin.last cfg0.N) ⊢ Pipeline.ΦA spec0 c := by
  rw [show (dats m 0 c).Φ (Fin.last cfg0.N) = Carried m c (Fin.last cfg0.N).val from rfl]
  unfold Pipeline.ΦA Carried
  rw [scopedRest0_eq]
  simp only [owns_whole]
  iintro ⟨⟨%f, %hf, H⟩, Hg⟩
  isplitl [H]
  · iexists f; iexact H
  · iexact Hg

set_option backward.isDefEq.respectTransparency.types false in
theorem run_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := carried_in m) (hout := carried_out m)

theorem run : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiescent m ρ)

/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run m ρ)) ((θ_run defs _ _).mono (fun _ h => h.2) (run_quiescent m ρ))

end Cert.MemFirstIdeal.Pipelined

end
-- ==== Proof.MemFirst.lean ====
/- The projection of the memory in layer 0: what the kernel leaves in its result is what the reference computes. -/
module

public import proofs.«01_k».proof.Proof.MemFirstFrame
public import proofs.«01_k».proof.Proof.Gen.MemFirstRefIdeal.Run
public import proofs.«01_k».proof.Proof.Gen.MemFirstRefIdeal.Read
public import proofs.«01_k».proof.Defs
public import proofs.«01_k».proof.Proof.Gen.MemFirst.Frame
public import Idealize.ShloMosaic.Lib.Pipeline.ValueKit

@[expose] public section

set_option maxRecDepth 16384

noncomputable section

namespace Cert.MemFirstIdeal.Pipelined

open Cert.MemFirstIdeal Cert.MemFirstIdeal.Gen Idealize.ShloMosaic Idealize.ShloMosaic.TcCoe Idealize.SL.Sem
open Idealize.ShloMosaic.Pipeline (Dat)

variable (m : (ℓ : Loc nD τ sig) → Buf (Elt Ideal) ℓ)

/-- Where each window's block sits in its array at a grid point. -/
theorem idx_0 : ∀ t : Fin cfg0.N, 2 ≤ t.val → win0_0.index t = ![t.val % 2, 0] :=
  (by decide +kernel : ∀ t : Fin grid0.N, _)
theorem idx_1 : ∀ t : Fin cfg0.N, t.val < 8 → win0_1.index t = ![0, t.val % 2, t.val / 2] :=
  (by decide +kernel : ∀ t : Fin grid0.N, _)
theorem idx_2 : ∀ t : Fin cfg0.N, 2 ≤ t.val → win0_2.index t = ![t.val % 2, t.val / 2 - 1] :=
  (by decide +kernel : ∀ t : Fin grid0.N, _)
theorem written : ∀ t : Fin cfg0.N, (cfg0.win 2).flush t = true → 2 ≤ t.val := (by decide +kernel : ∀ t : Fin grid0.N, _)

theorem chunk_at (w : FVec Ideal S1x2048x1024 .f32) (y : S1x2048x1024.Idx) : k0_pay2 (F := Ideal) w y = w y := by
  pointwise [k0_pay2]

theorem product_at (u : FVec Ideal S512x4096 .bf16) (w : FVec Ideal S1x4096x1024 .bf16) (j : S512x1024.Idx) :
    k0_pay1 (F := Ideal) u w j = ∑ k : Fin 4096, u (ix2 (j 0) k) * w (ix3 0 k (j 1)) := by
  pointwise [k0_pay1]

/-- The slab at an entry is the chunk's entry as the point that cast it found it. -/
theorem slab_at (c : Dev nD) (t : Fin cfg0.N) (y : S1x4096x1024.Idx) (t' : Fin cfg0.N) (ht : t'.val = 2 * (t.val / 2 - 1) + (y 1).val / 2048)
    (z : S1x2048x1024.Idx) (h1 : (z 1).val = (y 1).val % 2048) (h2 : z 2 = y 2) :
    slab m c t y = (show FVec Ideal S1x2048x1024 .f32 from iblk m c 1 t') z := by
  unfold slab
  rw [chunk_at]
  obtain ⟨v, hv⟩ := t'
  obtain rfl : v = 2 * (t.val / 2 - 1) + (y 1).val / 2048 := ht
  refine congrArg (show FVec Ideal S1x2048x1024 .f32 from iblk m c 1 _) (funext fun a => ?_)
  match a with
  | 0 => exact (Fin.ext (by have : (z 0).val < 1 := (z 0).isLt; show 0 = (z 0).val; omega))
  | 1 => exact Fin.ext h1.symm
  | 2 => exact h2.symm

/-- The product over the flattened rows of the memory. -/
def rows (u : FVec Ideal S4x256x4096 .f32) (w : FVec Ideal S2x4096x4096 .f32) : FVec Ideal S1024x4096 .f32 := fun j =>
  ∑ k : Fin 4096, u (ix3 ⟨(j 0).val / 256, by have : (j 0).val < 1024 := (j 0).isLt; omega⟩ ⟨(j 0).val % 256, Nat.mod_lt _ (by decide)⟩ k) * w (ix3 0 k (j 1))

theorem joined_at (u : FVec Ideal S4x256x4096 .f32) (z : S1024x4096.Idx) :
    (truncf .bf16 (shapeCast _ u shapeCasts_S4x256x4096_S1024x4096 : FVec Ideal S1024x4096 .f32) (by decide) : FVec Ideal S1024x4096 .bf16) z
      = u (ix3 ⟨(z 0).val / 256, by have : (z 0).val < 1024 := (z 0).isLt; omega⟩ ⟨(z 0).val % 256, Nat.mod_lt _ (by decide)⟩ (z 1)) := by
  pointwise []

/-- The memory as the pipeline finds it is the argument's, its first two axes joined. -/
theorem memory_at (c : Dev nD) (z : S1024x4096.Idx) :
    (show FVec Ideal S1024x4096 .bf16 from V m c main_v1) z = (show FVec Ideal S4x256x4096 .f32 from m ((c : Thread nD τ).loc main_arg0))
      (ix3 ⟨(z 0).val / 256, by have : (z 0).val < 1024 := (z 0).isLt; omega⟩ ⟨(z 0).val % 256, Nat.mod_lt _ (by decide)⟩ (z 1)) := by
  have e : V m c main_v1 = (truncf .bf16 (shapeCast _ (m ((c : Thread nD τ).loc main_arg0)) shapeCasts_S4x256x4096_S1024x4096 : FVec Ideal S1024x4096 .f32) (by decide) : FVec Ideal S1024x4096 .bf16) := by
    show StableHlo.after hostOps0 (fun b => m (c, b)) (Proc.devRef .tc main_v1) = _
    after_results
    rfl
  show V m c main_v1 z = _
  rw [e]
  exact joined_at _ z

open Cert.MemFirstRefIdeal.Read in
/-- The reference is that product with its rows taken apart again and its columns split in heads. -/
theorem ref_product (u : FVec Ideal S4x256x4096 .f32) (w : FVec Ideal S2x4096x4096 .f32) :
    (shapeCast _ (rows u w) shapeCasts_S1024x4096_S4x256x4x1024 : FVec Ideal S4x256x4x1024 .f32) = val_main_v3 (F := Ideal) u w := by
  funext i
  pointwise [val_main_v3, val_main_v2, val_main_v1, val_main_v0, rows]
  have h1 : (i 1).val < 256 := (i 1).isLt
  refine congrArg (fun a : EReal => a) (Finset.sum_congr rfl fun k _ => ?_)
  refine congrArg₂ (fun p q => u (ix3 p q k) * _) (Fin.ext ?_) (Fin.ext ?_)
  · show ((i 0).val * 256 + (i 1).val) / 256 = (i 0).val; omega
  · show ((i 0).val * 256 + (i 1).val) % 256 = (i 1).val; omega

/-- The pipeline's result at its end. -/
theorem final_rows (c : Dev nD) : (dats m 0 c).arrAt 2 cfg0.N = rows (m ((c : Thread nD τ).loc main_arg0)) (m ((c : Thread nD τ).loc main_arg1)) := by
  refine (dats m 0 c).arrAt_eq_of_covers 2 _ (by decide +kernel) fun t hf y => ?_
  have hni := written t hf
  have hN := points t
  blk_simp
  rw [after_2, product_at]
  unfold rows
  refine congrArg (fun a : EReal => a) (Finset.sum_congr rfl fun k _ => ?_)
  have hk : k.val < 4096 := k.isLt
  have hlt : 2 * (t.val / 2 - 1) + k.val / 2048 < cfg0.N :=
    lt_of_lt_of_eq (by omega : _ < 10) (show cfg0.N = 10 from N_0).symm
  have hi := idx_1 ⟨2 * (t.val / 2 - 1) + k.val / 2048, hlt⟩ (show 2 * (t.val / 2 - 1) + k.val / 2048 < 8 by omega)
  rw [slab_at m c t _ ⟨2 * (t.val / 2 - 1) + k.val / 2048, hlt⟩ rfl (ix3 0 ⟨k.val % 2048, Nat.mod_lt _ (by decide)⟩ _) rfl rfl]
  refine congrArg₂ (fun a b : EReal => a * b) ?_ ?_
  · refine Eq.trans ?_ (memory_at m c (ix2 (((cfg0.win 2).blk t).view.emb y 0) k))
    blk_point [iblk, idx_0 t hni, idx_2 t hni]
  · blk_point [iblk, V, hi, idx_2 t hni]

/-- What the line after the pipeline leaves in the kernel's result. -/
theorem final_product (c : Dev nD) : Pipeline.afterTail₀ cfgs (dats m) 0 (V0 m) [hostOps1] c main_v3
    = Cert.MemFirstRefIdeal.Read.val_main_v3 (F := Ideal) (m ((c : Thread nD τ).loc main_arg0)) (m ((c : Thread nD τ).loc main_arg1)) := by
  refine Eq.trans ?_ (ref_product _ _)
  unfold Pipeline.afterTail₀
  rw [← final_rows m c]
  simp only [hostOps1, List.flatten_cons, List.flatten_nil, List.append_nil, StableHlo.after_cons, StableHlo.after_nil]
  rw [StableHlo.reshape_result]
  exact congrArg (fun a : FVec Ideal S1024x4096 .f32 => (shapeCast _ a shapeCasts_S1024x4096_S4x256x4x1024 : FVec Ideal S4x256x4x1024 .f32))
    (Pipeline.withArrays_arr spec0 (by decide) c (V0 m c) (fun w => (dats m 0 c).arrAt w cfg0.N) 2)

/-- The kernel over ideal values and the reference end with equal results. -/
theorem algebraic : Cert.algebraic_MemFirstIdeal_MemFirstRefIdeal := by
  intro m g m' g' _ hagree
  refine ⟨fun c => Cert.MemFirstRefIdeal.Read.val_main_v3 (F := Ideal) (m ((c : Thread nD τ).loc main_arg0)) (m ((c : Thread nD τ).loc main_arg1)), ?_, ?_⟩
  · exact (θ_run Cert.MemFirstIdeal.defs _ _).mono (fun _ h c => ⟨((h.1 c).2 main_v3 (Pipeline.mem_restRefs_of main_v3 (by decide) (by decide))).trans (final_product m c), (h.2.1 c)⟩)
      (θ_run_and (run m g) (frame m g))
  · refine (θ_run Cert.MemFirstRefIdeal.defs _ _).mono (fun _ h c => ⟨(h c).1.trans ?_, (h c).2⟩)
      (Cert.MemFirstRefIdeal.Value.run (F := Ideal) m' g')
    rw [(hagree c).1, (hagree c).2]
    exact Cert.MemFirstRefIdeal.Read.val_main_v3_eq _ _

/-- Over words the kernel's body table is the same text. -/
theorem rows_same : Cert.MemFirstIdeal.defs₀ (F := Bits) = Cert.MemFirst.defs₀ (F := Bits) := by
  unfold Cert.MemFirstIdeal.defs₀ Cert.MemFirst.defs₀
  refine congrArg Defs.onTc (funext fun l => funext fun a => ?_)
  match l, a with
  | 0, (t, s) => rfl

theorem frame_kernel : Cert.quiescent_MemFirst := fun m ρ _ => by
  have h := frame (F := Bits) m ρ
  unfold Cert.MemFirstIdeal.defs at h
  rw [rows_same] at h
  exact h

theorem frame_ideal : Cert.quiescent_MemFirstIdeal := fun m ρ _ => frame (F := Ideal) m ρ

/-- The reference runs, leaves its arguments as they were and every semaphore at zero. -/
theorem frame_reference : Cert.quiescent_MemFirstRefIdeal := fun m ρ _ =>
  (θ_run Cert.MemFirstRefIdeal.defs _ _).mono (fun r h => ⟨fun c => (h c).2,
    Idealize.ShloMosaic.sem_eq_zero_of_no_sems (by decide) r.2⟩) (Cert.MemFirstRefIdeal.Value.run (F := Ideal) m ρ)

end Cert.MemFirstIdeal.Pipelined

end
-- ==== Proof.MemSecondRun.lean ====
/- The projection of the memory in layer 1: what one grid point does to its buffers, by the three kinds of grid point. In the first pass a chunk of the
   weights is cast into the scratch and nothing is multiplied, in a middle pass both are done, in the last pass the
   product alone. -/
module

public import proofs.«01_k».proof.Proof.Gen.MemSecondIdeal.Frame
public import proofs.«01_k».proof.Proof.Gen.MemSecondIdeal.Skeleton
public import proofs.«01_k».proof.Proof.Held
public import Idealize.ShloMosaic.Lib.Pipeline.TableIdle

@[expose] public section

set_option maxRecDepth 16384

noncomputable section

namespace Cert.MemSecondIdeal.Pipelined

open Cert.MemSecondIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid in closed form -/

theorem product_iff : ∀ t : Fin cfg0.N, k0_cond1 (grid0.coords t) = 1#1 ↔ 2 ≤ t.val :=
  (by decide +kernel : ∀ t : Fin grid0.N, _)
theorem cast_iff : ∀ t : Fin cfg0.N, k0_cond2 (grid0.coords t) = 1#1 ↔ t.val < 8 :=
  (by decide +kernel : ∀ t : Fin grid0.N, _)
/-- The product reads the slab of the pass before. -/
theorem slab_off : ∀ t : Fin cfg0.N, 2 ≤ t.val → k0_off1 (grid0.coords t) = ![(t.val / 2 - 1) % 2, 0, 0] :=
  (by decide +kernel : ∀ t : Fin grid0.N, _)
/-- The cast writes the chunk of this point into the slab of this pass. -/
theorem chunk_off : ∀ t : Fin cfg0.N, k0_off2 (grid0.coords t) = ![t.val / 2 % 2, t.val % 2 * 2048, 0] :=
  (by decide +kernel : ∀ t : Fin grid0.N, _)

/-! ## The three runs -/

set_option maxHeartbeats 1000000 in
/-- The first pass: the chunk is cast into the scratch, the result is left as it was. -/
theorem run_first (c : Dev nD) (i : grid0.Coords)
    (arg2 : Memref sig .tc .vmem S512x4096 .bf16) (harg2 : arg2.IsWhole)
    (arg3 : Memref sig .tc .vmem S1x2048x1024 .f32) (harg3 : arg3.IsWhole)
    (arg4 : Memref sig .tc .vmem S512x1024 .f32) (harg4 : arg4.IsWhole)
    (arg5 : Memref sig .tc .vmem S2x4096x1024 .bf16) (harg5 : arg5.IsWhole)
    (h1 : ¬k0_cond1 i = 1#1) (h2 : k0_cond2 i = 1#1)
    (x0 : Vec F S512x4096 .bf16) (x1 : Vec F S1x2048x1024 .f32) (d : Vec F S512x1024 .f32)
    (s : Vec F S2x4096x1024 .bf16) (E : Set ℕ) (K : PUnit → sProp 𝕄) :
    iprop(owns (c : Thread nD τ) arg2 fullShare x0
        ∗ owns (c : Thread nD τ) arg3 fullShare x1
        ∗ owns (c : Thread nD τ) arg4 fullShare d
        ∗ owns (c : Thread nD τ) arg5 fullShare s
        ∗ (iprop(owns (c : Thread nD τ) arg2 fullShare x0
            ∗ owns (c : Thread nD τ) arg3 fullShare x1
            ∗ owns (c : Thread nD τ) arg4 fullShare d
            ∗ owns (c : Thread nD τ) arg5 fullShare (arg5.view.read (Elt F) (arg5.view.writes (Elt F) (harg5.unread s)
                [⟨Rect.unit (s := S2x4096x1024) (k0_off2 i) S1x2048x1024.size (k0_off2_inb i h2), k0_pay2 x1⟩]))) -∗ K ⟨⟩))
      ⊢ wp frame (wpE (defs₀ (F := F)) Variants.none c none) E (cc0_mem_k i arg2 harg2 arg3 harg3 arg4 harg4 arg5 harg5) K := by
  simp only [cc0_mem_k_eq_skeleton]; unfold cc0_mem_k_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr; swap; · iexact H3
  ipureintro
  rw [Held.load_full harg3 x1 (by decide)]

set_option maxHeartbeats 1000000 in
/-- A middle pass: the product is written, and the chunk is cast into the scratch. -/
theorem run_both (c : Dev nD) (i : grid0.Coords)
    (arg2 : Memref sig .tc .vmem S512x4096 .bf16) (harg2 : arg2.IsWhole)
    (arg3 : Memref sig .tc .vmem S1x2048x1024 .f32) (harg3 : arg3.IsWhole)
    (arg4 : Memref sig .tc .vmem S512x1024 .f32) (harg4 : arg4.IsWhole)
    (arg5 : Memref sig .tc .vmem S2x4096x1024 .bf16) (harg5 : arg5.IsWhole)
    (h1 : k0_cond1 i = 1#1) (h2 : k0_cond2 i = 1#1)
    (x0 : Vec F S512x4096 .bf16) (x1 : Vec F S1x2048x1024 .f32) (d : Vec F S512x1024 .f32)
    (s : Vec F S2x4096x1024 .bf16)
    (sl0 : Vec F S1x4096x1024 .bf16) (hsl0 : (fun y => s ((Rect.unit (s := S2x4096x1024) (k0_off1 i) S1x4096x1024.size (k0_off1_inb i h1)).emb y)) = sl0) (E : Set ℕ) (K : PUnit → sProp 𝕄) :
    iprop(owns (c : Thread nD τ) arg2 fullShare x0
        ∗ owns (c : Thread nD τ) arg3 fullShare x1
        ∗ owns (c : Thread nD τ) arg4 fullShare d
        ∗ owns (c : Thread nD τ) arg5 fullShare s
        ∗ (iprop(owns (c : Thread nD τ) arg2 fullShare x0
            ∗ owns (c : Thread nD τ) arg3 fullShare x1
            ∗ owns (c : Thread nD τ) arg4 fullShare (k0_pay1 x0 sl0)
            ∗ owns (c : Thread nD τ) arg5 fullShare (arg5.view.read (Elt F) (arg5.view.writes (Elt F) (harg5.unread s)
                [⟨Rect.unit (s := S2x4096x1024) (k0_off2 i) S1x2048x1024.size (k0_off2_inb i h2), k0_pay2 x1⟩]))) -∗ K ⟨⟩))
      ⊢ wp frame (wpE (defs₀ (F := F)) Variants.none c none) E (cc0_mem_k i arg2 harg2 arg3 harg3 arg4 harg4 arg5 harg5) K := by
  simp only [cc0_mem_k_eq_skeleton]; unfold cc0_mem_k_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    rw [Held.store_full _ _ (by decide), Held.load_full harg2 x0 (by decide), Held.load_rect harg5]
    exact congrArg (fun a => k0_pay1 x0 a) hsl0
  iexists _; isplitr; swap; · iexact H3
  ipureintro
  rw [Held.load_full harg3 x1 (by decide)]

set_option maxHeartbeats 1000000 in
/-- The last pass: the product is written; the scratch stays. -/
theorem run_last (c : Dev nD) (i : grid0.Coords)
    (arg2 : Memref sig .tc .vmem S512x4096 .bf16) (harg2 : arg2.IsWhole)
    (arg3 : Memref sig .tc .vmem S1x2048x1024 .f32) (harg3 : arg3.IsWhole)
    (arg4 : Memref sig .tc .vmem S512x1024 .f32) (harg4 : arg4.IsWhole)
    (arg5 : Memref sig .tc .vmem S2x4096x1024 .bf16) (harg5 : arg5.IsWhole)
    (h1 : k0_cond1 i = 1#1) (h2 : ¬k0_cond2 i = 1#1)
    (x0 : Vec F S512x4096 .bf16) (x1 : Vec F S1x2048x1024 .f32) (d : Vec F S512x1024 .f32)
    (s : Vec F S2x4096x1024 .bf16)
    (sl0 : Vec F S1x4096x1024 .bf16) (hsl0 : (fun y => s ((Rect.unit (s := S2x4096x1024) (k0_off1 i) S1x4096x1024.size (k0_off1_inb i h1)).emb y)) = sl0) (E : Set ℕ) (K : PUnit → sProp 𝕄) :
    iprop(owns (c : Thread nD τ) arg2 fullShare x0
        ∗ owns (c : Thread nD τ) arg3 fullShare x1
        ∗ owns (c : Thread nD τ) arg4 fullShare d
        ∗ owns (c : Thread nD τ) arg5 fullShare s
        ∗ (iprop(owns (c : Thread nD τ) arg2 fullShare x0
            ∗ owns (c : Thread nD τ) arg3 fullShare x1
            ∗ owns (c : Thread nD τ) arg4 fullShare (k0_pay1 x0 sl0)
            ∗ owns (c : Thread nD τ) arg5 fullShare s) -∗ K ⟨⟩))
      ⊢ wp frame (wpE (defs₀ (F := F)) Variants.none c none) E (cc0_mem_k i arg2 harg2 arg3 harg3 arg4 harg4 arg5 harg5) K := by
  simp only [cc0_mem_k_eq_skeleton]; unfold cc0_mem_k_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    rw [Held.store_full _ _ (by decide), Held.load_full harg2 x0 (by decide), Held.load_rect harg5]
    exact congrArg (fun a => k0_pay1 x0 a) hsl0
  iexists _; isplitr; · ipureintro; exact harg5.read_unread _
  iexact H3

end Cert.MemSecondIdeal.Pipelined

end
-- ==== Proof.MemSecondFrame.lean ====
/- The projection of the memory in layer 1, as a run over its grid. The kernel keeps two slabs of the weights in a scratch: while the product of
   one slab is taken, the next slab is cast into the other, a chunk of 2048 rows at a point. What is carried from
   point to point is that the last 4 chunks cast are where they were put. -/
module

public import proofs.«01_k».proof.Proof.MemSecondRun
public import Idealize.ShloMosaic.Lib.Claim
public import Idealize.ShloMosaic.Lib.Pipeline.ValueKit

@[expose] public section

set_option maxRecDepth 16384

noncomputable section

namespace Cert.MemSecondIdeal.Pipelined

open Cert.MemSecondIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem points (t : Fin cfg0.N) : t.val < 10 := lt_of_lt_of_eq t.isLt (show cfg0.N = 10 from N_0)

/-! ## What the scratch holds -/

/-- Before point `n` the scratch `s` holds each of the last 4 chunks cast, in the slab of its pass. -/
def Holds (c : Dev nD) (n : ℕ) (s : Vec F S2x4096x1024 .bf16) : Prop :=
  ∀ t : Fin cfg0.N, t.val < n → n ≤ t.val + 4 → t.val < 8 → ∀ (y : S1x2048x1024.Idx) (z : S2x4096x1024.Idx),
    (z 0).val = t.val / 2 % 2 → (z 1).val = t.val % 2 * 2048 + (y 1).val → (z 2).val = (y 2).val →
      s z = k0_pay2 (iblk m c 1 t) y

theorem holds_zero (c : Dev nD) (s : Vec F S2x4096x1024 .bf16) : Holds m c 0 s :=
  fun _ h => absurd h (Nat.not_lt_zero _)

/-- Past the last cast the scratch is left as it was. -/
theorem Holds.stay {c : Dev nD} {n : ℕ} {s : Vec F S2x4096x1024 .bf16} (h : Holds m c n s) (hn : 8 ≤ n) : Holds m c (n + 1) s :=
  fun t ht hr hB y z => h t (by omega) (by omega) hB y z

/-- Casting the chunk of a point keeps the 3 before it, which lie elsewhere. -/
theorem Holds.step {c : Dev nD} {t : Fin cfg0.N} {s : Vec F S2x4096x1024 .bf16} (h : Holds m c t.val s)
    (h2 : k0_cond2 (grid0.coords t) = 1#1) {M : Memref sig .tc .vmem S2x4096x1024 .bf16} (hM : M.IsWhole) :
    Holds m c (t.val + 1) (M.view.read (Elt F) (M.view.writes (Elt F) (hM.unread s)
      [⟨Rect.unit (s := S2x4096x1024) (k0_off2 (grid0.coords t)) S1x2048x1024.size (k0_off2_inb (grid0.coords t) h2), k0_pay2 (iblk m c 1 t)⟩])) := by
  intro t' ht hr hB y z hz0 hz1 hz2
  have hy0 : (y 0).val = 0 := by have : (y 0).val < 1 := (y 0).isLt; omega
  have hyk : (y 1).val < 2048 := (y 1).isLt
  have hoff := chunk_off t
  by_cases he : t' = t
  · subst he
    refine View.read_writes_cons_hit_of_coords M.view (hM.unread s)
      (Rect.unit (s := S2x4096x1024) (k0_off2 (grid0.coords t')) S1x2048x1024.size (k0_off2_inb (grid0.coords t') h2)) (k0_pay2 (iblk m c 1 t')) [] y z fun a => ?_
    show (z a).val = k0_off2 (grid0.coords t') a + 1 * (y a).val
    rw [hoff]
    match a with
    | 0 => show (z 0).val = t'.val / 2 % 2 + 1 * (y 0).val; omega
    | 1 => show (z 1).val = t'.val % 2 * 2048 + 1 * (y 1).val; omega
    | 2 => show (z 2).val = 0 + 1 * (y 2).val; omega
  · have hlt : t'.val < t.val := by
      have : t'.val ≠ t.val := fun e => he (Fin.ext e)
      omega
    have hkeep := (congrFun (hM.read_unread s) z).trans (h t' hlt (by omega) hB y z hz0 hz1 hz2)
    by_cases hc : t'.val % 2 = t.val % 2
    · refine (View.read_writes_cons_miss_of_axis _ _ _ _ z 0 (t.val / 2 % 2) 1 (congrFun hoff 0) rfl rfl ?_).trans hkeep
      rw [hz0]; omega
    · refine (View.read_writes_cons_miss_of_axis _ _ _ _ z 1 (t.val % 2 * 2048) 2048 (congrFun hoff 1) rfl rfl ?_).trans hkeep
      rw [hz1]; omega

/-- The slab the product of a point reads: the chunks cast in the pass before. -/
def slab (c : Dev nD) (t : Fin cfg0.N) : Vec F S1x4096x1024 .bf16 := fun y =>
  k0_pay2 (iblk m c 1 ⟨2 * (t.val / 2 - 1) + (y 1).val / 2048, by
    have := points t; have : (y 1).val < 4096 := (y 1).isLt
    exact lt_of_lt_of_eq (by omega : _ < 10) (show cfg0.N = 10 from N_0).symm⟩)
    (fun a => match a with
      | 0 => ⟨0, Nat.one_pos⟩
      | 1 => ⟨(y 1).val % 2048, Nat.mod_lt _ (by decide)⟩
      | 2 => y 2)

theorem slab_read {c : Dev nD} {t : Fin cfg0.N} {s : Vec F S2x4096x1024 .bf16} (h : Holds m c t.val s) (hni : 2 ≤ t.val)
    (h1 : k0_cond1 (grid0.coords t) = 1#1) :
    (fun y => s ((Rect.unit (s := S2x4096x1024) (k0_off1 (grid0.coords t)) S1x4096x1024.size (k0_off1_inb (grid0.coords t) h1)).emb y)) = slab m c t := by
  funext y
  have ht := points t
  have hyk : (y 1).val < 4096 := (y 1).isLt
  have hy0 : (y 0).val = 0 := by have : (y 0).val < 1 := (y 0).isLt; omega
  have hoff := slab_off t hni
  refine h _ ?_ ?_ ?_ _ _ ?_ ?_ ?_
  · show 2 * (t.val / 2 - 1) + (y 1).val / 2048 < t.val; omega
  · show t.val ≤ 2 * (t.val / 2 - 1) + (y 1).val / 2048 + 4; omega
  · show 2 * (t.val / 2 - 1) + (y 1).val / 2048 < 8; omega
  · show k0_off1 (grid0.coords t) 0 + 1 * (y 0).val = (2 * (t.val / 2 - 1) + (y 1).val / 2048) / 2 % 2
    have h0 : k0_off1 (grid0.coords t) 0 = (t.val / 2 - 1) % 2 := congrFun hoff 0
    omega
  · show k0_off1 (grid0.coords t) 1 + 1 * (y 1).val = (2 * (t.val / 2 - 1) + (y 1).val / 2048) % 2 * 2048 + (y 1).val % 2048
    have h0 : k0_off1 (grid0.coords t) 1 = 0 := congrFun hoff 1
    omega
  · show k0_off1 (grid0.coords t) 2 + 1 * (y 2).val = (y 2).val
    have h0 : k0_off1 (grid0.coords t) 2 = 0 := congrFun hoff 2
    omega

/-! ## The proof data -/

/-- Between points: the scratch at some contents that hold the chunks, and the generator register. -/
def Carried (c : Dev nD) (n : ℕ) : sProp 𝕄 :=
  iprop((∃ s : Vec F S2x4096x1024 .bf16, ⌜Holds m c n s⌝ ∗ owns (c : Thread nD τ) (Memref.whole cc0_scratch0) fullShare s) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay1 (iblk m c 0 t) (slab m c t)
  Φ t := Carried m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = k0_pay1 (iblk m c 0 t) (slab m c t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem carried_start (c : Dev nD) (t : Fin cfg0.N) : (dats m 0 c).Φ t.castSucc = Carried m c t.val := by
  dsimp only [dats]; exact Pipeline.Dat.Φ_castSucc (fun n _ => Carried m c n) t
theorem carried_end (c : Dev nD) (t : Fin cfg0.N) : (dats m 0 c).Φ t.succ = Carried m c (t.val + 1) := by dsimp only [dats]; rfl

/-! ## When a point writes the result -/

theorem idle_out : ∀ t : Fin cfg0.N, t.val < 2 → cfg0.idle 2 (grid0.coords t) = true := (by decide +kernel : ∀ t : Fin grid0.N, _)
theorem kept_out : ∀ t : Fin cfg0.N, t.val < 2 → (cfg0.win 2).flush t = false := (by decide +kernel : ∀ t : Fin grid0.N, _)
theorem live_out : ∀ t : Fin cfg0.N, 2 ≤ t.val → cfg0.idle 2 (grid0.coords t) = false := (by decide +kernel : ∀ t : Fin grid0.N, _)

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [carried_start, carried_end, show (dats m 0 c).owesAt () t.succ = (dats m 0 c).owesAt () t.castSucc from rfl]
  rw [show (dats m 0 c).leavesExact 0 t = owns (c : Thread nD τ) (st0_0 t) fullShare (iblk m c 0 t) from by rw [← after_0 m c t],
    show (dats m 0 c).leavesExact 1 t = owns (c : Thread nD τ) (st0_1 t) fullShare (iblk m c 1 t) from by rw [← after_1 m c t]]
  have hN := points t
  by_cases hni : 2 ≤ t.val
  · have h1 := (product_iff t).mpr hni
    rw [show (dats m 0 c).leavesExact 2 t = owns (c : Thread nD τ) (st0_2 t) fullShare (k0_pay1 (iblk m c 0 t) (slab m c t)) from by
        unfold Dat.leavesExact; rw [live_out t hni, after_2]]
    by_cases hB : t.val < 8
    · have h2 := (cast_iff t).mpr hB
      unfold Carried
      iintro ⟨⟨⟨%s, %hs, HS⟩, Hg⟩, Ho, ⟨%d0, H0⟩, ⟨%d1, H1⟩, ⟨%d2, H2⟩⟩
      iapply (run_both c (grid0.coords t) _ _ _ _ _ _ _ _ h1 h2 (iblk m c 0 t) (iblk m c 1 t) _ s (slab m c t) (slab_read m hs hni h1) Set.univ _)
      isplitl [H0]; · iexact H0
      isplitl [H1]; · iexact H1
      isplitl [H2]; · iexact H2
      isplitl [HS]; · iexact HS
      iintro ⟨H0, H1, H2, HS⟩
      isplitl [HS Hg]
      · isplitl [HS]
        · iexists _; isplitr; swap; · iexact HS
          ipureintro; exact hs.step m h2 _
        · iexact Hg
      isplitl [Ho]; · iexact Ho
      isplitl [H0]; · iexact H0
      isplitl [H1]; · iexact H1
      iexact H2
    · have h2 : ¬k0_cond2 (grid0.coords t) = 1#1 := fun h => hB ((cast_iff t).mp h)
      unfold Carried
      iintro ⟨⟨⟨%s, %hs, HS⟩, Hg⟩, Ho, ⟨%d0, H0⟩, ⟨%d1, H1⟩, ⟨%d2, H2⟩⟩
      iapply (run_last c (grid0.coords t) _ _ _ _ _ _ _ _ h1 h2 (iblk m c 0 t) (iblk m c 1 t) _ s (slab m c t) (slab_read m hs hni h1) Set.univ _)
      isplitl [H0]; · iexact H0
      isplitl [H1]; · iexact H1
      isplitl [H2]; · iexact H2
      isplitl [HS]; · iexact HS
      iintro ⟨H0, H1, H2, HS⟩
      isplitl [HS Hg]
      · isplitl [HS]
        · iexists _; isplitr; swap; · iexact HS
          ipureintro; exact hs.stay m (by omega)
        · iexact Hg
      isplitl [Ho]; · iexact Ho
      isplitl [H0]; · iexact H0
      isplitl [H1]; · iexact H1
      iexact H2
  · have h1 : ¬k0_cond1 (grid0.coords t) = 1#1 := fun h => hni ((product_iff t).mp h)
    have h2 := (cast_iff t).mpr (by omega)
    rw [(dats m 0 c).leavesExact_idle 2 t (idle_out t (by omega)) (kept_out t (by omega))]
    unfold Carried
    iintro ⟨⟨⟨%s, %hs, HS⟩, Hg⟩, Ho, ⟨%d0, H0⟩, ⟨%d1, H1⟩, ⟨%d2, H2⟩⟩
    iapply (run_first c (grid0.coords t) _ _ _ _ _ _ _ _ h1 h2 (iblk m c 0 t) (iblk m c 1 t) _ s Set.univ _)
    isplitl [H0]; · iexact H0
    isplitl [H1]; · iexact H1
    isplitl [H2]; · iexact H2
    isplitl [HS]; · iexact HS
    iintro ⟨H0, H1, H2, HS⟩
    isplitl [HS Hg]
    · isplitl [HS]
      · iexists _; isplitr; swap; · iexact HS
        ipureintro; exact hs.step m h2 _
      · iexact Hg
    isplitl [Ho]; · iexact Ho
    isplitl [H0]; · iexact H0
    isplitl [H1]; · iexact H1
    iexists d2; iexact H2

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- Before the first point the scratch holds anything. -/
theorem carried_in (c : Dev nD) : Pipeline.ΦA spec0 c ⊢ (dats m 0 c).Φ 0 := by
  rw [show (dats m 0 c).Φ 0 = Carried m c 0 from rfl]
  unfold Pipeline.ΦA Carried
  rw [scopedRest0_eq]
  simp only [owns_whole]
  iintro ⟨⟨%f, H⟩, Hg⟩
  isplitl [H]
  · iexists f; isplitr; swap; · iexact H
    ipureintro; exact holds_zero m c f
  · iexact Hg

/-- After the last point what the scratch holds is forgotten. -/
theorem carried_out (c : Dev nD) : (dats m 0 c).Φ (Fin.last cfg0.N) ⊢ Pipeline.ΦA spec0 c := by
  rw [show (dats m 0 c).Φ (Fin.last cfg0.N) = Carried m c (Fin.last cfg0.N).val from rfl]
  unfold Pipeline.ΦA Carried
  rw [scopedRest0_eq]
  simp only [owns_whole]
  iintro ⟨⟨%f, %hf, H⟩, Hg⟩
  isplitl [H]
  · iexists f; iexact H
  · iexact Hg

set_option backward.isDefEq.respectTransparency.types false in
theorem run_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := carried_in m) (hout := carried_out m)

theorem run : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiescent m ρ)

/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run m ρ)) ((θ_run defs _ _).mono (fun _ h => h.2) (run_quiescent m ρ))

end Cert.MemSecondIdeal.Pipelined

end
-- ==== Proof.MemSecond.lean ====
/- The projection of the memory in layer 1: what the kernel leaves in its result is what the reference computes. -/
module

public import proofs.«01_k».proof.Proof.MemSecondFrame
public import proofs.«01_k».proof.Proof.Gen.MemSecondRefIdeal.Run
public import proofs.«01_k».proof.Proof.Gen.MemSecondRefIdeal.Read
public import proofs.«01_k».proof.Defs
public import proofs.«01_k».proof.Proof.Gen.MemSecond.Frame
public import Idealize.ShloMosaic.Lib.Pipeline.ValueKit

@[expose] public section

set_option maxRecDepth 16384

noncomputable section

namespace Cert.MemSecondIdeal.Pipelined

open Cert.MemSecondIdeal Cert.MemSecondIdeal.Gen Idealize.ShloMosaic Idealize.ShloMosaic.TcCoe Idealize.SL.Sem
open Idealize.ShloMosaic.Pipeline (Dat)

variable (m : (ℓ : Loc nD τ sig) → Buf (Elt Ideal) ℓ)

/-- Where each window's block sits in its array at a grid point. -/
theorem idx_0 : ∀ t : Fin cfg0.N, 2 ≤ t.val → win0_0.index t = ![t.val % 2, 0] :=
  (by decide +kernel : ∀ t : Fin grid0.N, _)
theorem idx_1 : ∀ t : Fin cfg0.N, t.val < 8 → win0_1.index t = ![1, t.val % 2, t.val / 2] :=
  (by decide +kernel : ∀ t : Fin grid0.N, _)
theorem idx_2 : ∀ t : Fin cfg0.N, 2 ≤ t.val → win0_2.index t = ![t.val % 2, t.val / 2 - 1] :=
  (by decide +kernel : ∀ t : Fin grid0.N, _)
theorem written : ∀ t : Fin cfg0.N, (cfg0.win 2).flush t = true → 2 ≤ t.val := (by decide +kernel : ∀ t : Fin grid0.N, _)

theorem chunk_at (w : FVec Ideal S1x2048x1024 .f32) (y : S1x2048x1024.Idx) : k0_pay2 (F := Ideal) w y = w y := by
  pointwise [k0_pay2]

theorem product_at (u : FVec Ideal S512x4096 .bf16) (w : FVec Ideal S1x4096x1024 .bf16) (j : S512x1024.Idx) :
    k0_pay1 (F := Ideal) u w j = ∑ k : Fin 4096, u (ix2 (j 0) k) * w (ix3 0 k (j 1)) := by
  pointwise [k0_pay1]

/-- The slab at an entry is the chunk's entry as the point that cast it found it. -/
theorem slab_at (c : Dev nD) (t : Fin cfg0.N) (y : S1x4096x1024.Idx) (t' : Fin cfg0.N) (ht : t'.val = 2 * (t.val / 2 - 1) + (y 1).val / 2048)
    (z : S1x2048x1024.Idx) (h1 : (z 1).val = (y 1).val % 2048) (h2 : z 2 = y 2) :
    slab m c t y = (show FVec Ideal S1x2048x1024 .f32 from iblk m c 1 t') z := by
  unfold slab
  rw [chunk_at]
  obtain ⟨v, hv⟩ := t'
  obtain rfl : v = 2 * (t.val / 2 - 1) + (y 1).val / 2048 := ht
  refine congrArg (show FVec Ideal S1x2048x1024 .f32 from iblk m c 1 _) (funext fun a => ?_)
  match a with
  | 0 => exact (Fin.ext (by have : (z 0).val < 1 := (z 0).isLt; show 0 = (z 0).val; omega))
  | 1 => exact Fin.ext h1.symm
  | 2 => exact h2.symm

/-- The product over the flattened rows of the memory. -/
def rows (u : FVec Ideal S4x256x4096 .f32) (w : FVec Ideal S2x4096x4096 .f32) : FVec Ideal S1024x4096 .f32 := fun j =>
  ∑ k : Fin 4096, u (ix3 ⟨(j 0).val / 256, by have : (j 0).val < 1024 := (j 0).isLt; omega⟩ ⟨(j 0).val % 256, Nat.mod_lt _ (by decide)⟩ k) * w (ix3 1 k (j 1))

theorem joined_at (u : FVec Ideal S4x256x4096 .f32) (z : S1024x4096.Idx) :
    (truncf .bf16 (shapeCast _ u shapeCasts_S4x256x4096_S1024x4096 : FVec Ideal S1024x4096 .f32) (by decide) : FVec Ideal S1024x4096 .bf16) z
      = u (ix3 ⟨(z 0).val / 256, by have : (z 0).val < 1024 := (z 0).isLt; omega⟩ ⟨(z 0).val % 256, Nat.mod_lt _ (by decide)⟩ (z 1)) := by
  pointwise []

/-- The memory as the pipeline finds it is the argument's, its first two axes joined. -/
theorem memory_at (c : Dev nD) (z : S1024x4096.Idx) :
    (show FVec Ideal S1024x4096 .bf16 from V m c main_v1) z = (show FVec Ideal S4x256x4096 .f32 from m ((c : Thread nD τ).loc main_arg0))
      (ix3 ⟨(z 0).val / 256, by have : (z 0).val < 1024 := (z 0).isLt; omega⟩ ⟨(z 0).val % 256, Nat.mod_lt _ (by decide)⟩ (z 1)) := by
  have e : V m c main_v1 = (truncf .bf16 (shapeCast _ (m ((c : Thread nD τ).loc main_arg0)) shapeCasts_S4x256x4096_S1024x4096 : FVec Ideal S1024x4096 .f32) (by decide) : FVec Ideal S1024x4096 .bf16) := by
    show StableHlo.after hostOps0 (fun b => m (c, b)) (Proc.devRef .tc main_v1) = _
    after_results
    rfl
  show V m c main_v1 z = _
  rw [e]
  exact joined_at _ z

open Cert.MemSecondRefIdeal.Read in
/-- The reference is that product with its rows taken apart again and its columns split in heads. -/
theorem ref_product (u : FVec Ideal S4x256x4096 .f32) (w : FVec Ideal S2x4096x4096 .f32) :
    (shapeCast _ (rows u w) shapeCasts_S1024x4096_S4x256x4x1024 : FVec Ideal S4x256x4x1024 .f32) = val_main_v3 (F := Ideal) u w := by
  funext i
  pointwise [val_main_v3, val_main_v2, val_main_v1, val_main_v0, rows]
  have h1 : (i 1).val < 256 := (i 1).isLt
  refine congrArg (fun a : EReal => a) (Finset.sum_congr rfl fun k _ => ?_)
  refine congrArg₂ (fun p q => u (ix3 p q k) * _) (Fin.ext ?_) (Fin.ext ?_)
  · show ((i 0).val * 256 + (i 1).val) / 256 = (i 0).val; omega
  · show ((i 0).val * 256 + (i 1).val) % 256 = (i 1).val; omega

/-- The pipeline's result at its end. -/
theorem final_rows (c : Dev nD) : (dats m 0 c).arrAt 2 cfg0.N = rows (m ((c : Thread nD τ).loc main_arg0)) (m ((c : Thread nD τ).loc main_arg1)) := by
  refine (dats m 0 c).arrAt_eq_of_covers 2 _ (by decide +kernel) fun t hf y => ?_
  have hni := written t hf
  have hN := points t
  blk_simp
  rw [after_2, product_at]
  unfold rows
  refine congrArg (fun a : EReal => a) (Finset.sum_congr rfl fun k _ => ?_)
  have hk : k.val < 4096 := k.isLt
  have hlt : 2 * (t.val / 2 - 1) + k.val / 2048 < cfg0.N :=
    lt_of_lt_of_eq (by omega : _ < 10) (show cfg0.N = 10 from N_0).symm
  have hi := idx_1 ⟨2 * (t.val / 2 - 1) + k.val / 2048, hlt⟩ (show 2 * (t.val / 2 - 1) + k.val / 2048 < 8 by omega)
  rw [slab_at m c t _ ⟨2 * (t.val / 2 - 1) + k.val / 2048, hlt⟩ rfl (ix3 0 ⟨k.val % 2048, Nat.mod_lt _ (by decide)⟩ _) rfl rfl]
  refine congrArg₂ (fun a b : EReal => a * b) ?_ ?_
  · refine Eq.trans ?_ (memory_at m c (ix2 (((cfg0.win 2).blk t).view.emb y 0) k))
    blk_point [iblk, idx_0 t hni, idx_2 t hni]
  · blk_point [iblk, V, hi, idx_2 t hni]

/-- What the line after the pipeline leaves in the kernel's result. -/
theorem final_product (c : Dev nD) : Pipeline.afterTail₀ cfgs (dats m) 0 (V0 m) [hostOps1] c main_v3
    = Cert.MemSecondRefIdeal.Read.val_main_v3 (F := Ideal) (m ((c : Thread nD τ).loc main_arg0)) (m ((c : Thread nD τ).loc main_arg1)) := by
  refine Eq.trans ?_ (ref_product _ _)
  unfold Pipeline.afterTail₀
  rw [← final_rows m c]
  simp only [hostOps1, List.flatten_cons, List.flatten_nil, List.append_nil, StableHlo.after_cons, StableHlo.after_nil]
  rw [StableHlo.reshape_result]
  exact congrArg (fun a : FVec Ideal S1024x4096 .f32 => (shapeCast _ a shapeCasts_S1024x4096_S4x256x4x1024 : FVec Ideal S4x256x4x1024 .f32))
    (Pipeline.withArrays_arr spec0 (by decide) c (V0 m c) (fun w => (dats m 0 c).arrAt w cfg0.N) 2)

/-- The kernel over ideal values and the reference end with equal results. -/
theorem algebraic : Cert.algebraic_MemSecondIdeal_MemSecondRefIdeal := by
  intro m g m' g' _ hagree
  refine ⟨fun c => Cert.MemSecondRefIdeal.Read.val_main_v3 (F := Ideal) (m ((c : Thread nD τ).loc main_arg0)) (m ((c : Thread nD τ).loc main_arg1)), ?_, ?_⟩
  · exact (θ_run Cert.MemSecondIdeal.defs _ _).mono (fun _ h c => ⟨((h.1 c).2 main_v3 (Pipeline.mem_restRefs_of main_v3 (by decide) (by decide))).trans (final_product m c), (h.2.1 c)⟩)
      (θ_run_and (run m g) (frame m g))
  · refine (θ_run Cert.MemSecondRefIdeal.defs _ _).mono (fun _ h c => ⟨(h c).1.trans ?_, (h c).2⟩)
      (Cert.MemSecondRefIdeal.Value.run (F := Ideal) m' g')
    rw [(hagree c).1, (hagree c).2]
    exact Cert.MemSecondRefIdeal.Read.val_main_v3_eq _ _

/-- Over words the kernel's body table is the same text. -/
theorem rows_same : Cert.MemSecondIdeal.defs₀ (F := Bits) = Cert.MemSecond.defs₀ (F := Bits) := by
  unfold Cert.MemSecondIdeal.defs₀ Cert.MemSecond.defs₀
  refine congrArg Defs.onTc (funext fun l => funext fun a => ?_)
  match l, a with
  | 0, (t, s) => rfl

theorem frame_kernel : Cert.quiescent_MemSecond := fun m ρ _ => by
  have h := frame (F := Bits) m ρ
  unfold Cert.MemSecondIdeal.defs at h
  rw [rows_same] at h
  exact h

theorem frame_ideal : Cert.quiescent_MemSecondIdeal := fun m ρ _ => frame (F := Ideal) m ρ

/-- The reference runs, leaves its arguments as they were and every semaphore at zero. -/
theorem frame_reference : Cert.quiescent_MemSecondRefIdeal := fun m ρ _ =>
  (θ_run Cert.MemSecondRefIdeal.defs _ _).mono (fun r h => ⟨fun c => (h c).2,
    Idealize.ShloMosaic.sem_eq_zero_of_no_sems (by decide) r.2⟩) (Cert.MemSecondRefIdeal.Value.run (F := Ideal) m ρ)

end Cert.MemSecondIdeal.Pipelined

end
-- ==== Proof.FinalPrompt.lean ====
/- The last norm on the rows of the prompt group. -/
module

public import proofs.«01_k».proof.Proof.Gen.FinalPromptIdeal.Value
public import proofs.«01_k».proof.Proof.Gen.FinalPromptRefIdeal.Run
public import proofs.«01_k».proof.Proof.Gen.FinalPromptRefIdeal.Read
public import proofs.«01_k».proof.Defs
public import Idealize.ShloMosaic.Lib.Pipeline.ValueKit

@[expose] public section

set_option maxRecDepth 16384

noncomputable section

namespace Cert.FinalPromptIdeal.Norm

open Cert.FinalPromptIdeal Cert.FinalPromptIdeal.Gen Idealize.ShloMosaic Idealize.ShloMosaic.TcCoe Idealize.SL.Sem
open Idealize.ShloMosaic.Pipeline (Dat)

variable (m : (ℓ : Loc nD τ sig) → Buf (Elt Ideal) ℓ)

/-- Where each window's block sits in its array at a grid point. -/
theorem idx : ∀ t : Fin cfg0.N, win0_0.index t = ![t.val, 0] ∧ win0_1.index t = ![0, 0] ∧ win0_2.index t = ![t.val, 0] :=
  (by decide +kernel : ∀ t : Fin grid0.N, _)

open Cert.FinalPromptRefIdeal.Read in
/-- THE RESULT of the kernel is the reference's. -/
theorem final (c : Dev nD) : (dats m 0 c).arrAt 2 cfg0.N
    = val_main_v13 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  blk_point [iblk, V, idx t]

/-- The kernel over ideal values and the reference end with equal results. -/
theorem algebraic : Cert.algebraic_FinalPromptIdeal_FinalPromptRefIdeal := by
  intro m g m' g' _ hagree
  refine ⟨fun c => Cert.FinalPromptRefIdeal.Read.val_main_v13 (F := Ideal) (m ((c : Thread nD τ).loc main_arg0)) (m ((c : Thread nD τ).loc main_arg1)), ?_, ?_⟩
  · exact (θ_run Cert.FinalPromptIdeal.defs _ _).mono (fun _ h c => ⟨(h c).1.trans (final m c), (h c).2⟩)
      (Cert.FinalPromptIdeal.Value.run_blocks (F := Ideal) m g)
  · refine (θ_run Cert.FinalPromptRefIdeal.defs _ _).mono (fun _ h c => ⟨(h c).1.trans ?_, (h c).2⟩)
      (Cert.FinalPromptRefIdeal.Value.run (F := Ideal) m' g')
    rw [(hagree c).1, (hagree c).2]
    exact Cert.FinalPromptRefIdeal.Read.val_main_v13_eq _ _

/-- The reference runs, leaves its arguments as they were and every semaphore at zero. -/
theorem frame_reference : Cert.quiescent_FinalPromptRefIdeal := fun m ρ _ =>
  (θ_run Cert.FinalPromptRefIdeal.defs _ _).mono (fun r h => ⟨fun c => (h c).2,
    Idealize.ShloMosaic.sem_eq_zero_of_no_sems (by decide) r.2⟩) (Cert.FinalPromptRefIdeal.Value.run (F := Ideal) m ρ)

end Cert.FinalPromptIdeal.Norm

end
-- ==== Proof.FinalSample.lean ====
/- The last norm on the rows of the sample group. -/
module

public import proofs.«01_k».proof.Proof.Gen.FinalSampleIdeal.Value
public import proofs.«01_k».proof.Proof.Gen.FinalSampleRefIdeal.Run
public import proofs.«01_k».proof.Proof.Gen.FinalSampleRefIdeal.Read
public import proofs.«01_k».proof.Defs
public import Idealize.ShloMosaic.Lib.Pipeline.ValueKit

@[expose] public section

set_option maxRecDepth 16384

noncomputable section

namespace Cert.FinalSampleIdeal.Norm

open Cert.FinalSampleIdeal Cert.FinalSampleIdeal.Gen Idealize.ShloMosaic Idealize.ShloMosaic.TcCoe Idealize.SL.Sem
open Idealize.ShloMosaic.Pipeline (Dat)

variable (m : (ℓ : Loc nD τ sig) → Buf (Elt Ideal) ℓ)

/-- Where each window's block sits in its array at a grid point. -/
theorem idx : ∀ t : Fin cfg0.N, win0_0.index t = ![16, 0] ∧ win0_1.index t = ![0, 0] ∧ win0_2.index t = ![t.val, 0] :=
  (by decide +kernel : ∀ t : Fin grid0.N, _)

open Cert.FinalSampleRefIdeal.Read in
/-- THE RESULT of the kernel is the reference's. -/
theorem final (c : Dev nD) : (dats m 0 c).arrAt 2 cfg0.N
    = val_main_v13 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  blk_point [iblk, V, idx t]

/-- The kernel over ideal values and the reference end with equal results. -/
theorem algebraic : Cert.algebraic_FinalSampleIdeal_FinalSampleRefIdeal := by
  intro m g m' g' _ hagree
  refine ⟨fun c => Cert.FinalSampleRefIdeal.Read.val_main_v13 (F := Ideal) (m ((c : Thread nD τ).loc main_arg0)) (m ((c : Thread nD τ).loc main_arg1)), ?_, ?_⟩
  · exact (θ_run Cert.FinalSampleIdeal.defs _ _).mono (fun _ h c => ⟨(h c).1.trans (final m c), (h c).2⟩)
      (Cert.FinalSampleIdeal.Value.run_blocks (F := Ideal) m g)
  · refine (θ_run Cert.FinalSampleRefIdeal.defs _ _).mono (fun _ h c => ⟨(h c).1.trans ?_, (h c).2⟩)
      (Cert.FinalSampleRefIdeal.Value.run (F := Ideal) m' g')
    rw [(hagree c).1, (hagree c).2]
    exact Cert.FinalSampleRefIdeal.Read.val_main_v13_eq _ _

/-- The reference runs, leaves its arguments as they were and every semaphore at zero. -/
theorem frame_reference : Cert.quiescent_FinalSampleRefIdeal := fun m ρ _ =>
  (θ_run Cert.FinalSampleRefIdeal.defs _ _).mono (fun r h => ⟨fun c => (h c).2,
    Idealize.ShloMosaic.sem_eq_zero_of_no_sems (by decide) r.2⟩) (Cert.FinalSampleRefIdeal.Value.run (F := Ideal) m ρ)

end Cert.FinalSampleIdeal.Norm

end
-- ==== Proof.SconvSample.lean ====
/- The short convolution of the sample group: its four outputs per sequence and the state it leaves. -/
module

public import proofs.«01_k».proof.Proof.Gen.SconvSampleIdeal.Frame
public import proofs.«01_k».proof.Proof.Gen.SconvSampleRefIdeal.Run
public import proofs.«01_k».proof.Proof.Gen.SconvSampleRefIdeal.Read
public import proofs.«01_k».proof.Defs
public import Idealize.ShloMosaic.Lib.Pipeline.ValueKit

@[expose] public section

set_option maxRecDepth 16384

noncomputable section

namespace Cert.SconvSampleIdeal.Conv

open Cert.SconvSampleIdeal Cert.SconvSampleIdeal.Gen Idealize.ShloMosaic Idealize.ShloMosaic.TcCoe Idealize.SL.Sem
open Idealize.ShloMosaic.Pipeline (Dat)

variable (m : (ℓ : Loc nD τ sig) → Buf (Elt Ideal) ℓ)

/-- Where each window's block sits in its array at a grid point. -/
theorem idx_0 : ∀ t : Fin cfg0.N, win0_0.index t = ![0, 0, t.val] := (by decide +kernel : ∀ t : Fin grid0.N, _)
theorem idx_1 : ∀ t : Fin cfg0.N, win0_1.index t = ![0, 0, 8 + t.val] := (by decide +kernel : ∀ t : Fin grid0.N, _)
theorem idx_2 : ∀ t : Fin cfg0.N, win0_2.index t = ![0, 0, 16 + t.val] := (by decide +kernel : ∀ t : Fin grid0.N, _)
theorem idx_3 : ∀ t : Fin cfg0.N, win0_3.index t = ![0, 0, t.val] := (by decide +kernel : ∀ t : Fin grid0.N, _)
theorem idx_4 : ∀ t : Fin cfg0.N, win0_4.index t = ![0, t.val] := (by decide +kernel : ∀ t : Fin grid0.N, _)
theorem idx_5 : ∀ t : Fin cfg0.N, win0_5.index t = ![0, 0, t.val] := (by decide +kernel : ∀ t : Fin grid0.N, _)
theorem idx_6 : ∀ t : Fin cfg0.N, win0_6.index t = ![0, 0, t.val] := (by decide +kernel : ∀ t : Fin grid0.N, _)

/-! What the host lines before the pipeline prepare. -/

/-- The sampled rows of the projection, the step within a sequence first. -/
def steps (u : FVec Ideal S8704x12288 .f32) : FVec Ideal S4x128x12288 .f32 :=
  fun z => u (ix2 ⟨8192 + ((z 1).val * 4 + (z 0).val), by
    have h0 : (z 0).val < 4 := (z 0).isLt
    have h1 : (z 1).val < 128 := (z 1).isLt
    omega⟩ (z 2))

theorem steps_eq (u : FVec Ideal S8704x12288 .f32) :
    (transpose S4x128x12288 [1, 0, 2] (shapeCast _ (extractStridedSlice S512x12288 ![8192, 0] u slices_S8704x12288_S512x12288_8192_0)
      shapeCasts_S512x12288_S128x4x12288 : FVec Ideal S128x4x12288 .f32) transposes_S128x4x12288_S4x128x12288_1_0_2 : FVec Ideal S4x128x12288 .f32) = steps u := by
  funext z
  pointwise [steps]

theorem proj_eq (c : Dev nD) : V m c main_v4 = steps (m ((c : Thread nD τ).loc main_arg0)) := by
  refine Eq.trans ?_ (steps_eq _)
  show StableHlo.after hostOps0 (fun b => m (c, b)) (Proc.devRef .tc main_v4) = _
  after_results
  rfl

/-- The state with its two steps first. -/
def first (u : FVec Ideal S1x128x2x4096 .f32) : FVec Ideal S2x128x4096 .f32 := fun z => u (ix4 0 (z 1) (z 0) (z 2))

theorem first_eq (u : FVec Ideal S1x128x2x4096 .f32) :
    (transpose S2x128x4096 [1, 0, 2] (shapeCast _ u shapeCasts_S1x128x2x4096_S128x2x4096 : FVec Ideal S128x2x4096 .f32)
      transposes_S128x2x4096_S2x128x4096_1_0_2 : FVec Ideal S2x128x4096 .f32) = first u := by
  funext z
  pointwise [first]

theorem state_eq (c : Dev nD) : V m c main_v1 = first (m ((c : Thread nD τ).loc main_arg1)) := by
  refine Eq.trans ?_ (first_eq _)
  show StableHlo.after hostOps0 (fun b => m (c, b)) (Proc.devRef .tc main_v1) = _
  after_results
  rfl

/-- The three taps. -/
def taps (u : FVec Ideal S1x3x4096 .f32) : FVec Ideal S3x4096 .f32 := fun z => u (ix3 0 (z 0) (z 1))

theorem taps_eq (u : FVec Ideal S1x3x4096 .f32) :
    (shapeCast _ u shapeCasts_S1x3x4096_S3x4096 : FVec Ideal S3x4096 .f32) = taps u := by
  funext z
  pointwise [taps]

theorem weights_eq (c : Dev nD) : V m c main_v5 = taps (m ((c : Thread nD τ).loc main_arg2)) := by
  refine Eq.trans ?_ (taps_eq _)
  show StableHlo.after hostOps0 (fun b => m (c, b)) (Proc.devRef .tc main_v5) = _
  after_results
  rfl

/-! The blocks as entries of those arrays. -/

theorem blk_0 (c : Dev nD) (t : Fin cfg0.N) (z : S4x128x512.Idx) (j : S4x128x12288.Idx)
    (h0 : (j 0).val = (z 0).val) (h1 : (j 1).val = (z 1).val) (h2 : (j 2).val = t.val * 512 + (z 2).val) :
    (show FVec Ideal S4x128x512 .f32 from iblk m c 0 t) z = steps (m ((c : Thread nD τ).loc main_arg0)) j := by
  rw [← proj_eq m c]
  blk_point [iblk, idx_0 t]

theorem blk_1 (c : Dev nD) (t : Fin cfg0.N) (z : S4x128x512.Idx) (j : S4x128x12288.Idx)
    (h0 : (j 0).val = (z 0).val) (h1 : (j 1).val = (z 1).val) (h2 : (j 2).val = 4096 + (t.val * 512 + (z 2).val)) :
    (show FVec Ideal S4x128x512 .f32 from iblk m c 1 t) z = steps (m ((c : Thread nD τ).loc main_arg0)) j := by
  rw [← proj_eq m c]
  blk_point [iblk, idx_1 t]

theorem blk_2 (c : Dev nD) (t : Fin cfg0.N) (z : S4x128x512.Idx) (j : S4x128x12288.Idx)
    (h0 : (j 0).val = (z 0).val) (h1 : (j 1).val = (z 1).val) (h2 : (j 2).val = 8192 + (t.val * 512 + (z 2).val)) :
    (show FVec Ideal S4x128x512 .f32 from iblk m c 2 t) z = steps (m ((c : Thread nD τ).loc main_arg0)) j := by
  rw [← proj_eq m c]
  blk_point [iblk, idx_2 t]

theorem blk_3 (c : Dev nD) (t : Fin cfg0.N) (z : S2x128x512.Idx) (j : S2x128x4096.Idx)
    (h0 : (j 0).val = (z 0).val) (h1 : (j 1).val = (z 1).val) (h2 : (j 2).val = t.val * 512 + (z 2).val) :
    (show FVec Ideal S2x128x512 .f32 from iblk m c 3 t) z = first (m ((c : Thread nD τ).loc main_arg1)) j := by
  rw [← state_eq m c]
  blk_point [iblk, idx_3 t]

theorem blk_4 (c : Dev nD) (t : Fin cfg0.N) (z : S3x512.Idx) (j : S3x4096.Idx)
    (h0 : (j 0).val = (z 0).val) (h1 : (j 1).val = t.val * 512 + (z 1).val) :
    (show FVec Ideal S3x512 .f32 from iblk m c 4 t) z = taps (m ((c : Thread nD τ).loc main_arg2)) j := by
  rw [← weights_eq m c]
  blk_point [iblk, idx_4 t]

/-! One block, over any arrays. -/

theorem at_step (y : S4x128x512.Idx) (x : S1x128x512.Idx) (n : Fin 4) (h0 : (y 0).val = n.val + (x 0).val) (h1 : (y 1).val = (x 1).val)
    (h2 : (y 2).val = (x 2).val) : y = ix3 n (x 1) (x 2) := by
  have hx : (x 0).val < 1 := (x 0).isLt
  funext a
  match a with
  | 0 => exact Fin.ext (by show (y 0).val = n.val; omega)
  | 1 => exact Fin.ext h1
  | 2 => exact Fin.ext h2

theorem products_at (p q b : FVec Ideal S4x128x512 .f32) (s : FVec Ideal S2x128x512 .f32) (w : FVec Ideal S3x512 .f32) (y : S4x128x512.Idx) :
    out0_6 (F := Ideal) b p q s w y = p y * q y := by
  unfold_out out0_6
  canon_tiles x h
  case piece0 => rw [at_step y x 3 h0 h1 h2]; pointwise [k0_pay14, k0_pay15]
  case piece1 => rw [at_step y x 2 h0 h1 h2]; pointwise [k0_pay10, k0_pay11]
  case piece2 => rw [at_step y x 1 h0 h1 h2]; pointwise [k0_pay7, k0_pay8]
  case piece3 => rw [at_step y x 0 (by simpa using h0) h1 h2]; pointwise [k0_pay4, k0_pay5]

/-- Step `n` of the state followed by the products. -/
def line (p q : FVec Ideal S4x128x512 .f32) (s : FVec Ideal S2x128x512 .f32) (n : ℕ) (b : Fin 128) (k : Fin 512) : EReal :=
  if h : n < 2 then s (ix3 ⟨n, h⟩ b k) else if h' : n - 2 < 4 then p (ix3 ⟨n - 2, h'⟩ b k) * q (ix3 ⟨n - 2, h'⟩ b k) else 0

theorem outputs_at (p q b : FVec Ideal S4x128x512 .f32) (s : FVec Ideal S2x128x512 .f32) (w : FVec Ideal S3x512 .f32) (y : S4x128x512.Idx) :
    out0_5 (F := Ideal) b p q s w y = b y * (line p q s (y 0) (y 1) (y 2) * w (ix2 0 (y 2)) + line p q s ((y 0).val + 1) (y 1) (y 2) * w (ix2 1 (y 2))
      + line p q s ((y 0).val + 2) (y 1) (y 2) * w (ix2 2 (y 2))) := by
  unfold_out out0_5
  canon_tiles x h
  case piece0 => rw [at_step y x 3 h0 h1 h2]; pointwise [k0_pay1, k0_pay2, k0_pay7, k0_pay10, k0_pay14, k0_pay16]; rfl
  case piece1 => rw [at_step y x 2 h0 h1 h2]; pointwise [k0_pay2, k0_pay4, k0_pay7, k0_pay10, k0_pay12, k0_pay13]; rfl
  case piece2 => rw [at_step y x 1 h0 h1 h2]; pointwise [k0_pay2, k0_pay3, k0_pay4, k0_pay7, k0_pay9]; rfl
  case piece3 => rw [at_step y x 0 (by simpa using h0) h1 h2]; pointwise [k0_pay2, k0_pay3, k0_pay4, k0_pay6]; rfl

/-! The two arrays the pipeline leaves. -/

/-- The products of the second and third parts of the projection, the step first. -/
def products (u : FVec Ideal S8704x12288 .f32) : FVec Ideal S4x128x4096 .f32 := fun j =>
  steps u (ix3 (j 0) (j 1) ⟨4096 + (j 2).val, by have : (j 2).val < 4096 := (j 2).isLt; omega⟩)
    * steps u (ix3 (j 0) (j 1) ⟨8192 + (j 2).val, by have : (j 2).val < 4096 := (j 2).isLt; omega⟩)

/-- Step `n` of the state followed by the products, over the whole width. -/
def whole (u : FVec Ideal S8704x12288 .f32) (s : FVec Ideal S1x128x2x4096 .f32) (n : ℕ) (b : Fin 128) (k : Fin 4096) : EReal :=
  if h : n < 2 then first s (ix3 ⟨n, h⟩ b k) else if h' : n - 2 < 4 then products u (ix3 ⟨n - 2, h'⟩ b k) else 0

/-- The outputs, the step first. -/
def outputs (u : FVec Ideal S8704x12288 .f32) (s : FVec Ideal S1x128x2x4096 .f32) (w : FVec Ideal S1x3x4096 .f32) : FVec Ideal S4x128x4096 .f32 :=
  fun j => steps u (ix3 (j 0) (j 1) ⟨(j 2).val, by have : (j 2).val < 4096 := (j 2).isLt; omega⟩)
    * (whole u s (j 0) (j 1) (j 2) * taps w (ix2 0 (j 2)) + whole u s ((j 0).val + 1) (j 1) (j 2) * taps w (ix2 1 (j 2))
      + whole u s ((j 0).val + 2) (j 1) (j 2) * taps w (ix2 2 (j 2)))

theorem line_eq (c : Dev nD) (t : Fin cfg0.N) (n : ℕ) (b : Fin 128) (k : Fin 512) (b' : Fin 128) (k' : Fin 4096) (hb : b'.val = b.val)
    (hk : k'.val = t.val * 512 + k.val) :
    line (iblk m c 1 t) (iblk m c 2 t) (iblk m c 3 t) n b k = whole (m ((c : Thread nD τ).loc main_arg0)) (m ((c : Thread nD τ).loc main_arg1)) n b' k' := by
  unfold line whole products
  by_cases h : n < 2
  · rw [dif_pos h, dif_pos h]
    exact blk_3 m c t _ _ rfl hb hk
  · rw [dif_neg h, dif_neg h]
    by_cases h' : n - 2 < 4
    · rw [dif_pos h', dif_pos h']
      exact congrArg₂ (fun a b : EReal => a * b) (blk_1 m c t _ _ rfl hb (congrArg (4096 + ·) hk)) (blk_2 m c t _ _ rfl hb (congrArg (8192 + ·) hk))
    · rw [dif_neg h', dif_neg h']

theorem final_products (c : Dev nD) : (dats m 0 c).arrAt 6 cfg0.N = products (m ((c : Thread nD τ).loc main_arg0)) := by
  refine (dats m 0 c).arrAt_eq_of_covers 6 _ (by decide +kernel) fun t hf y => ?_
  have e0 : (((cfg0.win 6).blk t).view.emb y 0).val = (y 0).val := by blk_simp [idx_6 t] <;> try omega
  have e1 : (((cfg0.win 6).blk t).view.emb y 1).val = (y 1).val := by blk_simp [idx_6 t] <;> try omega
  have e2 : (((cfg0.win 6).blk t).view.emb y 2).val = t.val * 512 + (y 2).val := by blk_simp [idx_6 t] <;> try omega
  blk_simp
  rw [after0_6, products_at]
  exact congrArg₂ (fun a b : EReal => a * b) (blk_1 m c t _ _ e0 e1 (congrArg (4096 + ·) e2)) (blk_2 m c t _ _ e0 e1 (congrArg (8192 + ·) e2))

theorem final_outputs (c : Dev nD) : (dats m 0 c).arrAt 5 cfg0.N
    = outputs (m ((c : Thread nD τ).loc main_arg0)) (m ((c : Thread nD τ).loc main_arg1)) (m ((c : Thread nD τ).loc main_arg2)) := by
  refine (dats m 0 c).arrAt_eq_of_covers 5 _ (by decide +kernel) fun t hf y => ?_
  have e0 : (((cfg0.win 5).blk t).view.emb y 0).val = (y 0).val := by blk_simp [idx_5 t] <;> try omega
  have e1 : (((cfg0.win 5).blk t).view.emb y 1).val = (y 1).val := by blk_simp [idx_5 t] <;> try omega
  have e2 : (((cfg0.win 5).blk t).view.emb y 2).val = t.val * 512 + (y 2).val := by blk_simp [idx_5 t] <;> try omega
  blk_simp
  rw [after0_5, outputs_at]
  unfold outputs
  rw [e0, line_eq m c t _ _ _ _ _ e1 e2, line_eq m c t _ _ _ _ _ e1 e2, line_eq m c t _ _ _ _ _ e1 e2]
  exact congrArg₂ (fun a b : EReal => a * b) (blk_0 m c t _ _ e0 e1 e2)
    (congrArg₂ (fun a b : EReal => a + b) (congrArg₂ (fun a b : EReal => a + b) (congrArg (fun a : EReal => _ * a) (blk_4 m c t _ _ rfl e2))
      (congrArg (fun a : EReal => _ * a) (blk_4 m c t _ _ rfl e2))) (congrArg (fun a : EReal => _ * a) (blk_4 m c t _ _ rfl e2)))

/-! The lines after the pipeline, and the reference. -/

open Cert.SconvSampleRefIdeal.Read in
theorem ref_line (u : FVec Ideal S8704x12288 .f32) (s : FVec Ideal S1x128x2x4096 .f32) (b : Fin 128) (n : Fin 6) (k : Fin 4096) :
    val_main_v8 (F := Ideal) u s (ix3 b n k) = whole u s n b k := by
  pointwise [val_main_v8, val_main_v7, val_main_v6, val_main_v4, val_main_v3, val_main_v1, val_main_v0, whole, products, steps, first]
  have hn : n.val < 6 := n.isLt
  by_cases h : n.val < 2
  · rw [dif_pos h, dif_pos h]
  · rw [dif_neg h, dif_neg h, dif_pos (by omega)]

/-- Row `r` of the outputs is step `r % 4` of sequence `r / 4`. -/
def stepOf (i : S512x4096.Idx) : Fin 4 := ⟨(i 0).val % 4, Nat.mod_lt _ (by decide)⟩
def seqOf (i : S512x4096.Idx) : Fin 128 := ⟨(i 0).val / 4, by have : (i 0).val < 512 := (i 0).isLt; omega⟩

theorem rows_at (o : FVec Ideal S4x128x4096 .bf16) (i : S512x4096.Idx) :
    (shapeCast _ (transpose S128x4x4096 [1, 0, 2] o transposes_S4x128x4096_S128x4x4096_1_0_2 : FVec Ideal S128x4x4096 .bf16)
      shapeCasts_S128x4x4096_S512x4096 : FVec Ideal S512x4096 .bf16) i = o (ix3 (stepOf i) (seqOf i) (i 1)) := by
  pointwise [stepOf, seqOf]

open Cert.SconvSampleRefIdeal.Read in
theorem part_at (u : FVec Ideal S8704x12288 .f32) (i : S512x4096.Idx) :
    val_main_v2 (F := Ideal) u (ix3 (seqOf i) (stepOf i) (i 1)) = steps u (ix3 (stepOf i) (seqOf i) ⟨(i 1).val, by have : (i 1).val < 4096 := (i 1).isLt; omega⟩) := by
  pointwise [val_main_v2, val_main_v1, val_main_v0, steps, stepOf, seqOf]
  blk_ext

open Cert.SconvSampleRefIdeal.Read in
theorem sum_at (u : FVec Ideal S8704x12288 .f32) (s : FVec Ideal S1x128x2x4096 .f32) (w : FVec Ideal S1x3x4096 .f32) (b : Fin 128) (n : Fin 4) (k : Fin 4096) :
    val_main_v28 (F := Ideal) u s w (ix3 b n k) = whole u s n b k * taps w (ix2 0 k) + whole u s (n.val + 1) b k * taps w (ix2 1 k)
      + whole u s (n.val + 2) b k * taps w (ix2 2 k) := by
  rw [Nat.add_comm n.val 1, Nat.add_comm n.val 2]
  pointwise [val_main_v28, val_main_v27, val_main_v26, val_main_v25, val_main_v24, val_main_v23, val_main_v22,
    val_main_v21, val_main_v20, val_main_v19, val_main_v18, val_main_v17, val_main_v16, val_main_v15, val_main_v14, val_main_v13, val_main_v12, val_main_v11,
    val_main_v10, val_main_v9, val_main_v5, ref_line, taps]

open Cert.SconvSampleRefIdeal.Read in
theorem ref_rows (u : FVec Ideal S8704x12288 .f32) (s : FVec Ideal S1x128x2x4096 .f32) (w : FVec Ideal S1x3x4096 .f32) (i : S512x4096.Idx) :
    val_main_v31 (F := Ideal) u s w i = val_main_v2 (F := Ideal) u (ix3 (seqOf i) (stepOf i) (i 1)) * val_main_v28 (F := Ideal) u s w (ix3 (seqOf i) (stepOf i) (i 1)) := by
  pointwise [val_main_v31, val_main_v30, val_main_v29, stepOf, seqOf]

open Cert.SconvSampleRefIdeal.Read in
theorem ref_outputs (u : FVec Ideal S8704x12288 .f32) (s : FVec Ideal S1x128x2x4096 .f32) (w : FVec Ideal S1x3x4096 .f32) :
    (shapeCast _ (transpose S128x4x4096 [1, 0, 2] (outputs u s w) transposes_S4x128x4096_S128x4x4096_1_0_2 : FVec Ideal S128x4x4096 .bf16)
      shapeCasts_S128x4x4096_S512x4096 : FVec Ideal S512x4096 .bf16) = val_main_v31 (F := Ideal) u s w := by
  funext i
  refine (rows_at _ i).trans (Eq.trans ?_ (ref_rows u s w i).symm)
  exact congrArg₂ (fun a b : EReal => a * b) (part_at u i).symm (sum_at u s w (seqOf i) (stepOf i) (i 1)).symm

open Cert.SconvSampleRefIdeal.Read in
theorem ref_state (u : FVec Ideal S8704x12288 .f32) (s : FVec Ideal S1x128x2x4096 .f32) :
    (broadcastInDim S1x128x2x4096 ![1, 2, 3] bcast_S128x2x4096_S1x128x2x4096_1_2_3 (extractStridedSlice S128x2x4096 ![0, 4, 0]
      (concatenate S128x6x4096 1 [⟨S128x2x4096, (shapeCast _ s shapeCasts_S1x128x2x4096_S128x2x4096 : FVec Ideal S128x2x4096 .f32)⟩,
        ⟨S128x4x4096, (transpose S128x4x4096 [1, 0, 2] (products u) transposes_S4x128x4096_S128x4x4096_1_0_2 : FVec Ideal S128x4x4096 .f32)⟩]
        concatenates_S128x2x4096_S128x4x4096_S128x6x4096_d1 : FVec Ideal S128x6x4096 .f32) slices_S128x6x4096_S128x2x4096_0_4_0 : FVec Ideal S128x2x4096 .f32) : FVec Ideal S1x128x2x4096 .f32)
      = val_main_v33 (F := Ideal) u s := by
  funext i
  pointwise [val_main_v33, val_main_v32, val_main_v8, val_main_v7, val_main_v6, val_main_v4, val_main_v3, val_main_v1, val_main_v0, products, steps]

theorem after_outputs (c : Dev nD) : Pipeline.afterTail₀ cfgs (dats m) 0 (V0 m) [hostOps1] c main_v8
    = Cert.SconvSampleRefIdeal.Read.val_main_v31 (F := Ideal) (m ((c : Thread nD τ).loc main_arg0)) (m ((c : Thread nD τ).loc main_arg1)) (m ((c : Thread nD τ).loc main_arg2)) := by
  refine Eq.trans ?_ (ref_outputs _ _ _)
  unfold Pipeline.afterTail₀
  rw [← final_outputs m c]
  simp only [hostOps1, List.flatten_cons, List.flatten_nil, List.append_nil]
  after_results
  exact congrArg (fun a : FVec Ideal S4x128x4096 .bf16 => (shapeCast _ (transpose S128x4x4096 [1, 0, 2] a transposes_S4x128x4096_S128x4x4096_1_0_2 : FVec Ideal S128x4x4096 .bf16)
      shapeCasts_S128x4x4096_S512x4096 : FVec Ideal S512x4096 .bf16))
    ((dats m 0 c).withArrays_arrAt sharedIn0 (V0 m c) (A_eq m c) 5)

theorem after_state (c : Dev nD) : Pipeline.afterTail₀ cfgs (dats m) 0 (V0 m) [hostOps1] c main_v13
    = Cert.SconvSampleRefIdeal.Read.val_main_v33 (F := Ideal) (m ((c : Thread nD τ).loc main_arg0)) (m ((c : Thread nD τ).loc main_arg1)) := by
  refine Eq.trans ?_ (ref_state _ _)
  unfold Pipeline.afterTail₀
  rw [← final_products m c]
  simp only [hostOps1, List.flatten_cons, List.flatten_nil, List.append_nil]
  after_results
  have e : Pipeline.withArrays (cfgs 0).spec c (V0 m c) (fun w => (dats m 0 c).arrAt w (cfgs 0).N) (Proc.tc.devRef main_arg1)
      = m ((c : Thread nD τ).loc main_arg1) := by
    refine (Pipeline.withArrays_of_ne spec0 c (V0 m c) _ main_arg1 (by decide)).trans ?_
    show StableHlo.after hostOps0 (fun b => m (c, b)) (Proc.devRef .tc main_arg1) = _
    after_results
  exact congrArg₂ (fun (s : FVec Ideal S1x128x2x4096 .f32) (a : FVec Ideal S4x128x4096 .f32) =>
    (broadcastInDim S1x128x2x4096 ![1, 2, 3] bcast_S128x2x4096_S1x128x2x4096_1_2_3 (extractStridedSlice S128x2x4096 ![0, 4, 0]
      (concatenate S128x6x4096 1 [⟨S128x2x4096, (shapeCast _ s shapeCasts_S1x128x2x4096_S128x2x4096 : FVec Ideal S128x2x4096 .f32)⟩,
        ⟨S128x4x4096, (transpose S128x4x4096 [1, 0, 2] a transposes_S4x128x4096_S128x4x4096_1_0_2 : FVec Ideal S128x4x4096 .f32)⟩]
        concatenates_S128x2x4096_S128x4x4096_S128x6x4096_d1 : FVec Ideal S128x6x4096 .f32) slices_S128x6x4096_S128x2x4096_0_4_0 : FVec Ideal S128x2x4096 .f32) : FVec Ideal S1x128x2x4096 .f32))
    e ((dats m 0 c).withArrays_arrAt sharedIn0 (V0 m c) (A_eq m c) 6)

/-- The kernel over ideal values and the reference end with equal results. -/
theorem algebraic : Cert.algebraic_SconvSampleIdeal_SconvSampleRefIdeal := by
  intro m g m' g' _ hagree
  refine ⟨fun c => Cert.SconvSampleRefIdeal.Read.val_main_v31 (F := Ideal) (m ((c : Thread nD τ).loc main_arg0)) (m ((c : Thread nD τ).loc main_arg1)) (m ((c : Thread nD τ).loc main_arg2)),
    fun c => Cert.SconvSampleRefIdeal.Read.val_main_v33 (F := Ideal) (m ((c : Thread nD τ).loc main_arg0)) (m ((c : Thread nD τ).loc main_arg1)), ?_, ?_⟩
  · exact (θ_run Cert.SconvSampleIdeal.defs _ _).mono (fun _ h c => ⟨((h.1 c).2 main_v8 (Pipeline.mem_restRefs_of main_v8 (by decide) (by decide))).trans (after_outputs m c),
      ((h.1 c).2 main_v13 (Pipeline.mem_restRefs_of main_v13 (by decide) (by decide))).trans (after_state m c), (h.2.1 c)⟩)
      (θ_run_and (run_main m g) (frame m g))
  · refine (θ_run Cert.SconvSampleRefIdeal.defs _ _).mono (fun _ h c => ⟨(h c).1.trans ?_, (h c).2.1.trans ?_, (h c).2.2⟩)
      (Cert.SconvSampleRefIdeal.Value.run (F := Ideal) m' g')
    · rw [(hagree c).1, (hagree c).2.1, (hagree c).2.2]
      exact Cert.SconvSampleRefIdeal.Read.val_main_v31_eq _ _ _
    · rw [(hagree c).1, (hagree c).2.1]
      exact Cert.SconvSampleRefIdeal.Read.val_main_v33_eq _ _

/-- The reference runs, leaves its arguments as they were and every semaphore at zero. -/
theorem frame_reference : Cert.quiescent_SconvSampleRefIdeal := fun m ρ _ =>
  (θ_run Cert.SconvSampleRefIdeal.defs _ _).mono (fun r h => ⟨fun c => (h c).2.2,
    Idealize.ShloMosaic.sem_eq_zero_of_no_sems (by decide) r.2⟩) (Cert.SconvSampleRefIdeal.Value.run (F := Ideal) m ρ)

end Cert.SconvSampleIdeal.Conv

end
-- ==== Proof.Gates.lean ====
/- The scalar functions of the gated recurrence in the two ways they are written: through the hyperbolic
   tangent, and through the exponential. -/
module

public import Idealize.ShloMosaic.Lib.Pipeline.ValueKit
public import Idealize.ShloMosaic.Lib.IdealHost

@[expose] public section

noncomputable section

namespace Cert.Gates

open Idealize.ShloMosaic

/-- The three constants of these formulas that are neither zero nor one. -/
abbrev half : EReal := Ideal.ofBits .f32 0x3F000000#32
abbrev two : EReal := Ideal.ofBits .f32 0x40000000#32

theorem half_eq : half = ((1 / 2 : ℝ) : EReal) := by
  simp [half, Ideal.ofBits, Ideal.ieee, -EReal.coe_mul]; norm_num

theorem two_eq : two = ((2 : ℝ) : EReal) := by
  simp [two, Ideal.ofBits, Ideal.ieee, -EReal.coe_mul]; norm_num

/-- A gate: the logistic function, through the hyperbolic tangent. -/
def gate (v : EReal) : EReal := half * (Ideal.tanh (half * v) + 1)

/-- The logarithm of the decay of a lane of weight `lam` under the gate `r`. -/
def logDecay (lam r : EReal) : EReal :=
  Ideal.ofBits .f32 0x41000000#32 * r * (min lam 0 - Ideal.log1p (Ideal.exp (0 - FloatOps.absf (F := Ideal) (φ := .f32) lam)))

/-- One step of a lane's state `h`, from its two gates and the convolution's output. -/
def step (lam r i x h : EReal) : EReal :=
  Ideal.exp (logDecay lam r) * h
    + Ideal.sqrt (0 - Ideal.tanh (half * (two * logDecay lam r)) * (Ideal.exp (two * logDecay lam r) + 1)) * (i * x)

/-- The gate branch's activation. -/
def gelu (g : EReal) : EReal :=
  half * g * (1 + Ideal.tanh (Ideal.ofBits .f32 0x3F4C422A#32 * (g + Ideal.ofBits .f32 0x3D372713#32 * (g * g * g))))

/-- The logistic function through the hyperbolic tangent is the one through the exponential. -/
theorem logistic_tanh (x : EReal) : half * (Ideal.tanh (half * x) + 1) = Ideal.div 1 (1 + Ideal.exp (-x)) := by
  rw [half_eq]
  induction x using EReal.rec with
  | bot =>
    have e : (1 : EReal) + ⊤ = ⊤ := EReal.coe_add_top 1
    have z : (-1 + 1 : EReal) = 0 := by rw [← EReal.coe_one, ← EReal.coe_neg, ← EReal.coe_add]; norm_num
    rw [EReal.coe_mul_bot_of_pos (by norm_num), Ideal.tanh_bot, z]
    simp [Ideal.div, e]
  | top =>
    rw [EReal.coe_mul_top_of_pos (by norm_num)]
    have z : (1 + 1 : EReal) = ((2 : ℝ) : EReal) := by rw [← EReal.coe_one, ← EReal.coe_add]; norm_num
    rw [Ideal.tanh_top, z, ← EReal.coe_mul]
    simp [Ideal.div]
  | coe r =>
    rw [← EReal.coe_mul, ← EReal.coe_neg, Ideal.tanh_coe, Ideal.exp_coe]
    have hp : (0 : ℝ) < 1 + Real.exp (-r) := by positivity
    have hne : (1 : EReal) + ((Real.exp (-r) : ℝ) : EReal) ≠ 0 := by
      rw [← EReal.coe_one, ← EReal.coe_add]
      exact_mod_cast hp.ne'
    unfold Ideal.div
    rw [if_neg hne, one_mul, ← EReal.coe_one, ← EReal.coe_add, ← EReal.coe_add, ← EReal.coe_mul, ← EReal.coe_inv]
    refine congrArg _ ?_
    have e1 : Real.exp (-r) = Real.exp (-(1 / 2 * r)) * Real.exp (-(1 / 2 * r)) := by rw [← Real.exp_add]; ring_nf
    have e2 : Real.exp (1 / 2 * r) * Real.exp (-(1 / 2 * r)) = 1 := by rw [← Real.exp_add]; simp
    have p1 : 0 < Real.exp (1 / 2 * r) := Real.exp_pos _
    have p2 : 0 < Real.exp (-(1 / 2 * r)) := Real.exp_pos _
    rw [Real.tanh_eq_sinh_div_cosh, Real.sinh_eq, Real.cosh_eq, e1]
    generalize Real.exp (1 / 2 * r) = a at *
    generalize Real.exp (-(1 / 2 * r)) = b at *
    field_simp
    linear_combination 2 * b * e2

/-- `e^x - 1` through the hyperbolic tangent. -/
theorem expm1_tanh (x : EReal) : Ideal.tanh (half * x) * (Ideal.exp x + 1) = Ideal.expm1 x := by
  rw [half_eq]
  unfold Ideal.expm1
  induction x using EReal.rec with
  | bot =>
    rw [EReal.coe_mul_bot_of_pos (by norm_num)]
    simp
  | top =>
    rw [EReal.coe_mul_top_of_pos (by norm_num)]
    have e : (⊤ : EReal) + 1 = ⊤ := EReal.top_add_coe 1
    have e' : (⊤ : EReal) - 1 = ⊤ := EReal.top_sub_coe 1
    rw [Ideal.tanh_top, Ideal.exp_top, e, e', one_mul]
  | coe r =>
    rw [← EReal.coe_mul, Ideal.tanh_coe, Ideal.exp_coe, ← EReal.coe_one, ← EReal.coe_add, ← EReal.coe_mul, ← EReal.coe_sub]
    refine congrArg _ ?_
    have e1 : Real.exp r = Real.exp (1 / 2 * r) * Real.exp (1 / 2 * r) := by rw [← Real.exp_add]; ring_nf
    have e2 : Real.exp (1 / 2 * r) * Real.exp (-(1 / 2 * r)) = 1 := by rw [← Real.exp_add]; simp
    have p1 : 0 < Real.exp (1 / 2 * r) := Real.exp_pos _
    have p2 : 0 < Real.exp (-(1 / 2 * r)) := Real.exp_pos _
    rw [Real.tanh_eq_sinh_div_cosh, Real.sinh_eq, Real.cosh_eq, e1]
    generalize Real.exp (1 / 2 * r) = a at *
    generalize Real.exp (-(1 / 2 * r)) = b at *
    have hs : a + b ≠ 0 := by positivity
    field_simp
    linear_combination (-2 * a) * e2

/-- The smaller of a number and zero, less the logarithm term, is the negated larger one with it. -/
theorem log_sigmoid_min (x : EReal) (l : EReal) (hl : l ≠ ⊥) (hl' : l ≠ ⊤) : min x 0 - l = -(max (-x) 0 + l) := by
  induction l using EReal.rec with
  | bot => exact absurd rfl hl
  | top => exact absurd rfl hl'
  | coe r =>
    induction x using EReal.rec with
    | bot => simp
    | top => simp
    | coe s =>
      rw [← EReal.coe_neg, ← EReal.coe_zero, ← EReal.coe_strictMono.monotone.map_min, ← EReal.coe_strictMono.monotone.map_max, ← EReal.coe_sub, ← EReal.coe_add, ← EReal.coe_neg]
      refine congrArg _ ?_
      rcases le_total s 0 with h | h
      · rw [min_eq_left h, max_eq_left (by linarith)]; ring
      · rw [min_eq_right h, max_eq_right (by linarith)]; ring

/-- `log (1 + e^a)` is a real number when `a` is not infinite above. -/
theorem log1p_exp_real (a : EReal) (h : a ≠ ⊤) : ∃ r : ℝ, Ideal.log1p (Ideal.exp a) = r := by
  unfold Ideal.log1p
  induction a using EReal.rec with
  | bot => exact ⟨0, by rw [Ideal.exp_bot, add_zero, ← EReal.coe_one, Ideal.log_coe, if_neg (by norm_num)]; simp⟩
  | top => exact absurd rfl h
  | coe r =>
    refine ⟨Real.log (1 + Real.exp r), ?_⟩
    have hp : (0 : ℝ) < 1 + Real.exp r := by positivity
    rw [Ideal.exp_coe, ← EReal.coe_one, ← EReal.coe_add, Ideal.log_coe, if_neg (not_le.mpr hp)]

/-- The logarithm of the logistic function in the two ways it is written. -/
theorem log_sigmoid (x : EReal) : min x 0 - Ideal.log1p (Ideal.exp (0 - FloatOps.absf (F := Ideal) (φ := .f32) x))
    = -(max (-x) 0 + Ideal.log1p (Ideal.exp (-FloatOps.absf (F := Ideal) (φ := .f32) (-x)))) := by
  have e : FloatOps.absf (F := Ideal) (φ := .f32) (-x) = FloatOps.absf (F := Ideal) (φ := .f32) x := by
    show max (-x) (- -x) = max x (-x)
    rw [neg_neg, max_comm]
  have hx : -FloatOps.absf (F := Ideal) (φ := .f32) x ≠ ⊤ := by
    show -(max x (-x)) ≠ ⊤
    intro h
    have hb : max x (-x) = ⊥ := by rw [← neg_neg (max x (-x)), h, EReal.neg_top]
    have h1 : x = ⊥ := le_bot_iff.mp (hb ▸ le_max_left x (-x))
    have h2 : -x = ⊥ := le_bot_iff.mp (hb ▸ le_max_right x (-x))
    rw [h1] at h2
    exact absurd h2 (by simp)
  obtain ⟨r, hr⟩ := log1p_exp_real _ hx
  rw [e, zero_sub, hr]
  exact log_sigmoid_min x r (EReal.coe_ne_bot r) (EReal.coe_ne_top r)

/-- A step of the state with the exponential written out. -/
theorem step_eq (lam r i x h : EReal) : step lam r i x h
    = Ideal.exp (logDecay lam r) * h + Ideal.sqrt (-Ideal.expm1 (two * logDecay lam r)) * (i * x) := by
  unfold step
  rw [expm1_tanh, zero_sub]

/-- The activation with the half applied last. -/
theorem gelu_eq (g : EReal) : gelu g
    = g * (half * (1 + Ideal.tanh (Ideal.ofBits .f32 0x3F4C422A#32 * (g + Ideal.ofBits .f32 0x3D372713#32 * (g * g * g))))) := by
  unfold gelu
  rw [mul_comm half g, mul_assoc]

end Cert.Gates

end
-- ==== Proof.LruBlock.lean ====
/- The gated recurrence of the sample group: the state after its four steps and the rows next to the gate branch. -/
module

public import proofs.«01_k».proof.Proof.Gen.LruSampleIdeal.Frame
public import proofs.«01_k».proof.Proof.Gates
public import proofs.«01_k».proof.Defs
public import Idealize.ShloMosaic.Lib.Pipeline.ValueKit

@[expose] public section

set_option maxRecDepth 16384

noncomputable section

namespace Cert.LruSampleIdeal.Recur

open Cert.LruSampleIdeal Cert.LruSampleIdeal.Gen Cert.Gates Idealize.ShloMosaic Idealize.ShloMosaic.TcCoe Idealize.SL.Sem
open Idealize.ShloMosaic.Pipeline (Dat)

/-! One block, over any arrays. -/

variable (x0 x1 : FVec Ideal S4x128x256 .f32) (x2 : FVec Ideal S3x128x256 .f32) (x3 : FVec Ideal S128x256 .f32) (x4 : FVec Ideal S4x256 .f32)
  (x5 : FVec Ideal S1x256 .f32) (x6 x7 : FVec Ideal S2x128x128 .bf16) (x8 x9 x10 : FVec Ideal S1x256 .f32)

/-- Row `n` of the convolution's state followed by the block's four steps. -/
def row (n : ℕ) (i : Fin 128) (k : Fin 256) : EReal :=
  if h : n < 3 then x2 (ix3 ⟨n, h⟩ i k) else if h' : n - 3 < 4 then x0 (ix3 ⟨n - 3, h'⟩ i k) else 0

/-- The convolution's output at step `n`. -/
def conv (n : ℕ) (i : Fin 128) (k : Fin 256) : EReal :=
  row x0 x2 n i k * x4 (ix2 0 k) + row x0 x2 (n + 1) i k * x4 (ix2 1 k) + row x0 x2 (n + 2) i k * x4 (ix2 2 k)
    + row x0 x2 (n + 3) i k * x4 (ix2 3 k) + x5 (ix2 0 k)

/-- Lane `k` of the half that column `q` lies in. -/
def lane (q : Fin 256) (k : Fin 128) : Fin 256 := ⟨q.val / 128 * 128 + k.val, by omega⟩

/-- A row of 256 columns against the two square matrices, one for each half. -/
def dotHalf (v : Fin 256 → EReal) (w : FVec Ideal S2x128x128 .bf16) (q : Fin 256) : EReal :=
  ∑ k : Fin 128, v (lane q k) * w (ix3 ⟨q.val / 128, by omega⟩ k ⟨q.val % 128, by omega⟩)

/-- The two ways a half can lie. -/
theorem halves (v : Fin 256 → EReal) (w : FVec Ideal S2x128x128 .bf16) (q : Fin 256) :
    (if h : q.val < 128 then ∑ k : Fin 128, v ⟨k.val, by omega⟩ * w (ix3 0 k ⟨q.val, h⟩)
      else ∑ k : Fin 128, v ⟨128 + k.val, by omega⟩ * w (ix3 1 k ⟨q.val - 128, by omega⟩)) = dotHalf v w q := by
  have hq : q.val < 256 := q.isLt
  unfold dotHalf
  by_cases h : q.val < 128
  · rw [dif_pos h]
    refine congrArg (fun a : EReal => a) (Finset.sum_congr rfl fun k _ => ?_)
    refine congrArg₂ (fun a b : EReal => a * b) (congrArg v (Fin.ext ?_)) (congrArg w ?_)
    · show k.val = q.val / 128 * 128 + k.val
      omega
    · funext a
      match a with
      | 0 => exact Fin.ext (by show 0 = q.val / 128; omega)
      | 1 => rfl
      | 2 => exact Fin.ext (by show q.val = q.val % 128; omega)
  · rw [dif_neg h]
    refine congrArg (fun a : EReal => a) (Finset.sum_congr rfl fun k _ => ?_)
    refine congrArg₂ (fun a b : EReal => a * b) (congrArg v (Fin.ext ?_)) (congrArg w ?_)
    · show 128 + k.val = q.val / 128 * 128 + k.val
      omega
    · funext a
      match a with
      | 0 => exact Fin.ext (by show 1 = q.val / 128; omega)
      | 1 => rfl
      | 2 => exact Fin.ext (by show q.val - 128 = q.val % 128; omega)

/-- The two gates of step `n`. -/
def gateA (n : ℕ) (i : Fin 128) (k : Fin 256) : EReal := gate (dotHalf (conv x0 x2 x4 x5 n i) x6 k + x8 (ix2 0 k))

/-- The state before step `n`. -/
def state (n : ℕ) (i : Fin 128) (k : Fin 256) : EReal :=
  match n with
  | 0 => x3 (ix2 i k)
  | n + 1 => step (x10 (ix2 0 k)) (gateA x0 x2 x4 x5 x6 x8 n i k) (gateA x0 x2 x4 x5 x7 x9 n i k) (conv x0 x2 x4 x5 n i k) (state n i k)

theorem conv_0 (i : Fin 128) (k : Fin 256) : k0_pay65 (F := Ideal) x0 x1 x2 x3 x4 x5 x6 x7 x8 x9 x10 (ix2 i k) = conv x0 x2 x4 x5 0 i k := by
  unfold k0_pay65
  pointwise [k0_pay2, k0_pay7, k0_pay3, k0_pay4, k0_pay6]
  rfl

theorem conv_1 (i : Fin 128) (k : Fin 256) : k0_pay19 (F := Ideal) (k0_pay60 x0 x1 x2 x3 x4 x5 x6 x7 x8 x9 x10) (k0_pay61 x0 x1 x2 x3 x4 x5 x6 x7 x8 x9 x10) (k0_pay62 x0 x1 x2 x3 x4 x5 x6 x7 x8 x9 x10) (k0_pay64 x0 x1 x2 x3 x4 x5 x6 x7 x8 x9 x10) (View.ld x0 r0_9) (View.ld x5 r0_6) (ix2 i k)
    = conv x0 x2 x4 x5 1 i k := by
  unfold k0_pay60 k0_pay61 k0_pay62 k0_pay64
  pointwise [k0_pay19, k0_pay2, k0_pay3, k0_pay4, k0_pay6, k0_pay18]
  rfl

theorem conv_1' (i : Fin 128) (k : Fin 256) : k0_pay71 (F := Ideal) x0 x1 x2 x3 x4 x5 x6 x7 x8 x9 x10 (ix2 i k) = conv x0 x2 x4 x5 1 i k := conv_1 x0 x1 x2 x3 x4 x5 x6 x7 x8 x9 x10 i k

theorem conv_2 (i : Fin 128) (k : Fin 256) : k0_pay35 (F := Ideal) (k0_pay60 x0 x1 x2 x3 x4 x5 x6 x7 x8 x9 x10) (k0_pay64 x0 x1 x2 x3 x4 x5 x6 x7 x8 x9 x10) (k0_pay70 x0 x1 x2 x3 x4 x5 x6 x7 x8 x9 x10) (k0_pay79 x0 x1 x2 x3 x4 x5 x6 x7 x8 x9 x10) (k0_pay80 x0 x1 x2 x3 x4 x5 x6 x7 x8 x9 x10) (k0_pay81 x0 x1 x2 x3 x4 x5 x6 x7 x8 x9 x10) (View.ld x5 r0_6) (ix2 i k)
    = conv x0 x2 x4 x5 2 i k := by
  unfold k0_pay80 k0_pay81 k0_pay60 k0_pay62 k0_pay64 k0_pay70 k0_pay79
  pointwise [k0_pay35, k0_pay33, k0_pay34, k0_pay32, k0_pay2, k0_pay4, k0_pay6, k0_pay18]
  rfl

theorem conv_3 (i : Fin 128) (k : Fin 256) : k0_pay88 (F := Ideal) x0 x1 x2 x3 x4 x5 x6 x7 x8 x9 x10 (ix2 i k) = conv x0 x2 x4 x5 3 i k := by
  unfold k0_pay88 k0_pay60 k0_pay64 k0_pay70 k0_pay79
  pointwise [k0_pay50, k0_pay2, k0_pay6, k0_pay18, k0_pay32]
  rfl

theorem dot_of (f g : Fin 256 → EReal) (h : ∀ k, f k = g k) (w : FVec Ideal S2x128x128 .bf16) (q : Fin 256) : dotHalf f w q = dotHalf g w q := by
  rw [funext h]

/-! The gates. -/

theorem reset_0 (i : Fin 128) (k : Fin 256) : k0_pay67 (F := Ideal) x0 x1 x2 x3 x4 x5 x6 x7 x8 x9 x10 (ix2 i k) = gateA x0 x2 x4 x5 x6 x8 0 i k := by
  unfold k0_pay67
  pointwise [k0_pay13, k0_pay11, k0_pay12, k0_pay8, conv_0]
  exact congrArg (fun a : EReal => gate (a + x8 (ix2 0 k))) (halves (conv x0 x2 x4 x5 0 i) x6 k)

theorem input_0 (i : Fin 128) (k : Fin 256) : k0_pay68 (F := Ideal) x0 x1 x2 x3 x4 x5 x6 x7 x8 x9 x10 (ix2 i k) = gateA x0 x2 x4 x5 x7 x9 0 i k := by
  unfold k0_pay68
  pointwise [k0_pay14, k0_pay11, k0_pay12, k0_pay9, conv_0]
  exact congrArg (fun a : EReal => gate (a + x9 (ix2 0 k))) (halves (conv x0 x2 x4 x5 0 i) x7 k)

theorem state_1 (i : Fin 128) (k : Fin 256) : k0_pay69 (F := Ideal) x0 x1 x2 x3 x4 x5 x6 x7 x8 x9 x10 (ix2 i k) = state x0 x2 x3 x4 x5 x6 x7 x8 x9 x10 1 i k := by
  unfold k0_pay69 k0_pay63 k0_pay66
  pointwise [k0_pay15, k0_pay5, k0_pay10, reset_0, input_0, conv_0]
  rfl

theorem decay_1 (i : Fin 128) (k : Fin 256) : k0_pay76 (F := Ideal) x0 x1 x2 x3 x4 x5 x6 x7 x8 x9 x10 (ix2 i k) = logDecay (x10 (ix2 0 k)) (gateA x0 x2 x4 x5 x6 x8 1 i k) := by
  unfold k0_pay76 k0_pay72 k0_pay73 k0_pay74
  pointwise [k0_pay28, k0_pay20, k0_pay22, k0_pay24, k0_pay23, k0_pay26, conv_1, conv_1']
  exact congrArg (fun a : EReal => logDecay (x10 (ix2 0 k)) (gate (a + x8 (ix2 0 k)))) (halves (conv x0 x2 x4 x5 1 i) x6 k)

theorem input_1 (i : Fin 128) (k : Fin 256) : k0_pay75 (F := Ideal) x0 x1 x2 x3 x4 x5 x6 x7 x8 x9 x10 (ix2 i k) = gateA x0 x2 x4 x5 x7 x9 1 i k := by
  unfold k0_pay75
  pointwise [k0_pay27, k0_pay21, k0_pay23, k0_pay25, k0_pay26, conv_1, conv_1']
  exact congrArg (fun a : EReal => gate (a + x9 (ix2 0 k))) (halves (conv x0 x2 x4 x5 1 i) x7 k)

theorem factor_1 (i : Fin 128) (k : Fin 256) : k0_pay77 (F := Ideal) x0 x1 x2 x3 x4 x5 x6 x7 x8 x9 x10 (ix2 i k) = Ideal.exp (logDecay (x10 (ix2 0 k)) (gateA x0 x2 x4 x5 x6 x8 1 i k)) :=
  congrArg Ideal.exp (decay_1 x0 x1 x2 x3 x4 x5 x6 x7 x8 x9 x10 i k)

theorem state_2 (i : Fin 128) (k : Fin 256) : k0_pay78 (F := Ideal) x0 x1 x2 x3 x4 x5 x6 x7 x8 x9 x10 (ix2 i k) = state x0 x2 x3 x4 x5 x6 x7 x8 x9 x10 2 i k := by
  unfold k0_pay78
  pointwise [k0_pay30, factor_1, decay_1, input_1, conv_1', state_1]
  rfl

theorem decay_2 (i : Fin 128) (k : Fin 256) : k0_pay45 (F := Ideal) (k0_pay82 x0 x1 x2 x3 x4 x5 x6 x7 x8 x9 x10) (k0_pay83 x0 x1 x2 x3 x4 x5 x6 x7 x8 x9 x10) (k0_pay84 x0 x1 x2 x3 x4 x5 x6 x7 x8 x9 x10) (k0_pay85 x0 x1 x2 x3 x4 x5 x6 x7 x8 x9 x10) (ix2 i k)
    = logDecay (x10 (ix2 0 k)) (gateA x0 x2 x4 x5 x6 x8 2 i k) := by
  unfold k0_pay82 k0_pay83 k0_pay84 k0_pay85
  pointwise [k0_pay45, k0_pay36, k0_pay38, k0_pay40, k0_pay43, k0_pay39, k0_pay42, conv_2]
  exact congrArg (fun a : EReal => logDecay (x10 (ix2 0 k)) (gate (a + x8 (ix2 0 k)))) (halves (conv x0 x2 x4 x5 2 i) x6 k)

theorem factor_2 (i : Fin 128) (k : Fin 256) : k0_pay86 (F := Ideal) x0 x1 x2 x3 x4 x5 x6 x7 x8 x9 x10 (ix2 i k) = Ideal.exp (logDecay (x10 (ix2 0 k)) (gateA x0 x2 x4 x5 x6 x8 2 i k)) :=
  congrArg Ideal.exp (decay_2 x0 x1 x2 x3 x4 x5 x6 x7 x8 x9 x10 i k)

theorem added_2 (i : Fin 128) (k : Fin 256) : k0_pay87 (F := Ideal) x0 x1 x2 x3 x4 x5 x6 x7 x8 x9 x10 (ix2 i k)
    = Ideal.sqrt (0 - Ideal.tanh (half * (two * logDecay (x10 (ix2 0 k)) (gateA x0 x2 x4 x5 x6 x8 2 i k)))
      * (Ideal.exp (two * logDecay (x10 (ix2 0 k)) (gateA x0 x2 x4 x5 x6 x8 2 i k)) + 1)) * (gateA x0 x2 x4 x5 x7 x9 2 i k * conv x0 x2 x4 x5 2 i k) := by
  unfold k0_pay87
  pointwise [k0_pay47, decay_2, k0_pay37, k0_pay41, k0_pay44, k0_pay39, k0_pay42, conv_2]
  exact congrArg (fun a : EReal => _ * (gate (a + x9 (ix2 0 k)) * _)) (halves (conv x0 x2 x4 x5 2 i) x7 k)

theorem state_3 (i : Fin 128) (k : Fin 256) : k0_pay48 (F := Ideal) (k0_pay78 x0 x1 x2 x3 x4 x5 x6 x7 x8 x9 x10) (k0_pay86 x0 x1 x2 x3 x4 x5 x6 x7 x8 x9 x10) (k0_pay87 x0 x1 x2 x3 x4 x5 x6 x7 x8 x9 x10) (ix2 i k)
    = state x0 x2 x3 x4 x5 x6 x7 x8 x9 x10 3 i k := by
  pointwise [k0_pay48, factor_2, added_2, state_2]
  rfl

theorem reset_3 (i : Fin 128) (k : Fin 256) : k0_pay54 (F := Ideal) (k0_pay88 x0 x1 x2 x3 x4 x5 x6 x7 x8 x9 x10) (View.ld x8 r0_6) (View.ld x6 r0_7) (View.ld x6 r0_8) (ix2 i k)
    = gateA x0 x2 x4 x5 x6 x8 3 i k := by
  pointwise [k0_pay54, k0_pay52, k0_pay53, conv_3]
  exact congrArg (fun a : EReal => gate (a + x8 (ix2 0 k))) (halves (conv x0 x2 x4 x5 3 i) x6 k)

theorem input_3 (i : Fin 128) (k : Fin 256) : k0_pay55 (F := Ideal) (k0_pay88 x0 x1 x2 x3 x4 x5 x6 x7 x8 x9 x10) (View.ld x9 r0_6) (View.ld x7 r0_7) (View.ld x7 r0_8) (ix2 i k)
    = dotHalf (conv x0 x2 x4 x5 3 i) x7 k + x9 (ix2 0 k) := by
  pointwise [k0_pay55, k0_pay52, k0_pay53, conv_3]
  exact congrArg (fun a : EReal => a + x9 (ix2 0 k)) (halves (conv x0 x2 x4 x5 3 i) x7 k)

theorem state_4 (i : Fin 128) (k : Fin 256) : k0_pay89 (F := Ideal) x0 x1 x2 x3 x4 x5 x6 x7 x8 x9 x10 (ix2 i k) = state x0 x2 x3 x4 x5 x6 x7 x8 x9 x10 4 i k := by
  unfold k0_pay89
  pointwise [k0_pay56, k0_pay51, reset_3, input_3, conv_3, state_3]
  rfl

/-! The two blocks the body writes. -/

theorem last_at (y : S128x256.Idx) : out0_12 (F := Ideal) x0 x1 x2 x3 x4 x5 x6 x7 x8 x9 x10 y = state x0 x2 x3 x4 x5 x6 x7 x8 x9 x10 4 (y 0) (y 1) := by
  unfold out0_12
  canon_tiles x h
  case piece0 =>
    have e : y = ix2 (x 0) (x 1) := by
      funext a
      match a with
      | 0 => exact Fin.ext (by simpa using h0)
      | 1 => exact Fin.ext (by simpa using h1)
    rw [e]
    refine Eq.trans (congrArg (k0_pay89 (F := Ideal) x0 x1 x2 x3 x4 x5 x6 x7 x8 x9 x10) ?_) (state_4 x0 x1 x2 x3 x4 x5 x6 x7 x8 x9 x10 (x 0) (x 1))
    funext a
    match a with
    | 0 => rfl
    | 1 => rfl

theorem at_step (y : S4x128x256.Idx) (x : S1x128x256.Idx) (n : Fin 4) (h0 : (y 0).val = n.val + (x 0).val) (h1 : (y 1).val = (x 1).val)
    (h2 : (y 2).val = (x 2).val) : y = ix3 n (x 1) (x 2) := by
  have hx : (x 0).val < 1 := (x 0).isLt
  funext a
  match a with
  | 0 => exact Fin.ext (by show (y 0).val = n.val; omega)
  | 1 => exact Fin.ext h1
  | 2 => exact Fin.ext h2

theorem rows_at (y : S4x128x256.Idx) : out0_11 (F := Ideal) x0 x1 x2 x3 x4 x5 x6 x7 x8 x9 x10 y
    = state x0 x2 x3 x4 x5 x6 x7 x8 x9 x10 ((y 0).val + 1) (y 1) (y 2) * gelu (x1 y) := by
  unfold out0_11
  canon_tiles x h
  case piece0 =>
    rw [at_step y x 3 h0 h1 h2]
    pointwise [k0_pay1, k0_pay57, k0_pay58, k0_pay59, state_4]
    rfl
  case piece1 =>
    rw [at_step y x 2 h0 h1 h2]
    pointwise [k0_pay49, state_3]
    rfl
  case piece2 =>
    rw [at_step y x 1 h0 h1 h2]
    pointwise [k0_pay31, k0_pay30, factor_1, decay_1, input_1, conv_1', state_1]
    rfl
  case piece3 =>
    rw [at_step y x 0 (by simpa using h0) h1 h2]
    pointwise [k0_pay17, k0_pay16, k0_pay15, k0_pay63, k0_pay66, k0_pay5, k0_pay10, reset_0, input_0, conv_0]
    rfl

end Cert.LruSampleIdeal.Recur

end
-- ==== Proof.LruSample.lean ====
/- The gated recurrence of the sample group over the whole width, and its reference. -/
module

public import proofs.«01_k».proof.Proof.LruBlock
public import proofs.«01_k».proof.Proof.Gen.LruSampleRefIdeal.Run
public import proofs.«01_k».proof.Proof.Gen.LruSampleRefIdeal.Read

@[expose] public section

set_option maxRecDepth 16384

noncomputable section

namespace Cert.LruSampleIdeal.Recur

open Cert.LruSampleIdeal Cert.LruSampleIdeal.Gen Cert.Gates Idealize.ShloMosaic Idealize.ShloMosaic.TcCoe Idealize.SL.Sem

/-! The recurrence over the whole width. -/

variable (u : FVec Ideal S8704x4096 .f32) (s : FVec Ideal S1x128x3x2048 .f32) (f : FVec Ideal S1x128x2048 .f32) (w : FVec Ideal S1x4x2048 .f32)
  (b : FVec Ideal S1x2048 .f32) (p q : FVec Ideal S1x16x128x128 .f32) (bp bq l : FVec Ideal S1x2048 .f32)

/-- The convolution's input at step `n` of sequence `i`. -/
def stepIn (n : Fin 4) (i : Fin 128) (k : Fin 2048) : EReal := u (ix2 ⟨8192 + (i.val * 4 + n.val), by omega⟩ ⟨k.val, by omega⟩)

/-- The gate branch's input there. -/
def stepGate (n : Fin 4) (i : Fin 128) (k : Fin 2048) : EReal := u (ix2 ⟨8192 + (i.val * 4 + n.val), by omega⟩ ⟨2048 + k.val, by omega⟩)

/-- Row `n` of the convolution's state followed by the four steps. -/
def wideRow (n : ℕ) (i : Fin 128) (k : Fin 2048) : EReal :=
  if h : n < 3 then s (ix4 0 i ⟨n, h⟩ k) else if h' : n - 3 < 4 then stepIn u ⟨n - 3, h'⟩ i k else 0

/-- The convolution's output at step `n`. -/
def wideConv (n : ℕ) (i : Fin 128) (k : Fin 2048) : EReal :=
  wideRow u s n i k * w (ix3 0 0 k) + wideRow u s (n + 1) i k * w (ix3 0 1 k) + wideRow u s (n + 2) i k * w (ix3 0 2 k)
    + wideRow u s (n + 3) i k * w (ix3 0 3 k) + b (ix2 0 k)

/-- A row against the square matrices, one for every 128 columns. -/
def wideDot (v : Fin 2048 → EReal) (a : FVec Ideal S1x16x128x128 .f32) (k : Fin 2048) : EReal :=
  ∑ j : Fin 128, v ⟨k.val / 128 * 128 + j.val, by omega⟩ * a (ix4 0 ⟨k.val / 128, by omega⟩ j ⟨k.val % 128, by omega⟩)

/-- A gate at step `n`. -/
def wideGate (n : ℕ) (i : Fin 128) (k : Fin 2048) : EReal := gate (wideDot (wideConv u s w b n i) p k + bp (ix2 0 k))

/-- The state before step `n`. -/
def wideState (n : ℕ) (i : Fin 128) (k : Fin 2048) : EReal :=
  match n with
  | 0 => f (ix3 0 i k)
  | n + 1 => step (l (ix2 0 k)) (wideGate u s w b p bp n i k) (wideGate u s w b q bq n i k) (wideConv u s w b n i k) (wideState n i k)

/-! The reference computes it. -/

section Reference
open Cert.LruSampleRefIdeal.Read

theorem ref_row (i : Fin 128) (n : Fin 7) (k : Fin 2048) : val_main_v6 (F := Ideal) u s (ix3 i n k) = wideRow u s n i k := by
  pointwise [val_main_v6, val_main_v5, val_main_v1, val_main_v0, wideRow, stepIn]
  have hn : n.val < 7 := n.isLt
  by_cases h : n.val < 3
  · rw [dif_pos h, dif_pos h]
  · rw [dif_neg h, dif_neg h, dif_pos (by omega)]

theorem ref_conv (i : Fin 128) (n : Fin 4) (k : Fin 2048) : val_main_v37 (F := Ideal) u s w b (ix3 i n k) = wideConv u s w b n i k := by
  unfold wideConv
  rw [Nat.add_comm n.val 1, Nat.add_comm n.val 2, Nat.add_comm n.val 3]
  pointwise [val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v4, ref_row]

theorem ref_dot_p (i : Fin 128) (n : Fin 4) (k : Fin 2048) : val_main_v42 (F := Ideal) u s w b p (ix3 i n k) = wideDot (wideConv u s w b n i) p k := by
  pointwise [val_main_v42, val_main_v41, val_main_v40, val_main_v39, val_main_v38, ref_conv, wideDot]
  refine congrArg (fun a : EReal => a) (Finset.sum_congr rfl fun j _ => ?_)
  exact mul_comm _ _

theorem ref_dot_q (i : Fin 128) (n : Fin 4) (k : Fin 2048) : val_main_v56 (F := Ideal) u s w b q (ix3 i n k) = wideDot (wideConv u s w b n i) q k := by
  pointwise [val_main_v56, val_main_v55, val_main_v54, val_main_v53, val_main_v38, ref_conv, wideDot]
  refine congrArg (fun a : EReal => a) (Finset.sum_congr rfl fun j _ => ?_)
  exact mul_comm _ _

theorem ref_gate_p (i : Fin 128) (n : Fin 4) (k : Fin 2048) : val_main_v52 (F := Ideal) u s w b p bp (ix3 i n k) = wideGate u s w b p bp n i k := by
  unfold wideGate gate
  rw [logistic_tanh]
  pointwise [val_main_v52, val_main_v51, val_main_v50, val_main_v49, val_main_v48, val_main_v47, val_main_v46, val_main_v45, val_main_v44, val_main_v43,
    val_main_cst, val_main_cst_0, ref_dot_p]

theorem ref_gate_q (i : Fin 128) (n : Fin 4) (k : Fin 2048) : val_main_v66 (F := Ideal) u s w b q bq (ix3 i n k) = wideGate u s w b q bq n i k := by
  unfold wideGate gate
  rw [logistic_tanh]
  pointwise [val_main_v66, val_main_v65, val_main_v64, val_main_v63, val_main_v62, val_main_v61, val_main_v60, val_main_v59, val_main_v58, val_main_v57,
    val_main_cst_1, val_main_cst_2, ref_dot_q]

theorem ref_sigmoid (k : Fin 2048) : val_main_v70 (F := Ideal) l (ix1 k)
    = min (l (ix2 0 k)) 0 - Ideal.log1p (Ideal.exp (0 - FloatOps.absf (F := Ideal) (φ := .f32) (l (ix2 0 k)))) := by
  pointwise [val_main_v70, val_main_call0_v1, val_main_call0_v0, val_main_v69, val_main_call0_call0_v11, val_main_call0_call0_v10, val_main_call0_call0_v9,
    val_main_call0_call0_v8, val_main_call0_call0_v7, val_main_call0_call0_v6, val_main_call0_call0_v5, val_main_call0_call0_v4, val_main_call0_call0_v3,
    val_main_call0_call0_v2, val_main_call0_call0_v1, val_main_call0_call0_v0, val_main_call0_call0_cst]
  rw [if_neg (not_not.mpr rfl)]
  exact (log_sigmoid _).symm

theorem ref_decay (i : Fin 128) (n : Fin 4) (k : Fin 2048) : val_main_v73 (F := Ideal) u s w b p bp l (ix3 i n k)
    = logDecay (l (ix2 0 k)) (wideGate u s w b p bp n i k) := by
  pointwise [val_main_v73, val_main_v72, val_main_v71, val_main_v68, val_main_v67, val_main_cst_3, ref_gate_p, ref_sigmoid, logDecay]

theorem ref_added (i : Fin 128) (n : Fin 4) (k : Fin 2048) : val_main_v81 (F := Ideal) u s w b p bp q bq l (ix3 i n k)
    = Ideal.sqrt (-Ideal.expm1 (two * logDecay (l (ix2 0 k)) (wideGate u s w b p bp n i k))) * (wideGate u s w b q bq n i k * wideConv u s w b n i k) := by
  pointwise [val_main_v81, val_main_v80, val_main_v79, val_main_v78, val_main_v77, val_main_v76, val_main_v75, val_main_cst_4, ref_decay, ref_gate_q, ref_conv]
  rfl

theorem ref_state_1 (i : Fin 128) (k : Fin 2048) : val_main_v88 (F := Ideal) u s f w b p bp q bq l (ix2 i k) = wideState u s f w b p q bp bq l 1 i k := by
  unfold wideState wideState
  rw [step_eq]
  pointwise [val_main_v88, val_main_v87, val_main_v86, val_main_v85, val_main_v84, val_main_v83, val_main_v82, val_main_v74, ref_decay, ref_added]

theorem ref_state_2 (i : Fin 128) (k : Fin 2048) : val_main_v94 (F := Ideal) u s f w b p bp q bq l (ix2 i k) = wideState u s f w b p q bp bq l 2 i k := by
  rw [wideState, step_eq]
  pointwise [val_main_v94, val_main_v93, val_main_v92, val_main_v91, val_main_v90, val_main_v89, val_main_v74, ref_decay, ref_added, ref_state_1]

theorem ref_state_3 (i : Fin 128) (k : Fin 2048) : val_main_v100 (F := Ideal) u s f w b p bp q bq l (ix2 i k) = wideState u s f w b p q bp bq l 3 i k := by
  rw [wideState, step_eq]
  pointwise [val_main_v100, val_main_v99, val_main_v98, val_main_v97, val_main_v96, val_main_v95, val_main_v74, ref_decay, ref_added, ref_state_2]

theorem ref_state_4 (i : Fin 128) (k : Fin 2048) : val_main_v106 (F := Ideal) u s f w b p bp q bq l (ix2 i k) = wideState u s f w b p q bp bq l 4 i k := by
  rw [wideState, step_eq]
  pointwise [val_main_v106, val_main_v105, val_main_v104, val_main_v103, val_main_v102, val_main_v101, val_main_v74, ref_decay, ref_added, ref_state_3]

theorem ref_gelu (i : Fin 128) (n : Fin 4) (k : Fin 2048) : val_main_v124 (F := Ideal) u (ix3 i n k) = gelu (stepGate u n i k) := by
  rw [gelu_eq]
  pointwise [val_main_v124, val_main_v123, val_main_v122, val_main_v121, val_main_v120, val_main_v119, val_main_v118, val_main_v117, val_main_v116, val_main_v115,
    val_main_v114, val_main_v113, val_main_v112, val_main_cst_5, val_main_cst_6, val_main_cst_7, val_main_cst_8, val_main_v3, val_main_v2, stepGate]

theorem ref_states (i : Fin 128) (n : Fin 4) (k : Fin 2048) : val_main_v111 (F := Ideal) u s f w b p bp q bq l (ix3 i n k)
    = wideState u s f w b p q bp bq l (n.val + 1) i k := by
  match n with
  | 0 => refine Eq.trans ?_ (ref_state_1 u s f w b p q bp bq l i k); pointwise [val_main_v111, val_main_v110, val_main_v109, val_main_v108, val_main_v107]
  | 1 => refine Eq.trans ?_ (ref_state_2 u s f w b p q bp bq l i k); pointwise [val_main_v111, val_main_v110, val_main_v109, val_main_v108, val_main_v107]
  | 2 => refine Eq.trans ?_ (ref_state_3 u s f w b p q bp bq l i k); pointwise [val_main_v111, val_main_v110, val_main_v109, val_main_v108, val_main_v107]
  | 3 => refine Eq.trans ?_ (ref_state_4 u s f w b p q bp bq l i k); pointwise [val_main_v111, val_main_v110, val_main_v109, val_main_v108, val_main_v107]

/-- Row `r` of the outputs is step `r % 4` of sequence `r / 4`. -/
def stepOf (i : S512x2048.Idx) : Fin 4 := ⟨(i 0).val % 4, Nat.mod_lt _ (by decide)⟩
def seqOf (i : S512x2048.Idx) : Fin 128 := ⟨(i 0).val / 4, by have : (i 0).val < 512 := (i 0).isLt; omega⟩

theorem ref_flat (i : S512x2048.Idx) : val_main_v127 (F := Ideal) u s f w b p bp q bq l i
    = val_main_v111 (F := Ideal) u s f w b p bp q bq l (ix3 (seqOf i) (stepOf i) (i 1)) * val_main_v124 (F := Ideal) u (ix3 (seqOf i) (stepOf i) (i 1)) := by
  pointwise [val_main_v127, val_main_v126, val_main_v125, stepOf, seqOf]

end Reference

/-- The rows of the recurrence next to the gate branch, the step first. -/
def gated : FVec Ideal S4x128x2048 .f32 := fun j => wideState u s f w b p q bp bq l ((j 0).val + 1) (j 1) (j 2) * gelu (stepGate u (j 0) (j 1) (j 2))

/-- The state after the four steps. -/
def last : FVec Ideal S128x2048 .f32 := fun j => wideState u s f w b p q bp bq l 4 (j 0) (j 1)

theorem flat_at (o : FVec Ideal S4x128x2048 .bf16) (i : S512x2048.Idx) :
    (shapeCast _ (transpose S128x4x2048 [1, 0, 2] o transposes_S4x128x2048_S128x4x2048_1_0_2 : FVec Ideal S128x4x2048 .bf16)
      shapeCasts_S128x4x2048_S512x2048 : FVec Ideal S512x2048 .bf16) i = o (ix3 (stepOf i) (seqOf i) (i 1)) := by
  pointwise [stepOf, seqOf]

theorem ref_rows : (shapeCast _ (transpose S128x4x2048 [1, 0, 2] (gated u s f w b p q bp bq l) transposes_S4x128x2048_S128x4x2048_1_0_2 : FVec Ideal S128x4x2048 .bf16)
      shapeCasts_S128x4x2048_S512x2048 : FVec Ideal S512x2048 .bf16) = Cert.LruSampleRefIdeal.Read.val_main_v127 (F := Ideal) u s f w b p bp q bq l := by
  funext i
  refine (flat_at _ i).trans (Eq.trans ?_ (ref_flat u s f w b p q bp bq l i).symm)
  exact congrArg₂ (fun a b : EReal => a * b) (ref_states u s f w b p q bp bq l (seqOf i) (stepOf i) (i 1)).symm (ref_gelu u (seqOf i) (stepOf i) (i 1)).symm

theorem ref_last : (broadcastInDim S1x128x2048 ![1, 2] bcast_S128x2048_S1x128x2048_1_2 (last u s f w b p q bp bq l) : FVec Ideal S1x128x2048 .f32)
    = Cert.LruSampleRefIdeal.Read.val_main_v128 (F := Ideal) u s f w b p bp q bq l := by
  funext i
  have e : Cert.LruSampleRefIdeal.Read.val_main_v128 (F := Ideal) u s f w b p bp q bq l i = wideState u s f w b p q bp bq l 4 (i 1) (i 2) := by
    refine Eq.trans ?_ (ref_state_4 u s f w b p q bp bq l (i 1) (i 2))
    pointwise [Cert.LruSampleRefIdeal.Read.val_main_v128]
    blk_ext
  rw [e]
  pointwise [last]

/-- The convolution's state, as the lines around the pipeline leave it. -/
theorem ref_tail : (broadcastInDim S1x128x3x2048 ![1, 2, 3] bcast_S128x3x2048_S1x128x3x2048_1_2_3 (extractStridedSlice S128x3x2048 ![0, 4, 0]
      (concatenate S128x7x2048 1 [⟨S128x3x2048, (shapeCast _ s shapeCasts_S1x128x3x2048_S128x3x2048 : FVec Ideal S128x3x2048 .f32)⟩,
        ⟨S128x4x2048, (shapeCast _ (extractStridedSlice S512x2048 ![8192, 0] u slices_S8704x4096_S512x2048_8192_0 : FVec Ideal S512x2048 .f32)
          shapeCasts_S512x2048_S128x4x2048 : FVec Ideal S128x4x2048 .f32)⟩]
        concatenates_S128x3x2048_S128x4x2048_S128x7x2048_d1 : FVec Ideal S128x7x2048 .f32) slices_S128x7x2048_S128x3x2048_0_4_0 : FVec Ideal S128x3x2048 .f32) : FVec Ideal S1x128x3x2048 .f32)
      = Cert.LruSampleRefIdeal.Read.val_main_v130 (F := Ideal) u s := by
  funext i
  pointwise [Cert.LruSampleRefIdeal.Read.val_main_v130, Cert.LruSampleRefIdeal.Read.val_main_v129, Cert.LruSampleRefIdeal.Read.val_main_v6,
    Cert.LruSampleRefIdeal.Read.val_main_v5, Cert.LruSampleRefIdeal.Read.val_main_v1, Cert.LruSampleRefIdeal.Read.val_main_v0]

/-! The kernel computes it. -/

section Kernel

variable (m : (ℓ : Loc nD τ sig) → Buf (Elt Ideal) ℓ)

/-- Where each window's block sits in its array at a grid point. -/
theorem idx_0 : ∀ t : Fin cfg0.N, win0_0.index t = ![0, 0, t.val] := (by decide +kernel : ∀ t : Fin grid0.N, _)
theorem idx_1 : ∀ t : Fin cfg0.N, win0_1.index t = ![0, 0, t.val] := (by decide +kernel : ∀ t : Fin grid0.N, _)
theorem idx_2 : ∀ t : Fin cfg0.N, win0_2.index t = ![0, 0, t.val] := (by decide +kernel : ∀ t : Fin grid0.N, _)
theorem idx_3 : ∀ t : Fin cfg0.N, win0_3.index t = ![0, t.val] := (by decide +kernel : ∀ t : Fin grid0.N, _)
theorem idx_4 : ∀ t : Fin cfg0.N, win0_4.index t = ![0, t.val] := (by decide +kernel : ∀ t : Fin grid0.N, _)
theorem idx_5 : ∀ t : Fin cfg0.N, win0_5.index t = ![0, t.val] := (by decide +kernel : ∀ t : Fin grid0.N, _)
theorem idx_6 : ∀ t : Fin cfg0.N, win0_6.index t = ![t.val, 0, 0] := (by decide +kernel : ∀ t : Fin grid0.N, _)
theorem idx_7 : ∀ t : Fin cfg0.N, win0_7.index t = ![t.val, 0, 0] := (by decide +kernel : ∀ t : Fin grid0.N, _)
theorem idx_8 : ∀ t : Fin cfg0.N, win0_8.index t = ![0, t.val] := (by decide +kernel : ∀ t : Fin grid0.N, _)
theorem idx_9 : ∀ t : Fin cfg0.N, win0_9.index t = ![0, t.val] := (by decide +kernel : ∀ t : Fin grid0.N, _)
theorem idx_10 : ∀ t : Fin cfg0.N, win0_10.index t = ![0, t.val] := (by decide +kernel : ∀ t : Fin grid0.N, _)
theorem idx_11 : ∀ t : Fin cfg0.N, win0_11.index t = ![0, 0, t.val] := (by decide +kernel : ∀ t : Fin grid0.N, _)
theorem idx_12 : ∀ t : Fin cfg0.N, win0_12.index t = ![0, t.val] := (by decide +kernel : ∀ t : Fin grid0.N, _)

/-! What the host lines before the pipeline prepare. -/

def steps : FVec Ideal S4x128x2048 .f32 := fun z => stepIn u (z 0) (z 1) (z 2)
def gates : FVec Ideal S4x128x2048 .f32 := fun z => stepGate u (z 0) (z 1) (z 2)
def first : FVec Ideal S3x128x2048 .f32 := fun z => s (ix4 0 (z 1) (z 0) (z 2))
def start : FVec Ideal S128x2048 .f32 := fun z => f (ix3 0 (z 0) (z 1))
def taps : FVec Ideal S4x2048 .f32 := fun z => w (ix3 0 (z 0) (z 1))
def squares : FVec Ideal S16x128x128 .bf16 := fun z => p (ix4 0 (z 0) (z 1) (z 2))

theorem steps_eq : (transpose S4x128x2048 [1, 0, 2] (shapeCast _ (extractStridedSlice S512x2048 ![8192, 0] u slices_S8704x4096_S512x2048_8192_0 : FVec Ideal S512x2048 .f32)
      shapeCasts_S512x2048_S128x4x2048 : FVec Ideal S128x4x2048 .f32) transposes_S128x4x2048_S4x128x2048_1_0_2 : FVec Ideal S4x128x2048 .f32) = steps u := by
  funext z
  pointwise [steps, stepIn]

theorem gates_eq : (transpose S4x128x2048 [1, 0, 2] (shapeCast _ (extractStridedSlice S512x2048 ![8192, 2048] u slices_S8704x4096_S512x2048_8192_2048 : FVec Ideal S512x2048 .f32)
      shapeCasts_S512x2048_S128x4x2048 : FVec Ideal S128x4x2048 .f32) transposes_S128x4x2048_S4x128x2048_1_0_2 : FVec Ideal S4x128x2048 .f32) = gates u := by
  funext z
  pointwise [gates, stepGate]

theorem first_eq : (transpose S3x128x2048 [1, 0, 2] (shapeCast _ s shapeCasts_S1x128x3x2048_S128x3x2048 : FVec Ideal S128x3x2048 .f32)
      transposes_S128x3x2048_S3x128x2048_1_0_2 : FVec Ideal S3x128x2048 .f32) = first s := by
  funext z
  pointwise [first]

theorem start_eq : (shapeCast _ f shapeCasts_S1x128x2048_S128x2048 : FVec Ideal S128x2048 .f32) = start f := by
  funext z
  pointwise [start]

theorem taps_eq : (shapeCast _ w shapeCasts_S1x4x2048_S4x2048 : FVec Ideal S4x2048 .f32) = taps w := by
  funext z
  pointwise [taps]

theorem squares_eq : (truncf .bf16 (shapeCast _ p shapeCasts_S1x16x128x128_S16x128x128 : FVec Ideal S16x128x128 .f32) bitsLt_bf16_f32 : FVec Ideal S16x128x128 .bf16) = squares p := by
  funext z
  pointwise [squares]

theorem lanes_eq : (shapeCast _ (shapeCast _ b shapeCasts_S1x2048_S2048 : FVec Ideal S2048 .f32) shapeCasts_S2048_S1x2048 : FVec Ideal S1x2048 .f32) = b := by
  funext z
  pointwise []
  blk_ext

theorem held_0 (c : Dev nD) : V m c main_v6 = steps (m ((c : Thread nD τ).loc main_arg0)) := by
  refine Eq.trans ?_ (steps_eq _)
  show StableHlo.after hostOps0 (fun b => m (c, b)) (Proc.devRef .tc main_v6) = _
  after_results
  rfl

theorem held_1 (c : Dev nD) : V m c main_v7 = gates (m ((c : Thread nD τ).loc main_arg0)) := by
  refine Eq.trans ?_ (gates_eq _)
  show StableHlo.after hostOps0 (fun b => m (c, b)) (Proc.devRef .tc main_v7) = _
  after_results
  rfl

theorem held_2 (c : Dev nD) : V m c main_v1 = first (m ((c : Thread nD τ).loc main_arg1)) := by
  refine Eq.trans ?_ (first_eq _)
  show StableHlo.after hostOps0 (fun b => m (c, b)) (Proc.devRef .tc main_v1) = _
  after_results
  rfl

theorem held_3 (c : Dev nD) : V m c main_v8 = start (m ((c : Thread nD τ).loc main_arg2)) := by
  refine Eq.trans ?_ (start_eq _)
  show StableHlo.after hostOps0 (fun b => m (c, b)) (Proc.devRef .tc main_v8) = _
  after_results
  rfl

theorem held_4 (c : Dev nD) : V m c main_v9 = taps (m ((c : Thread nD τ).loc main_arg3)) := by
  refine Eq.trans ?_ (taps_eq _)
  show StableHlo.after hostOps0 (fun b => m (c, b)) (Proc.devRef .tc main_v9) = _
  after_results
  rfl

theorem held_5 (c : Dev nD) : V m c main_v11 = m ((c : Thread nD τ).loc main_arg4) := by
  refine Eq.trans ?_ (lanes_eq _)
  show StableHlo.after hostOps0 (fun b => m (c, b)) (Proc.devRef .tc main_v11) = _
  after_results
  rfl

theorem held_6 (c : Dev nD) : V m c main_v13 = squares (m ((c : Thread nD τ).loc main_arg5)) := by
  refine Eq.trans ?_ (squares_eq _)
  show StableHlo.after hostOps0 (fun b => m (c, b)) (Proc.devRef .tc main_v13) = _
  after_results
  rfl

theorem held_7 (c : Dev nD) : V m c main_v15 = squares (m ((c : Thread nD τ).loc main_arg7)) := by
  refine Eq.trans ?_ (squares_eq _)
  show StableHlo.after hostOps0 (fun b => m (c, b)) (Proc.devRef .tc main_v15) = _
  after_results
  rfl

theorem held_8 (c : Dev nD) : V m c main_v17 = m ((c : Thread nD τ).loc main_arg6) := by
  refine Eq.trans ?_ (lanes_eq _)
  show StableHlo.after hostOps0 (fun b => m (c, b)) (Proc.devRef .tc main_v17) = _
  after_results
  rfl

theorem held_9 (c : Dev nD) : V m c main_v19 = m ((c : Thread nD τ).loc main_arg8) := by
  refine Eq.trans ?_ (lanes_eq _)
  show StableHlo.after hostOps0 (fun b => m (c, b)) (Proc.devRef .tc main_v19) = _
  after_results
  rfl

theorem held_10 (c : Dev nD) : V m c main_v21 = m ((c : Thread nD τ).loc main_arg9) := by
  refine Eq.trans ?_ (lanes_eq _)
  show StableHlo.after hostOps0 (fun b => m (c, b)) (Proc.devRef .tc main_v21) = _
  after_results
  rfl

/-! The blocks as entries of those arrays. -/

theorem blk_0 (c : Dev nD) (t : Fin cfg0.N) (z : S4x128x256.Idx) (j : S4x128x2048.Idx)
    (h0 : (j 0).val = (z 0).val) (h1 : (j 1).val = (z 1).val) (h2 : (j 2).val = t.val * 256 + (z 2).val) :
    (show FVec Ideal S4x128x256 .f32 from iblk m c 0 t) z = steps (m ((c : Thread nD τ).loc main_arg0)) j := by
  rw [← held_0 m c]
  blk_point [iblk, idx_0 t]

theorem blk_1 (c : Dev nD) (t : Fin cfg0.N) (z : S4x128x256.Idx) (j : S4x128x2048.Idx)
    (h0 : (j 0).val = (z 0).val) (h1 : (j 1).val = (z 1).val) (h2 : (j 2).val = t.val * 256 + (z 2).val) :
    (show FVec Ideal S4x128x256 .f32 from iblk m c 1 t) z = gates (m ((c : Thread nD τ).loc main_arg0)) j := by
  rw [← held_1 m c]
  blk_point [iblk, idx_1 t]

theorem blk_2 (c : Dev nD) (t : Fin cfg0.N) (z : S3x128x256.Idx) (j : S3x128x2048.Idx)
    (h0 : (j 0).val = (z 0).val) (h1 : (j 1).val = (z 1).val) (h2 : (j 2).val = t.val * 256 + (z 2).val) :
    (show FVec Ideal S3x128x256 .f32 from iblk m c 2 t) z = first (m ((c : Thread nD τ).loc main_arg1)) j := by
  rw [← held_2 m c]
  blk_point [iblk, idx_2 t]

theorem blk_3 (c : Dev nD) (t : Fin cfg0.N) (z : S128x256.Idx) (j : S128x2048.Idx)
    (h0 : (j 0).val = (z 0).val) (h1 : (j 1).val = t.val * 256 + (z 1).val) :
    (show FVec Ideal S128x256 .f32 from iblk m c 3 t) z = start (m ((c : Thread nD τ).loc main_arg2)) j := by
  rw [← held_3 m c]
  blk_point [iblk, idx_3 t]

theorem blk_4 (c : Dev nD) (t : Fin cfg0.N) (z : S4x256.Idx) (j : S4x2048.Idx)
    (h0 : (j 0).val = (z 0).val) (h1 : (j 1).val = t.val * 256 + (z 1).val) :
    (show FVec Ideal S4x256 .f32 from iblk m c 4 t) z = taps (m ((c : Thread nD τ).loc main_arg3)) j := by
  rw [← held_4 m c]
  blk_point [iblk, idx_4 t]

theorem blk_5 (c : Dev nD) (t : Fin cfg0.N) (z : S1x256.Idx) (j : S1x2048.Idx)
    (h0 : (j 0).val = (z 0).val) (h1 : (j 1).val = t.val * 256 + (z 1).val) :
    (show FVec Ideal S1x256 .f32 from iblk m c 5 t) z = (show FVec Ideal S1x2048 .f32 from m ((c : Thread nD τ).loc main_arg4)) j := by
  refine Eq.trans ?_ (congrFun (held_5 m c) j)
  blk_point [iblk, idx_5 t]

theorem blk_6 (c : Dev nD) (t : Fin cfg0.N) (z : S2x128x128.Idx) (j : S16x128x128.Idx)
    (h0 : (j 0).val = t.val * 2 + (z 0).val) (h1 : (j 1).val = (z 1).val) (h2 : (j 2).val = (z 2).val) :
    (show FVec Ideal S2x128x128 .bf16 from iblk m c 6 t) z = squares (m ((c : Thread nD τ).loc main_arg5)) j := by
  rw [← held_6 m c]
  blk_point [iblk, idx_6 t]

theorem blk_7 (c : Dev nD) (t : Fin cfg0.N) (z : S2x128x128.Idx) (j : S16x128x128.Idx)
    (h0 : (j 0).val = t.val * 2 + (z 0).val) (h1 : (j 1).val = (z 1).val) (h2 : (j 2).val = (z 2).val) :
    (show FVec Ideal S2x128x128 .bf16 from iblk m c 7 t) z = squares (m ((c : Thread nD τ).loc main_arg7)) j := by
  rw [← held_7 m c]
  blk_point [iblk, idx_7 t]

theorem blk_8 (c : Dev nD) (t : Fin cfg0.N) (z : S1x256.Idx) (j : S1x2048.Idx)
    (h0 : (j 0).val = (z 0).val) (h1 : (j 1).val = t.val * 256 + (z 1).val) :
    (show FVec Ideal S1x256 .f32 from iblk m c 8 t) z = (show FVec Ideal S1x2048 .f32 from m ((c : Thread nD τ).loc main_arg6)) j := by
  refine Eq.trans ?_ (congrFun (held_8 m c) j)
  blk_point [iblk, idx_8 t]

theorem blk_9 (c : Dev nD) (t : Fin cfg0.N) (z : S1x256.Idx) (j : S1x2048.Idx)
    (h0 : (j 0).val = (z 0).val) (h1 : (j 1).val = t.val * 256 + (z 1).val) :
    (show FVec Ideal S1x256 .f32 from iblk m c 9 t) z = (show FVec Ideal S1x2048 .f32 from m ((c : Thread nD τ).loc main_arg8)) j := by
  refine Eq.trans ?_ (congrFun (held_9 m c) j)
  blk_point [iblk, idx_9 t]

theorem blk_10 (c : Dev nD) (t : Fin cfg0.N) (z : S1x256.Idx) (j : S1x2048.Idx)
    (h0 : (j 0).val = (z 0).val) (h1 : (j 1).val = t.val * 256 + (z 1).val) :
    (show FVec Ideal S1x256 .f32 from iblk m c 10 t) z = (show FVec Ideal S1x2048 .f32 from m ((c : Thread nD τ).loc main_arg9)) j := by
  refine Eq.trans ?_ (congrFun (held_10 m c) j)
  blk_point [iblk, idx_10 t]

/-! One block against the whole width: column `k` of block `t` is column `t * 256 + k`. -/

/-- That column. -/
def col (t : Fin cfg0.N) (k : Fin 256) : Fin 2048 := ⟨t.val * 256 + k.val, by have : t.val < 8 := t.isLt; omega⟩

theorem row_eq (c : Dev nD) (t : Fin cfg0.N) (n : ℕ) (i : Fin 128) (k : Fin 256) :
    row (iblk m c 0 t) (iblk m c 2 t) n i k = wideRow (m ((c : Thread nD τ).loc main_arg0)) (m ((c : Thread nD τ).loc main_arg1)) n i (col t k) := by
  unfold row wideRow
  by_cases h : n < 3
  · rw [dif_pos h, dif_pos h]
    exact blk_2 m c t (ix3 ⟨n, h⟩ i k) (ix3 ⟨n, h⟩ i (col t k)) rfl rfl rfl
  · rw [dif_neg h, dif_neg h]
    by_cases h' : n - 3 < 4
    · rw [dif_pos h', dif_pos h']
      exact blk_0 m c t (ix3 ⟨n - 3, h'⟩ i k) (ix3 ⟨n - 3, h'⟩ i (col t k)) rfl rfl rfl
    · rw [dif_neg h', dif_neg h']

theorem tap_eq (c : Dev nD) (t : Fin cfg0.N) (a : Fin 4) (k : Fin 256) :
    (show FVec Ideal S4x256 .f32 from iblk m c 4 t) (ix2 a k) = (m ((c : Thread nD τ).loc main_arg3)) (ix3 0 a (col t k)) :=
  blk_4 m c t (ix2 a k) (ix2 a (col t k)) rfl rfl

theorem conv_eq (c : Dev nD) (t : Fin cfg0.N) (n : ℕ) (i : Fin 128) (k : Fin 256) :
    conv (iblk m c 0 t) (iblk m c 2 t) (iblk m c 4 t) (iblk m c 5 t) n i k = wideConv (m ((c : Thread nD τ).loc main_arg0)) (m ((c : Thread nD τ).loc main_arg1)) (m ((c : Thread nD τ).loc main_arg3)) (m ((c : Thread nD τ).loc main_arg4)) n i (col t k) := by
  unfold conv wideConv
  rw [row_eq m c t, row_eq m c t, row_eq m c t, row_eq m c t]
  refine congrArg₂ (fun a b : EReal => a + b) (congrArg₂ (fun a b : EReal => a + b) (congrArg₂ (fun a b : EReal => a + b) (congrArg₂ (fun a b : EReal => a + b) ?_ ?_) ?_) ?_) ?_
  · exact congrArg (fun a : EReal => _ * a) (tap_eq m c t 0 k)
  · exact congrArg (fun a : EReal => _ * a) (tap_eq m c t 1 k)
  · exact congrArg (fun a : EReal => _ * a) (tap_eq m c t 2 k)
  · exact congrArg (fun a : EReal => _ * a) (tap_eq m c t 3 k)
  · exact blk_5 m c t (ix2 0 k) (ix2 0 (col t k)) rfl rfl

theorem dot_eq (t : Fin cfg0.N) (v : Fin 256 → EReal) (v' : Fin 2048 → EReal) (x : FVec Ideal S2x128x128 .bf16) (a : FVec Ideal S1x16x128x128 .f32)
    (hv : ∀ k, v k = v' (col t k)) (hx : ∀ (z : S2x128x128.Idx) (j : S16x128x128.Idx), (j 0).val = t.val * 2 + (z 0).val → (j 1).val = (z 1).val →
      (j 2).val = (z 2).val → x z = squares a j) (k : Fin 256) : dotHalf v x k = wideDot v' a (col t k) := by
  have ht : t.val < 8 := t.isLt
  have hc : (col t k).val = t.val * 256 + k.val := rfl
  unfold dotHalf wideDot
  refine congrArg (fun a : EReal => a) (Finset.sum_congr rfl fun j _ => ?_)
  refine congrArg₂ (fun a b : EReal => a * b) ((hv _).trans (congrArg v' (Fin.ext ?_)))
    (hx _ (ix3 ⟨(col t k).val / 128, by omega⟩ j ⟨(col t k).val % 128, by omega⟩) ?_ rfl ?_)
  · show t.val * 256 + (k.val / 128 * 128 + j.val) = (col t k).val / 128 * 128 + j.val
    omega
  · show (col t k).val / 128 = t.val * 2 + k.val / 128
    omega
  · show (col t k).val % 128 = k.val % 128
    omega

theorem gate_p_eq (c : Dev nD) (t : Fin cfg0.N) (n : ℕ) (i : Fin 128) (k : Fin 256) :
    gateA (iblk m c 0 t) (iblk m c 2 t) (iblk m c 4 t) (iblk m c 5 t) (iblk m c 6 t) (iblk m c 8 t) n i k
      = wideGate (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) n i (col t k) :=
  congrArg₂ (fun a b : EReal => gate (a + b)) (dot_eq t _ _ _ _ (conv_eq m c t n i) (fun z j => blk_6 m c t z j) k)
    (blk_8 m c t (ix2 0 k) (ix2 0 (col t k)) rfl rfl)

theorem gate_q_eq (c : Dev nD) (t : Fin cfg0.N) (n : ℕ) (i : Fin 128) (k : Fin 256) :
    gateA (iblk m c 0 t) (iblk m c 2 t) (iblk m c 4 t) (iblk m c 5 t) (iblk m c 7 t) (iblk m c 9 t) n i k
      = wideGate (m ((c : Thread nD τ).loc main_arg0)) (m ((c : Thread nD τ).loc main_arg1)) (m ((c : Thread nD τ).loc main_arg3)) (m ((c : Thread nD τ).loc main_arg4)) (m ((c : Thread nD τ).loc main_arg7)) (m ((c : Thread nD τ).loc main_arg8)) n i (col t k) :=
  congrArg₂ (fun a b : EReal => gate (a + b)) (dot_eq t _ _ _ _ (conv_eq m c t n i) (fun z j => blk_7 m c t z j) k)
    (blk_9 m c t (ix2 0 k) (ix2 0 (col t k)) rfl rfl)

theorem lam_eq (c : Dev nD) (t : Fin cfg0.N) (k : Fin 256) :
    (show FVec Ideal S1x256 .f32 from iblk m c 10 t) (ix2 0 k) = (m ((c : Thread nD τ).loc main_arg9)) (ix2 0 (col t k)) :=
  blk_10 m c t (ix2 0 k) (ix2 0 (col t k)) rfl rfl

theorem state_eq (c : Dev nD) (t : Fin cfg0.N) (n : ℕ) (i : Fin 128) (k : Fin 256) :
    state (iblk m c 0 t) (iblk m c 2 t) (iblk m c 3 t) (iblk m c 4 t) (iblk m c 5 t) (iblk m c 6 t) (iblk m c 7 t) (iblk m c 8 t) (iblk m c 9 t) (iblk m c 10 t) n i k
      = wideState (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg6)) (m ((c : Thread nD τ).loc main_arg8)) (m ((c : Thread nD τ).loc main_arg9)) n i (col t k) := by
  induction n with
  | zero => exact blk_3 m c t (ix2 i k) (ix2 i (col t k)) rfl rfl
  | succ n ih =>
    rw [state, wideState, ih, gate_p_eq m c t, gate_q_eq m c t, conv_eq m c t]
    exact congrArg (fun a : EReal => step a _ _ _ _) (lam_eq m c t k)

/-! The two arrays the pipeline leaves. -/

theorem final_last (c : Dev nD) : (dats m 0 c).arrAt 12 cfg0.N = last (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg6)) (m ((c : Thread nD τ).loc main_arg8)) (m ((c : Thread nD τ).loc main_arg9)) := by
  refine (dats m 0 c).arrAt_eq_of_covers 12 _ (by decide +kernel) fun t hf y => ?_
  have e0 : (((cfg0.win 12).blk t).view.emb y 0).val = (y 0).val := by blk_simp [idx_12 t] <;> try omega
  have e1 : (((cfg0.win 12).blk t).view.emb y 1).val = t.val * 256 + (y 1).val := by blk_simp [idx_12 t] <;> try omega
  blk_simp
  rw [after0_12, last_at]
  refine (state_eq m c t 4 (y 0) (y 1)).trans ?_
  exact congrArg₂ (fun (a : Fin 128) (b : Fin 2048) => wideState (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg6)) (m ((c : Thread nD τ).loc main_arg8)) (m ((c : Thread nD τ).loc main_arg9)) 4 a b) (Fin.ext e0.symm) (Fin.ext e1.symm)

theorem final_gated (c : Dev nD) : (dats m 0 c).arrAt 11 cfg0.N = gated (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg6)) (m ((c : Thread nD τ).loc main_arg8)) (m ((c : Thread nD τ).loc main_arg9)) := by
  refine (dats m 0 c).arrAt_eq_of_covers 11 _ (by decide +kernel) fun t hf y => ?_
  have e0 : (((cfg0.win 11).blk t).view.emb y 0).val = (y 0).val := by blk_simp [idx_11 t] <;> try omega
  have e1 : (((cfg0.win 11).blk t).view.emb y 1).val = (y 1).val := by blk_simp [idx_11 t] <;> try omega
  have e2 : (((cfg0.win 11).blk t).view.emb y 2).val = t.val * 256 + (y 2).val := by blk_simp [idx_11 t] <;> try omega
  blk_simp
  rw [after0_11, rows_at]
  refine congrArg₂ (fun a b : EReal => a * b) ((state_eq m c t _ (y 1) (y 2)).trans ?_) (congrArg gelu (blk_1 m c t _ _ e0 e1 e2))
  have h0 : (y 0).val + 1 = (((cfg0.win 11).blk t).view.emb y 0).val + 1 := congrArg (· + 1) e0.symm
  have h1 : (show Fin 128 from y 1) = (show Fin 128 from ((cfg0.win 11).blk t).view.emb y 1) := Fin.ext e1.symm
  have h2 : col t (y 2) = (show Fin 2048 from ((cfg0.win 11).blk t).view.emb y 2) := Fin.ext e2.symm
  exact (congrArg (fun a : ℕ => wideState (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg6)) (m ((c : Thread nD τ).loc main_arg8)) (m ((c : Thread nD τ).loc main_arg9)) a (y 1) (col t (y 2))) h0).trans
    (congrArg₂ (fun (a : Fin 128) (b : Fin 2048) => wideState (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg6)) (m ((c : Thread nD τ).loc main_arg8)) (m ((c : Thread nD τ).loc main_arg9)) _ a b) h1 h2)

theorem after_rows (c : Dev nD) : Pipeline.afterTail₀ cfgs (dats m) 0 (V0 m) [hostOps1] c main_v24
    = Cert.LruSampleRefIdeal.Read.val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine Eq.trans ?_ (ref_rows _ _ _ _ _ _ _ _ _ _)
  unfold Pipeline.afterTail₀
  rw [← final_gated m c]
  simp only [hostOps1, List.flatten_cons, List.flatten_nil, List.append_nil]
  after_results
  exact congrArg (fun a : FVec Ideal S4x128x2048 .bf16 => (shapeCast _ (transpose S128x4x2048 [1, 0, 2] a transposes_S4x128x2048_S128x4x2048_1_0_2 : FVec Ideal S128x4x2048 .bf16)
      shapeCasts_S128x4x2048_S512x2048 : FVec Ideal S512x2048 .bf16)) (Pipeline.withArrays_arr spec0 (by decide) c (V0 m c) _ 11)

theorem after_last (c : Dev nD) : Pipeline.afterTail₀ cfgs (dats m) 0 (V0 m) [hostOps1] c main_v28
    = Cert.LruSampleRefIdeal.Read.val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine Eq.trans ?_ (ref_last _ _ _ _ _ _ _ _ _ _)
  unfold Pipeline.afterTail₀
  rw [← final_last m c]
  simp only [hostOps1, List.flatten_cons, List.flatten_nil, List.append_nil]
  after_results
  exact congrArg (fun a : FVec Ideal S128x2048 .f32 => (broadcastInDim S1x128x2048 ![1, 2] bcast_S128x2048_S1x128x2048_1_2 a : FVec Ideal S1x128x2048 .f32))
    (Pipeline.withArrays_arr spec0 (by decide) c (V0 m c) _ 12)

theorem after_tail (c : Dev nD) : Pipeline.afterTail₀ cfgs (dats m) 0 (V0 m) [hostOps1] c main_v29
    = Cert.LruSampleRefIdeal.Read.val_main_v130 (F := Ideal) (m ((c : Thread nD τ).loc main_arg0)) (m ((c : Thread nD τ).loc main_arg1)) := by
  refine Eq.trans ?_ (ref_tail _ _)
  unfold Pipeline.afterTail₀
  simp only [hostOps1, List.flatten_cons, List.flatten_nil, List.append_nil]
  after_results
  have e : Pipeline.withArrays (cfgs 0).spec c (V0 m c) (fun w => (dats m 0 c).arrAt w (cfgs 0).N) (Proc.tc.devRef main_arg1)
      = m ((c : Thread nD τ).loc main_arg1) := by
    refine (Pipeline.withArrays_of_ne spec0 c (V0 m c) _ main_arg1 (by decide)).trans ?_
    show StableHlo.after hostOps0 (fun b => m (c, b)) (Proc.devRef .tc main_arg1) = _
    after_results
  have e' : Pipeline.withArrays (cfgs 0).spec c (V0 m c) (fun w => (dats m 0 c).arrAt w (cfgs 0).N) (Proc.tc.devRef main_v3)
      = (shapeCast _ (extractStridedSlice S512x2048 ![8192, 0] (m ((c : Thread nD τ).loc main_arg0)) slices_S8704x4096_S512x2048_8192_0 : FVec Ideal S512x2048 .f32)
          shapeCasts_S512x2048_S128x4x2048 : FVec Ideal S128x4x2048 .f32) := by
    refine (Pipeline.withArrays_of_ne spec0 c (V0 m c) _ main_v3 (by decide)).trans ?_
    show StableHlo.after hostOps0 (fun b => m (c, b)) (Proc.devRef .tc main_v3) = _
    after_results
    rfl
  exact congrArg₂ (fun (s : FVec Ideal S1x128x3x2048 .f32) (a : FVec Ideal S128x4x2048 .f32) =>
    (broadcastInDim S1x128x3x2048 ![1, 2, 3] bcast_S128x3x2048_S1x128x3x2048_1_2_3 (extractStridedSlice S128x3x2048 ![0, 4, 0]
      (concatenate S128x7x2048 1 [⟨S128x3x2048, (shapeCast _ s shapeCasts_S1x128x3x2048_S128x3x2048 : FVec Ideal S128x3x2048 .f32)⟩, ⟨S128x4x2048, a⟩]
        concatenates_S128x3x2048_S128x4x2048_S128x7x2048_d1 : FVec Ideal S128x7x2048 .f32) slices_S128x7x2048_S128x3x2048_0_4_0 : FVec Ideal S128x3x2048 .f32) : FVec Ideal S1x128x3x2048 .f32))
    e e'

end Kernel

/-- The kernel over ideal values and the reference end with equal results. -/
theorem algebraic : Cert.algebraic_LruSampleIdeal_LruSampleRefIdeal := by
  intro m g m' g' _ hagree
  refine ⟨fun c => Cert.LruSampleRefIdeal.Read.val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)),
    fun c => Cert.LruSampleRefIdeal.Read.val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)),
    fun c => Cert.LruSampleRefIdeal.Read.val_main_v130 (F := Ideal) (m ((c : Thread nD τ).loc main_arg0)) (m ((c : Thread nD τ).loc main_arg1)), ?_, ?_⟩
  · exact (θ_run Cert.LruSampleIdeal.defs _ _).mono (fun _ h c => ⟨((h.1 c).2 main_v24 (Pipeline.mem_restRefs_of main_v24 (by decide) (by decide))).trans (after_rows m c),
      ((h.1 c).2 main_v28 (Pipeline.mem_restRefs_of main_v28 (by decide) (by decide))).trans (after_last m c),
      ((h.1 c).2 main_v29 (Pipeline.mem_restRefs_of main_v29 (by decide) (by decide))).trans (after_tail m c), (h.2.1 c)⟩)
      (θ_run_and (run_main m g) (frame m g))
  · refine (θ_run Cert.LruSampleRefIdeal.defs _ _).mono (fun _ h c => ⟨(h c).1.trans ?_, (h c).2.1.trans ?_, (h c).2.2.1.trans ?_, (h c).2.2.2⟩)
      (Cert.LruSampleRefIdeal.Value.run (F := Ideal) m' g')
    · obtain ⟨a0, a1, a2, a3, a4, a5, a6, a7, a8, a9⟩ := hagree c
      refine (Cert.LruSampleRefIdeal.Read.val_main_v127_eq (F := Ideal) (StableHlo.launchContents m' c)).trans ?_
      show Cert.LruSampleRefIdeal.Read.val_main_v127 (F := Ideal) (m' ((c : Thread Cert.LruSampleRefIdeal.nD Cert.LruSampleRefIdeal.τ).loc Cert.LruSampleRefIdeal.main_arg0)) (m' ((c : Thread Cert.LruSampleRefIdeal.nD Cert.LruSampleRefIdeal.τ).loc Cert.LruSampleRefIdeal.main_arg1)) (m' ((c : Thread Cert.LruSampleRefIdeal.nD Cert.LruSampleRefIdeal.τ).loc Cert.LruSampleRefIdeal.main_arg2)) (m' ((c : Thread Cert.LruSampleRefIdeal.nD Cert.LruSampleRefIdeal.τ).loc Cert.LruSampleRefIdeal.main_arg3)) (m' ((c : Thread Cert.LruSampleRefIdeal.nD Cert.LruSampleRefIdeal.τ).loc Cert.LruSampleRefIdeal.main_arg4)) (m' ((c : Thread Cert.LruSampleRefIdeal.nD Cert.LruSampleRefIdeal.τ).loc Cert.LruSampleRefIdeal.main_arg5)) (m' ((c : Thread Cert.LruSampleRefIdeal.nD Cert.LruSampleRefIdeal.τ).loc Cert.LruSampleRefIdeal.main_arg6)) (m' ((c : Thread Cert.LruSampleRefIdeal.nD Cert.LruSampleRefIdeal.τ).loc Cert.LruSampleRefIdeal.main_arg7)) (m' ((c : Thread Cert.LruSampleRefIdeal.nD Cert.LruSampleRefIdeal.τ).loc Cert.LruSampleRefIdeal.main_arg8)) (m' ((c : Thread Cert.LruSampleRefIdeal.nD Cert.LruSampleRefIdeal.τ).loc Cert.LruSampleRefIdeal.main_arg9)) = _
      rw [a0, a1, a2, a3, a4, a5, a6, a7, a8, a9]
    · obtain ⟨a0, a1, a2, a3, a4, a5, a6, a7, a8, a9⟩ := hagree c
      refine (Cert.LruSampleRefIdeal.Read.val_main_v128_eq (F := Ideal) (StableHlo.launchContents m' c)).trans ?_
      show Cert.LruSampleRefIdeal.Read.val_main_v128 (F := Ideal) (m' ((c : Thread Cert.LruSampleRefIdeal.nD Cert.LruSampleRefIdeal.τ).loc Cert.LruSampleRefIdeal.main_arg0)) (m' ((c : Thread Cert.LruSampleRefIdeal.nD Cert.LruSampleRefIdeal.τ).loc Cert.LruSampleRefIdeal.main_arg1)) (m' ((c : Thread Cert.LruSampleRefIdeal.nD Cert.LruSampleRefIdeal.τ).loc Cert.LruSampleRefIdeal.main_arg2)) (m' ((c : Thread Cert.LruSampleRefIdeal.nD Cert.LruSampleRefIdeal.τ).loc Cert.LruSampleRefIdeal.main_arg3)) (m' ((c : Thread Cert.LruSampleRefIdeal.nD Cert.LruSampleRefIdeal.τ).loc Cert.LruSampleRefIdeal.main_arg4)) (m' ((c : Thread Cert.LruSampleRefIdeal.nD Cert.LruSampleRefIdeal.τ).loc Cert.LruSampleRefIdeal.main_arg5)) (m' ((c : Thread Cert.LruSampleRefIdeal.nD Cert.LruSampleRefIdeal.τ).loc Cert.LruSampleRefIdeal.main_arg6)) (m' ((c : Thread Cert.LruSampleRefIdeal.nD Cert.LruSampleRefIdeal.τ).loc Cert.LruSampleRefIdeal.main_arg7)) (m' ((c : Thread Cert.LruSampleRefIdeal.nD Cert.LruSampleRefIdeal.τ).loc Cert.LruSampleRefIdeal.main_arg8)) (m' ((c : Thread Cert.LruSampleRefIdeal.nD Cert.LruSampleRefIdeal.τ).loc Cert.LruSampleRefIdeal.main_arg9)) = _
      rw [a0, a1, a2, a3, a4, a5, a6, a7, a8, a9]
    · obtain ⟨a0, a1, a2, a3, a4, a5, a6, a7, a8, a9⟩ := hagree c
      refine (Cert.LruSampleRefIdeal.Read.val_main_v130_eq (F := Ideal) (StableHlo.launchContents m' c)).trans ?_
      show Cert.LruSampleRefIdeal.Read.val_main_v130 (F := Ideal) (m' ((c : Thread Cert.LruSampleRefIdeal.nD Cert.LruSampleRefIdeal.τ).loc Cert.LruSampleRefIdeal.main_arg0)) (m' ((c : Thread Cert.LruSampleRefIdeal.nD Cert.LruSampleRefIdeal.τ).loc Cert.LruSampleRefIdeal.main_arg1)) = _
      rw [a0, a1]

/-- The reference runs, leaves its arguments as they were and every semaphore at zero. -/
theorem frame_reference : Cert.quiescent_LruSampleRefIdeal := fun m ρ _ =>
  (θ_run Cert.LruSampleRefIdeal.defs _ _).mono (fun r h => ⟨fun c => (h c).2.2.2,
    Idealize.ShloMosaic.sem_eq_zero_of_no_sems (by decide) r.2⟩) (Cert.LruSampleRefIdeal.Value.run (F := Ideal) m ρ)

end Cert.LruSampleIdeal.Recur

end
-- ==== Proof.lean ====
module

public import proofs.«01_k».proof.Defs
public import proofs.«01_k».proof.Proof.Gen.Kernel.Frame
public import proofs.«01_k».proof.Proof.Gen.On_prompt_rows
public import proofs.«01_k».proof.Proof.Gen.Down.Frame
public import proofs.«01_k».proof.Proof.Gen.Up.Frame
public import proofs.«01_k».proof.Proof.Gen.OddIn.Frame
public import proofs.«01_k».proof.Proof.Gen.Query.Frame
public import proofs.«01_k».proof.Proof.Gen.AttnOut.Frame
public import proofs.«01_k».proof.Proof.Gen.OddOut.Frame
public import proofs.«01_k».proof.Proof.Gen.EvenIn.Frame
public import proofs.«01_k».proof.Proof.Gen.LruIn.Frame
public import proofs.«01_k».proof.Proof.Gen.EvenOut.Frame
public import proofs.«01_k».proof.Proof.Gen.MemFirst.Frame
public import proofs.«01_k».proof.Proof.Gen.MemSecond.Frame
public import proofs.«01_k».proof.Proof.Gen.FinalPrompt.Frame
public import proofs.«01_k».proof.Proof.Gen.FinalSample.Frame
public import proofs.«01_k».proof.Proof.Gen.SconvSample.Frame
public import proofs.«01_k».proof.Proof.Gen.LruSample.Frame
public import proofs.«01_k».proof.Proof.Attention
public import proofs.«01_k».proof.Proof.Down
public import proofs.«01_k».proof.Proof.Up
public import proofs.«01_k».proof.Proof.OddIn
public import proofs.«01_k».proof.Proof.Query
public import proofs.«01_k».proof.Proof.AttnOut
public import proofs.«01_k».proof.Proof.OddOut
public import proofs.«01_k».proof.Proof.EvenIn
public import proofs.«01_k».proof.Proof.LruIn
public import proofs.«01_k».proof.Proof.EvenOut
public import proofs.«01_k».proof.Proof.MemFirst
public import proofs.«01_k».proof.Proof.MemSecond
public import proofs.«01_k».proof.Proof.FinalPrompt
public import proofs.«01_k».proof.Proof.FinalSample
public import proofs.«01_k».proof.Proof.SconvSample
public import proofs.«01_k».proof.Proof.LruSample
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Down.Gen.facts, Cert.DownIdeal.Gen.facts, Cert.DownRefIdeal.Gen.facts, Cert.Up.Gen.facts, Cert.UpIdeal.Gen.facts, Cert.UpRefIdeal.Gen.facts, Cert.OddIn.Gen.facts, Cert.OddInIdeal.Gen.facts, Cert.OddInRefIdeal.Gen.facts, Cert.Query.Gen.facts, Cert.QueryIdeal.Gen.facts, Cert.QueryRefIdeal.Gen.facts, Cert.AttnOut.Gen.facts, Cert.AttnOutIdeal.Gen.facts, Cert.AttnOutRefIdeal.Gen.facts, Cert.OddOut.Gen.facts, Cert.OddOutIdeal.Gen.facts, Cert.OddOutRefIdeal.Gen.facts, Cert.EvenIn.Gen.facts, Cert.EvenInIdeal.Gen.facts, Cert.EvenInRefIdeal.Gen.facts, Cert.LruIn.Gen.facts, Cert.LruInIdeal.Gen.facts, Cert.LruInRefIdeal.Gen.facts, Cert.EvenOut.Gen.facts, Cert.EvenOutIdeal.Gen.facts, Cert.EvenOutRefIdeal.Gen.facts, Cert.MemFirst.Gen.facts, Cert.MemFirstIdeal.Gen.facts, Cert.MemFirstRefIdeal.Gen.facts, Cert.MemSecond.Gen.facts, Cert.MemSecondIdeal.Gen.facts, Cert.MemSecondRefIdeal.Gen.facts, Cert.FinalPrompt.Gen.facts, Cert.FinalPromptIdeal.Gen.facts, Cert.FinalPromptRefIdeal.Gen.facts, Cert.FinalSample.Gen.facts, Cert.FinalSampleIdeal.Gen.facts, Cert.FinalSampleRefIdeal.Gen.facts, Cert.SconvSample.Gen.facts, Cert.SconvSampleIdeal.Gen.facts, Cert.SconvSampleRefIdeal.Gen.facts, Cert.LruSample.Gen.facts, Cert.LruSampleIdeal.Gen.facts, Cert.LruSampleRefIdeal.Gen.facts, Cert.On_prompt_rows.Gen.facts, by
  refine ⟨fun m ρ _ => Cert.Kernel.Gen.frame m ρ, fun m ρ _ => Cert.KernelIdeal.Gen.frame m ρ, Cert.KernelIdeal.Attention.frame_reference,
    fun m ρ _ => Cert.Down.Gen.frame m ρ, fun m ρ _ => Cert.DownIdeal.Gen.frame m ρ, Cert.DownIdeal.Contraction.frame_reference,
    Cert.UpIdeal.Pipelined.frame_kernel, Cert.UpIdeal.Pipelined.frame_ideal, Cert.UpIdeal.Pipelined.frame_reference,
    Cert.OddInIdeal.Pipelined.frame_kernel, Cert.OddInIdeal.Pipelined.frame_ideal, Cert.OddInIdeal.Pipelined.frame_reference,
    Cert.QueryIdeal.Pipelined.frame_kernel, Cert.QueryIdeal.Pipelined.frame_ideal, Cert.QueryIdeal.Pipelined.frame_reference,
    Cert.AttnOutIdeal.Pipelined.frame_kernel, Cert.AttnOutIdeal.Pipelined.frame_ideal, Cert.AttnOutIdeal.Pipelined.frame_reference,
    Cert.OddOutIdeal.Pipelined.frame_kernel, Cert.OddOutIdeal.Pipelined.frame_ideal, Cert.OddOutIdeal.Pipelined.frame_reference,
    Cert.EvenInIdeal.Pipelined.frame_kernel, Cert.EvenInIdeal.Pipelined.frame_ideal, Cert.EvenInIdeal.Pipelined.frame_reference,
    Cert.LruInIdeal.Pipelined.frame_kernel, Cert.LruInIdeal.Pipelined.frame_ideal, Cert.LruInIdeal.Pipelined.frame_reference,
    Cert.EvenOutIdeal.Pipelined.frame_kernel, Cert.EvenOutIdeal.Pipelined.frame_ideal, Cert.EvenOutIdeal.Pipelined.frame_reference,
    Cert.MemFirstIdeal.Pipelined.frame_kernel, Cert.MemFirstIdeal.Pipelined.frame_ideal, Cert.MemFirstIdeal.Pipelined.frame_reference,
    Cert.MemSecondIdeal.Pipelined.frame_kernel, Cert.MemSecondIdeal.Pipelined.frame_ideal, Cert.MemSecondIdeal.Pipelined.frame_reference,
    fun m ρ _ => Cert.FinalPrompt.Gen.frame m ρ, fun m ρ _ => Cert.FinalPromptIdeal.Gen.frame m ρ, Cert.FinalPromptIdeal.Norm.frame_reference,
    fun m ρ _ => Cert.FinalSample.Gen.frame m ρ, fun m ρ _ => Cert.FinalSampleIdeal.Gen.frame m ρ, Cert.FinalSampleIdeal.Norm.frame_reference,
    fun m ρ _ => Cert.SconvSample.Gen.frame m ρ, fun m ρ _ => Cert.SconvSampleIdeal.Gen.frame m ρ, Cert.SconvSampleIdeal.Conv.frame_reference,
    fun m ρ _ => Cert.LruSample.Gen.frame m ρ, fun m ρ _ => Cert.LruSampleIdeal.Gen.frame m ρ, Cert.LruSampleIdeal.Recur.frame_reference,
    trivial, Cert.KernelIdeal.Attention.algebraic,
    trivial, Cert.DownIdeal.Contraction.algebraic,
    trivial, Cert.UpIdeal.Pipelined.algebraic,
    trivial, Cert.OddInIdeal.Pipelined.algebraic,
    trivial, Cert.QueryIdeal.Pipelined.algebraic,
    trivial, Cert.AttnOutIdeal.Pipelined.algebraic,
    trivial, Cert.OddOutIdeal.Pipelined.algebraic,
    trivial, Cert.EvenInIdeal.Pipelined.algebraic,
    trivial, Cert.LruInIdeal.Pipelined.algebraic,
    trivial, Cert.EvenOutIdeal.Pipelined.algebraic,
    trivial, Cert.MemFirstIdeal.Pipelined.algebraic,
    trivial, Cert.MemSecondIdeal.Pipelined.algebraic,
    trivial, Cert.FinalPromptIdeal.Norm.algebraic,
    trivial, Cert.FinalSampleIdeal.Norm.algebraic,
    trivial, Cert.SconvSampleIdeal.Conv.algebraic,
    trivial, Cert.LruSampleIdeal.Recur.algebraic⟩⟩

end Cert.Proof

end
